-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "neg_w_ln2" .f32 0xBF051592#32 ((-((3 / 4) * (Real.log 2)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x49104x90 : Shape := ⟨3, ![8, 49104, 90]⟩
abbrev S8x49104x4 : Shape := ⟨3, ![8, 49104, 4]⟩
abbrev S1x49104x4 : Shape := ⟨3, ![1, 49104, 4]⟩
abbrev S8x32x5 : Shape := ⟨3, ![8, 32, 5]⟩
abbrev S_ : Shape := ⟨0, ![]⟩
abbrev S8x32x1 : Shape := ⟨3, ![8, 32, 1]⟩
abbrev S8x32 : Shape := ⟨2, ![8, 32]⟩

class Facts : Prop where
  bcast_S_S8x49104x90 : S_.BroadcastsInDim S8x49104x90 (![] : Fin 0 → Fin S8x49104x90.rank)
  slices_S8x32x5_S8x32x1_0_0_4 : S8x32x5.Slices ![0, 0, 4] S8x32x1
  shapeCasts_S8x32x1_S8x32 : S8x32x1.ShapeCasts S8x32
  bcast_S_S8x32 : S_.BroadcastsInDim S8x32 (![] : Fin 0 → Fin S8x32.rank)
  slices_S8x32x5_S8x32x1_0_0_2 : S8x32x5.Slices ![0, 0, 2] S8x32x1
  slices_S8x32x5_S8x32x1_0_0_0 : S8x32x5.Slices ![0, 0, 0] S8x32x1
  slices_S8x32x5_S8x32x1_0_0_3 : S8x32x5.Slices ![0, 0, 3] S8x32x1
  slices_S8x32x5_S8x32x1_0_0_1 : S8x32x5.Slices ![0, 0, 1] S8x32x1

variable [Facts]

def fn_part1 {F : FTy → Type} [FloatOps F] (main_arg3 : FVec F S8x32x5 .f32) (main_v6 : IVec S8x49104x90 1) (main_v16 : IVec S8x32 1) (main_v18 : FVec F S8x32 .f32) : IVec S8x49104x90 1 × IVec S8x32 1 :=
  let main_v19 : FVec F S8x32x1 .f32 := (extractStridedSlice S8x32x1 ![0, 0, 0] · slices_S8x32x5_S8x32x1_0_0_0) main_arg3
  let main_v20 : FVec F S8x32 .f32 := shapeCast S8x32 main_v19 shapeCasts_S8x32x1_S8x32
  let main_v21 : FVec F S8x32 .f32 := subf main_v18 main_v20
  let main_v22 : FVec F S8x32x1 .f32 := (extractStridedSlice S8x32x1 ![0, 0, 3] · slices_S8x32x5_S8x32x1_0_0_3) main_arg3
  let main_v23 : FVec F S8x32 .f32 := shapeCast S8x32 main_v22 shapeCasts_S8x32x1_S8x32
  let main_v24 : FVec F S8x32x1 .f32 := (extractStridedSlice S8x32x1 ![0, 0, 1] · slices_S8x32x5_S8x32x1_0_0_1) main_arg3
  let main_v25 : FVec F S8x32 .f32 := shapeCast S8x32 main_v24 shapeCasts_S8x32x1_S8x32
  let main_v26 : FVec F S8x32 .f32 := subf main_v23 main_v25
  let main_v27 : FVec F S8x32 .f32 := mulf main_v21 main_v26
  let main_cst_4 : FVec F S_ .f32 := constant S_ .f32 0x40000000#32
  let main_v28 : FVec F S8x32 .f32 := broadcastInDim S8x32 ![] bcast_S_S8x32 main_cst_4
  let main_v29 : IVec S8x32 1 := cmpf .ogt main_v27 main_v28
  let main_v30 : IVec S8x32 1 := andi main_v16 main_v29
  (main_v6, main_v30)

def fn {F : FTy → Type} [FloatOps F] (main_arg0 : FVec F S8x49104x90 .f32) (main_arg1 : FVec F S8x49104x4 .f32) (main_arg2 : FVec F S1x49104x4 .f32) (main_arg3 : FVec F S8x32x5 .f32) : IVec S8x49104x90 1 × IVec S8x32 1 :=
  let main_cst : FVec F S_ .f32 := constant S_ .f32 0x3F7FF972#32
  let main_v0 : FVec F S8x49104x90 .f32 := broadcastInDim S8x49104x90 ![] bcast_S_S8x49104x90 main_cst
  let main_v1 : IVec S8x49104x90 1 := cmpf .ole main_arg0 main_v0
  let main_cst_0 : FVec F S_ .f32 := constant S_ .f32 0x3F800000#32
  let main_v2 : FVec F S8x49104x90 .f32 := broadcastInDim S8x49104x90 ![] bcast_S_S8x49104x90 main_cst_0
  let main_v3 : FVec F S8x49104x90 .f32 := subf main_v2 main_arg0
  let main_cst_1 : FVec F S_ .f32 := constant S_ .f32 0x3F7FF972#32
  let main_v4 : FVec F S8x49104x90 .f32 := broadcastInDim S8x49104x90 ![] bcast_S_S8x49104x90 main_cst_1
  let main_v5 : IVec S8x49104x90 1 := cmpf .ole main_v3 main_v4
  let main_v6 : IVec S8x49104x90 1 := andi main_v1 main_v5
  let main_v7 : FVec F S8x32x1 .f32 := (extractStridedSlice S8x32x1 ![0, 0, 4] · slices_S8x32x5_S8x32x1_0_0_4) main_arg3
  let main_v8 : FVec F S8x32 .f32 := shapeCast S8x32 main_v7 shapeCasts_S8x32x1_S8x32
  let main_cst_2 : FVec F S_ .f32 := constant S_ .f32 0x00000000#32
  let main_v9 : FVec F S8x32 .f32 := broadcastInDim S8x32 ![] bcast_S_S8x32 main_cst_2
  let main_v10 : IVec S8x32 1 := cmpf .oge main_v8 main_v9
  let main_cst_3 : FVec F S_ .f32 := constant S_ .f32 0x42B20000#32
  let main_v11 : FVec F S8x32 .f32 := broadcastInDim S8x32 ![] bcast_S_S8x32 main_cst_3
  let main_v12 : IVec S8x32 1 := cmpf .ole main_v8 main_v11
  let main_v13 : IVec S8x32 1 := andi main_v10 main_v12
  let main_v14 : FVec F S8x32 .f32 := Host.floor main_v8
  let main_v15 : IVec S8x32 1 := cmpf .oeq main_v14 main_v8
  let main_v16 : IVec S8x32 1 := andi main_v13 main_v15
  let main_v17 : FVec F S8x32x1 .f32 := (extractStridedSlice S8x32x1 ![0, 0, 2] · slices_S8x32x5_S8x32x1_0_0_2) main_arg3
  let main_v18 : FVec F S8x32 .f32 := shapeCast S8x32 main_v17 shapeCasts_S8x32x1_S8x32
  fn_part1 (F := F) main_arg3 main_v6 main_v16 main_v18
-- ==== Kernel.lean ====
abbrev S8x49104x90 : Shape := ⟨3, ![8, 49104, 90]⟩
abbrev S8x49104x4 : Shape := ⟨3, ![8, 49104, 4]⟩
abbrev S1x49104x4 : Shape := ⟨3, ![1, 49104, 4]⟩
abbrev S8x32x5 : Shape := ⟨3, ![8, 32, 5]⟩
abbrev S4x1 : Shape := ⟨2, ![4, 1]⟩
abbrev S49104x4 : Shape := ⟨2, ![49104, 4]⟩
abbrev S4x49104 : Shape := ⟨2, ![4, 49104]⟩
abbrev S1x4x1x1 : Shape := ⟨4, ![1, 4, 1, 1]⟩
abbrev S1x4x48x1 : Shape := ⟨4, ![1, 4, 48, 1]⟩
abbrev S4x48 : Shape := ⟨2, ![4, 48]⟩
abbrev S4x49152 : Shape := ⟨2, ![4, 49152]⟩
abbrev S4x384x128 : Shape := ⟨3, ![4, 384, 128]⟩
abbrev S8x4x49104 : Shape := ⟨3, ![8, 4, 49104]⟩
abbrev S_ : Shape := ⟨0, ![]⟩
abbrev S8x4x49152 : Shape := ⟨3, ![8, 4, 49152]⟩
abbrev S8x4x384x128 : Shape := ⟨4, ![8, 4, 384, 128]⟩
abbrev S8x5x32 : Shape := ⟨3, ![8, 5, 32]⟩
abbrev S8x384x128 : Shape := ⟨3, ![8, 384, 128]⟩
abbrev S8x1x128 : Shape := ⟨3, ![8, 1, 128]⟩
abbrev S1x4x384x128 : Shape := ⟨4, ![1, 4, 384, 128]⟩
abbrev S1x5x32 : Shape := ⟨3, ![1, 5, 32]⟩
abbrev S1x384x128 : Shape := ⟨3, ![1, 384, 128]⟩
abbrev S1x1x128 : Shape := ⟨3, ![1, 1, 128]⟩
abbrev S384x128 : Shape := ⟨2, ![384, 128]⟩
abbrev S1x1x1 : Shape := ⟨3, ![1, 1, 1]⟩
abbrev S1 : Shape := ⟨1, ![1]⟩
abbrev S1x1x384x128 : Shape := ⟨4, ![1, 1, 384, 128]⟩
abbrev S8x49152x1 : Shape := ⟨3, ![8, 49152, 1]⟩
abbrev S1x16384x90 : Shape := ⟨3, ![1, 16384, 90]⟩
abbrev S1x16384x1 : Shape := ⟨3, ![1, 16384, 1]⟩
abbrev S16384x90 : Shape := ⟨2, ![16384, 90]⟩
abbrev S16384x1 : Shape := ⟨2, ![16384, 1]⟩
abbrev S16384 : Shape := ⟨1, ![16384]⟩
abbrev S8x1x1 : Shape := ⟨3, ![8, 1, 1]⟩
abbrev S8 : Shape := ⟨1, ![8]⟩

abbrev nBuf : Space → Nat
  | .hbm => 54
  | .vmem => 13
  | .smem => 2
  | _ => 0

abbrev bufTy : (tb : Table) → Fin (tcTables nBuf tb) → BufTy
  | .hbm, ⟨0, _⟩ => ⟨S8x49104x90, .f32⟩
  | .hbm, ⟨1, _⟩ => ⟨S8x49104x4, .f32⟩
  | .hbm, ⟨2, _⟩ => ⟨S1x49104x4, .f32⟩
  | .hbm, ⟨3, _⟩ => ⟨S8x32x5, .f32⟩
  | .hbm, ⟨4, _⟩ => ⟨S4x1, .f32⟩
  | .hbm, ⟨5, _⟩ => ⟨S49104x4, .f32⟩
  | .hbm, ⟨6, _⟩ => ⟨S4x49104, .f32⟩
  | .hbm, ⟨7, _⟩ => ⟨S1x4x1x1, .f32⟩
  | .hbm, ⟨8, _⟩ => ⟨S1x4x48x1, .f32⟩
  | .hbm, ⟨9, _⟩ => ⟨S4x48, .f32⟩
  | .hbm, ⟨10, _⟩ => ⟨S4x49152, .f32⟩
  | .hbm, ⟨11, _⟩ => ⟨S4x384x128, .f32⟩
  | .hbm, ⟨12, _⟩ => ⟨S8x4x49104, .f32⟩
  | .hbm, ⟨13, _⟩ => ⟨S_, .i32⟩
  | .hbm, ⟨14, _⟩ => ⟨S_, .f32⟩
  | .hbm, ⟨15, _⟩ => ⟨S8x4x49152, .f32⟩
  | .hbm, ⟨16, _⟩ => ⟨S8x4x384x128, .f32⟩
  | .hbm, ⟨17, _⟩ => ⟨S8x5x32, .f32⟩
  | .hbm, ⟨18, _⟩ => ⟨S8x384x128, .f32⟩
  | .hbm, ⟨19, _⟩ => ⟨S8x1x128, .f32⟩
  | .hbm, ⟨20, _⟩ => ⟨S8x49152x1, .f32⟩
  | .hbm, ⟨21, _⟩ => ⟨S8x1x128, .f32⟩
  | .hbm, ⟨22, _⟩ => ⟨S8x1x1, .f32⟩
  | .hbm, ⟨23, _⟩ => ⟨S8, .f32⟩
  | .hbm, ⟨24, _⟩ => ⟨S8x1x1, .f32⟩
  | .hbm, ⟨25, _⟩ => ⟨S8, .f32⟩
  | .hbm, ⟨26, _⟩ => ⟨S8x1x1, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S_, .f32⟩
  | .hbm, ⟨52, _⟩ => ⟨S1, .f32⟩
  | .hbm, ⟨53, _⟩ => ⟨S1, .f32⟩
  | .local _ .vmem, ⟨0, _⟩ => ⟨S4x384x128, .f32⟩
  | .local _ .vmem, ⟨1, _⟩ => ⟨S1x4x384x128, .f32⟩
  | .local _ .vmem, ⟨2, _⟩ => ⟨S1x4x384x128, .f32⟩
  | .local _ .vmem, ⟨3, _⟩ => ⟨S1x384x128, .f32⟩
  | .local _ .vmem, ⟨4, _⟩ => ⟨S1x384x128, .f32⟩
  | .local _ .vmem, ⟨5, _⟩ => ⟨S1x1x128, .f32⟩
  | .local _ .vmem, ⟨6, _⟩ => ⟨S1x1x128, .f32⟩
  | .local _ .vmem, ⟨7, _⟩ => ⟨S1x16384x90, .f32⟩
  | .local _ .vmem, ⟨8, _⟩ => ⟨S1x16384x90, .f32⟩
  | .local _ .vmem, ⟨9, _⟩ => ⟨S1x16384x1, .f32⟩
  | .local _ .vmem, ⟨10, _⟩ => ⟨S1x16384x1, .f32⟩
  | .local _ .vmem, ⟨11, _⟩ => ⟨S1x1x128, .f32⟩
  | .local _ .vmem, ⟨12, _⟩ => ⟨S1x1x128, .f32⟩
  | .local _ .smem, ⟨0, _⟩ => ⟨S1x5x32, .f32⟩
  | .local _ .smem, ⟨1, _⟩ => ⟨S1x5x32, .f32⟩
  | _, _ => ⟨S8x49104x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x5x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 3], ![false, false]⟩

def k1_cond1 (i : grid1.Coords) : BitVec 1 :=
  let arg1 : BitVec 32 := BitVec.ofNat 32 (i 1).val
  let c0_i32_26 : BitVec 32 := 0#32
  let v82 : BitVec 1 := Scalar.cmpi .eq arg1 c0_i32_26
  let v83 : BitVec 32 := Scalar.extui v82
  let c0_i32_27 : BitVec 32 := 0#32
  let v84 : BitVec 1 := Scalar.cmpi .ne v83 c0_i32_27
  v84

def k1_cond2 (i : grid1.Coords) : BitVec 1 :=
  let arg1 : BitVec 32 := BitVec.ofNat 32 (i 1).val
  let c0_i32_28 : BitVec 32 := 0#32
  let v85 : BitVec 1 := Scalar.cmpi .sgt arg1 c0_i32_28
  let v86 : BitVec 32 := Scalar.extui v85
  let c0_i32_29 : BitVec 32 := 0#32
  let v87 : BitVec 1 := Scalar.cmpi .ne v86 c0_i32_29
  v87

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16384x90 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16384x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== KernelIdeal.lean ====
variable {F : FTy → Type} [FloatOps F] [Named F]
def κ : String → Option EReal := fun
  | "inv_ln2" => some (((Real.log 2)⁻¹ : ℝ) : EReal)
  | "neg_w_ln2" => some ((-((3 / 4) * (Real.log 2)) : ℝ) : EReal)
  | _ => none
-- ==== ReferenceIdeal.lean ====
abbrev S8x49104x90 : Shape := ⟨3, ![8, 49104, 90]⟩
abbrev S8x49104x4 : Shape := ⟨3, ![8, 49104, 4]⟩
abbrev S1x49104x4 : Shape := ⟨3, ![1, 49104, 4]⟩
abbrev S8x32x5 : Shape := ⟨3, ![8, 32, 5]⟩
abbrev S49104x4 : Shape := ⟨2, ![49104, 4]⟩
abbrev S49104x1 : Shape := ⟨2, ![49104, 1]⟩
abbrev S49104 : Shape := ⟨1, ![49104]⟩
abbrev S_ : Shape := ⟨0, ![]⟩
abbrev S8x32x1 : Shape := ⟨3, ![8, 32, 1]⟩
abbrev S8x32 : Shape := ⟨2, ![8, 32]⟩
abbrev S1x49104x1 : Shape := ⟨3, ![1, 49104, 1]⟩
abbrev S1x49104 : Shape := ⟨2, ![1, 49104]⟩
abbrev S8x1x32 : Shape := ⟨3, ![8, 1, 32]⟩
abbrev S8x49104x32 : Shape := ⟨3, ![8, 49104, 32]⟩
abbrev S8x49104 : Shape := ⟨2, ![8, 49104]⟩
abbrev S8 : Shape := ⟨1, ![8]⟩
abbrev S8x49104x1 : Shape := ⟨3, ![8, 49104, 1]⟩
abbrev S1 : Shape := ⟨1, ![1]⟩
abbrev S1x1x1 : Shape := ⟨3, ![1, 1, 1]⟩
abbrev S8x49104x5 : Shape := ⟨3, ![8, 49104, 5]⟩
abbrev S1x1x90 : Shape := ⟨3, ![1, 1, 90]⟩

abbrev nBuf : Space → Nat
  | .hbm => 355
  | .vmem => 0
  | .smem => 0
  | _ => 0

abbrev hbmTy0_0 (i : Nat) : BufTy := match i % 128 with
  | 0 => ⟨S8x49104x90, .f32⟩
  | 1 => ⟨S8x49104x4, .f32⟩
  | 2 => ⟨S1x49104x4, .f32⟩
  | 3 => ⟨S8x32x5, .f32⟩
  | 4 => ⟨S49104x4, .f32⟩
  | 5 => ⟨S49104x1, .f32⟩
  | 6 => ⟨S49104, .f32⟩
  | 7 => ⟨S49104x1, .f32⟩
  | 8 => ⟨S49104, .f32⟩
  | 9 => ⟨S49104, .f32⟩
  | 10 => ⟨S49104x1, .f32⟩
  | 11 => ⟨S49104, .f32⟩
  | 12 => ⟨S49104x1, .f32⟩
  | 13 => ⟨S49104, .f32⟩
  | 14 => ⟨S49104, .f32⟩
  | 15 => ⟨S49104x1, .f32⟩
  | 16 => ⟨S49104, .f32⟩
  | 17 => ⟨S_, .f32⟩
  | 18 => ⟨S49104, .f32⟩
  | 19 => ⟨S49104, .f32⟩
  | 20 => ⟨S49104, .f32⟩
  | 21 => ⟨S49104x1, .f32⟩
  | 22 => ⟨S49104, .f32⟩
  | 23 => ⟨S_, .f32⟩
  | 24 => ⟨S49104, .f32⟩
  | 25 => ⟨S49104, .f32⟩
  | 26 => ⟨S49104, .f32⟩
  | 27 => ⟨S_, .f32⟩
  | 28 => ⟨S_, .f32⟩
  | 29 => ⟨S_, .f32⟩
  | 30 => ⟨S8x49104x90, .f32⟩
  | 31 => ⟨S8x49104x90, .f32⟩
  | 32 => ⟨S_, .f32⟩
  | 33 => ⟨S8x49104x90, .f32⟩
  | 34 => ⟨S8x49104x90, .f32⟩
  | 35 => ⟨S1x49104x4, .f32⟩
  | 36 => ⟨S8x32x1, .f32⟩
  | 37 => ⟨S8x32, .f32⟩
  | 38 => ⟨S8x32x1, .f32⟩
  | 39 => ⟨S8x32, .f32⟩
  | 40 => ⟨S8x32, .f32⟩
  | 41 => ⟨S8x32x1, .f32⟩
  | 42 => ⟨S8x32, .f32⟩
  | 43 => ⟨S8x32x1, .f32⟩
  | 44 => ⟨S8x32, .f32⟩
  | 45 => ⟨S8x32, .f32⟩
  | 46 => ⟨S8x32, .f32⟩
  | 47 => ⟨S1x49104x1, .f32⟩
  | 48 => ⟨S1x49104, .f32⟩
  | 49 => ⟨S1x49104x1, .f32⟩
  | 50 => ⟨S8x32x1, .f32⟩
  | 51 => ⟨S8x32, .f32⟩
  | 52 => ⟨S8x1x32, .f32⟩
  | 53 => ⟨S8x49104x32, .f32⟩
  | 54 => ⟨S8x49104x32, .f32⟩
  | 55 => ⟨S8x49104x32, .f32⟩
  | 56 => ⟨S1x49104x1, .f32⟩
  | 57 => ⟨S1x49104, .f32⟩
  | 58 => ⟨S1x49104x1, .f32⟩
  | 59 => ⟨S8x32x1, .f32⟩
  | 60 => ⟨S8x32, .f32⟩
  | 61 => ⟨S8x1x32, .f32⟩
  | 62 => ⟨S8x49104x32, .f32⟩
  | 63 => ⟨S8x49104x32, .f32⟩
  | 64 => ⟨S8x49104x32, .f32⟩
  | 65 => ⟨S8x49104x32, .f32⟩
  | 66 => ⟨S1x49104x1, .f32⟩
  | 67 => ⟨S1x49104, .f32⟩
  | 68 => ⟨S1x49104x1, .f32⟩
  | 69 => ⟨S8x32x1, .f32⟩
  | 70 => ⟨S8x32, .f32⟩
  | 71 => ⟨S8x1x32, .f32⟩
  | 72 => ⟨S8x49104x32, .f32⟩
  | 73 => ⟨S8x49104x32, .f32⟩
  | 74 => ⟨S8x49104x32, .f32⟩
  | 75 => ⟨S1x49104x1, .f32⟩
  | 76 => ⟨S1x49104, .f32⟩
  | 77 => ⟨S1x49104x1, .f32⟩
  | 78 => ⟨S8x32x1, .f32⟩
  | 79 => ⟨S8x32, .f32⟩
  | 80 => ⟨S8x1x32, .f32⟩
  | 81 => ⟨S8x49104x32, .f32⟩
  | 82 => ⟨S8x49104x32, .f32⟩
  | 83 => ⟨S8x49104x32, .f32⟩
  | 84 => ⟨S8x49104x32, .f32⟩
  | 85 => ⟨S_, .f32⟩
  | 86 => ⟨S8x49104x32, .f32⟩
  | 87 => ⟨S8x49104x32, .f32⟩
  | 88 => ⟨S_, .f32⟩
  | 89 => ⟨S8x49104x32, .f32⟩
  | 90 => ⟨S8x49104x32, .f32⟩
  | 91 => ⟨S1x49104x1, .f32⟩
  | 92 => ⟨S1x49104, .f32⟩
  | 93 => ⟨S1x49104x1, .f32⟩
  | 94 => ⟨S1x49104, .f32⟩
  | 95 => ⟨S1x49104, .f32⟩
  | 96 => ⟨S1x49104x1, .f32⟩
  | 97 => ⟨S1x49104, .f32⟩
  | 98 => ⟨S1x49104x1, .f32⟩
  | 99 => ⟨S1x49104, .f32⟩
  | 100 => ⟨S1x49104, .f32⟩
  | 101 => ⟨S1x49104, .f32⟩
  | 102 => ⟨S1x49104x1, .f32⟩
  | 103 => ⟨S8x1x32, .f32⟩
  | 104 => ⟨S8x49104x32, .f32⟩
  | 105 => ⟨S8x49104x32, .f32⟩
  | 106 => ⟨S8x49104x32, .f32⟩
  | 107 => ⟨S8x49104x32, .f32⟩
  | 108 => ⟨S8x49104x32, .f32⟩
  | 109 => ⟨S_, .f32⟩
  | 110 => ⟨S8x49104x32, .f32⟩
  | 111 => ⟨S8x49104x32, .f32⟩
  | 112 => ⟨S8x49104x32, .f32⟩
  | 113 => ⟨S8x49104x32, .f32⟩
  | 114 => ⟨S8x32x1, .f32⟩
  | 115 => ⟨S8x32, .f32⟩
  | 116 => ⟨S_, .f32⟩
  | 117 => ⟨S8x32, .f32⟩
  | 118 => ⟨S8x32, .i1⟩
  | 119 => ⟨S8x1x32, .i1⟩
  | 120 => ⟨S_, .f32⟩
  | 121 => ⟨S_, .f32⟩
  | 122 => ⟨S8x49104x32, .i1⟩
  | 123 => ⟨S8x49104x32, .f32⟩
  | 124 => ⟨S8x49104x32, .f32⟩
  | 125 => ⟨S_, .f32⟩
  | 126 => ⟨S8x49104, .f32⟩
  | 127 => ⟨S8x49104x32, .i32⟩
  | _ => ⟨S8x49104x90, .f32⟩

abbrev hbmTy0_1 (i : Nat) : BufTy := match i % 128 with
  | 0 => ⟨S_, .f32⟩
  | 1 => ⟨S_, .i32⟩
  | 2 => ⟨S8x49104, .f32⟩
  | 3 => ⟨S8x49104, .i32⟩
  | 4 => ⟨S_, .f32⟩
  | 5 => ⟨S8x49104, .f32⟩
  | 6 => ⟨S8x49104, .i1⟩
  | 7 => ⟨S8x49104, .f32⟩
  | 8 => ⟨S_, .f32⟩
  | 9 => ⟨S8, .f32⟩
  | 10 => ⟨S8x49104x1, .i32⟩
  | 11 => ⟨S_, .i32⟩
  | 12 => ⟨S8x49104x1, .i32⟩
  | 13 => ⟨S8x49104x1, .i1⟩
  | 14 => ⟨S_, .i32⟩
  | 15 => ⟨S8x49104x1, .i32⟩
  | 16 => ⟨S8x49104x1, .i32⟩
  | 17 => ⟨S8x49104x1, .i32⟩
  | 18 => ⟨S1, .i32⟩
  | 19 => ⟨S_, .i32⟩
  | 20 => ⟨S8x49104x1, .i32⟩
  | 21 => ⟨S8x49104x1, .i1⟩
  | 22 => ⟨S1x1x1, .i32⟩
  | 23 => ⟨S8x49104x1, .i32⟩
  | 24 => ⟨S8x49104x1, .i1⟩
  | 25 => ⟨S8x49104x1, .i1⟩
  | 26 => ⟨S_, .i1⟩
  | 27 => ⟨S8x49104, .i1⟩
  | 28 => ⟨S8x49104x5, .f32⟩
  | 29 => ⟨S8x49104x5, .i1⟩
  | 30 => ⟨S_, .f32⟩
  | 31 => ⟨S8x49104x5, .f32⟩
  | 32 => ⟨S8x49104x5, .f32⟩
  | 33 => ⟨S_, .f32⟩
  | 34 => ⟨S8x49104x90, .f32⟩
  | 35 => ⟨S_, .f32⟩
  | 36 => ⟨S8x49104, .f32⟩
  | 37 => ⟨S8x49104, .i1⟩
  | 38 => ⟨S8x49104x1, .i1⟩
  | 39 => ⟨S_, .f32⟩
  | 40 => ⟨S_, .f32⟩
  | 41 => ⟨S8x49104x90, .i1⟩
  | 42 => ⟨S8x49104x90, .f32⟩
  | 43 => ⟨S8x49104x90, .f32⟩
  | 44 => ⟨S8x49104x1, .i1⟩
  | 45 => ⟨S_, .f32⟩
  | 46 => ⟨S_, .f32⟩
  | 47 => ⟨S8x49104x90, .i1⟩
  | 48 => ⟨S8x49104x90, .f32⟩
  | 49 => ⟨S8x49104x90, .f32⟩
  | 50 => ⟨S8x49104x1, .f32⟩
  | 51 => ⟨S8x49104, .f32⟩
  | 52 => ⟨S8x49104, .i32⟩
  | 53 => ⟨S8x49104x1, .i32⟩
  | 54 => ⟨S1x1x90, .i32⟩
  | 55 => ⟨S8x49104x90, .i32⟩
  | 56 => ⟨S8x49104x90, .i32⟩
  | 57 => ⟨S8x49104x90, .i1⟩
  | 58 => ⟨S8x49104x90, .f32⟩
  | 59 => ⟨S8x49104x1, .i1⟩
  | 60 => ⟨S_, .f32⟩
  | 61 => ⟨S8x49104x90, .f32⟩
  | 62 => ⟨S8x49104x90, .i1⟩
  | 63 => ⟨S8x49104x90, .i1⟩
  | 64 => ⟨S8x49104x90, .i1⟩
  | 65 => ⟨S_, .f32⟩
  | 66 => ⟨S_, .f32⟩
  | 67 => ⟨S8x49104x90, .f32⟩
  | 68 => ⟨S8x49104x90, .f32⟩
  | 69 => ⟨S_, .f32⟩
  | 70 => ⟨S8x49104x90, .f32⟩
  | 71 => ⟨S8x49104x90, .i1⟩
  | 72 => ⟨S_, .f32⟩
  | 73 => ⟨S_, .f32⟩
  | 74 => ⟨S8x49104x90, .f32⟩
  | 75 => ⟨S8x49104x90, .f32⟩
  | 76 => ⟨S8x49104x90, .f32⟩
  | 77 => ⟨S_, .f32⟩
  | 78 => ⟨S8x49104x90, .f32⟩
  | 79 => ⟨S8x49104x90, .i1⟩
  | 80 => ⟨S_, .f32⟩
  | 81 => ⟨S8x49104x90, .f32⟩
  | 82 => ⟨S8x49104x90, .f32⟩
  | 83 => ⟨S8x49104x90, .f32⟩
  | 84 => ⟨S_, .f32⟩
  | 85 => ⟨S8x49104x90, .f32⟩
  | 86 => ⟨S8x49104x90, .f32⟩
  | 87 => ⟨S8x49104x90, .f32⟩
  | 88 => ⟨S8x49104x90, .f32⟩
  | 89 => ⟨S_, .f32⟩
  | 90 => ⟨S_, .f32⟩
  | 91 => ⟨S_, .f32⟩
  | 92 => ⟨S8x49104x90, .f32⟩
  | 93 => ⟨S8x49104x90, .f32⟩
  | 94 => ⟨S_, .f32⟩
  | 95 => ⟨S8x49104x90, .f32⟩
  | 96 => ⟨S8x49104x90, .f32⟩
  | 97 => ⟨S8x49104x90, .f32⟩
  | 98 => ⟨S8x49104x90, .f32⟩
  | 99 => ⟨S_, .f32⟩
  | 100 => ⟨S8x49104x90, .f32⟩
  | 101 => ⟨S8x49104x90, .f32⟩
  | 102 => ⟨S_, .f32⟩
  | 103 => ⟨S8x49104x90, .f32⟩
  | 104 => ⟨S8x49104x90, .f32⟩
  | 105 => ⟨S_, .f32⟩
  | 106 => ⟨S_, .f32⟩
  | 107 => ⟨S_, .f32⟩
  | 108 => ⟨S8x49104x90, .f32⟩
  | 109 => ⟨S8x49104x90, .f32⟩
  | 110 => ⟨S_, .f32⟩
  | 111 => ⟨S8x49104x90, .f32⟩
  | 112 => ⟨S8x49104x90, .f32⟩
  | 113 => ⟨S8x49104x90, .f32⟩
  | 114 => ⟨S8x49104x90, .f32⟩
  | 115 => ⟨S8x49104x90, .f32⟩
  | 116 => ⟨S8x49104x90, .f32⟩
  | 117 => ⟨S_, .f32⟩
  | 118 => ⟨S8x49104x90, .f32⟩
  | 119 => ⟨S8x49104x90, .i1⟩
  | 120 => ⟨S8x49104x90, .f32⟩
  | 121 => ⟨S_, .f32⟩
  | 122 => ⟨S_, .f32⟩
  | 123 => ⟨S8x49104x90, .f32⟩
  | 124 => ⟨S8x49104x90, .f32⟩
  | 125 => ⟨S_, .f32⟩
  | 126 => ⟨S8, .f32⟩
  | 127 => ⟨S_, .f32⟩
  | _ => ⟨S8x49104x90, .f32⟩

abbrev hbmTy0_2 (i : Nat) : BufTy := match i % 128 with
  | 0 => ⟨S8, .f32⟩
  | 1 => ⟨S8, .f32⟩
  | 2 => ⟨S8, .f32⟩
  | 3 => ⟨S8x49104x1, .f32⟩
  | 4 => ⟨S8x49104, .f32⟩
  | 5 => ⟨S8x49104x1, .f32⟩
  | 6 => ⟨S8x49104, .f32⟩
  | 7 => ⟨S8x49104, .f32⟩
  | 8 => ⟨S8x49104x1, .f32⟩
  | 9 => ⟨S8x49104, .f32⟩
  | 10 => ⟨S8x49104x1, .f32⟩
  | 11 => ⟨S8x49104, .f32⟩
  | 12 => ⟨S8x49104, .f32⟩
  | 13 => ⟨S8x49104x1, .f32⟩
  | 14 => ⟨S8x49104, .f32⟩
  | 15 => ⟨S_, .f32⟩
  | 16 => ⟨S8x49104, .f32⟩
  | 17 => ⟨S8x49104, .f32⟩
  | 18 => ⟨S8x49104, .f32⟩
  | 19 => ⟨S8x49104x1, .f32⟩
  | 20 => ⟨S8x49104, .f32⟩
  | 21 => ⟨S_, .f32⟩
  | 22 => ⟨S8x49104, .f32⟩
  | 23 => ⟨S8x49104, .f32⟩
  | 24 => ⟨S8x49104, .f32⟩
  | 25 => ⟨S_, .f32⟩
  | 26 => ⟨S8x49104, .f32⟩
  | 27 => ⟨S8x49104, .f32⟩
  | 28 => ⟨S_, .f32⟩
  | 29 => ⟨S8x49104, .f32⟩
  | 30 => ⟨S8x49104, .f32⟩
  | 31 => ⟨S1x49104, .f32⟩
  | 32 => ⟨S8x49104, .f32⟩
  | 33 => ⟨S8x49104, .f32⟩
  | 34 => ⟨S1x49104, .f32⟩
  | 35 => ⟨S8x49104, .f32⟩
  | 36 => ⟨S8x49104, .f32⟩
  | 37 => ⟨S1x49104, .f32⟩
  | 38 => ⟨S8x49104, .f32⟩
  | 39 => ⟨S8x49104, .f32⟩
  | 40 => ⟨S1x49104, .f32⟩
  | 41 => ⟨S8x49104, .f32⟩
  | 42 => ⟨S8x49104, .f32⟩
  | 43 => ⟨S1x49104, .f32⟩
  | 44 => ⟨S8x49104, .f32⟩
  | 45 => ⟨S8x49104, .f32⟩
  | 46 => ⟨S8x49104, .f32⟩
  | 47 => ⟨S1x49104, .f32⟩
  | 48 => ⟨S8x49104, .f32⟩
  | 49 => ⟨S8x49104, .f32⟩
  | 50 => ⟨S8x49104, .f32⟩
  | 51 => ⟨S8x49104x1, .f32⟩
  | 52 => ⟨S8x49104x1, .f32⟩
  | 53 => ⟨S8x49104x1, .f32⟩
  | 54 => ⟨S8x49104x1, .f32⟩
  | 55 => ⟨S8x49104x4, .f32⟩
  | 56 => ⟨S8x49104x4, .f32⟩
  | 57 => ⟨S8x49104x4, .f32⟩
  | 58 => ⟨S_, .f32⟩
  | 59 => ⟨S8x49104x4, .f32⟩
  | 60 => ⟨S8x49104x4, .i1⟩
  | 61 => ⟨S8x49104x4, .f32⟩
  | 62 => ⟨S_, .f32⟩
  | 63 => ⟨S8x49104x4, .f32⟩
  | 64 => ⟨S8x49104x4, .f32⟩
  | 65 => ⟨S_, .f32⟩
  | 66 => ⟨S8x49104x4, .f32⟩
  | 67 => ⟨S8x49104x4, .f32⟩
  | 68 => ⟨S8x49104x4, .f32⟩
  | 69 => ⟨S8x49104x1, .i1⟩
  | 70 => ⟨S_, .f32⟩
  | 71 => ⟨S_, .f32⟩
  | 72 => ⟨S8x49104x4, .i1⟩
  | 73 => ⟨S8x49104x4, .f32⟩
  | 74 => ⟨S8x49104x4, .f32⟩
  | 75 => ⟨S_, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S_, .f32⟩
  | 86 => ⟨S1, .f32⟩
  | 87 => ⟨S_, .f32⟩
  | 88 => ⟨S1, .f32⟩
  | 89 => ⟨S1, .f32⟩
  | 90 => ⟨S_, .f32⟩
  | 91 => ⟨S_, .f32⟩
  | 92 => ⟨S1, .f32⟩
  | 93 => ⟨S_, .f32⟩
  | 94 => ⟨S1, .f32⟩
  | 95 => ⟨S1, .f32⟩
  | 96 => ⟨S_, .f32⟩
  | 97 => ⟨S1, .f32⟩
  | 98 => ⟨S1, .f32⟩
  | _ => ⟨S8x49104x90, .f32⟩

abbrev hbmTy (i : Nat) : BufTy := match i / 128 with
  | 0 => hbmTy0_0 i
  | 1 => hbmTy0_1 i
  | 2 => hbmTy0_2 i
  | _ => ⟨S8x49104x90, .f32⟩

abbrev bufTy : (tb : Table) → Fin (tcTables nBuf tb) → BufTy
  | .hbm, ⟨i, _⟩ => hbmTy i
  | _, _ => ⟨S8x49104x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_3 : Ref sig .tc := ⟨.hbm, 85, rfl⟩
abbrev main_v72 : Ref sig .tc := ⟨.hbm, 86, rfl⟩
abbrev main_v73 : Ref sig .tc := ⟨.hbm, 87, rfl⟩
abbrev main_cst_4 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_5 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_6 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_7 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v103 : Ref sig .tc := ⟨.hbm, 124, rfl⟩
abbrev main_cst_8 : Ref sig .tc := ⟨.hbm, 125, rfl⟩
abbrev main_v104 : Ref sig .tc := ⟨.hbm, 126, rfl⟩
abbrev main_call2_v0 : Ref sig .tc := ⟨.hbm, 127, rfl⟩
abbrev main_call2_cst : Ref sig .tc := ⟨.hbm, 128, rfl⟩
abbrev main_call2_c : Ref sig .tc := ⟨.hbm, 129, rfl⟩
abbrev main_call2_v1_0 : Ref sig .tc := ⟨.hbm, 130, rfl⟩
abbrev main_v105 : Ref sig .tc := ⟨.hbm, 131, rfl⟩
abbrev main_cst_9 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_10 : Ref sig .tc := ⟨.hbm, 136, rfl⟩
abbrev main_v109 : Ref sig .tc := ⟨.hbm, 137, rfl⟩
abbrev main_v110 : Ref sig .tc := ⟨.hbm, 138, rfl⟩
abbrev main_call3_c : Ref sig .tc := ⟨.hbm, 139, rfl⟩
abbrev main_call3_v0 : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_c_1 : Ref sig .tc := ⟨.hbm, 146, rfl⟩
abbrev main_call3_c_2 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_c_3 : Ref sig .tc := ⟨.hbm, 154, rfl⟩
abbrev main_call3_v11 : Ref sig .tc := ⟨.hbm, 155, rfl⟩
abbrev main_call3_v12 : Ref sig .tc := ⟨.hbm, 156, rfl⟩
abbrev main_call3_v13 : Ref sig .tc := ⟨.hbm, 157, rfl⟩
abbrev main_call3_cst : Ref sig .tc := ⟨.hbm, 158, rfl⟩
abbrev main_call3_v14 : Ref sig .tc := ⟨.hbm, 159, rfl⟩
abbrev main_v111 : Ref sig .tc := ⟨.hbm, 160, rfl⟩
abbrev main_cst_11 : Ref sig .tc := ⟨.hbm, 161, rfl⟩
abbrev main_v112 : Ref sig .tc := ⟨.hbm, 162, rfl⟩
abbrev main_cst_12 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_13 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v116 : Ref sig .tc := ⟨.hbm, 171, rfl⟩
abbrev main_v117 : Ref sig .tc := ⟨.hbm, 172, rfl⟩
abbrev main_cst_14 : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_v122 : Ref sig .tc := ⟨.hbm, 186, rfl⟩
abbrev main_v123 : Ref sig .tc := ⟨.hbm, 187, rfl⟩
abbrev main_cst_15 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_16 : Ref sig .tc := ⟨.hbm, 193, rfl⟩
abbrev main_call7_v0 : Ref sig .tc := ⟨.hbm, 194, rfl⟩
abbrev main_call7_v1 : Ref sig .tc := ⟨.hbm, 195, rfl⟩
abbrev main_v128 : Ref sig .tc := ⟨.hbm, 196, rfl⟩
abbrev main_cst_17 : Ref sig .tc := ⟨.hbm, 197, rfl⟩
abbrev main_v129 : Ref sig .tc := ⟨.hbm, 198, rfl⟩
abbrev main_v130 : Ref sig .tc := ⟨.hbm, 199, rfl⟩
abbrev main_cst_18 : Ref sig .tc := ⟨.hbm, 200, rfl⟩
abbrev main_cst_19 : Ref sig .tc := ⟨.hbm, 201, rfl⟩
abbrev main_call8_v0 : Ref sig .tc := ⟨.hbm, 202, rfl⟩
abbrev main_call8_v1 : Ref sig .tc := ⟨.hbm, 203, rfl⟩
abbrev main_v131 : Ref sig .tc := ⟨.hbm, 204, rfl⟩
abbrev main_cst_20 : Ref sig .tc := ⟨.hbm, 205, rfl⟩
abbrev main_v132 : Ref sig .tc := ⟨.hbm, 206, rfl⟩
abbrev main_v133 : Ref sig .tc := ⟨.hbm, 207, rfl⟩
abbrev main_cst_21 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_cst_22 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_23 : Ref sig .tc := ⟨.hbm, 217, rfl⟩
abbrev main_cst_24 : Ref sig .tc := ⟨.hbm, 218, rfl⟩
abbrev main_call10_v0 : Ref sig .tc := ⟨.hbm, 219, rfl⟩
abbrev main_call10_v1 : Ref sig .tc := ⟨.hbm, 220, rfl⟩
abbrev main_call10_v2 : Ref sig .tc := ⟨.hbm, 221, rfl⟩
abbrev main_call10_v3 : Ref sig .tc := ⟨.hbm, 222, rfl⟩
abbrev main_call10_v4 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_cst_25 : Ref sig .tc := ⟨.hbm, 227, rfl⟩
abbrev main_v144 : Ref sig .tc := ⟨.hbm, 228, rfl⟩
abbrev main_v145 : Ref sig .tc := ⟨.hbm, 229, rfl⟩
abbrev main_cst_26 : Ref sig .tc := ⟨.hbm, 230, rfl⟩
abbrev main_v146 : Ref sig .tc := ⟨.hbm, 231, rfl⟩
abbrev main_v147 : Ref sig .tc := ⟨.hbm, 232, rfl⟩
abbrev main_cst_27 : Ref sig .tc := ⟨.hbm, 233, rfl⟩
abbrev main_cst_28 : Ref sig .tc := ⟨.hbm, 234, rfl⟩
abbrev main_call11_v0 : Ref sig .tc := ⟨.hbm, 235, rfl⟩
abbrev main_call11_v1 : Ref sig .tc := ⟨.hbm, 236, rfl⟩
abbrev main_call11_v2 : Ref sig .tc := ⟨.hbm, 237, rfl⟩
abbrev main_call11_v3 : Ref sig .tc := ⟨.hbm, 238, rfl⟩
abbrev main_call11_v4 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_cst_29 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_cst_30 : Ref sig .tc := ⟨.hbm, 249, rfl⟩
abbrev main_call12_v0 : Ref sig .tc := ⟨.hbm, 250, rfl⟩
abbrev main_call12_v1 : Ref sig .tc := ⟨.hbm, 251, rfl⟩
abbrev main_v156 : Ref sig .tc := ⟨.hbm, 252, rfl⟩
abbrev main_cst_31 : Ref sig .tc := ⟨.hbm, 253, rfl⟩
abbrev main_v157 : Ref sig .tc := ⟨.hbm, 254, rfl⟩
abbrev main_cst_32 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_33 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_cst_34 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_cst_35 : Ref sig .tc := ⟨.hbm, 281, rfl⟩
abbrev main_v181 : Ref sig .tc := ⟨.hbm, 282, rfl⟩
abbrev main_v182 : Ref sig .tc := ⟨.hbm, 283, rfl⟩
abbrev main_cst_36 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_cst_37 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_cst_38 : Ref sig .tc := ⟨.hbm, 318, rfl⟩
abbrev main_v215 : Ref sig .tc := ⟨.hbm, 319, rfl⟩
abbrev main_v216 : Ref sig .tc := ⟨.hbm, 320, rfl⟩
abbrev main_cst_39 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_cst_40 : Ref sig .tc := ⟨.hbm, 326, rfl⟩
abbrev main_call14_v0 : Ref sig .tc := ⟨.hbm, 327, rfl⟩
abbrev main_call14_v1 : Ref sig .tc := ⟨.hbm, 328, rfl⟩
abbrev main_call14_v2 : Ref sig .tc := ⟨.hbm, 329, rfl⟩
abbrev main_v221 : Ref sig .tc := ⟨.hbm, 330, rfl⟩
abbrev main_cst_41 : Ref sig .tc := ⟨.hbm, 331, rfl⟩
abbrev main_v222 : Ref sig .tc := ⟨.hbm, 332, rfl⟩
abbrev main_cst_42 : Ref sig .tc := ⟨.hbm, 333, rfl⟩
abbrev main_v223 : Ref sig .tc := ⟨.hbm, 334, rfl⟩
abbrev main_v224 : Ref sig .tc := ⟨.hbm, 335, rfl⟩
abbrev main_cst_43 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_cst_44 : Ref sig .tc := ⟨.hbm, 340, rfl⟩
abbrev main_v228 : Ref sig .tc := ⟨.hbm, 341, rfl⟩
abbrev main_v229 : Ref sig .tc := ⟨.hbm, 342, rfl⟩
abbrev main_cst_45 : Ref sig .tc := ⟨.hbm, 343, rfl⟩
abbrev main_v230 : Ref sig .tc := ⟨.hbm, 344, rfl⟩
abbrev main_v231 : Ref sig .tc := ⟨.hbm, 345, rfl⟩
abbrev main_cst_46 : Ref sig .tc := ⟨.hbm, 346, rfl⟩
abbrev main_v232 : Ref sig .tc := ⟨.hbm, 347, rfl⟩
abbrev main_v233 : Ref sig .tc := ⟨.hbm, 348, rfl⟩
abbrev main_cst_47 : Ref sig .tc := ⟨.hbm, 349, rfl⟩
abbrev main_v234 : Ref sig .tc := ⟨.hbm, 350, rfl⟩
abbrev main_v235 : Ref sig .tc := ⟨.hbm, 351, rfl⟩
abbrev main_cst_48 : Ref sig .tc := ⟨.hbm, 352, rfl⟩
abbrev main_v236 : Ref sig .tc := ⟨.hbm, 353, rfl⟩
abbrev main_v237 : Ref sig .tc := ⟨.hbm, 354, rfl⟩

abbrev nD : Nat := 1
abbrev τ : Topo := Topo.v7x

variable {F : FTy → Type} [FloatOps F]
-- ==== Proof.MatchFold.lean ====
/- The match kernel as a plain fold over the 32 boxes: the state of one pass (the best overlap so far and the box that has
   it), one step, and what the kernel writes from the last state. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A 384 × 128 plane: one value per anchor. -/
abbrev Plane (F : FTy → Type) [FloatOps F] := FVec F S384x128 .f32

/-- Plane `k` of the four anchor planes, as the body loads it. -/
def plane (x0 : Vec F S4x384x128 .f32) (k : Fin 4) : Plane F :=
  shapeCast S384x128 (fun x : S1x384x128.Idx => x0 ((Rect.unit (s := S4x384x128) ![k.val, 0, 0] S1x384x128.size
    (by revert k; decide)).toLoadRect.idx x)) shapeCasts_S1x384x128_S384x128

/-- Plane `k` of the four regression planes, as the body loads it. -/
def regPlane (x1 : Vec F S1x4x384x128 .f32) (k : Fin 4) : Plane F :=
  shapeCast S384x128 (fun x : S1x1x384x128.Idx => x1 ((Rect.unit (s := S1x4x384x128) ![0, k.val, 0, 0] S1x1x384x128.size
    (by revert k; decide)).toLoadRect.idx x)) shapeCasts_S1x1x384x128_S384x128

/-- Field `k` of box `j`, as the body loads it. -/
def field (x2 : Vec F S1x5x32 .f32) (j : Fin 32) (k : Fin 5) : F .f32 :=
  x2 ((Rect.unit (s := S1x5x32) ![0, k.val, j.val] S1x1x1.size (by revert k j; decide)).toLoadRect.idx
    (Shape.Idx.first (s := S1x1x1) (by decide)))

/-- The constant plane of a float word. -/
def cst (w : BitVec 32) : Plane F := broadcast S384x128 (Scalar.ofBits .f32 w)

/-- The overlap (intersection over union) of every anchor with one box. -/
def overlap (a0 a1 a2 a3 ar : Plane F) (b : Fin 5 → F .f32) : Plane F :=
  have i : Plane F := mulf
    (maximumf (subf (minimumf a3 (broadcast S384x128 (b 2))) (maximumf a1 (broadcast S384x128 (b 0)))) (cst 0x00000000#32))
    (maximumf (subf (minimumf a2 (broadcast S384x128 (b 3))) (maximumf a0 (broadcast S384x128 (b 1)))) (cst 0x00000000#32))
  divf i (maximumf (subf (addf ar (broadcast S384x128
    (Scalar.mulf (Scalar.subf (b 2) (b 0)) (Scalar.subf (b 3) (b 1))))) i) (cst 0x322BCC77#32))

/-- The state of the pass over the boxes: the best overlap so far and the five fields of its box. -/
structure Best (F : FTy → Type) [FloatOps F] where
  iou : FVec F S384x128 .f32
  fld : Fin 5 → FVec F S384x128 .f32

/-- The state after the first box. -/
def Best.init (a0 a1 a2 a3 ar : Plane F) (b : Fin 5 → F .f32) : Best F :=
  ⟨overlap a0 a1 a2 a3 ar b, fun k => addf (cst 0x00000000#32) (broadcast S384x128 (b k))⟩

/-- One more box: it replaces the best where its overlap is strictly greater. -/
def Best.step (a0 a1 a2 a3 ar : Plane F) (s : Best F) (b : Fin 5 → F .f32) : Best F :=
  ⟨select (cmpf .ogt (overlap a0 a1 a2 a3 ar b) s.iou) (overlap a0 a1 a2 a3 ar b) s.iou,
    fun k => select (cmpf .ogt (overlap a0 a1 a2 a3 ar b) s.iou) (broadcast S384x128 (b k)) (s.fld k)⟩

/-- The state after boxes `0 … n`. -/
def Best.upto (a0 a1 a2 a3 ar : Plane F) (b : Fin 32 → Fin 5 → F .f32) (n : ℕ) : Best F :=
  Nat.rec (Best.init a0 a1 a2 a3 ar (b 0)) (fun n s => Best.step a0 a1 a2 a3 ar s (b (Fin.ofNat 32 (n + 1)))) n

/-- The areas of the anchors. -/
def areaV (x0 : Vec F S4x384x128 .f32) : Plane F :=
  mulf (subf (plane x0 2) (plane x0 0)) (subf (plane x0 3) (plane x0 1))

/-- The state after all 32 boxes. -/
def best (x0 : Vec F S4x384x128 .f32) (x2 : Vec F S1x5x32 .f32) : Best F :=
  Best.upto (plane x0 0) (plane x0 1) (plane x0 2) (plane x0 3) (areaV x0) (field x2) 31

/-- The anchors proper (the planes end in padding). -/
def validV : IVec S384x128 1 :=
  cmpi .slt (addi (muli (iota .tc S384x128 32 [0] iota_S384x128_d0_w32) (broadcast S384x128 128#32))
    (iota .tc S384x128 32 [1] iota_S384x128_d1_w32)) (broadcast S384x128 49104#32)

/-- The positive anchors. -/
def posV (s : Best F) : IVec S384x128 1 := cmpf .oge s.iou (cst 0x3F000000#32)

/-- What the match leaves of each anchor: whether it counts at all, plus twice one more than the label of a positive one. -/
def encV (x0 : Vec F S4x384x128 .f32) (x2 : Vec F S1x5x32 .f32) : FVec F S1x384x128 .f32 :=
  shapeCast S1x384x128
    (addf (sitofp .f32 (extui 32 (andi (ori (cmpf .olt (best x0 x2).iou (cst 0x3ECCCCCD#32)) (posV (best x0 x2))) validV) natLt_1_32))
      (mulf (cst 0x40000000#32)
        (select (andi (posV (best x0 x2)) validV) (addf ((best x0 x2).fld 4) (cst 0x3F800000#32)) (cst 0x00000000#32))))
    shapeCasts_S384x128_S1x384x128

/-- The smooth absolute error of one coordinate. -/
def smoothV (t r : Plane F) : Plane F :=
  have d : Plane F := absf (subf t r)
  select (cmpf .ole d (cst 0x3DE38E39#32)) (mulf (mulf (cst 0x40900000#32) d) d) (subf d (cst 0x3D638E39#32))

/-- The offset of the best box's centre from the anchor's, by the anchor's extent. -/
def centreV (lo hi p q : Plane F) : Plane F :=
  divf (subf (addf p (mulf (cst 0x3F000000#32) (subf q p))) (addf lo (mulf (cst 0x3F000000#32) (subf hi lo)))) (subf hi lo)

/-- The logarithm of the best box's extent (at least one) over the anchor's. -/
def extentV (lo hi p q : Plane F) : Plane F :=
  log (divf (maximumf (subf q p) (cst 0x3F800000#32)) (subf hi lo))

/-- The regression error of each anchor against its best box. -/
def regV (x0 : Vec F S4x384x128 .f32) (x1 : Vec F S1x4x384x128 .f32) (s : Best F) : Plane F :=
  addf (addf (addf
    (smoothV (centreV (plane x0 0) (plane x0 2) (s.fld 1) (s.fld 3)) (regPlane x1 0))
    (smoothV (centreV (plane x0 1) (plane x0 3) (s.fld 0) (s.fld 2)) (regPlane x1 1)))
    (smoothV (extentV (plane x0 0) (plane x0 2) (s.fld 1) (s.fld 3)) (regPlane x1 2)))
    (smoothV (extentV (plane x0 1) (plane x0 3) (s.fld 0) (s.fld 2)) (regPlane x1 3))

/-- The positive anchors as numbers. -/
def posF (s : Best F) : Plane F := sitofp .f32 (extui 32 (posV s) natLt_1_32)

/-- The sum of a plane. -/
def sumV (v : Plane F) : F .f32 :=
  extractAt ![0, 0, 0] (shapeCast S1x1x1 (multiReduction .add [1, 2] S1
    (shapeCast S1x384x128 v shapeCasts_S384x128_S1x384x128) 0x00000000#32 reduces_S1x384x128_S1 (.inl rfl) rfl)
    shapeCasts_S1_S1x1x1) inpos_S1x1x1_p0_0_0

/-- The two sums of a sample: its regression error in lane 0 and the number of its positive anchors in lane 1. -/
def partV (x0 : Vec F S4x384x128 .f32) (x1 : Vec F S1x4x384x128 .f32) (x2 : Vec F S1x5x32 .f32) : FVec F S1x1x128 .f32 :=
  addf
    (select (cmpi .eq (iota .tc S1x1x128 32 [2] iota_S1x1x128_d2_w32) (broadcast S1x1x128 0#32))
      (broadcast S1x1x128 (sumV (mulf (posF (best x0 x2)) (regV x0 x1 (best x0 x2)))))
      (broadcast S1x1x128 (Scalar.ofBits .f32 0x00000000#32)))
    (select (cmpi .eq (iota .tc S1x1x128 32 [2] iota_S1x1x128_d2_w32) (broadcast S1x1x128 1#32))
      (broadcast S1x1x128 (sumV (posF (best x0 x2))))
      (broadcast S1x1x128 (Scalar.ofBits .f32 0x00000000#32)))

end Cert.Focal

end
-- ==== Proof.MatchRun.lean ====
/- The match kernel's body, run once on any staging buffers: its 35 printed parts leave the fold of MatchFold.lean. -/
module

public import proofs.«01_k».proof.Proof.MatchFold

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The match body on any whole staging buffers: it reads its three inputs and leaves the encoded match and the two sums. -/
theorem match_triple (c : Dev nD) (i : grid0.Coords) (arg1 : Memref sig .tc .vmem S4x384x128 .f32) (harg1 : arg1.IsWhole)
    (arg2 : Memref sig .tc .vmem S1x4x384x128 .f32) (harg2 : arg2.IsWhole) (arg3 : Memref sig .tc .smem S1x5x32 .f32) (harg3 : arg3.IsWhole)
    (arg4 : Memref sig .tc .vmem S1x384x128 .f32) (harg4 : arg4.IsWhole) (arg5 : Memref sig .tc .vmem S1x1x128 .f32) (harg5 : arg5.IsWhole)
    (x0 : Vec F S4x384x128 .f32) (x1 : Vec F S1x4x384x128 .f32) (x2 : Vec F S1x5x32 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (encV x0 x2)
            ∗ owns (c : Thread nD τ) arg5 fullShare (partV x0 x1 x2)) -∗ K ⟨⟩))
      ⊢ wp frame (wpE (defs₀ (F := F)) Variants.none c none) E (cc0__match_body i arg1 harg1 arg2 harg2 arg3 harg3 arg4 harg4 arg5 harg5) K := by
  simp only [cc0__match_body_eq_skeleton]; unfold cc0__match_body_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton,
      k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton,
      k0_part35_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (View.read_writes_full _ _ _ _ _).trans ?_
    sl_kernel_rfl
  iexists _; isplitr
  swap; · iexact H4
  ipureintro
  refine (View.read_writes_full _ _ _ _ _).trans ?_
  sl_kernel_rfl

end Cert.Focal

end
-- ==== Proof.MatchData.lean ====
/- The match region: what its arrays hold while the pipeline runs, and its body obligation. -/
module

public import proofs.«01_k».proof.Proof.MatchRun
public import Idealize.ShloMosaic.Lib.Pipeline.Regions

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The proof data of the match kernel: after the body the inputs hold their blocks, the outputs the encoded match and the
    partial sums. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => encV (blk0 W c 0 t) (blk0 W c 2 t)
    | ⟨4, _⟩ => partV (blk0 W c 0 t) (blk0 W c 1 t) (blk0 W c 2 t)
  Φ _ := Pipeline.scopedRest spec0 c
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = blk0 W c 2 t := by dsimp only [dat0]
theorem after0_3 (c : Dev nD) (t : Fin cfg0.N) : (dat0 W c).after 3 t = encV (blk0 W c 0 t) (blk0 W c 2 t) := by dsimp only [dat0]
theorem after0_4 (c : Dev nD) (t : Fin cfg0.N) :
    (dat0 W c).after 4 t = partV (blk0 W c 0 t) (blk0 W c 1 t) (blk0 W c 2 t) := by dsimp only [dat0]

/-- Each input's staging buffer holds its block when the body runs, fetched at this point or not. -/
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)

theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)

theorem before0_2 (c : Dev nD) (t : Fin cfg0.N) (d) : (dat0 W c).before 2 t d = blk0 W c 2 t :=
  ((dat0 W c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)

theorem row0 (t : Fin cfg0.N) : defs₀ (F := F) .tc cfg0.body (cfg0.bodyArgs t (cfg0.slots t)) = bodyAt0 t := by
  unfold defs₀; rw [Defs.onTc_tc]

/-- The body obligation: `match_triple` at the point's blocks. -/
theorem obligation0 (c : Dev nD) : Pipeline.BodyObligationLoose (dat0 (F := F) W c) (defs₀ (F := F)) Variants.none () Set.univ :=
  BodyObligation.loose _ fun t => by
  rw [bigSep_W0, bigSep_W0, row0]
  rw [show (dat0 W c).Φ t.succ = (dat0 W c).Φ t.castSucc from rfl,
    show (dat0 W c).owesAt () t.succ = (dat0 W c).owesAt () t.castSucc from rfl]
  simp only [before0_0, before0_1, before0_2]
  rw [after0_0, after0_1, after0_2, after0_3, after0_4]
  iintro ⟨HΦ, Ho, ⟨%d0, H0⟩, ⟨%d1, H1⟩, ⟨%d2, H2⟩, ⟨%d3, H3⟩, ⟨%d4, H4⟩⟩
  unfold bodyAt0
  iapply (match_triple c (grid0.coords t) _ _ _ _ _ _ _ _ _ _ (blk0 W c 0 t) (blk0 W c 1 t) (blk0 W c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Focal

end
-- ==== Proof.FocalRun.lean ====
/- The focal kernel's body, run once on any staging buffers: what a block adds, and that it does not depend on the rows
   beyond the last anchor. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- What the block at point `i` adds to its sample's sum, in lane 0. -/
def focalV (i : grid1.Coords) (x0 : Vec F S1x16384x90 .f32) (x1 : Vec F S1x16384x1 .f32) : FVec F S1x1x128 .f32 :=
  k1_pay8 (k1_pay2 i x0) (k1_pay5 x1) (k1_pay6 i x0 x1) (k1_pay7 x1)

/-- The block enters only through the scores with the rows beyond the last anchor set to one half. -/
theorem focalV_congr (i : grid1.Coords) (x0 x0' : Vec F S1x16384x90 .f32) (x1 : Vec F S1x16384x1 .f32)
    (h : k1_pay2 i x0 = k1_pay2 i x0') : focalV i x0 x1 = focalV i x0' x1 := by
  unfold focalV k1_pay6
  rw [h]

local notation "𝕄" => MT nD τ sig Unit (Elt F) ℕ (UR sig nD τ) ℕ

set_option maxHeartbeats 2000000 in
/-- At the first block of a sample the body leaves what the block adds. -/
theorem focal_first (c : Dev nD) (i : grid1.Coords) (arg2 : Memref sig .tc .vmem S1x16384x90 .f32) (harg2 : arg2.IsWhole)
    (arg3 : Memref sig .tc .vmem S1x16384x1 .f32) (harg3 : arg3.IsWhole) (arg4 : Memref sig .tc .vmem S1x1x128 .f32) (harg4 : arg4.IsWhole)
    (hc0 : k1_cond1 i = 1#1) (hc1 : ¬k1_cond2 i = 1#1) (x0 : Vec F S1x16384x90 .f32) (x1 : Vec F S1x16384x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (focalV i x0 x1)) -∗ K ⟨⟩))
      ⊢ wp frame (wpE (defs₀ (F := F)) Variants.none c none) E (cc1__focal_body i arg2 harg2 arg3 harg3 arg4 harg4) K := by
  simp only [cc1__focal_body_eq_skeleton]; unfold cc1__focal_body_skel
  simp only [k1_part1_eq_skeleton, k1_part2_eq_skeleton]
  unfold owns
  iintro ⟨⟨%f0, %hf0, H0⟩, ⟨%f1, %hf1, H1⟩, ⟨%d2, %f2, -, H2⟩, Hk⟩
  subst hf0 hf1
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  iexists _; isplitr
  swap; · iexact H2
  ipureintro
  refine (View.read_writes_full _ _ _ _ _).trans ?_
  refine Eq.trans (b := focalV i (View.readAt (Elt F) arg2.view (Rect.unit ![0, 0, 0] ![1, 16384, 90] inb_S1x16384x90_S1x16384x90_0_0_0).toLoadRect f0) (View.readAt (Elt F) arg3.view (Rect.unit ![0, 0, 0] ![1, 16384, 1] inb_S1x16384x1_S1x16384x1_0_0_0).toLoadRect f1)) ?_ (congrArg₂ (focalV i) (View.readAt_full _ _ _) (View.readAt_full _ _ _))
  sl_kernel_rfl

set_option maxHeartbeats 2000000 in
/-- At a later block the body adds what the block adds to what was there. -/
theorem focal_next (c : Dev nD) (i : grid1.Coords) (arg2 : Memref sig .tc .vmem S1x16384x90 .f32) (harg2 : arg2.IsWhole)
    (arg3 : Memref sig .tc .vmem S1x16384x1 .f32) (harg3 : arg3.IsWhole) (arg4 : Memref sig .tc .vmem S1x1x128 .f32) (harg4 : arg4.IsWhole)
    (hc0 : ¬k1_cond1 i = 1#1) (hc1 : k1_cond2 i = 1#1) (x0 : Vec F S1x16384x90 .f32) (x1 : Vec F S1x16384x1 .f32)
    (xo : Vec F S1x1x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay1 (focalV i x0 x1) xo)) -∗ K ⟨⟩))
      ⊢ wp frame (wpE (defs₀ (F := F)) Variants.none c none) E (cc1__focal_body i arg2 harg2 arg3 harg3 arg4 harg4) K := by
  simp only [cc1__focal_body_eq_skeleton]; unfold cc1__focal_body_skel
  simp only [k1_part1_eq_skeleton, k1_part2_eq_skeleton]
  unfold owns
  iintro ⟨⟨%f0, %hf0, H0⟩, ⟨%f1, %hf1, H1⟩, ⟨%f2, %hf2, H2⟩, Hk⟩
  subst hf0 hf1 hf2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  iexists _; isplitr
  swap; · iexact H2
  ipureintro
  refine (View.read_writes_full _ _ _ _ _).trans ?_
  refine Eq.trans (b := k1_pay1 (focalV i (View.readAt (Elt F) arg2.view (Rect.unit ![0, 0, 0] ![1, 16384, 90] inb_S1x16384x90_S1x16384x90_0_0_0).toLoadRect f0) (View.readAt (Elt F) arg3.view (Rect.unit ![0, 0, 0] ![1, 16384, 1] inb_S1x16384x1_S1x16384x1_0_0_0).toLoadRect f1)) (View.readAt (Elt F) arg4.view (Rect.unit ![0, 0, 0] ![1, 1, 128] inb_S1x1x128_S1x1x128_0_0_0).toLoadRect f2)) ?_ (congrArg₂ k1_pay1 (congrArg₂ (focalV i) (View.readAt_full _ _ _) (View.readAt_full _ _ _)) (View.readAt_full _ _ _))
  sl_kernel_rfl

end Cert.Focal

end
-- ==== Proof.FocalData.lean ====
/- The focal region: what its arrays hold while the pipeline runs, and its body obligation. The last block of a sample
   reaches beyond the last anchor; the body's result does not depend on what its buffer holds there. -/
module

public import proofs.«01_k».proof.Proof.FocalRun
public import Idealize.ShloMosaic.Lib.Pipeline.Regions
public import Idealize.ShloMosaic.Lib.Pipeline.TableIdle
public import Idealize.ShloMosaic.Lib.PointwiseCore

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window `w`'s block at point `t`, read off its array as the region finds it: for the scores, the block's part inside the array. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The scores' block with zeros beyond the last anchor. -/
def scores (c : Dev nD) (t : Fin cfg1.N) : Vec F S1x16384x90 .f32 :=
  win1_0.fill (grid1.coords t) (fun _ => Scalar.ofBits .f32 0#32) (blk1 W c 0 t)

/-- A sample's running sum after the block at position `n`. -/
def running (c : Dev nD) : (n : ℕ) → n < cfg1.N → Vec F S1x1x128 .f32
  | 0, hn => focalV (grid1.coords ⟨0, hn⟩) (scores W c ⟨0, hn⟩) (blk1 W c 1 ⟨0, hn⟩)
  | n + 1, hn =>
    if (n + 1) % 3 = 0 then focalV (grid1.coords ⟨n + 1, hn⟩) (scores W c ⟨n + 1, hn⟩) (blk1 W c 1 ⟨n + 1, hn⟩)
    else k1_pay1 (focalV (grid1.coords ⟨n + 1, hn⟩) (scores W c ⟨n + 1, hn⟩) (blk1 W c 1 ⟨n + 1, hn⟩)) (running c n (Nat.lt_of_succ_lt hn))

/-- At a sample's first block the running sum is what the block adds. -/
theorem running_first (c : Dev nD) (t : Fin cfg1.N) (h : t.val % 3 = 0) :
    running W c t.val t.isLt = focalV (grid1.coords t) (scores W c t) (blk1 W c 1 t) := by
  obtain ⟨n, hn⟩ := t
  cases n with
  | zero => rfl
  | succ n => exact if_pos h

/-- At a later block it is the running sum before plus what the block adds. -/
theorem running_next (c : Dev nD) (t : Fin cfg1.N) (h : ¬t.val % 3 = 0) :
    running W c t.val t.isLt = k1_pay1 (focalV (grid1.coords t) (scores W c t) (blk1 W c 1 t))
      (running W c (t.val - 1) (Nat.lt_of_le_of_lt (Nat.sub_le _ _) t.isLt)) := by
  obtain ⟨n, hn⟩ := t
  cases n with
  | zero => exact absurd rfl h
  | succ n => exact if_neg h

/-- The first conditional of the body runs at a sample's first block, -/
theorem first_iff : ∀ t : Fin cfg1.N, k1_cond1 (grid1.coords t) = 1#1 ↔ t.val % 3 = 0 :=
  (by decide +kernel : ∀ t : Fin grid1.N, k1_cond1 (grid1.coords t) = 1#1 ↔ t.val % 3 = 0)
/-- and the second at the later ones. -/
theorem next_iff : ∀ t : Fin cfg1.N, k1_cond2 (grid1.coords t) = 1#1 ↔ ¬t.val % 3 = 0 :=
  (by decide +kernel : ∀ t : Fin grid1.N, k1_cond2 (grid1.coords t) = 1#1 ↔ ¬t.val % 3 = 0)

/-- The result's staging buffer is fresh at a sample's first block and carries the running sum at the others. -/
def freshTab : ℕ → Bool
  | n => n % 3 == 0
theorem freshTab_step : ∀ t : Fin cfg1.N,
    freshTab (t.val + 1) = ((cfg1.win 2).flush t || (cfg1.idle 2 (cfg1.grid.coords t) && freshTab t.val)) := by decide +kernel
theorem live1_2 : ∀ t : Fin cfg1.N, cfg1.idle 2 (grid1.coords t) = false := by decide +kernel
theorem fresh_eq (t : Fin cfg1.N) : cfg1.fresh 2 t.val = freshTab t.val :=
  Pipeline.Cfg.fresh_tab cfg1 2 freshTab rfl freshTab_step t.val (Nat.le_of_lt t.isLt)

/-- The proof data of the focal kernel. -/
def dat1 (c : Dev nD) : Dat τ (Elt F) Unit ℕ (UR sig nD τ) ℕ cfg1 c where
  A w := W c (Proc.devRef .tc (Pipeline.arrRef spec1 w))
  after w t := match w with
    | ⟨0, _⟩ => scores W c t
    | ⟨1, _⟩ => blk1 W c 1 t
    | ⟨2, _⟩ => running W c t.val t.isLt
  Φ _ := Pipeline.scopedRest spec1 c
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = scores W c t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = running W c t.val t.isLt := by dsimp only [dat1]

/-- The scores' buffer holds the block on the rows inside the array and anything beyond. -/
theorem before1_0 (c : Dev nD) (t : Fin cfg1.N) (d) : (dat1 W c).before 0 t d = win1_0.fill (grid1.coords t) d (blk1 W c 0 t) := by
  unfold Dat.before; rw [if_pos (fetch1_0 t)]; rfl

theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)

/-- The result's buffer at a later block holds the running sum. -/
theorem before1_2 (c : Dev nD) (t : Fin cfg1.N) (h : ¬t.val % 3 = 0) (d) :
    (dat1 W c).before 2 t d = running W c (t.val - 1) (Nat.lt_of_le_of_lt (Nat.sub_le _ _) t.isLt) := by
  rw [Dat.before_out_traj _ 2 rfl (fun _ _ => rfl) (fun t _ hi => absurd hi (by rw [live1_2 t]; exact Bool.false_ne_true)) t.val t rfl d,
    if_neg (by rw [fresh_eq]; unfold freshTab; simpa using h)]
  dsimp only [dat1]

theorem row1 (t : Fin cfg1.N) : defs₀ (F := F) .tc cfg1.body (cfg1.bodyArgs t (cfg1.slots t)) = bodyAt1 t := by
  unfold defs₀; rw [Defs.onTc_tc]

/-- The score the body uses at a row and class: the block's, or one half beyond the last anchor. -/
theorem pay2_apply (i : grid1.Coords) (x : Vec F S1x16384x90 .f32) (r : Fin 16384) (k : Fin 90) :
    k1_pay2 i x (ix2 r k) = if (i 1).val * 16384 + r.val < 49104 then x (ix3 0 r k) else FloatOps.ofBits .f32 0x3F000000#32 := by
  have hr := r.isLt
  have hi : (i 1).val < 3 := (i 1).isLt
  pointwise [k1_pay2]
  have e : IntOp.cmpi .slt (IntOp.addi (Scalar.muli (BitVec.ofNat 32 (i 1).val) 16384#32) (BitVec.ofNat 32 r.val)) 49104#32
      = BitVec.ofBool (decide ((i 1).val * 16384 + r.val < 49104)) := by
    rw [show Scalar.muli (BitVec.ofNat 32 (i 1).val) 16384#32 = BitVec.ofNat 32 ((i 1).val * 16384) from WordCmp.muli_ofNat _ _,
      WordCmp.addi_ofNat]
    exact WordCmp.cmpi_slt_ofNat (by omega) (by omega)
  rw [e]
  by_cases h : (i 1).val * 16384 + r.val < 49104
  · simp only [h, decide_true, if_true]; rfl
  · simp only [h, decide_false, if_false]; rfl

/-- The part of the scores' block inside the array. -/
theorem moved_size : ∀ t : Fin cfg1.N, win1_0.xsize (grid1.coords t) 0 = 1
    ∧ win1_0.xsize (grid1.coords t) 1 = min 16384 (49104 - (grid1.coords t 1).val * 16384) ∧ win1_0.xsize (grid1.coords t) 2 = 90 :=
  (by decide +kernel : ∀ t : Fin grid1.N, win1_0.xsize (grid1.coords t) 0 = 1
    ∧ win1_0.xsize (grid1.coords t) 1 = min 16384 (49104 - (grid1.coords t 1).val * 16384) ∧ win1_0.xsize (grid1.coords t) 2 = 90)

/-- What lies beyond the last anchor does not matter: the body replaces those scores by one half. -/
theorem pay2_fill (t : Fin cfg1.N) (d d' : Vec F S1x16384x90 .f32) (g) :
    k1_pay2 (grid1.coords t) (win1_0.fill (grid1.coords t) d g) = k1_pay2 (grid1.coords t) (win1_0.fill (grid1.coords t) d' g) := by
  funext j
  idx_vars j
  rw [pay2_apply, pay2_apply]
  split
  case isFalse => rfl
  case isTrue h =>
    have hm : win1_0.moved (grid1.coords t) (ix3 0 j0 j1) = true := by
      rw [Pipeline.Window.moved_iff]
      obtain ⟨h0, h1, h2⟩ := moved_size t
      have hj0 := j0.isLt
      have hj1 := j1.isLt
      intro a
      fin_cases a
      · show (0 : ℕ) < win1_0.xsize (grid1.coords t) 0
        omega
      · show j0.val < win1_0.xsize (grid1.coords t) 1
        omega
      · show j1.val < win1_0.xsize (grid1.coords t) 2
        omega
    unfold Pipeline.Window.fill
    rw [dif_pos hm, dif_pos hm]

/-- The body obligation: the scores' buffer is described on the rows inside the array only. -/
theorem obligation1 (c : Dev nD) : Pipeline.BodyObligationLoose (dat1 (F := F) W c) (defs₀ (F := F)) Variants.none () Set.univ := fun t => by
  rw [bigSep_W1, bigSep_W1, row1]
  rw [show (dat1 W c).Φ t.succ = (dat1 W c).Φ t.castSucc from rfl,
    show (dat1 W c).owesAt () t.succ = (dat1 W c).owesAt () t.castSucc from rfl]
  simp only [before1_0, before1_1]
  rw [show idle1 2 (grid1.coords t) = false from live1_2 t]
  dsimp only
  rw [after1_0, after1_1, after1_2]
  have hscore : ∀ d, focalV (grid1.coords t) (win1_0.fill (grid1.coords t) d (blk1 W c 0 t)) (blk1 W c 1 t)
      = focalV (grid1.coords t) (scores W c t) (blk1 W c 1 t) := fun d => focalV_congr _ _ _ _ (pay2_fill t _ _ _)
  have hcut : (win1 0).cut (grid1.coords t) (scores W c t) = blk1 W c 0 t := (win1 0).cut_fill _ _ _
  iintro ⟨HΦ, Ho, ⟨%d0, H0⟩, ⟨%d1, H1⟩, ⟨%d2, H2⟩⟩
  unfold bodyAt1
  by_cases h : t.val % 3 = 0
  · iapply (focal_first c (grid1.coords t) _ _ _ _ _ _ ((first_iff t).mpr h) (fun hn => (next_iff t).mp hn h)
      (win1_0.fill (grid1.coords t) d0 (blk1 W c 0 t)) (blk1 W c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexists d0; rw [hcut]; iexact H0
    isplitl [H1]; · iexact H1
    rw [running_first W c t h, hscore]
    iexact H2
  · rw [before1_2 W c t h]
    iapply (focal_next c (grid1.coords t) _ _ _ _ _ _ (fun hf => h ((first_iff t).mp hf)) ((next_iff t).mpr h)
      (win1_0.fill (grid1.coords t) d0 (blk1 W c 0 t)) (blk1 W c 1 t) (running W c (t.val - 1) (Nat.lt_of_le_of_lt (Nat.sub_le _ _) t.isLt)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; rw [hcut]; iexact H0
    isplitl [H1]; · iexact H1
    rw [running_next W c t h, hscore]
    iexact H2

end Cert.Focal

end
-- ==== Proof.Segments.lean ====
/- The two regions as segments of the program: each entered with every unscoped buffer at a valuation and left with them
   at the same valuation but for the arrays it writes. -/
module

public import proofs.«01_k».proof.Proof.MatchData
public import proofs.«01_k».proof.Proof.FocalData
public import proofs.«01_k».proof.Proof.Gen.KernelIdeal.Regions
public import Idealize.ShloMosaic.Lib.Pipeline.Regions
public import Idealize.ShloMosaic.Lib.Pipeline.Kit
public import Idealize.ShloMosaic.Lib.Pipeline.Launch
public import Idealize.ShloMosaic.Lib.Pipeline.RegionsLoop

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W0 W1 : Dev nD → Valuation τ sig (Elt F))

/-- The two regions' proof data, entered at `W0` and at `W1`. -/
def pdats : (p : Fin 2) → (c : Dev nD) → Dat τ (Elt F) Unit ℕ (UR sig nD τ) ℕ (cfgs p) c
  | ⟨0, _⟩ => fun c => dat0 W0 c
  | ⟨1, _⟩ => fun c => dat1 W1 c

/-- No core owes another anything. -/
abbrev L : GSem nD τ sig → Finset Unit := fun _ => ∅
abbrev lv : GSem nD τ sig → Unit → ℕ := fun _ _ => 0

/-- What rides beside the buffers. -/
def rest (c : Dev nD) : sProp 𝕄 := iprop(∃ Wd, owes (c : Thread nD τ) (0 : CellTallies nD τ sig Unit) Wd)

theorem arr_mem0 (b : Ref sig .tc) (h : b ∈ ([main_v11_0, main_v11_1] : List (Ref sig .tc))) :
    b ∈ Finset.univ.image (Pipeline.arrRef spec0) := by
  rcases List.mem_cons.mp h with rfl | h
  · exact Finset.mem_image.mpr ⟨3, Finset.mem_univ _, rfl⟩
  · rw [List.mem_singleton.mp h]; exact Finset.mem_image.mpr ⟨4, Finset.mem_univ _, rfl⟩

theorem arr_mem1 (b : Ref sig .tc) (h : b ∈ ([main_v13] : List (Ref sig .tc))) :
    b ∈ Finset.univ.image (Pipeline.arrRef spec1) := by
  rw [List.mem_singleton.mp h]; exact Finset.mem_image.mpr ⟨2, Finset.mem_univ _, rfl⟩

set_option backward.isDefEq.respectTransparency.types false in
/-- The region, entered with every unscoped buffer at `W0` and left with them at `Wp`, which is `W0` but for the arrays
    the region writes. -/
def reg0 (Wp : Dev nD → Valuation τ sig (Elt F)) (hout0 : ∀ c, Wp c (Proc.devRef .tc main_v11_0) = (dat0 W0 c).arrAt 3 cfg0.N) (hout1 : ∀ c, Wp c (Proc.devRef .tc main_v11_1) = (dat0 W0 c).arrAt 4 cfg0.N)
    (hne : ∀ c (b : Ref sig .tc), b ∉ ([main_v11_0, main_v11_1] : List (Ref sig .tc)) → Wp c (Proc.devRef .tc b) = W0 c (Proc.devRef .tc b)) :
    Pipeline.RegionSeg (pcfgs (F := F)) Gen.adm (pdats W0 W1) () defs₀ Variants.none L lv 0 where
  win := launch0.win.to₀
  block_pos := launch0.block_pos
  stage_whole := launch0.stage_whole
  K := PEmpty
  osem k := k.elim
  ho := Pipeline.OwnSemFacts.none _
  hbody c := obligation0 W0 c
  hwaits := Pipeline.hwaits_of_owed_zero _ _ _ _ L lv 0 fun _ _ => rfl
  pre c := iprop(StableHlo.held (c : Thread nD τ) (Pipeline.ucRefs τ sig) (W0 c) ∗ rest c)
  post c := iprop(StableHlo.held (c : Thread nD τ) (Pipeline.ucRefs τ sig) (Wp c) ∗ rest c)
  X _ := BI.emp
  Y _ := BI.emp
  Z c := Pipeline.unscopedRest (Ix := Unit) (Name := ℕ) (U := UR sig nD τ) (Lvl := ℕ) spec0 c (fun b => W0 c (Proc.devRef .tc b))
  hentry c := by
    rw [Pipeline.ownSems0_none, ← Pipeline.unscopedBufs_held (Ix := Unit) (Name := ℕ) (U := UR sig nD τ) (Lvl := ℕ) c (W0 c)]
    have hsplit := Pipeline.arrays_of_unscopedBufs (p := 0) (pcfgs (F := F)) Gen.adm (pdats W0 W1) launch0.win launch0.arr_whole c
      ((pdats W0 W1 0 c).share_full fun _ => rfl) (fun b => W0 c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rest Pipeline.Dat.owesAt Pipeline.owesWithin
      icases HO with ⟨%Wd, HO⟩; iexists Wd; isplitr; · ipureintro; exact fun _ _ => Or.inl trivial
      iexact HO
    isplitr; · iempintro
    iexact Hrest
  hin c := by
    rw [show (pdats W0 W1 0 c).Φ 0 = Pipeline.scopedRest spec0 c from rfl]
    iintro ⟨-, -, Hr⟩; iexact Hr
  hout c := by
    rw [Pipeline.ownSems0_none, show (pdats W0 W1 0 c).Φ (Fin.last _) = Pipeline.scopedRest spec0 c from rfl]
    iintro Hr
    isplitr; · iempintro
    isplitr; · iempintro
    iexact Hr
  hexit c := by
    rw [← Pipeline.unscopedBufs_held (Ix := Unit) (Name := ℕ) (U := UR sig nD τ) (Lvl := ℕ) c (Wp c)]
    have hjoin := Pipeline.unscopedBufs_of_arrays (p := 0) (pcfgs (F := F)) Gen.adm (Ix := Unit) (Name := ℕ) (U := UR sig nD τ) (Lvl := ℕ) launch0.win launch0.arr_whole c
      (pdats W0 W1) ((pdats W0 W1 0 c).share_full fun _ => rfl) (fun b => W0 c (Proc.devRef .tc b)) (fun b => Wp c (Proc.devRef .tc b)) ((pdats W0 W1 0 c).arrAt · cfg0.N)
      (fun w => by
        fin_cases w
        · exact ((dat0 (F := F) W0 c).arrAt_in 0 rfl _).trans (hne c _ (by decide)).symm
        · exact ((dat0 (F := F) W0 c).arrAt_in 1 rfl _).trans (hne c _ (by decide)).symm
        · exact ((dat0 (F := F) W0 c).arrAt_in 2 rfl _).trans (hne c _ (by decide)).symm
        · exact (hout0 c).symm
        · exact (hout1 c).symm)
      (fun b hb => hne c b fun hm => hb (arr_mem0 b hm))
    iintro ⟨Ha, HO, -, Hrest⟩
    imodintro
    isplitl [Ha Hrest]
    · iapply hjoin; isplitl [Ha] <;> iassumption
    unfold rest Pipeline.Dat.owesAt Pipeline.owesWithin
    icases HO with ⟨%Wd, -, HO⟩; iexists Wd; iexact HO

set_option backward.isDefEq.respectTransparency.types false in
/-- The region, entered with every unscoped buffer at `W1` and left with them at `Wp`, which is `W1` but for the arrays
    the region writes. -/
def reg1 (Wp : Dev nD → Valuation τ sig (Elt F)) (hout0 : ∀ c, Wp c (Proc.devRef .tc main_v13) = (dat1 W1 c).arrAt 2 cfg1.N)
    (hne : ∀ c (b : Ref sig .tc), b ∉ ([main_v13] : List (Ref sig .tc)) → Wp c (Proc.devRef .tc b) = W1 c (Proc.devRef .tc b)) :
    Pipeline.RegionSeg (pcfgs (F := F)) Gen.adm (pdats W0 W1) () defs₀ Variants.none L lv 1 where
  win := launch1.win.to₀
  block_pos := launch1.block_pos
  stage_whole := launch1.stage_whole
  K := PEmpty
  osem k := k.elim
  ho := Pipeline.OwnSemFacts.none _
  hbody c := obligation1 W1 c
  hwaits := Pipeline.hwaits_of_owed_zero _ _ _ _ L lv 1 fun _ _ => rfl
  pre c := iprop(StableHlo.held (c : Thread nD τ) (Pipeline.ucRefs τ sig) (W1 c) ∗ rest c)
  post c := iprop(StableHlo.held (c : Thread nD τ) (Pipeline.ucRefs τ sig) (Wp c) ∗ rest c)
  X _ := BI.emp
  Y _ := BI.emp
  Z c := Pipeline.unscopedRest (Ix := Unit) (Name := ℕ) (U := UR sig nD τ) (Lvl := ℕ) spec1 c (fun b => W1 c (Proc.devRef .tc b))
  hentry c := by
    rw [Pipeline.ownSems0_none, ← Pipeline.unscopedBufs_held (Ix := Unit) (Name := ℕ) (U := UR sig nD τ) (Lvl := ℕ) c (W1 c)]
    have hsplit := Pipeline.arrays_of_unscopedBufs (p := 1) (pcfgs (F := F)) Gen.adm (pdats W0 W1) launch1.win launch1.arr_whole c
      ((pdats W0 W1 1 c).share_full fun _ => rfl) (fun b => W1 c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rest Pipeline.Dat.owesAt Pipeline.owesWithin
      icases HO with ⟨%Wd, HO⟩; iexists Wd; isplitr; · ipureintro; exact fun _ _ => Or.inl trivial
      iexact HO
    isplitr; · iempintro
    iexact Hrest
  hin c := by
    rw [show (pdats W0 W1 1 c).Φ 0 = Pipeline.scopedRest spec1 c from rfl]
    iintro ⟨-, -, Hr⟩; iexact Hr
  hout c := by
    rw [Pipeline.ownSems0_none, show (pdats W0 W1 1 c).Φ (Fin.last _) = Pipeline.scopedRest spec1 c from rfl]
    iintro Hr
    isplitr; · iempintro
    isplitr; · iempintro
    iexact Hr
  hexit c := by
    rw [← Pipeline.unscopedBufs_held (Ix := Unit) (Name := ℕ) (U := UR sig nD τ) (Lvl := ℕ) c (Wp c)]
    have hjoin := Pipeline.unscopedBufs_of_arrays (p := 1) (pcfgs (F := F)) Gen.adm (Ix := Unit) (Name := ℕ) (U := UR sig nD τ) (Lvl := ℕ) launch1.win launch1.arr_whole c
      (pdats W0 W1) ((pdats W0 W1 1 c).share_full fun _ => rfl) (fun b => W1 c (Proc.devRef .tc b)) (fun b => Wp c (Proc.devRef .tc b)) ((pdats W0 W1 1 c).arrAt · cfg1.N)
      (fun w => by
        fin_cases w
        · exact ((dat1 (F := F) W1 c).arrAt_in 0 rfl _).trans (hne c _ (by decide)).symm
        · exact ((dat1 (F := F) W1 c).arrAt_in 1 rfl _).trans (hne c _ (by decide)).symm
        · exact (hout0 c).symm)
      (fun b hb => hne c b fun hm => hb (arr_mem1 b hm))
    iintro ⟨Ha, HO, -, Hrest⟩
    imodintro
    isplitl [Ha Hrest]
    · iapply hjoin; isplitl [Ha] <;> iassumption
    unfold rest Pipeline.Dat.owesAt Pipeline.owesWithin
    icases HO with ⟨%Wd, -, HO⟩; iexists Wd; iexact HO

end Cert.Focal

end
-- ==== Proof.Run.lean ====
/- The whole program run: the host operations and the two regions in order, the results read off the last valuation. -/
module

public import proofs.«01_k».proof.Proof.Segments

@[expose] public section

set_option maxRecDepth 16384

noncomputable section

namespace Cert.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The proof's resource algebra: the pipeline's. -/
abbrev EP : Emb (UR sig nD τ) (MT nD τ sig Unit (Elt F) ℕ (UR sig nD τ) ℕ) := emb₁

variable (m : (ℓ : Loc nD τ sig) → Buf (Elt F) ℓ)

/-- What the match region leaves: its two results' arrays, everything else as it found it. -/
abbrev X4 (c : Dev nD) : Valuation τ sig (Elt F) :=
  Function.update (Function.update (V3 m c) main_v11_0 ((dat0 (V3 m) c).arrAt 3 cfg0.N)) main_v11_1 ((dat0 (V3 m) c).arrAt 4 cfg0.N)

/-- What the focal region finds: the encoded match reshaped by the host. -/
abbrev X5 (c : Dev nD) : Valuation τ sig (Elt F) := StableHlo.after hostOps1 (X4 m c)

/-- What the focal region leaves. -/
abbrev X6 (c : Dev nD) : Valuation τ sig (Elt F) := Function.update (X5 m c) main_v13 ((dat1 (X5 m) c).arrAt 2 cfg1.N)

/-- What the regions leave, as the generated valuations take it. -/
def outs : Outs (F := F) := fun J r c => if J = 4 then X4 m c (Proc.devRef .tc r) else X6 m c (Proc.devRef .tc r)

theorem V4_eq (c : Dev nD) : V4 m (outs m) c = X4 m c := by
  show Function.update (Function.update (V3 m c) main_v11_0 (X4 m c (Proc.devRef .tc main_v11_0))) main_v11_1 (X4 m c (Proc.devRef .tc main_v11_1)) = X4 m c
  have h1 : X4 m c (Proc.devRef .tc main_v11_1) = (dat0 (V3 m) c).arrAt 4 cfg0.N := Function.update_self ..
  have h0 : X4 m c (Proc.devRef .tc main_v11_0) = (dat0 (V3 m) c).arrAt 3 cfg0.N :=
    (Function.update_of_ne (StableHlo.devRef_ne_of_ne (by decide)) ..).trans (Function.update_self ..)
  rw [h0, h1]

theorem V5_eq (c : Dev nD) : V5 m (outs m) c = X5 m c := congrArg (StableHlo.after hostOps1) (V4_eq m c)

theorem V6_eq (c : Dev nD) : V6 m (outs m) c = X6 m c := by
  show Function.update (V5 m (outs m) c) main_v13 (X6 m c (Proc.devRef .tc main_v13)) = X6 m c
  rw [V5_eq, show X6 m c (Proc.devRef .tc main_v13) = (dat1 (X5 m) c).arrAt 2 cfg1.N from Function.update_self ..]

/-- The match region, entered after the first host operations. -/
def seg3 : Pipeline.RegionSeg (pcfgs (F := F)) Gen.adm (pdats (V3 m) (X5 m)) () defs₀ Variants.none L lv 0 :=
  reg0 (V3 m) (X5 m) (X4 m)
    (fun c => (Function.update_of_ne (StableHlo.devRef_ne_of_ne (by decide)) ..).trans (Function.update_self ..))
    (fun c => Function.update_self ..)
    (fun c b hb => (Function.update_of_ne (StableHlo.devRef_ne_of_ne fun h => hb (by rw [h]; decide)) ..).trans
      (Function.update_of_ne (StableHlo.devRef_ne_of_ne fun h => hb (by rw [h]; decide)) ..))

/-- The focal region. -/
def seg5 : Pipeline.RegionSeg (pcfgs (F := F)) Gen.adm (pdats (V3 m) (X5 m)) () defs₀ Variants.none L lv 1 :=
  reg1 (V3 m) (X5 m) (X6 m) (fun c => Function.update_self ..)
    (fun c b hb => Function.update_of_ne (StableHlo.devRef_ne_of_ne fun h => hb (by rw [h]; decide)) ..)

/-- The program's items as segments. -/
abbrev items (c : Dev nD) : List (Pipeline.Seg (pcfgs (F := F)) Gen.adm (pdats (V3 m) (X5 m)) () defs₀ Variants.none L lv) :=
  segs m (outs m) Variants.none L lv (fun _ => rest) () (pdats (V3 m) (X5 m)) (seg3 m) (seg5 m) c

/-- The launch element. -/
def u₀ : UR sig nD τ := initOf (Pipeline.cells cfgs cellOf_inj) (Pipeline.launchToks cfgs cellOf_inj)

set_option backward.isDefEq.respectTransparency.types false in
/-- THE RUN, for any float values: from any memory with zero counters every weakly fair execution terminates; every final
    state has the two results at what the last valuation says, the arguments as launched and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v26) = V7 m (outs m) c (Proc.devRef .tc main_v26)
      ∧ r.2.mem ((c.tc : Thread nD τ).loc main_v37) = V7 m (outs m) c (Proc.devRef .tc main_v37))
      ∧ r.2.sem = fun _ => 0) := by
  refine Pipeline.θ_run_regions_kit_dev_sems (pcfgs (F := F)) Gen.adm (pdats (V3 m) (X5 m)) () cellOf_inj EP defs₀ Variants.none L lv m ρ main
    (items m)
    (fun c Q => by
      rewrite [main_chain c, Pipeline.Seg.run_eq_chain,
        show (items m c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [items, segs, Pipeline.Seg.pipes_host, Pipeline.Seg.pipes_region, Pipeline.Seg.pipes_nil]; decide)
    (O₀ := 0) (fun _ _ => rfl) (G := fun _ => iprop(emp)) (u₀ := u₀) ?_
    (T₀ := fun c => iprop(StableHlo.held (c : Thread nD τ) (Pipeline.ucRefs τ sig) (V0 m c) ∗ rest c))
    (Tₙ := fun c => StableHlo.held (c : Thread nD τ) (Pipeline.ucRefs τ sig) (V7 m (outs m) c))
    (hch := fun c => ⟨.rfl, .rfl, .rfl, .rfl, ?_, ?_, ?_, sep_mono .rfl .rfl⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_v26) = V7 m (outs m) c (Proc.devRef .tc main_v26)
      ∧ s.mem ((c.tc : Thread nD τ).loc main_v37) = V7 m (outs m) c (Proc.devRef .tc main_v37))
    (hfin := fun c s' => ?_) (hQ := fun _ h hz => ⟨h, funext fun g => hz g (.inr (regions_no_unscoped g.2))⟩)
  · iintro Hu
    imodintro
    isplitl [Hu]; · iapply (Entails.of_eq (ownU_emb₁ (Ix := Unit) (Val := Elt F) (Name := ℕ) (Lvl := ℕ) (u₀ : UR sig nD τ))); iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (X4 m c) ∗ rest c) ⊢ iprop(StableHlo.held (c : Thread nD τ) (Pipeline.ucRefs τ sig) (V4 m (outs m) c) ∗ rest c)
    rw [V4_eq]
  · show iprop(StableHlo.held (c : Thread nD τ) (Pipeline.ucRefs τ sig) (V5 m (outs m) c) ∗ rest c) ⊢ iprop(StableHlo.held (c : Thread nD τ) (Pipeline.ucRefs τ sig) (X5 m c) ∗ rest c)
    rw [V5_eq]
  · show iprop(StableHlo.held (c : Thread nD τ) (Pipeline.ucRefs τ sig) (X6 m c) ∗ rest c) ⊢ iprop(StableHlo.held (c : Thread nD τ) (Pipeline.ucRefs τ sig) (V6 m (outs m) c) ∗ rest c)
    rw [V6_eq]
  · refine Pipeline.initEach L lv fun c => ?_
    rw [show unscopedBufs c (fun b => m ((c.tc : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    unfold rest
    iexists ∅; iexact HO
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c),
        (h (Proc.devRef .tc main_arg3) (Finset.mem_filter.mpr ⟨StableHlo.devRef_mem_tcRefs main_arg3, by decide⟩)).trans (V7_main_arg3 m (outs m) c),
        (h (Proc.devRef .tc main_v26) (Finset.mem_filter.mpr ⟨StableHlo.devRef_mem_tcRefs main_v26, by decide⟩)),
        (h (Proc.devRef .tc main_v37) (Finset.mem_filter.mpr ⟨StableHlo.devRef_mem_tcRefs main_v37, by decide⟩))⟩
    · iexact HSI

end Cert.Focal

end
-- ==== Proof.RefOps.lean ====
/- The reference program as one list of host operations: a buffer is written once, by the operation named at its place. -/
module

public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.Lib.Tactic

@[expose] public section

noncomputable section

namespace Cert.Plain

open Cert.ReferenceIdeal Cert.ReferenceIdeal.Gen Idealize.ShloMosaic Idealize.ShloMosaic.TcCoe Idealize.SL.Sem Idealize.ShloMosaic.StableHlo

variable {F : FTy → Type} [FloatOps F]

/-- The operations of `main_part0`, those of the functions it calls in the calls' places. -/
def line_part0 : List (HloOp τ sig (Elt F)) :=
  [ reshape main_arg2 main_v0 (rfl : (.f32 : EltTy) = .f32) shapeCasts_S1x49104x4_S49104x4,
    unary main_v0 main_v1 ((extractStridedSlice S49104x1 ![0, 3] · slices_S49104x4_S49104x1_0_3) : (⟨S49104x4, .f32⟩ : BufTy).Contents (Elt F) → (⟨S49104x1, .f32⟩ : BufTy).Contents (Elt F)),
    reshape main_v1 main_v2 (rfl : (.f32 : EltTy) = .f32) shapeCasts_S49104x1_S49104,
    unary main_v0 main_v3 ((extractStridedSlice S49104x1 ![0, 1] · slices_S49104x4_S49104x1_0_1) : (⟨S49104x4, .f32⟩ : BufTy).Contents (Elt F) → (⟨S49104x1, .f32⟩ : BufTy).Contents (Elt F)),
    reshape main_v3 main_v4 (rfl : (.f32 : EltTy) = .f32) shapeCasts_S49104x1_S49104,
    binary main_v2 main_v4 main_v5 (subf : (⟨S49104, .f32⟩ : BufTy).Contents (Elt F) → (⟨S49104, .f32⟩ : BufTy).Contents (Elt F) → (⟨S49104, .f32⟩ : BufTy).Contents (Elt F)),
    unary main_v0 main_v6 ((extractStridedSlice S49104x1 ![0, 2] · slices_S49104x4_S49104x1_0_2) : (⟨S49104x4, .f32⟩ : BufTy).Contents (Elt F) → (⟨S49104x1, .f32⟩ : BufTy).Contents (Elt F)),
    reshape main_v6 main_v7 (rfl : (.f32 : EltTy) = .f32) shapeCasts_S49104x1_S49104,
    unary main_v0 main_v8 ((extractStridedSlice S49104x1 ![0, 0] · slices_S49104x4_S49104x1_0_0) : (⟨S49104x4, .f32⟩ : BufTy).Contents (Elt F) → (⟨S49104x1, .f32⟩ : BufTy).Contents (Elt F)),
    reshape main_v8 main_v9 (rfl : (.f32 : EltTy) = .f32) shapeCasts_S49104x1_S49104,
    binary main_v7 main_v9 main_v10 (subf : (⟨S49104, .f32⟩ : BufTy).Contents (Elt F) → (⟨S49104, .f32⟩ : BufTy).Contents (Elt F) → (⟨S49104, .f32⟩ : BufTy).Contents (Elt F)),
    unary main_v0 main_v11 ((extractStridedSlice S49104x1 ![0, 1] · slices_S49104x4_S49104x1_0_1) : (⟨S49104x4, .f32⟩ : BufTy).Contents (Elt F) → (⟨S49104x1, .f32⟩ : BufTy).Contents (Elt F)),
    reshape main_v11 main_v12 (rfl : (.f32 : EltTy) = .f32) shapeCasts_S49104x1_S49104,
    nullary main_cst (constant S_ .f32 0x3F000000#32),
    unary main_cst main_v13 (broadcastInDim S49104 ![] bcast_S_S49104 : (⟨S_, .f32⟩ : BufTy).Contents (Elt F) → (⟨S49104, .f32⟩ : BufTy).Contents (Elt F)),
    binary main_v13 main_v5 main_v14 (mulf : (⟨S49104, .f32⟩ : BufTy).Contents (Elt F) → (⟨S49104, .f32⟩ : BufTy).Contents (Elt F) → (⟨S49104, .f32⟩ : BufTy).Contents (Elt F)),
    binary main_v12 main_v14 main_v15 (addf : (⟨S49104, .f32⟩ : BufTy).Contents (Elt F) → (⟨S49104, .f32⟩ : BufTy).Contents (Elt F) → (⟨S49104, .f32⟩ : BufTy).Contents (Elt F)),
    unary main_v0 main_v16 ((extractStridedSlice S49104x1 ![0, 0] · slices_S49104x4_S49104x1_0_0) : (⟨S49104x4, .f32⟩ : BufTy).Contents (Elt F) → (⟨S49104x1, .f32⟩ : BufTy).Contents (Elt F)),
    reshape main_v16 main_v17 (rfl : (.f32 : EltTy) = .f32) shapeCasts_S49104x1_S49104,
    nullary main_cst_0 (constant S_ .f32 0x3F000000#32),
    unary main_cst_0 main_v18 (broadcastInDim S49104 ![] bcast_S_S49104 : (⟨S_, .f32⟩ : BufTy).Contents (Elt F) → (⟨S49104, .f32⟩ : BufTy).Contents (Elt F)),
    binary main_v18 main_v10 main_v19 (mulf : (⟨S49104, .f32⟩ : BufTy).Contents (Elt F) → (⟨S49104, .f32⟩ : BufTy).Contents (Elt F) → (⟨S49104, .f32⟩ : BufTy).Contents (Elt F)),
    binary main_v17 main_v19 main_v20 (addf : (⟨S49104, .f32⟩ : BufTy).Contents (Elt F) → (⟨S49104, .f32⟩ : BufTy).Contents (Elt F) → (⟨S49104, .f32⟩ : BufTy).Contents (Elt F)),
    nullary main_cst_1 (constant S_ .f32 0x38D1B717#32),
    nullary main_cst_2 (constant S_ .f32 0x3F7FF972#32),
    unary main_cst_1 main_call0_v0 (id : (⟨S_, .f32⟩ : BufTy).Contents (Elt F) → (⟨S_, .f32⟩ : BufTy).Contents (Elt F)),
    unary main_call0_v0 main_call0_v1 ((broadcastInDim S8x49104x90 ![] bcast_S_S8x49104x90) : (⟨S_, .f32⟩ : BufTy).Contents (Elt F) → (⟨S8x49104x90, .f32⟩ : BufTy).Contents (Elt F)),
    binary main_call0_v1 main_arg0 main_call0_v2 (maximumf : (⟨S8x49104x90, .f32⟩ : BufTy).Contents (Elt F) → (⟨S8x49104x90, .f32⟩ : BufTy).Contents (Elt F) → (⟨S8x49104x90, .f32⟩ : BufTy).Contents (Elt F)),
    unary main_cst_2 main_call0_v3 (id : (⟨S_, .f32⟩ : BufTy).Contents (Elt F) → (⟨S_, .f32⟩ : BufTy).Contents (Elt F)),
    unary main_call0_v3 main_call0_v4 ((broadcastInDim S8x49104x90 ![] bcast_S_S8x49104x90) : (⟨S_, .f32⟩ : BufTy).Contents (Elt F) → (⟨S8x49104x90, .f32⟩ : BufTy).Contents (Elt F)),
    binary main_call0_v4 main_call0_v2 main_v21 (minimumf : (⟨S8x49104x90, .f32⟩ : BufTy).Contents (Elt F) → (⟨S8x49104x90, .f32⟩ : BufTy).Contents (Elt F) → (⟨S8x49104x90, .f32⟩ : BufTy).Contents (Elt F)),
    unary main_v0 main_v22 (broadcastInDim S1x49104x4 ![1, 2] bcast_S49104x4_S1x49104x4_1_2 : (⟨S49104x4, .f32⟩ : BufTy).Contents (Elt F) → (⟨S1x49104x4, .f32⟩ : BufTy).Contents (Elt F)),
    unary main_arg3 main_v23 ((extractStridedSlice S8x32x1 ![0, 0, 2] · slices_S8x32x5_S8x32x1_0_0_2) : (⟨S8x32x5, .f32⟩ : BufTy).Contents (Elt F) → (⟨S8x32x1, .f32⟩ : BufTy).Contents (Elt F)),
    reshape main_v23 main_v24 (rfl : (.f32 : EltTy) = .f32) shapeCasts_S8x32x1_S8x32,
    unary main_arg3 main_v25 ((extractStridedSlice S8x32x1 ![0, 0, 0] · slices_S8x32x5_S8x32x1_0_0_0) : (⟨S8x32x5, .f32⟩ : BufTy).Contents (Elt F) → (⟨S8x32x1, .f32⟩ : BufTy).Contents (Elt F)),
    reshape main_v25 main_v26 (rfl : (.f32 : EltTy) = .f32) shapeCasts_S8x32x1_S8x32,
    binary main_v24 main_v26 main_v27 (subf : (⟨S8x32, .f32⟩ : BufTy).Contents (Elt F) → (⟨S8x32, .f32⟩ : BufTy).Contents (Elt F) → (⟨S8x32, .f32⟩ : BufTy).Contents (Elt F)),
    unary main_arg3 main_v28 ((extractStridedSlice S8x32x1 ![0, 0, 3] · slices_S8x32x5_S8x32x1_0_0_3) : (⟨S8x32x5, .f32⟩ : BufTy).Contents (Elt F) → (⟨S8x32x1, .f32⟩ : BufTy).Contents (Elt F)),
    reshape main_v28 main_v29 (rfl : (.f32 : EltTy) = .f32) shapeCasts_S8x32x1_S8x32,
    unary main_arg3 main_v30 ((extractStridedSlice S8x32x1 ![0, 0, 1] · slices_S8x32x5_S8x32x1_0_0_1) : (⟨S8x32x5, .f32⟩ : BufTy).Contents (Elt F) → (⟨S8x32x1, .f32⟩ : BufTy).Contents (Elt F)),
    reshape main_v30 main_v31 (rfl : (.f32 : EltTy) = .f32) shapeCasts_S8x32x1_S8x32,
    binary main_v29 main_v31 main_v32 (subf : (⟨S8x32, .f32⟩ : BufTy).Contents (Elt F) → (⟨S8x32, .f32⟩ : BufTy).Contents (Elt F) → (⟨S8x32, .f32⟩ : BufTy).Contents (Elt F)),
    binary main_v27 main_v32 main_v33 (mulf : (⟨S8x32, .f32⟩ : BufTy).Contents (Elt F) → (⟨S8x32, .f32⟩ : BufTy).Contents (Elt F) → (⟨S8x32, .f32⟩ : BufTy).Contents (Elt F)),
    unary main_v22 main_v34 ((extractStridedSlice S1x49104x1 ![0, 0, 3] · slices_S1x49104x4_S1x49104x1_0_0_3) : (⟨S1x49104x4, .f32⟩ : BufTy).Contents (Elt F) → (⟨S1x49104x1, .f32⟩ : BufTy).Contents (Elt F)),
    reshape main_v34 main_v35 (rfl : (.f32 : EltTy) = .f32) shapeCasts_S1x49104x1_S1x49104,
    unary main_v35 main_v36 (broadcastInDim S1x49104x1 ![0, 1] bcast_S1x49104_S1x49104x1_0_1 : (⟨S1x49104, .f32⟩ : BufTy).Contents (Elt F) → (⟨S1x49104x1, .f32⟩ : BufTy).Contents (Elt F)),
    unary main_arg3 main_v37 ((extractStridedSlice S8x32x1 ![0, 0, 2] · slices_S8x32x5_S8x32x1_0_0_2) : (⟨S8x32x5, .f32⟩ : BufTy).Contents (Elt F) → (⟨S8x32x1, .f32⟩ : BufTy).Contents (Elt F)),
    reshape main_v37 main_v38 (rfl : (.f32 : EltTy) = .f32) shapeCasts_S8x32x1_S8x32,
    unary main_v38 main_v39 (broadcastInDim S8x1x32 ![0, 2] bcast_S8x32_S8x1x32_0_2 : (⟨S8x32, .f32⟩ : BufTy).Contents (Elt F) → (⟨S8x1x32, .f32⟩ : BufTy).Contents (Elt F)),
    unary main_v36 main_v40 (broadcastInDim S8x49104x32 ![0, 1, 2] bcast_S1x49104x1_S8x49104x32_0_1_2 : (⟨S1x49104x1, .f32⟩ : BufTy).Contents (Elt F) → (⟨S8x49104x32, .f32⟩ : BufTy).Contents (Elt F)),
    unary main_v39 main_v41 (broadcastInDim S8x49104x32 ![0, 1, 2] bcast_S8x1x32_S8x49104x32_0_1_2 : (⟨S8x1x32, .f32⟩ : BufTy).Contents (Elt F) → (⟨S8x49104x32, .f32⟩ : BufTy).Contents (Elt F)),
    binary main_v40 main_v41 main_v42 (minimumf : (⟨S8x49104x32, .f32⟩ : BufTy).Contents (Elt F) → (⟨S8x49104x32, .f32⟩ : BufTy).Contents (Elt F) → (⟨S8x49104x32, .f32⟩ : BufTy).Contents (Elt F)),
    unary main_v22 main_v43 ((extractStridedSlice S1x49104x1 ![0, 0, 1] · slices_S1x49104x4_S1x49104x1_0_0_1) : (⟨S1x49104x4, .f32⟩ : BufTy).Contents (Elt F) → (⟨S1x49104x1, .f32⟩ : BufTy).Contents (Elt F)),
    reshape main_v43 main_v44 (rfl : (.f32 : EltTy) = .f32) shapeCasts_S1x49104x1_S1x49104,
    unary main_v44 main_v45 (broadcastInDim S1x49104x1 ![0, 1] bcast_S1x49104_S1x49104x1_0_1 : (⟨S1x49104, .f32⟩ : BufTy).Contents (Elt F) → (⟨S1x49104x1, .f32⟩ : BufTy).Contents (Elt F)),
    unary main_arg3 main_v46 ((extractStridedSlice S8x32x1 ![0, 0, 0] · slices_S8x32x5_S8x32x1_0_0_0) : (⟨S8x32x5, .f32⟩ : BufTy).Contents (Elt F) → (⟨S8x32x1, .f32⟩ : BufTy).Contents (Elt F)),
    reshape main_v46 main_v47 (rfl : (.f32 : EltTy) = .f32) shapeCasts_S8x32x1_S8x32,
    unary main_v47 main_v48 (broadcastInDim S8x1x32 ![0, 2] bcast_S8x32_S8x1x32_0_2 : (⟨S8x32, .f32⟩ : BufTy).Contents (Elt F) → (⟨S8x1x32, .f32⟩ : BufTy).Contents (Elt F)),
    unary main_v45 main_v49 (broadcastInDim S8x49104x32 ![0, 1, 2] bcast_S1x49104x1_S8x49104x32_0_1_2 : (⟨S1x49104x1, .f32⟩ : BufTy).Contents (Elt F) → (⟨S8x49104x32, .f32⟩ : BufTy).Contents (Elt F)),
    unary main_v48 main_v50 (broadcastInDim S8x49104x32 ![0, 1, 2] bcast_S8x1x32_S8x49104x32_0_1_2 : (⟨S8x1x32, .f32⟩ : BufTy).Contents (Elt F) → (⟨S8x49104x32, .f32⟩ : BufTy).Contents (Elt F)),
    binary main_v49 main_v50 main_v51 (maximumf : (⟨S8x49104x32, .f32⟩ : BufTy).Contents (Elt F) → (⟨S8x49104x32, .f32⟩ : BufTy).Contents (Elt F) → (⟨S8x49104x32, .f32⟩ : BufTy).Contents (Elt F)),
    binary main_v42 main_v51 main_v52 (subf : (⟨S8x49104x32, .f32⟩ : BufTy).Contents (Elt F) → (⟨S8x49104x32, .f32⟩ : BufTy).Contents (Elt F) → (⟨S8x49104x32, .f32⟩ : BufTy).Contents (Elt F)),
    unary main_v22 main_v53 ((extractStridedSlice S1x49104x1 ![0, 0, 2] · slices_S1x49104x4_S1x49104x1_0_0_2) : (⟨S1x49104x4, .f32⟩ : BufTy).Contents (Elt F) → (⟨S1x49104x1, .f32⟩ : BufTy).Contents (Elt F)),
    reshape main_v53 main_v54 (rfl : (.f32 : EltTy) = .f32) shapeCasts_S1x49104x1_S1x49104,
    unary main_v54 main_v55 (broadcastInDim S1x49104x1 ![0, 1] bcast_S1x49104_S1x49104x1_0_1 : (⟨S1x49104, .f32⟩ : BufTy).Contents (Elt F) → (⟨S1x49104x1, .f32⟩ : BufTy).Contents (Elt F)) ]

/-- The operations of `main_part1`, those of the functions it calls in the calls' places. -/
def line_part1 : List (HloOp τ sig (Elt F)) :=
  [ unary main_arg3 main_v56 ((extractStridedSlice S8x32x1 ![0, 0, 3] · slices_S8x32x5_S8x32x1_0_0_3) : (⟨S8x32x5, .f32⟩ : BufTy).Contents (Elt F) → (⟨S8x32x1, .f32⟩ : BufTy).Contents (Elt F)),
    reshape main_v56 main_v57 (rfl : (.f32 : EltTy) = .f32) shapeCasts_S8x32x1_S8x32,
    unary main_v57 main_v58 (broadcastInDim S8x1x32 ![0, 2] bcast_S8x32_S8x1x32_0_2 : (⟨S8x32, .f32⟩ : BufTy).Contents (Elt F) → (⟨S8x1x32, .f32⟩ : BufTy).Contents (Elt F)),
    unary main_v55 main_v59 (broadcastInDim S8x49104x32 ![0, 1, 2] bcast_S1x49104x1_S8x49104x32_0_1_2 : (⟨S1x49104x1, .f32⟩ : BufTy).Contents (Elt F) → (⟨S8x49104x32, .f32⟩ : BufTy).Contents (Elt F)),
    unary main_v58 main_v60 (broadcastInDim S8x49104x32 ![0, 1, 2] bcast_S8x1x32_S8x49104x32_0_1_2 : (⟨S8x1x32, .f32⟩ : BufTy).Contents (Elt F) → (⟨S8x49104x32, .f32⟩ : BufTy).Contents (Elt F)),
    binary main_v59 main_v60 main_v61 (minimumf : (⟨S8x49104x32, .f32⟩ : BufTy).Contents (Elt F) → (⟨S8x49104x32, .f32⟩ : BufTy).Contents (Elt F) → (⟨S8x49104x32, .f32⟩ : BufTy).Contents (Elt F)),
    unary main_v22 main_v62 ((extractStridedSlice S1x49104x1 ![0, 0, 0] · slices_S1x49104x4_S1x49104x1_0_0_0) : (⟨S1x49104x4, .f32⟩ : BufTy).Contents (Elt F) → (⟨S1x49104x1, .f32⟩ : BufTy).Contents (Elt F)),
    reshape main_v62 main_v63 (rfl : (.f32 : EltTy) = .f32) shapeCasts_S1x49104x1_S1x49104,
    unary main_v63 main_v64 (broadcastInDim S1x49104x1 ![0, 1] bcast_S1x49104_S1x49104x1_0_1 : (⟨S1x49104, .f32⟩ : BufTy).Contents (Elt F) → (⟨S1x49104x1, .f32⟩ : BufTy).Contents (Elt F)),
    unary main_arg3 main_v65 ((extractStridedSlice S8x32x1 ![0, 0, 1] · slices_S8x32x5_S8x32x1_0_0_1) : (⟨S8x32x5, .f32⟩ : BufTy).Contents (Elt F) → (⟨S8x32x1, .f32⟩ : BufTy).Contents (Elt F)),
    reshape main_v65 main_v66 (rfl : (.f32 : EltTy) = .f32) shapeCasts_S8x32x1_S8x32,
    unary main_v66 main_v67 (broadcastInDim S8x1x32 ![0, 2] bcast_S8x32_S8x1x32_0_2 : (⟨S8x32, .f32⟩ : BufTy).Contents (Elt F) → (⟨S8x1x32, .f32⟩ : BufTy).Contents (Elt F)),
    unary main_v64 main_v68 (broadcastInDim S8x49104x32 ![0, 1, 2] bcast_S1x49104x1_S8x49104x32_0_1_2 : (⟨S1x49104x1, .f32⟩ : BufTy).Contents (Elt F) → (⟨S8x49104x32, .f32⟩ : BufTy).Contents (Elt F)),
    unary main_v67 main_v69 (broadcastInDim S8x49104x32 ![0, 1, 2] bcast_S8x1x32_S8x49104x32_0_1_2 : (⟨S8x1x32, .f32⟩ : BufTy).Contents (Elt F) → (⟨S8x49104x32, .f32⟩ : BufTy).Contents (Elt F)),
    binary main_v68 main_v69 main_v70 (maximumf : (⟨S8x49104x32, .f32⟩ : BufTy).Contents (Elt F) → (⟨S8x49104x32, .f32⟩ : BufTy).Contents (Elt F) → (⟨S8x49104x32, .f32⟩ : BufTy).Contents (Elt F)),
    binary main_v61 main_v70 main_v71 (subf : (⟨S8x49104x32, .f32⟩ : BufTy).Contents (Elt F) → (⟨S8x49104x32, .f32⟩ : BufTy).Contents (Elt F) → (⟨S8x49104x32, .f32⟩ : BufTy).Contents (Elt F)),
    nullary main_cst_3 (constant S_ .f32 0x00000000#32),
    unary main_cst_3 main_v72 (broadcastInDim S8x49104x32 ![] bcast_S_S8x49104x32 : (⟨S_, .f32⟩ : BufTy).Contents (Elt F) → (⟨S8x49104x32, .f32⟩ : BufTy).Contents (Elt F)),
    binary main_v52 main_v72 main_v73 (maximumf : (⟨S8x49104x32, .f32⟩ : BufTy).Contents (Elt F) → (⟨S8x49104x32, .f32⟩ : BufTy).Contents (Elt F) → (⟨S8x49104x32, .f32⟩ : BufTy).Contents (Elt F)),
    nullary main_cst_4 (constant S_ .f32 0x00000000#32),
    unary main_cst_4 main_v74 (broadcastInDim S8x49104x32 ![] bcast_S_S8x49104x32 : (⟨S_, .f32⟩ : BufTy).Contents (Elt F) → (⟨S8x49104x32, .f32⟩ : BufTy).Contents (Elt F)),
    binary main_v71 main_v74 main_v75 (maximumf : (⟨S8x49104x32, .f32⟩ : BufTy).Contents (Elt F) → (⟨S8x49104x32, .f32⟩ : BufTy).Contents (Elt F) → (⟨S8x49104x32, .f32⟩ : BufTy).Contents (Elt F)),
    unary main_v22 main_v76 ((extractStridedSlice S1x49104x1 ![0, 0, 2] · slices_S1x49104x4_S1x49104x1_0_0_2) : (⟨S1x49104x4, .f32⟩ : BufTy).Contents (Elt F) → (⟨S1x49104x1, .f32⟩ : BufTy).Contents (Elt F)),
    reshape main_v76 main_v77 (rfl : (.f32 : EltTy) = .f32) shapeCasts_S1x49104x1_S1x49104,
    unary main_v22 main_v78 ((extractStridedSlice S1x49104x1 ![0, 0, 0] · slices_S1x49104x4_S1x49104x1_0_0_0) : (⟨S1x49104x4, .f32⟩ : BufTy).Contents (Elt F) → (⟨S1x49104x1, .f32⟩ : BufTy).Contents (Elt F)),
    reshape main_v78 main_v79 (rfl : (.f32 : EltTy) = .f32) shapeCasts_S1x49104x1_S1x49104,
    binary main_v77 main_v79 main_v80 (subf : (⟨S1x49104, .f32⟩ : BufTy).Contents (Elt F) → (⟨S1x49104, .f32⟩ : BufTy).Contents (Elt F) → (⟨S1x49104, .f32⟩ : BufTy).Contents (Elt F)),
    unary main_v22 main_v81 ((extractStridedSlice S1x49104x1 ![0, 0, 3] · slices_S1x49104x4_S1x49104x1_0_0_3) : (⟨S1x49104x4, .f32⟩ : BufTy).Contents (Elt F) → (⟨S1x49104x1, .f32⟩ : BufTy).Contents (Elt F)),
    reshape main_v81 main_v82 (rfl : (.f32 : EltTy) = .f32) shapeCasts_S1x49104x1_S1x49104,
    unary main_v22 main_v83 ((extractStridedSlice S1x49104x1 ![0, 0, 1] · slices_S1x49104x4_S1x49104x1_0_0_1) : (⟨S1x49104x4, .f32⟩ : BufTy).Contents (Elt F) → (⟨S1x49104x1, .f32⟩ : BufTy).Contents (Elt F)),
    reshape main_v83 main_v84 (rfl : (.f32 : EltTy) = .f32) shapeCasts_S1x49104x1_S1x49104,
    binary main_v82 main_v84 main_v85 (subf : (⟨S1x49104, .f32⟩ : BufTy).Contents (Elt F) → (⟨S1x49104, .f32⟩ : BufTy).Contents (Elt F) → (⟨S1x49104, .f32⟩ : BufTy).Contents (Elt F)),
    binary main_v80 main_v85 main_v86 (mulf : (⟨S1x49104, .f32⟩ : BufTy).Contents (Elt F) → (⟨S1x49104, .f32⟩ : BufTy).Contents (Elt F) → (⟨S1x49104, .f32⟩ : BufTy).Contents (Elt F)),
    unary main_v86 main_v87 (broadcastInDim S1x49104x1 ![0, 1] bcast_S1x49104_S1x49104x1_0_1 : (⟨S1x49104, .f32⟩ : BufTy).Contents (Elt F) → (⟨S1x49104x1, .f32⟩ : BufTy).Contents (Elt F)),
    unary main_v33 main_v88 (broadcastInDim S8x1x32 ![0, 2] bcast_S8x32_S8x1x32_0_2 : (⟨S8x32, .f32⟩ : BufTy).Contents (Elt F) → (⟨S8x1x32, .f32⟩ : BufTy).Contents (Elt F)),
    unary main_v87 main_v89 (broadcastInDim S8x49104x32 ![0, 1, 2] bcast_S1x49104x1_S8x49104x32_0_1_2 : (⟨S1x49104x1, .f32⟩ : BufTy).Contents (Elt F) → (⟨S8x49104x32, .f32⟩ : BufTy).Contents (Elt F)),
    unary main_v88 main_v90 (broadcastInDim S8x49104x32 ![0, 1, 2] bcast_S8x1x32_S8x49104x32_0_1_2 : (⟨S8x1x32, .f32⟩ : BufTy).Contents (Elt F) → (⟨S8x49104x32, .f32⟩ : BufTy).Contents (Elt F)),
    binary main_v89 main_v90 main_v91 (addf : (⟨S8x49104x32, .f32⟩ : BufTy).Contents (Elt F) → (⟨S8x49104x32, .f32⟩ : BufTy).Contents (Elt F) → (⟨S8x49104x32, .f32⟩ : BufTy).Contents (Elt F)),
    binary main_v73 main_v75 main_v92 (mulf : (⟨S8x49104x32, .f32⟩ : BufTy).Contents (Elt F) → (⟨S8x49104x32, .f32⟩ : BufTy).Contents (Elt F) → (⟨S8x49104x32, .f32⟩ : BufTy).Contents (Elt F)),
    binary main_v91 main_v92 main_v93 (subf : (⟨S8x49104x32, .f32⟩ : BufTy).Contents (Elt F) → (⟨S8x49104x32, .f32⟩ : BufTy).Contents (Elt F) → (⟨S8x49104x32, .f32⟩ : BufTy).Contents (Elt F)),
    nullary main_cst_5 (constant S_ .f32 0x322BCC77#32),
    unary main_cst_5 main_v94 (broadcastInDim S8x49104x32 ![] bcast_S_S8x49104x32 : (⟨S_, .f32⟩ : BufTy).Contents (Elt F) → (⟨S8x49104x32, .f32⟩ : BufTy).Contents (Elt F)),
    binary main_v93 main_v94 main_v95 (maximumf : (⟨S8x49104x32, .f32⟩ : BufTy).Contents (Elt F) → (⟨S8x49104x32, .f32⟩ : BufTy).Contents (Elt F) → (⟨S8x49104x32, .f32⟩ : BufTy).Contents (Elt F)),
    binary main_v73 main_v75 main_v96 (mulf : (⟨S8x49104x32, .f32⟩ : BufTy).Contents (Elt F) → (⟨S8x49104x32, .f32⟩ : BufTy).Contents (Elt F) → (⟨S8x49104x32, .f32⟩ : BufTy).Contents (Elt F)),
    binary main_v96 main_v95 main_v97 (Host.divf : (⟨S8x49104x32, .f32⟩ : BufTy).Contents (Elt F) → (⟨S8x49104x32, .f32⟩ : BufTy).Contents (Elt F) → (⟨S8x49104x32, .f32⟩ : BufTy).Contents (Elt F)),
    unary main_arg3 main_v98 ((extractStridedSlice S8x32x1 ![0, 0, 4] · slices_S8x32x5_S8x32x1_0_0_4) : (⟨S8x32x5, .f32⟩ : BufTy).Contents (Elt F) → (⟨S8x32x1, .f32⟩ : BufTy).Contents (Elt F)),
    reshape main_v98 main_v99 (rfl : (.f32 : EltTy) = .f32) shapeCasts_S8x32x1_S8x32,
    nullary main_cst_6 (constant S_ .f32 0xBF800000#32),
    unary main_cst_6 main_v100 (broadcastInDim S8x32 ![] bcast_S_S8x32 : (⟨S_, .f32⟩ : BufTy).Contents (Elt F) → (⟨S8x32, .f32⟩ : BufTy).Contents (Elt F)),
    binary main_v99 main_v100 main_v101 (cmpf .une : (⟨S8x32, .f32⟩ : BufTy).Contents (Elt F) → (⟨S8x32, .f32⟩ : BufTy).Contents (Elt F) → (⟨S8x32, .i1⟩ : BufTy).Contents (Elt F)),
    unary main_v101 main_v102 (broadcastInDim S8x1x32 ![0, 2] bcast_S8x32_S8x1x32_0_2 : (⟨S8x32, .i1⟩ : BufTy).Contents (Elt F) → (⟨S8x1x32, .i1⟩ : BufTy).Contents (Elt F)),
    nullary main_cst_7 (constant S_ .f32 0xBF800000#32),
    unary main_cst_7 main_call1_v0 (id : (⟨S_, .f32⟩ : BufTy).Contents (Elt F) → (⟨S_, .f32⟩ : BufTy).Contents (Elt F)),
    unary main_v102 main_call1_v1 ((broadcastInDim S8x49104x32 ![0, 1, 2] bcast_S8x1x32_S8x49104x32_0_1_2) : (⟨S8x1x32, .i1⟩ : BufTy).Contents (Elt F) → (⟨S8x49104x32, .i1⟩ : BufTy).Contents (Elt F)),
    unary main_call1_v0 main_call1_v2 ((broadcastInDim S8x49104x32 ![] bcast_S_S8x49104x32) : (⟨S_, .f32⟩ : BufTy).Contents (Elt F) → (⟨S8x49104x32, .f32⟩ : BufTy).Contents (Elt F)),
    ternary main_call1_v1 main_v97 main_call1_v2 main_v103 (select : (⟨S8x49104x32, .i1⟩ : BufTy).Contents (Elt F) → (⟨S8x49104x32, .f32⟩ : BufTy).Contents (Elt F) → (⟨S8x49104x32, .f32⟩ : BufTy).Contents (Elt F) → (⟨S8x49104x32, .f32⟩ : BufTy).Contents (Elt F)),
    nullary main_cst_8 (constant S_ .f32 0xFF800000#32),
    binary main_v103 main_cst_8 main_v104 ((fun x v => Host.reduce FloatOps.maximumf x v reducesTo_S8x49104x32_S8x49104_d2 h_S_) : (⟨S8x49104x32, .f32⟩ : BufTy).Contents (Elt F) → (⟨S_, .f32⟩ : BufTy).Contents (Elt F) → (⟨S8x49104, .f32⟩ : BufTy).Contents (Elt F)),
    nullary main_call2_v0 ((iotaInDim S8x49104x32 32 2) : (⟨S8x49104x32, .i32⟩ : BufTy).Contents (Elt F)),
    nullary main_call2_cst ((constant S_ .f32 0xFF800000#32) : (⟨S_, .f32⟩ : BufTy).Contents (Elt F)),
    nullary main_call2_c ((constantI S_ 32 0#32) : (⟨S_, .i32⟩ : BufTy).Contents (Elt F)),
    quaternary main_v103 main_call2_v0 main_call2_cst main_call2_c main_call2_v1_0 ((fun x y u v j => (Host.argReduce reducer_argmax_f32_i32 x y u v reducesTo_S8x49104x32_S8x49104_d2 h_S_ j).1) : (⟨S8x49104x32, .f32⟩ : BufTy).Contents (Elt F) → (⟨S8x49104x32, .i32⟩ : BufTy).Contents (Elt F) → (⟨S_, .f32⟩ : BufTy).Contents (Elt F) → (⟨S_, .i32⟩ : BufTy).Contents (Elt F) → (⟨S8x49104, .f32⟩ : BufTy).Contents (Elt F)),
    quaternary main_v103 main_call2_v0 main_call2_cst main_call2_c main_v105 ((fun x y u v j => (Host.argReduce reducer_argmax_f32_i32 x y u v reducesTo_S8x49104x32_S8x49104_d2 h_S_ j).2) : (⟨S8x49104x32, .f32⟩ : BufTy).Contents (Elt F) → (⟨S8x49104x32, .i32⟩ : BufTy).Contents (Elt F) → (⟨S_, .f32⟩ : BufTy).Contents (Elt F) → (⟨S_, .i32⟩ : BufTy).Contents (Elt F) → (⟨S8x49104, .i32⟩ : BufTy).Contents (Elt F)),
    nullary main_cst_9 (constant S_ .f32 0x3F000000#32),
    unary main_cst_9 main_v106 (broadcastInDim S8x49104 ![] bcast_S_S8x49104 : (⟨S_, .f32⟩ : BufTy).Contents (Elt F) → (⟨S8x49104, .f32⟩ : BufTy).Contents (Elt F)),
    binary main_v104 main_v106 main_v107 (cmpf .oge : (⟨S8x49104, .f32⟩ : BufTy).Contents (Elt F) → (⟨S8x49104, .f32⟩ : BufTy).Contents (Elt F) → (⟨S8x49104, .i1⟩ : BufTy).Contents (Elt F)),
    unary main_v107 main_v108 (uitofp .f32 : (⟨S8x49104, .i1⟩ : BufTy).Contents (Elt F) → (⟨S8x49104, .f32⟩ : BufTy).Contents (Elt F)) ]

/-- The operations of `main_part2`, those of the functions it calls in the calls' places. -/
def line_part2 : List (HloOp τ sig (Elt F)) :=
  [ nullary main_cst_10 (constant S_ .f32 0x00000000#32),
    binary main_v108 main_cst_10 main_v109 ((fun x v => Host.reduceAdd x v reducesTo_S8x49104_S8_d1 h_S_) : (⟨S8x49104, .f32⟩ : BufTy).Contents (Elt F) → (⟨S_, .f32⟩ : BufTy).Contents (Elt F) → (⟨S8, .f32⟩ : BufTy).Contents (Elt F)),
    unary main_v105 main_v110 (broadcastInDim S8x49104x1 ![0, 1] bcast_S8x49104_S8x49104x1_0_1 : (⟨S8x49104, .i32⟩ : BufTy).Contents (Elt F) → (⟨S8x49104x1, .i32⟩ : BufTy).Contents (Elt F)),
    nullary main_call3_c ((constantI S_ 32 0#32) : (⟨S_, .i32⟩ : BufTy).Contents (Elt F)),
    unary main_call3_c main_call3_v0 ((broadcastInDim S8x49104x1 ![] bcast_S_S8x49104x1) : (⟨S_, .i32⟩ : BufTy).Contents (Elt F) → (⟨S8x49104x1, .i32⟩ : BufTy).Contents (Elt F)),
    binary main_v110 main_call3_v0 main_call3_v1 ((cmpi .slt) : (⟨S8x49104x1, .i32⟩ : BufTy).Contents (Elt F) → (⟨S8x49104x1, .i32⟩ : BufTy).Contents (Elt F) → (⟨S8x49104x1, .i1⟩ : BufTy).Contents (Elt F)),
    nullary main_call3_c_0 ((constantI S_ 32 32#32) : (⟨S_, .i32⟩ : BufTy).Contents (Elt F)),
    unary main_call3_c_0 main_call3_v2 ((broadcastInDim S8x49104x1 ![] bcast_S_S8x49104x1) : (⟨S_, .i32⟩ : BufTy).Contents (Elt F) → (⟨S8x49104x1, .i32⟩ : BufTy).Contents (Elt F)),
    binary main_v110 main_call3_v2 main_call3_v3 (addi : (⟨S8x49104x1, .i32⟩ : BufTy).Contents (Elt F) → (⟨S8x49104x1, .i32⟩ : BufTy).Contents (Elt F) → (⟨S8x49104x1, .i32⟩ : BufTy).Contents (Elt F)),
    ternary main_call3_v1 main_call3_v3 main_v110 main_call3_v4 (select : (⟨S8x49104x1, .i1⟩ : BufTy).Contents (Elt F) → (⟨S8x49104x1, .i32⟩ : BufTy).Contents (Elt F) → (⟨S8x49104x1, .i32⟩ : BufTy).Contents (Elt F) → (⟨S8x49104x1, .i32⟩ : BufTy).Contents (Elt F)),
    nullary main_call3_c_1 ((constantI S1 32 31#32) : (⟨S1, .i32⟩ : BufTy).Contents (Elt F)),
    nullary main_call3_c_2 ((constantI S_ 32 0#32) : (⟨S_, .i32⟩ : BufTy).Contents (Elt F)),
    unary main_call3_c_2 main_call3_v5 ((broadcastInDim S8x49104x1 ![] bcast_S_S8x49104x1) : (⟨S_, .i32⟩ : BufTy).Contents (Elt F) → (⟨S8x49104x1, .i32⟩ : BufTy).Contents (Elt F)),
    binary main_call3_v4 main_call3_v5 main_call3_v6 ((cmpi .sge) : (⟨S8x49104x1, .i32⟩ : BufTy).Contents (Elt F) → (⟨S8x49104x1, .i32⟩ : BufTy).Contents (Elt F) → (⟨S8x49104x1, .i1⟩ : BufTy).Contents (Elt F)),
    unary main_call3_c_1 main_call3_v7 ((broadcastInDim S1x1x1 ![2] bcast_S1_S1x1x1_2) : (⟨S1, .i32⟩ : BufTy).Contents (Elt F) → (⟨S1x1x1, .i32⟩ : BufTy).Contents (Elt F)),
    unary main_call3_v7 main_call3_v8 ((broadcastInDim S8x49104x1 ![0, 1, 2] bcast_S1x1x1_S8x49104x1_0_1_2) : (⟨S1x1x1, .i32⟩ : BufTy).Contents (Elt F) → (⟨S8x49104x1, .i32⟩ : BufTy).Contents (Elt F)),
    binary main_call3_v4 main_call3_v8 main_call3_v9 ((cmpi .sle) : (⟨S8x49104x1, .i32⟩ : BufTy).Contents (Elt F) → (⟨S8x49104x1, .i32⟩ : BufTy).Contents (Elt F) → (⟨S8x49104x1, .i1⟩ : BufTy).Contents (Elt F)),
    binary main_call3_v6 main_call3_v9 main_call3_v10 (andi : (⟨S8x49104x1, .i1⟩ : BufTy).Contents (Elt F) → (⟨S8x49104x1, .i1⟩ : BufTy).Contents (Elt F) → (⟨S8x49104x1, .i1⟩ : BufTy).Contents (Elt F)),
    nullary main_call3_c_3 ((constantI S_ 1 1#1) : (⟨S_, .i1⟩ : BufTy).Contents (Elt F)),
    binary main_call3_v10 main_call3_c_3 main_call3_v11 ((fun x v => Host.reduce IntOp.andi x v reducesTo_S8x49104x1_S8x49104_d2 h_S_) : (⟨S8x49104x1, .i1⟩ : BufTy).Contents (Elt F) → (⟨S_, .i1⟩ : BufTy).Contents (Elt F) → (⟨S8x49104, .i1⟩ : BufTy).Contents (Elt F)),
    binary main_arg3 main_call3_v4 main_call3_v12 ((fun x i => Host.gather gather_S8x32x5_S8x49104x1_S8x49104x5_2_1_0_0_1_2_115 x i) : (⟨S8x32x5, .f32⟩ : BufTy).Contents (Elt F) → (⟨S8x49104x1, .i32⟩ : BufTy).Contents (Elt F) → (⟨S8x49104x5, .f32⟩ : BufTy).Contents (Elt F)),
    unary main_call3_v11 main_call3_v13 ((broadcastInDim S8x49104x5 ![0, 1] bcast_S8x49104_S8x49104x5_0_1) : (⟨S8x49104, .i1⟩ : BufTy).Contents (Elt F) → (⟨S8x49104x5, .i1⟩ : BufTy).Contents (Elt F)),
    nullary main_call3_cst ((constant S_ .f32 0x7FC00000#32) : (⟨S_, .f32⟩ : BufTy).Contents (Elt F)),
    unary main_call3_cst main_call3_v14 ((broadcastInDim S8x49104x5 ![] bcast_S_S8x49104x5) : (⟨S_, .f32⟩ : BufTy).Contents (Elt F) → (⟨S8x49104x5, .f32⟩ : BufTy).Contents (Elt F)),
    ternary main_call3_v13 main_call3_v12 main_call3_v14 main_v111 (select : (⟨S8x49104x5, .i1⟩ : BufTy).Contents (Elt F) → (⟨S8x49104x5, .f32⟩ : BufTy).Contents (Elt F) → (⟨S8x49104x5, .f32⟩ : BufTy).Contents (Elt F) → (⟨S8x49104x5, .f32⟩ : BufTy).Contents (Elt F)),
    nullary main_cst_11 (constant S_ .f32 0xBF800000#32),
    unary main_cst_11 main_v112 (broadcastInDim S8x49104x90 ![] bcast_S_S8x49104x90 : (⟨S_, .f32⟩ : BufTy).Contents (Elt F) → (⟨S8x49104x90, .f32⟩ : BufTy).Contents (Elt F)),
    nullary main_cst_12 (constant S_ .f32 0x3ECCCCCD#32),
    unary main_cst_12 main_v113 (broadcastInDim S8x49104 ![] bcast_S_S8x49104 : (⟨S_, .f32⟩ : BufTy).Contents (Elt F) → (⟨S8x49104, .f32⟩ : BufTy).Contents (Elt F)),
    binary main_v104 main_v113 main_v114 (cmpf .olt : (⟨S8x49104, .f32⟩ : BufTy).Contents (Elt F) → (⟨S8x49104, .f32⟩ : BufTy).Contents (Elt F) → (⟨S8x49104, .i1⟩ : BufTy).Contents (Elt F)),
    unary main_v114 main_v115 (broadcastInDim S8x49104x1 ![0, 1] bcast_S8x49104_S8x49104x1_0_1 : (⟨S8x49104, .i1⟩ : BufTy).Contents (Elt F) → (⟨S8x49104x1, .i1⟩ : BufTy).Contents (Elt F)),
    nullary main_cst_13 (constant S_ .f32 0x00000000#32),
    unary main_cst_13 main_call4_v0 (id : (⟨S_, .f32⟩ : BufTy).Contents (Elt F) → (⟨S_, .f32⟩ : BufTy).Contents (Elt F)),
    unary main_v115 main_call4_v1 ((broadcastInDim S8x49104x90 ![0, 1, 2] bcast_S8x49104x1_S8x49104x90_0_1_2) : (⟨S8x49104x1, .i1⟩ : BufTy).Contents (Elt F) → (⟨S8x49104x90, .i1⟩ : BufTy).Contents (Elt F)),
    unary main_call4_v0 main_call4_v2 ((broadcastInDim S8x49104x90 ![] bcast_S_S8x49104x90) : (⟨S_, .f32⟩ : BufTy).Contents (Elt F) → (⟨S8x49104x90, .f32⟩ : BufTy).Contents (Elt F)),
    ternary main_call4_v1 main_call4_v2 main_v112 main_v116 (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)),
    unary main_v107 main_v117 (broadcastInDim S8x49104x1 ![0, 1] bcast_S8x49104_S8x49104x1_0_1 : (⟨S8x49104, .i1⟩ : BufTy).Contents (Elt F) → (⟨S8x49104x1, .i1⟩ : BufTy).Contents (Elt F)),
    nullary main_cst_14 (constant S_ .f32 0x00000000#32),
    unary main_cst_14 main_call5_v0 (id : (⟨S_, .f32⟩ : BufTy).Contents (Elt F) → (⟨S_, .f32⟩ : BufTy).Contents (Elt F)),
    unary main_v117 main_call5_v1 ((broadcastInDim S8x49104x90 ![0, 1, 2] bcast_S8x49104x1_S8x49104x90_0_1_2) : (⟨S8x49104x1, .i1⟩ : BufTy).Contents (Elt F) → (⟨S8x49104x90, .i1⟩ : BufTy).Contents (Elt F)),
    unary main_call5_v0 main_call5_v2 ((broadcastInDim S8x49104x90 ![] bcast_S_S8x49104x90) : (⟨S_, .f32⟩ : BufTy).Contents (Elt F) → (⟨S8x49104x90, .f32⟩ : BufTy).Contents (Elt F)),
    ternary main_call5_v1 main_call5_v2 main_v116 main_v118 (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)),
    unary main_v111 main_v119 ((extractStridedSlice S8x49104x1 ![0, 0, 4] · slices_S8x49104x5_S8x49104x1_0_0_4) : (⟨S8x49104x5, .f32⟩ : BufTy).Contents (Elt F) → (⟨S8x49104x1, .f32⟩ : BufTy).Contents (Elt F)),
    reshape main_v119 main_v120 (rfl : (.f32 : EltTy) = .f32) shapeCasts_S8x49104x1_S8x49104,
    unary main_v120 main_v121 (fptosi 32 : (⟨S8x49104, .f32⟩ : BufTy).Contents (Elt F) → (⟨S8x49104, .i32⟩ : BufTy).Contents (Elt F)),
    unary main_v121 main_call6_v0 ((broadcastInDim S8x49104x1 ![0, 1] bcast_S8x49104_S8x49104x1_0_1) : (⟨S8x49104, .i32⟩ : BufTy).Contents (Elt F) → (⟨S8x49104x1, .i32⟩ : BufTy).Contents (Elt F)),
    nullary main_call6_v1 ((iotaInDim S1x1x90 32 2) : (⟨S1x1x90, .i32⟩ : BufTy).Contents (Elt F)),
    unary main_call6_v0 main_call6_v2 ((broadcastInDim S8x49104x90 ![0, 1, 2] bcast_S8x49104x1_S8x49104x90_0_1_2) : (⟨S8x49104x1, .i32⟩ : BufTy).Contents (Elt F) → (⟨S8x49104x90, .i32⟩ : BufTy).Contents (Elt F)),
    unary main_call6_v1 main_call6_v3 ((broadcastInDim S8x49104x90 ![0, 1, 2] bcast_S1x1x90_S8x49104x90_0_1_2) : (⟨S1x1x90, .i32⟩ : BufTy).Contents (Elt F) → (⟨S8x49104x90, .i32⟩ : BufTy).Contents (Elt F)),
    binary main_call6_v2 main_call6_v3 main_call6_v4 ((cmpi .eq) : (⟨S8x49104x90, .i32⟩ : BufTy).Contents (Elt F) → (⟨S8x49104x90, .i32⟩ : BufTy).Contents (Elt F) → (⟨S8x49104x90, .i1⟩ : BufTy).Contents (Elt F)),
    unary main_call6_v4 main_v122 ((uitofp .f32) : (⟨S8x49104x90, .i1⟩ : BufTy).Contents (Elt F) → (⟨S8x49104x90, .f32⟩ : BufTy).Contents (Elt F)),
    unary main_v107 main_v123 (broadcastInDim S8x49104x1 ![0, 1] bcast_S8x49104_S8x49104x1_0_1 : (⟨S8x49104, .i1⟩ : BufTy).Contents (Elt F) → (⟨S8x49104x1, .i1⟩ : BufTy).Contents (Elt F)),
    nullary main_cst_15 (constant S_ .f32 0x3F000000#32),
    unary main_cst_15 main_v124 (broadcastInDim S8x49104x90 ![] bcast_S_S8x49104x90 : (⟨S_, .f32⟩ : BufTy).Contents (Elt F) → (⟨S8x49104x90, .f32⟩ : BufTy).Contents (Elt F)),
    binary main_v122 main_v124 main_v125 (cmpf .ogt : (⟨S8x49104x90, .f32⟩ : BufTy).Contents (Elt F) → (⟨S8x49104x90, .f32⟩ : BufTy).Contents (Elt F) → (⟨S8x49104x90, .i1⟩ : BufTy).Contents (Elt F)),
    unary main_v123 main_v126 (broadcastInDim S8x49104x90 ![0, 1, 2] bcast_S8x49104x1_S8x49104x90_0_1_2 : (⟨S8x49104x1, .i1⟩ : BufTy).Contents (Elt F) → (⟨S8x49104x90, .i1⟩ : BufTy).Contents (Elt F)),
    binary main_v126 main_v125 main_v127 (andi : (⟨S8x49104x90, .i1⟩ : BufTy).Contents (Elt F) → (⟨S8x49104x90, .i1⟩ : BufTy).Contents (Elt F) → (⟨S8x49104x90, .i1⟩ : BufTy).Contents (Elt F)),
    nullary main_cst_16 (constant S_ .f32 0x3F800000#32),
    unary main_cst_16 main_call7_v0 (id : (⟨S_, .f32⟩ : BufTy).Contents (Elt F) → (⟨S_, .f32⟩ : BufTy).Contents (Elt F)),
    unary main_call7_v0 main_call7_v1 ((broadcastInDim S8x49104x90 ![] bcast_S_S8x49104x90) : (⟨S_, .f32⟩ : BufTy).Contents (Elt F) → (⟨S8x49104x90, .f32⟩ : BufTy).Contents (Elt F)),
    ternary main_v127 main_call7_v1 main_v118 main_v128 (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)),
    nullary main_cst_17 (constant S_ .f32 0x3F800000#32),
    unary main_cst_17 main_v129 (broadcastInDim S8x49104x90 ![] bcast_S_S8x49104x90 : (⟨S_, .f32⟩ : BufTy).Contents (Elt F) → (⟨S8x49104x90, .f32⟩ : BufTy).Contents (Elt F)),
    binary main_v128 main_v129 main_v130 (cmpf .oeq : (⟨S8x49104x90, .f32⟩ : BufTy).Contents (Elt F) → (⟨S8x49104x90, .f32⟩ : BufTy).Contents (Elt F) → (⟨S8x49104x90, .i1⟩ : BufTy).Contents (Elt F)),
    nullary main_cst_18 (constant S_ .f32 0x3E800000#32),
    nullary main_cst_19 (constant S_ .f32 0x3F400000#32),
    unary main_cst_18 main_call8_v0 ((broadcastInDim S8x49104x90 ![] bcast_S_S8x49104x90) : (⟨S_, .f32⟩ : BufTy).Contents (Elt F) → (⟨S8x49104x90, .f32⟩ : BufTy).Contents (Elt F)),
    unary main_cst_19 main_call8_v1 ((broadcastInDim S8x49104x90 ![] bcast_S_S8x49104x90) : (⟨S_, .f32⟩ : BufTy).Contents (Elt F) → (⟨S8x49104x90, .f32⟩ : BufTy).Contents (Elt F)),
    ternary main_v130 main_call8_v0 main_call8_v1 main_v131 (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)),
    nullary main_cst_20 (constant S_ .f32 0x3F800000#32),
    unary main_cst_20 main_v132 (broadcastInDim S8x49104x90 ![] bcast_S_S8x49104x90 : (⟨S_, .f32⟩ : BufTy).Contents (Elt F) → (⟨S8x49104x90, .f32⟩ : BufTy).Contents (Elt F)),
    binary main_v128 main_v132 main_v133 (cmpf .oeq : (⟨S8x49104x90, .f32⟩ : BufTy).Contents (Elt F) → (⟨S8x49104x90, .f32⟩ : BufTy).Contents (Elt F) → (⟨S8x49104x90, .i1⟩ : BufTy).Contents (Elt F)),
    nullary main_cst_21 (constant S_ .f32 0x3F800000#32),
    unary main_cst_21 main_v134 (broadcastInDim S8x49104x90 ![] bcast_S_S8x49104x90 : (⟨S_, .f32⟩ : BufTy).Contents (Elt F) → (⟨S8x49104x90, .f32⟩ : BufTy).Contents (Elt F)),
    binary main_v134 main_v21 main_v135 (subf : (⟨S8x49104x90, .f32⟩ : BufTy).Contents (Elt F) → (⟨S8x49104x90, .f32⟩ : BufTy).Contents (Elt F) → (⟨S8x49104x90, .f32⟩ : BufTy).Contents (Elt F)),
    ternary main_v133 main_v135 main_v21 main_v136 (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)),
    nullary main_cst_22 (constant S_ .f32 0x40000000#32),
    unary main_cst_22 main_v137 (broadcastInDim S8x49104x90 ![] bcast_S_S8x49104x90 : (⟨S_, .f32⟩ : BufTy).Contents (Elt F) → (⟨S8x49104x90, .f32⟩ : BufTy).Contents (Elt F)),
    binary main_v136 main_v137 main_v138 (Host.powf : (⟨S8x49104x90, .f32⟩ : BufTy).Contents (Elt F) → (⟨S8x49104x90, .f32⟩ : BufTy).Contents (Elt F) → (⟨S8x49104x90, .f32⟩ : BufTy).Contents (Elt F)),
    unary main_v131 main_v139 (id : (⟨S8x49104x90, .f32⟩ : BufTy).Contents (Elt F) → (⟨S8x49104x90, .f32⟩ : BufTy).Contents (Elt F)),
    binary main_v139 main_v138 main_v140 (mulf : (⟨S8x49104x90, .f32⟩ : BufTy).Contents (Elt F) → (⟨S8x49104x90, .f32⟩ : BufTy).Contents (Elt F) → (⟨S8x49104x90, .f32⟩ : BufTy).Contents (Elt F)),
    nullary main_cst_23 (constant S_ .f32 0x38D1B717#32),
    nullary main_cst_24 (constant S_ .f32 0x3F7FF972#32),
    unary main_cst_23 main_call10_v0 (id : (⟨S_, .f32⟩ : BufTy).Contents (Elt F) → (⟨S_, .f32⟩ : BufTy).Contents (Elt F)),
    unary main_call10_v0 main_call10_v1 ((broadcastInDim S8x49104x90 ![] bcast_S_S8x49104x90) : (⟨S_, .f32⟩ : BufTy).Contents (Elt F) → (⟨S8x49104x90, .f32⟩ : BufTy).Contents (Elt F)),
    binary main_call10_v1 main_v21 main_call10_v2 (maximumf : (⟨S8x49104x90, .f32⟩ : BufTy).Contents (Elt F) → (⟨S8x49104x90, .f32⟩ : BufTy).Contents (Elt F) → (⟨S8x49104x90, .f32⟩ : BufTy).Contents (Elt F)),
    unary main_cst_24 main_call10_v3 (id : (⟨S_, .f32⟩ : BufTy).Contents (Elt F) → (⟨S_, .f32⟩ : BufTy).Contents (Elt F)),
    unary main_call10_v3 main_call10_v4 ((broadcastInDim S8x49104x90 ![] bcast_S_S8x49104x90) : (⟨S_, .f32⟩ : BufTy).Contents (Elt F) → (⟨S8x49104x90, .f32⟩ : BufTy).Contents (Elt F)),
    binary main_call10_v4 main_call10_v2 main_v141 (minimumf : (⟨S8x49104x90, .f32⟩ : BufTy).Contents (Elt F) → (⟨S8x49104x90, .f32⟩ : BufTy).Contents (Elt F) → (⟨S8x49104x90, .f32⟩ : BufTy).Contents (Elt F)),
    unary main_v141 main_v142 (Host.log : (⟨S8x49104x90, .f32⟩ : BufTy).Contents (Elt F) → (⟨S8x49104x90, .f32⟩ : BufTy).Contents (Elt F)),
    binary main_v128 main_v142 main_v143 (mulf : (⟨S8x49104x90, .f32⟩ : BufTy).Contents (Elt F) → (⟨S8x49104x90, .f32⟩ : BufTy).Contents (Elt F) → (⟨S8x49104x90, .f32⟩ : BufTy).Contents (Elt F)),
    nullary main_cst_25 (constant S_ .f32 0x3F800000#32),
    unary main_cst_25 main_v144 (broadcastInDim S8x49104x90 ![] bcast_S_S8x49104x90 : (⟨S_, .f32⟩ : BufTy).Contents (Elt F) → (⟨S8x49104x90, .f32⟩ : BufTy).Contents (Elt F)),
    binary main_v144 main_v128 main_v145 (subf : (⟨S8x49104x90, .f32⟩ : BufTy).Contents (Elt F) → (⟨S8x49104x90, .f32⟩ : BufTy).Contents (Elt F) → (⟨S8x49104x90, .f32⟩ : BufTy).Contents (Elt F)),
    nullary main_cst_26 (constant S_ .f32 0x3F800000#32),
    unary main_cst_26 main_v146 (broadcastInDim S8x49104x90 ![] bcast_S_S8x49104x90 : (⟨S_, .f32⟩ : BufTy).Contents (Elt F) → (⟨S8x49104x90, .f32⟩ : BufTy).Contents (Elt F)),
    binary main_v146 main_v21 main_v147 (subf : (⟨S8x49104x90, .f32⟩ : BufTy).Contents (Elt F) → (⟨S8x49104x90, .f32⟩ : BufTy).Contents (Elt F) → (⟨S8x49104x90, .f32⟩ : BufTy).Contents (Elt F)),
    nullary main_cst_27 (constant S_ .f32 0x38D1B717#32),
    nullary main_cst_28 (constant S_ .f32 0x3F7FF972#32),
    unary main_cst_27 main_call11_v0 (id : (⟨S_, .f32⟩ : BufTy).Contents (Elt F) → (⟨S_, .f32⟩ : BufTy).Contents (Elt F)),
    unary main_call11_v0 main_call11_v1 ((broadcastInDim S8x49104x90 ![] bcast_S_S8x49104x90) : (⟨S_, .f32⟩ : BufTy).Contents (Elt F) → (⟨S8x49104x90, .f32⟩ : BufTy).Contents (Elt F)),
    binary main_call11_v1 main_v147 main_call11_v2 (maximumf : (⟨S8x49104x90, .f32⟩ : BufTy).Contents (Elt F) → (⟨S8x49104x90, .f32⟩ : BufTy).Contents (Elt F) → (⟨S8x49104x90, .f32⟩ : BufTy).Contents (Elt F)),
    unary main_cst_28 main_call11_v3 (id : (⟨S_, .f32⟩ : BufTy).Contents (Elt F) → (⟨S_, .f32⟩ : BufTy).Contents (Elt F)),
    unary main_call11_v3 main_call11_v4 ((broadcastInDim S8x49104x90 ![] bcast_S_S8x49104x90) : (⟨S_, .f32⟩ : BufTy).Contents (Elt F) → (⟨S8x49104x90, .f32⟩ : BufTy).Contents (Elt F)),
    binary main_call11_v4 main_call11_v2 main_v148 (minimumf : (⟨S8x49104x90, .f32⟩ : BufTy).Contents (Elt F) → (⟨S8x49104x90, .f32⟩ : BufTy).Contents (Elt F) → (⟨S8x49104x90, .f32⟩ : BufTy).Contents (Elt F)),
    unary main_v148 main_v149 (Host.log : (⟨S8x49104x90, .f32⟩ : BufTy).Contents (Elt F) → (⟨S8x49104x90, .f32⟩ : BufTy).Contents (Elt F)) ]

/-- The operations of `main_part3`, those of the functions it calls in the calls' places. -/
def line_part3 : List (HloOp τ sig (Elt F)) :=
  [ binary main_v145 main_v149 main_v150 (mulf : (⟨S8x49104x90, .f32⟩ : BufTy).Contents (Elt F) → (⟨S8x49104x90, .f32⟩ : BufTy).Contents (Elt F) → (⟨S8x49104x90, .f32⟩ : BufTy).Contents (Elt F)),
    binary main_v143 main_v150 main_v151 (addf : (⟨S8x49104x90, .f32⟩ : BufTy).Contents (Elt F) → (⟨S8x49104x90, .f32⟩ : BufTy).Contents (Elt F) → (⟨S8x49104x90, .f32⟩ : BufTy).Contents (Elt F)),
    unary main_v151 main_v152 (Host.negf : (⟨S8x49104x90, .f32⟩ : BufTy).Contents (Elt F) → (⟨S8x49104x90, .f32⟩ : BufTy).Contents (Elt F)),
    nullary main_cst_29 (constant S_ .f32 0xBF800000#32),
    unary main_cst_29 main_v153 (broadcastInDim S8x49104x90 ![] bcast_S_S8x49104x90 : (⟨S_, .f32⟩ : BufTy).Contents (Elt F) → (⟨S8x49104x90, .f32⟩ : BufTy).Contents (Elt F)),
    binary main_v128 main_v153 main_v154 (cmpf .une : (⟨S8x49104x90, .f32⟩ : BufTy).Contents (Elt F) → (⟨S8x49104x90, .f32⟩ : BufTy).Contents (Elt F) → (⟨S8x49104x90, .i1⟩ : BufTy).Contents (Elt F)),
    binary main_v140 main_v152 main_v155 (mulf : (⟨S8x49104x90, .f32⟩ : BufTy).Contents (Elt F) → (⟨S8x49104x90, .f32⟩ : BufTy).Contents (Elt F) → (⟨S8x49104x90, .f32⟩ : BufTy).Contents (Elt F)),
    nullary main_cst_30 (constant S_ .f32 0x00000000#32),
    unary main_cst_30 main_call12_v0 (id : (⟨S_, .f32⟩ : BufTy).Contents (Elt F) → (⟨S_, .f32⟩ : BufTy).Contents (Elt F)),
    unary main_call12_v0 main_call12_v1 ((broadcastInDim S8x49104x90 ![] bcast_S_S8x49104x90) : (⟨S_, .f32⟩ : BufTy).Contents (Elt F) → (⟨S8x49104x90, .f32⟩ : BufTy).Contents (Elt F)),
    ternary main_v154 main_v155 main_call12_v1 main_v156 (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)),
    nullary main_cst_31 (constant S_ .f32 0x00000000#32),
    binary main_v156 main_cst_31 main_v157 ((fun x v => Host.reduceAdd x v reducesTo_S8x49104x90_S8_d1_2 h_S_) : (⟨S8x49104x90, .f32⟩ : BufTy).Contents (Elt F) → (⟨S_, .f32⟩ : BufTy).Contents (Elt F) → (⟨S8, .f32⟩ : BufTy).Contents (Elt F)),
    nullary main_cst_32 (constant S_ .f32 0x3F800000#32),
    unary main_cst_32 main_v158 (broadcastInDim S8 ![] bcast_S_S8 : (⟨S_, .f32⟩ : BufTy).Contents (Elt F) → (⟨S8, .f32⟩ : BufTy).Contents (Elt F)),
    binary main_v109 main_v158 main_v159 (maximumf : (⟨S8, .f32⟩ : BufTy).Contents (Elt F) → (⟨S8, .f32⟩ : BufTy).Contents (Elt F) → (⟨S8, .f32⟩ : BufTy).Contents (Elt F)),
    binary main_v157 main_v159 main_v160 (Host.divf : (⟨S8, .f32⟩ : BufTy).Contents (Elt F) → (⟨S8, .f32⟩ : BufTy).Contents (Elt F) → (⟨S8, .f32⟩ : BufTy).Contents (Elt F)),
    unary main_v111 main_v161 ((extractStridedSlice S8x49104x1 ![0, 0, 2] · slices_S8x49104x5_S8x49104x1_0_0_2) : (⟨S8x49104x5, .f32⟩ : BufTy).Contents (Elt F) → (⟨S8x49104x1, .f32⟩ : BufTy).Contents (Elt F)),
    reshape main_v161 main_v162 (rfl : (.f32 : EltTy) = .f32) shapeCasts_S8x49104x1_S8x49104,
    unary main_v111 main_v163 ((extractStridedSlice S8x49104x1 ![0, 0, 0] · slices_S8x49104x5_S8x49104x1_0_0_0) : (⟨S8x49104x5, .f32⟩ : BufTy).Contents (Elt F) → (⟨S8x49104x1, .f32⟩ : BufTy).Contents (Elt F)),
    reshape main_v163 main_v164 (rfl : (.f32 : EltTy) = .f32) shapeCasts_S8x49104x1_S8x49104,
    binary main_v162 main_v164 main_v165 (subf : (⟨S8x49104, .f32⟩ : BufTy).Contents (Elt F) → (⟨S8x49104, .f32⟩ : BufTy).Contents (Elt F) → (⟨S8x49104, .f32⟩ : BufTy).Contents (Elt F)),
    unary main_v111 main_v166 ((extractStridedSlice S8x49104x1 ![0, 0, 3] · slices_S8x49104x5_S8x49104x1_0_0_3) : (⟨S8x49104x5, .f32⟩ : BufTy).Contents (Elt F) → (⟨S8x49104x1, .f32⟩ : BufTy).Contents (Elt F)),
    reshape main_v166 main_v167 (rfl : (.f32 : EltTy) = .f32) shapeCasts_S8x49104x1_S8x49104,
    unary main_v111 main_v168 ((extractStridedSlice S8x49104x1 ![0, 0, 1] · slices_S8x49104x5_S8x49104x1_0_0_1) : (⟨S8x49104x5, .f32⟩ : BufTy).Contents (Elt F) → (⟨S8x49104x1, .f32⟩ : BufTy).Contents (Elt F)),
    reshape main_v168 main_v169 (rfl : (.f32 : EltTy) = .f32) shapeCasts_S8x49104x1_S8x49104,
    binary main_v167 main_v169 main_v170 (subf : (⟨S8x49104, .f32⟩ : BufTy).Contents (Elt F) → (⟨S8x49104, .f32⟩ : BufTy).Contents (Elt F) → (⟨S8x49104, .f32⟩ : BufTy).Contents (Elt F)),
    unary main_v111 main_v171 ((extractStridedSlice S8x49104x1 ![0, 0, 0] · slices_S8x49104x5_S8x49104x1_0_0_0) : (⟨S8x49104x5, .f32⟩ : BufTy).Contents (Elt F) → (⟨S8x49104x1, .f32⟩ : BufTy).Contents (Elt F)),
    reshape main_v171 main_v172 (rfl : (.f32 : EltTy) = .f32) shapeCasts_S8x49104x1_S8x49104,
    nullary main_cst_33 (constant S_ .f32 0x3F000000#32),
    unary main_cst_33 main_v173 (broadcastInDim S8x49104 ![] bcast_S_S8x49104 : (⟨S_, .f32⟩ : BufTy).Contents (Elt F) → (⟨S8x49104, .f32⟩ : BufTy).Contents (Elt F)),
    binary main_v173 main_v165 main_v174 (mulf : (⟨S8x49104, .f32⟩ : BufTy).Contents (Elt F) → (⟨S8x49104, .f32⟩ : BufTy).Contents (Elt F) → (⟨S8x49104, .f32⟩ : BufTy).Contents (Elt F)),
    binary main_v172 main_v174 main_v175 (addf : (⟨S8x49104, .f32⟩ : BufTy).Contents (Elt F) → (⟨S8x49104, .f32⟩ : BufTy).Contents (Elt F) → (⟨S8x49104, .f32⟩ : BufTy).Contents (Elt F)),
    unary main_v111 main_v176 ((extractStridedSlice S8x49104x1 ![0, 0, 1] · slices_S8x49104x5_S8x49104x1_0_0_1) : (⟨S8x49104x5, .f32⟩ : BufTy).Contents (Elt F) → (⟨S8x49104x1, .f32⟩ : BufTy).Contents (Elt F)),
    reshape main_v176 main_v177 (rfl : (.f32 : EltTy) = .f32) shapeCasts_S8x49104x1_S8x49104,
    nullary main_cst_34 (constant S_ .f32 0x3F000000#32),
    unary main_cst_34 main_v178 (broadcastInDim S8x49104 ![] bcast_S_S8x49104 : (⟨S_, .f32⟩ : BufTy).Contents (Elt F) → (⟨S8x49104, .f32⟩ : BufTy).Contents (Elt F)),
    binary main_v178 main_v170 main_v179 (mulf : (⟨S8x49104, .f32⟩ : BufTy).Contents (Elt F) → (⟨S8x49104, .f32⟩ : BufTy).Contents (Elt F) → (⟨S8x49104, .f32⟩ : BufTy).Contents (Elt F)),
    binary main_v177 main_v179 main_v180 (addf : (⟨S8x49104, .f32⟩ : BufTy).Contents (Elt F) → (⟨S8x49104, .f32⟩ : BufTy).Contents (Elt F) → (⟨S8x49104, .f32⟩ : BufTy).Contents (Elt F)),
    nullary main_cst_35 (constant S_ .f32 0x3F800000#32),
    unary main_cst_35 main_v181 (broadcastInDim S8x49104 ![] bcast_S_S8x49104 : (⟨S_, .f32⟩ : BufTy).Contents (Elt F) → (⟨S8x49104, .f32⟩ : BufTy).Contents (Elt F)),
    binary main_v165 main_v181 main_v182 (maximumf : (⟨S8x49104, .f32⟩ : BufTy).Contents (Elt F) → (⟨S8x49104, .f32⟩ : BufTy).Contents (Elt F) → (⟨S8x49104, .f32⟩ : BufTy).Contents (Elt F)),
    nullary main_cst_36 (constant S_ .f32 0x3F800000#32),
    unary main_cst_36 main_v183 (broadcastInDim S8x49104 ![] bcast_S_S8x49104 : (⟨S_, .f32⟩ : BufTy).Contents (Elt F) → (⟨S8x49104, .f32⟩ : BufTy).Contents (Elt F)),
    binary main_v170 main_v183 main_v184 (maximumf : (⟨S8x49104, .f32⟩ : BufTy).Contents (Elt F) → (⟨S8x49104, .f32⟩ : BufTy).Contents (Elt F) → (⟨S8x49104, .f32⟩ : BufTy).Contents (Elt F)),
    unary main_v15 main_v185 (broadcastInDim S1x49104 ![1] bcast_S49104_S1x49104_1 : (⟨S49104, .f32⟩ : BufTy).Contents (Elt F) → (⟨S1x49104, .f32⟩ : BufTy).Contents (Elt F)),
    unary main_v185 main_v186 (broadcastInDim S8x49104 ![0, 1] bcast_S1x49104_S8x49104_0_1 : (⟨S1x49104, .f32⟩ : BufTy).Contents (Elt F) → (⟨S8x49104, .f32⟩ : BufTy).Contents (Elt F)),
    binary main_v175 main_v186 main_v187 (subf : (⟨S8x49104, .f32⟩ : BufTy).Contents (Elt F) → (⟨S8x49104, .f32⟩ : BufTy).Contents (Elt F) → (⟨S8x49104, .f32⟩ : BufTy).Contents (Elt F)),
    unary main_v5 main_v188 (broadcastInDim S1x49104 ![1] bcast_S49104_S1x49104_1 : (⟨S49104, .f32⟩ : BufTy).Contents (Elt F) → (⟨S1x49104, .f32⟩ : BufTy).Contents (Elt F)),
    unary main_v188 main_v189 (broadcastInDim S8x49104 ![0, 1] bcast_S1x49104_S8x49104_0_1 : (⟨S1x49104, .f32⟩ : BufTy).Contents (Elt F) → (⟨S8x49104, .f32⟩ : BufTy).Contents (Elt F)),
    binary main_v187 main_v189 main_v190 (Host.divf : (⟨S8x49104, .f32⟩ : BufTy).Contents (Elt F) → (⟨S8x49104, .f32⟩ : BufTy).Contents (Elt F) → (⟨S8x49104, .f32⟩ : BufTy).Contents (Elt F)),
    unary main_v20 main_v191 (broadcastInDim S1x49104 ![1] bcast_S49104_S1x49104_1 : (⟨S49104, .f32⟩ : BufTy).Contents (Elt F) → (⟨S1x49104, .f32⟩ : BufTy).Contents (Elt F)),
    unary main_v191 main_v192 (broadcastInDim S8x49104 ![0, 1] bcast_S1x49104_S8x49104_0_1 : (⟨S1x49104, .f32⟩ : BufTy).Contents (Elt F) → (⟨S8x49104, .f32⟩ : BufTy).Contents (Elt F)),
    binary main_v180 main_v192 main_v193 (subf : (⟨S8x49104, .f32⟩ : BufTy).Contents (Elt F) → (⟨S8x49104, .f32⟩ : BufTy).Contents (Elt F) → (⟨S8x49104, .f32⟩ : BufTy).Contents (Elt F)),
    unary main_v10 main_v194 (broadcastInDim S1x49104 ![1] bcast_S49104_S1x49104_1 : (⟨S49104, .f32⟩ : BufTy).Contents (Elt F) → (⟨S1x49104, .f32⟩ : BufTy).Contents (Elt F)),
    unary main_v194 main_v195 (broadcastInDim S8x49104 ![0, 1] bcast_S1x49104_S8x49104_0_1 : (⟨S1x49104, .f32⟩ : BufTy).Contents (Elt F) → (⟨S8x49104, .f32⟩ : BufTy).Contents (Elt F)),
    binary main_v193 main_v195 main_v196 (Host.divf : (⟨S8x49104, .f32⟩ : BufTy).Contents (Elt F) → (⟨S8x49104, .f32⟩ : BufTy).Contents (Elt F) → (⟨S8x49104, .f32⟩ : BufTy).Contents (Elt F)),
    unary main_v5 main_v197 (broadcastInDim S1x49104 ![1] bcast_S49104_S1x49104_1 : (⟨S49104, .f32⟩ : BufTy).Contents (Elt F) → (⟨S1x49104, .f32⟩ : BufTy).Contents (Elt F)),
    unary main_v197 main_v198 (broadcastInDim S8x49104 ![0, 1] bcast_S1x49104_S8x49104_0_1 : (⟨S1x49104, .f32⟩ : BufTy).Contents (Elt F) → (⟨S8x49104, .f32⟩ : BufTy).Contents (Elt F)),
    binary main_v182 main_v198 main_v199 (Host.divf : (⟨S8x49104, .f32⟩ : BufTy).Contents (Elt F) → (⟨S8x49104, .f32⟩ : BufTy).Contents (Elt F) → (⟨S8x49104, .f32⟩ : BufTy).Contents (Elt F)),
    unary main_v199 main_v200 (Host.log : (⟨S8x49104, .f32⟩ : BufTy).Contents (Elt F) → (⟨S8x49104, .f32⟩ : BufTy).Contents (Elt F)),
    unary main_v10 main_v201 (broadcastInDim S1x49104 ![1] bcast_S49104_S1x49104_1 : (⟨S49104, .f32⟩ : BufTy).Contents (Elt F) → (⟨S1x49104, .f32⟩ : BufTy).Contents (Elt F)) ]

/-- The operations of `main_part4`, those of the functions it calls in the calls' places. -/
def line_part4 : List (HloOp τ sig (Elt F)) :=
  [ unary main_v201 main_v202 (broadcastInDim S8x49104 ![0, 1] bcast_S1x49104_S8x49104_0_1 : (⟨S1x49104, .f32⟩ : BufTy).Contents (Elt F) → (⟨S8x49104, .f32⟩ : BufTy).Contents (Elt F)),
    binary main_v184 main_v202 main_v203 (Host.divf : (⟨S8x49104, .f32⟩ : BufTy).Contents (Elt F) → (⟨S8x49104, .f32⟩ : BufTy).Contents (Elt F) → (⟨S8x49104, .f32⟩ : BufTy).Contents (Elt F)),
    unary main_v203 main_v204 (Host.log : (⟨S8x49104, .f32⟩ : BufTy).Contents (Elt F) → (⟨S8x49104, .f32⟩ : BufTy).Contents (Elt F)),
    unary main_v196 main_v205 (broadcastInDim S8x49104x1 ![0, 1] bcast_S8x49104_S8x49104x1_0_1 : (⟨S8x49104, .f32⟩ : BufTy).Contents (Elt F) → (⟨S8x49104x1, .f32⟩ : BufTy).Contents (Elt F)),
    unary main_v190 main_v206 (broadcastInDim S8x49104x1 ![0, 1] bcast_S8x49104_S8x49104x1_0_1 : (⟨S8x49104, .f32⟩ : BufTy).Contents (Elt F) → (⟨S8x49104x1, .f32⟩ : BufTy).Contents (Elt F)),
    unary main_v204 main_v207 (broadcastInDim S8x49104x1 ![0, 1] bcast_S8x49104_S8x49104x1_0_1 : (⟨S8x49104, .f32⟩ : BufTy).Contents (Elt F) → (⟨S8x49104x1, .f32⟩ : BufTy).Contents (Elt F)),
    unary main_v200 main_v208 (broadcastInDim S8x49104x1 ![0, 1] bcast_S8x49104_S8x49104x1_0_1 : (⟨S8x49104, .f32⟩ : BufTy).Contents (Elt F) → (⟨S8x49104x1, .f32⟩ : BufTy).Contents (Elt F)),
    nary ![main_v205, main_v206, main_v207, main_v208] main_v209 (fun u => (concatenate S8x49104x4 2 [⟨S8x49104x1, (u 0 : (⟨S8x49104x1, .f32⟩ : BufTy).Contents (Elt F))⟩, ⟨S8x49104x1, (u 1 : (⟨S8x49104x1, .f32⟩ : BufTy).Contents (Elt F))⟩, ⟨S8x49104x1, (u 2 : (⟨S8x49104x1, .f32⟩ : BufTy).Contents (Elt F))⟩, ⟨S8x49104x1, (u 3 : (⟨S8x49104x1, .f32⟩ : BufTy).Contents (Elt F))⟩] concatenates_S8x49104x1_S8x49104x1_S8x49104x1_S8x49104x1_S8x49104x4_d2 : (⟨S8x49104x4, .f32⟩ : BufTy).Contents (Elt F))),
    binary main_v209 main_arg1 main_v210 (subf : (⟨S8x49104x4, .f32⟩ : BufTy).Contents (Elt F) → (⟨S8x49104x4, .f32⟩ : BufTy).Contents (Elt F) → (⟨S8x49104x4, .f32⟩ : BufTy).Contents (Elt F)),
    unary main_v210 main_v211 (Host.absf : (⟨S8x49104x4, .f32⟩ : BufTy).Contents (Elt F) → (⟨S8x49104x4, .f32⟩ : BufTy).Contents (Elt F)),
    nullary main_cst_37 (constant S_ .f32 0x3DE38E39#32),
    unary main_cst_37 main_v212 (broadcastInDim S8x49104x4 ![] bcast_S_S8x49104x4 : (⟨S_, .f32⟩ : BufTy).Contents (Elt F) → (⟨S8x49104x4, .f32⟩ : BufTy).Contents (Elt F)),
    binary main_v211 main_v212 main_v213 (cmpf .ole : (⟨S8x49104x4, .f32⟩ : BufTy).Contents (Elt F) → (⟨S8x49104x4, .f32⟩ : BufTy).Contents (Elt F) → (⟨S8x49104x4, .i1⟩ : BufTy).Contents (Elt F)),
    binary main_v211 main_v211 main_v214 (mulf : (⟨S8x49104x4, .f32⟩ : BufTy).Contents (Elt F) → (⟨S8x49104x4, .f32⟩ : BufTy).Contents (Elt F) → (⟨S8x49104x4, .f32⟩ : BufTy).Contents (Elt F)),
    nullary main_cst_38 (constant S_ .f32 0x40900000#32),
    unary main_cst_38 main_v215 (broadcastInDim S8x49104x4 ![] bcast_S_S8x49104x4 : (⟨S_, .f32⟩ : BufTy).Contents (Elt F) → (⟨S8x49104x4, .f32⟩ : BufTy).Contents (Elt F)),
    binary main_v215 main_v214 main_v216 (mulf : (⟨S8x49104x4, .f32⟩ : BufTy).Contents (Elt F) → (⟨S8x49104x4, .f32⟩ : BufTy).Contents (Elt F) → (⟨S8x49104x4, .f32⟩ : BufTy).Contents (Elt F)),
    nullary main_cst_39 (constant S_ .f32 0x3D638E39#32),
    unary main_cst_39 main_v217 (broadcastInDim S8x49104x4 ![] bcast_S_S8x49104x4 : (⟨S_, .f32⟩ : BufTy).Contents (Elt F) → (⟨S8x49104x4, .f32⟩ : BufTy).Contents (Elt F)),
    binary main_v211 main_v217 main_v218 (subf : (⟨S8x49104x4, .f32⟩ : BufTy).Contents (Elt F) → (⟨S8x49104x4, .f32⟩ : BufTy).Contents (Elt F) → (⟨S8x49104x4, .f32⟩ : BufTy).Contents (Elt F)),
    ternary main_v213 main_v216 main_v218 main_v219 (select : (⟨S8x49104x4, .i1⟩ : BufTy).Contents (Elt F) → (⟨S8x49104x4, .f32⟩ : BufTy).Contents (Elt F) → (⟨S8x49104x4, .f32⟩ : BufTy).Contents (Elt F) → (⟨S8x49104x4, .f32⟩ : BufTy).Contents (Elt F)),
    unary main_v107 main_v220 (broadcastInDim S8x49104x1 ![0, 1] bcast_S8x49104_S8x49104x1_0_1 : (⟨S8x49104, .i1⟩ : BufTy).Contents (Elt F) → (⟨S8x49104x1, .i1⟩ : BufTy).Contents (Elt F)),
    nullary main_cst_40 (constant S_ .f32 0x00000000#32),
    unary main_cst_40 main_call14_v0 (id : (⟨S_, .f32⟩ : BufTy).Contents (Elt F) → (⟨S_, .f32⟩ : BufTy).Contents (Elt F)),
    unary main_v220 main_call14_v1 ((broadcastInDim S8x49104x4 ![0, 1, 2] bcast_S8x49104x1_S8x49104x4_0_1_2) : (⟨S8x49104x1, .i1⟩ : BufTy).Contents (Elt F) → (⟨S8x49104x4, .i1⟩ : BufTy).Contents (Elt F)),
    unary main_call14_v0 main_call14_v2 ((broadcastInDim S8x49104x4 ![] bcast_S_S8x49104x4) : (⟨S_, .f32⟩ : BufTy).Contents (Elt F) → (⟨S8x49104x4, .f32⟩ : BufTy).Contents (Elt F)),
    ternary main_call14_v1 main_v219 main_call14_v2 main_v221 (select : (⟨S8x49104x4, .i1⟩ : BufTy).Contents (Elt F) → (⟨S8x49104x4, .f32⟩ : BufTy).Contents (Elt F) → (⟨S8x49104x4, .f32⟩ : BufTy).Contents (Elt F) → (⟨S8x49104x4, .f32⟩ : BufTy).Contents (Elt F)),
    nullary main_cst_41 (constant S_ .f32 0x00000000#32),
    binary main_v221 main_cst_41 main_v222 ((fun x v => Host.reduceAdd x v reducesTo_S8x49104x4_S8_d1_2 h_S_) : (⟨S8x49104x4, .f32⟩ : BufTy).Contents (Elt F) → (⟨S_, .f32⟩ : BufTy).Contents (Elt F) → (⟨S8, .f32⟩ : BufTy).Contents (Elt F)),
    nullary main_cst_42 (constant S_ .f32 0x40800000#32),
    unary main_cst_42 main_v223 (broadcastInDim S8 ![] bcast_S_S8 : (⟨S_, .f32⟩ : BufTy).Contents (Elt F) → (⟨S8, .f32⟩ : BufTy).Contents (Elt F)),
    binary main_v109 main_v223 main_v224 (mulf : (⟨S8, .f32⟩ : BufTy).Contents (Elt F) → (⟨S8, .f32⟩ : BufTy).Contents (Elt F) → (⟨S8, .f32⟩ : BufTy).Contents (Elt F)),
    nullary main_cst_43 (constant S_ .f32 0x3F800000#32),
    unary main_cst_43 main_v225 (broadcastInDim S8 ![] bcast_S_S8 : (⟨S_, .f32⟩ : BufTy).Contents (Elt F) → (⟨S8, .f32⟩ : BufTy).Contents (Elt F)),
    binary main_v224 main_v225 main_v226 (maximumf : (⟨S8, .f32⟩ : BufTy).Contents (Elt F) → (⟨S8, .f32⟩ : BufTy).Contents (Elt F) → (⟨S8, .f32⟩ : BufTy).Contents (Elt F)),
    binary main_v222 main_v226 main_v227 (Host.divf : (⟨S8, .f32⟩ : BufTy).Contents (Elt F) → (⟨S8, .f32⟩ : BufTy).Contents (Elt F) → (⟨S8, .f32⟩ : BufTy).Contents (Elt F)),
    nullary main_cst_44 (constant S_ .f32 0x00000000#32),
    binary main_v160 main_cst_44 main_v228 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v228 main_v229 (broadcastInDim S1 ![] bcast_S_S1 : (⟨S_, .f32⟩ : BufTy).Contents (Elt F) → (⟨S1, .f32⟩ : BufTy).Contents (Elt F)),
    nullary main_cst_45 (constant S_ .f32 0x41000000#32),
    unary main_cst_45 main_v230 (broadcastInDim S1 ![] bcast_S_S1 : (⟨S_, .f32⟩ : BufTy).Contents (Elt F) → (⟨S1, .f32⟩ : BufTy).Contents (Elt F)),
    binary main_v229 main_v230 main_v231 (Host.divf : (⟨S1, .f32⟩ : BufTy).Contents (Elt F) → (⟨S1, .f32⟩ : BufTy).Contents (Elt F) → (⟨S1, .f32⟩ : BufTy).Contents (Elt F)),
    nullary main_cst_46 (constant S_ .f32 0x00000000#32),
    binary main_v227 main_cst_46 main_v232 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v232 main_v233 (broadcastInDim S1 ![] bcast_S_S1 : (⟨S_, .f32⟩ : BufTy).Contents (Elt F) → (⟨S1, .f32⟩ : BufTy).Contents (Elt F)),
    nullary main_cst_47 (constant S_ .f32 0x41000000#32),
    unary main_cst_47 main_v234 (broadcastInDim S1 ![] bcast_S_S1 : (⟨S_, .f32⟩ : BufTy).Contents (Elt F) → (⟨S1, .f32⟩ : BufTy).Contents (Elt F)),
    binary main_v233 main_v234 main_v235 (Host.divf : (⟨S1, .f32⟩ : BufTy).Contents (Elt F) → (⟨S1, .f32⟩ : BufTy).Contents (Elt F) → (⟨S1, .f32⟩ : BufTy).Contents (Elt F)),
    nullary main_cst_48 (constant S_ .f32 0x42480000#32),
    unary main_cst_48 main_v236 (broadcastInDim S1 ![] bcast_S_S1 : (⟨S_, .f32⟩ : BufTy).Contents (Elt F) → (⟨S1, .f32⟩ : BufTy).Contents (Elt F)),
    binary main_v235 main_v236 main_v237 (mulf : (⟨S1, .f32⟩ : BufTy).Contents (Elt F) → (⟨S1, .f32⟩ : BufTy).Contents (Elt F) → (⟨S1, .f32⟩ : BufTy).Contents (Elt F)) ]

set_option maxRecDepth 200000 in
set_option maxHeartbeats 4000000 in
theorem main_part0_eq (c : Dev nD) : main_part0 (F := F) c = seq line_part0 := by sl_kernel_rfl

set_option maxRecDepth 200000 in
set_option maxHeartbeats 4000000 in
theorem main_part1_eq (c : Dev nD) : main_part1 (F := F) c = seq line_part1 := by sl_kernel_rfl

set_option maxRecDepth 200000 in
set_option maxHeartbeats 4000000 in
theorem main_part2_eq (c : Dev nD) : main_part2 (F := F) c = seq line_part2 := by sl_kernel_rfl

set_option maxRecDepth 200000 in
set_option maxHeartbeats 4000000 in
theorem main_part3_eq (c : Dev nD) : main_part3 (F := F) c = seq line_part3 := by sl_kernel_rfl

set_option maxRecDepth 200000 in
set_option maxHeartbeats 4000000 in
theorem main_part4_eq (c : Dev nD) : main_part4 (F := F) c = seq line_part4 := by sl_kernel_rfl

/-- The whole line. -/
def line : List (HloOp τ sig (Elt F)) := line_part0 ++ (line_part1 ++ (line_part2 ++ (line_part3 ++ (line_part4))))

theorem main_eq (c : Dev nD) : main (F := F) c = seq line := by
  simp only [line, seq_append, ← main_part0_eq c, ← main_part1_eq c, ← main_part2_eq c, ← main_part3_eq c, ← main_part4_eq c]
  rfl

/-- What each operation writes, in order. -/
def written : List (Ref sig .tc) :=
  [main_v0, main_v1, main_v2, main_v3, main_v4, main_v5, main_v6, main_v7, main_v8, main_v9, main_v10, main_v11, main_v12, main_cst, main_v13, main_v14, main_v15, main_v16, main_v17, main_cst_0, main_v18, main_v19, main_v20, main_cst_1, main_cst_2, main_call0_v0, main_call0_v1, main_call0_v2, main_call0_v3, main_call0_v4, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_cst_3, main_v72, main_v73, main_cst_4, main_v74, main_v75, main_v76, main_v77, main_v78, main_v79, main_v80, main_v81, main_v82, main_v83, main_v84, main_v85, main_v86, main_v87, main_v88, main_v89, main_v90, main_v91, main_v92, main_v93, main_cst_5, main_v94, main_v95, main_v96, main_v97, main_v98, main_v99, main_cst_6, main_v100, main_v101, main_v102, main_cst_7, main_call1_v0, main_call1_v1, main_call1_v2, main_v103, main_cst_8, main_v104, main_call2_v0, main_call2_cst, main_call2_c, main_call2_v1_0, main_v105, main_cst_9, main_v106, main_v107, main_v108, main_cst_10, main_v109, main_v110, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v111, main_cst_11, main_v112, main_cst_12, main_v113, main_v114, main_v115, main_cst_13, main_call4_v0, main_call4_v1, main_call4_v2, main_v116, main_v117, main_cst_14, main_call5_v0, main_call5_v1, main_call5_v2, main_v118, main_v119, main_v120, main_v121, main_call6_v0, main_call6_v1, main_call6_v2, main_call6_v3, main_call6_v4, main_v122, main_v123, main_cst_15, main_v124, main_v125, main_v126, main_v127, main_cst_16, main_call7_v0, main_call7_v1, main_v128, main_cst_17, main_v129, main_v130, main_cst_18, main_cst_19, main_call8_v0, main_call8_v1, main_v131, main_cst_20, main_v132, main_v133, main_cst_21, main_v134, main_v135, main_v136, main_cst_22, main_v137, main_v138, main_v139, main_v140, main_cst_23, main_cst_24, main_call10_v0, main_call10_v1, main_call10_v2, main_call10_v3, main_call10_v4, main_v141, main_v142, main_v143, main_cst_25, main_v144, main_v145, main_cst_26, main_v146, main_v147, main_cst_27, main_cst_28, main_call11_v0, main_call11_v1, main_call11_v2, main_call11_v3, main_call11_v4, main_v148, main_v149, main_v150, main_v151, main_v152, main_cst_29, main_v153, main_v154, main_v155, main_cst_30, main_call12_v0, main_call12_v1, main_v156, main_cst_31, main_v157, main_cst_32, main_v158, main_v159, main_v160, main_v161, main_v162, main_v163, main_v164, main_v165, main_v166, main_v167, main_v168, main_v169, main_v170, main_v171, main_v172, main_cst_33, main_v173, main_v174, main_v175, main_v176, main_v177, main_cst_34, main_v178, main_v179, main_v180, main_cst_35, main_v181, main_v182, main_cst_36, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_cst_37, main_v212, main_v213, main_v214, main_cst_38, main_v215, main_v216, main_cst_39, main_v217, main_v218, main_v219, main_v220, main_cst_40, main_call14_v0, main_call14_v1, main_call14_v2, main_v221, main_cst_41, main_v222, main_cst_42, main_v223, main_v224, main_cst_43, main_v225, main_v226, main_v227, main_cst_44, main_v228, main_v229, main_cst_45, main_v230, main_v231, main_cst_46, main_v232, main_v233, main_cst_47, main_v234, main_v235, main_cst_48, main_v236, main_v237]

set_option maxRecDepth 200000 in
set_option maxHeartbeats 4000000 in
theorem line_writes : (line (F := F)).map HloOp.writes = written.map fun r => {Proc.devRef (τ := τ) .tc r} := rfl

set_option maxRecDepth 200000 in
set_option maxHeartbeats 4000000 in
theorem line_fresh : (line (F := F)).map HloOp.fresh = (line (F := F)).map fun _ => (∅ : Finset (DevRef τ sig)) := rfl

set_option maxRecDepth 200000 in
theorem line_part0_sub : (line_part0 (F := F)).Forall fun op => op.bufs ⊆ tcRefs τ sig :=
  ⟨reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub ..⟩

set_option maxRecDepth 200000 in
theorem line_part1_sub : (line_part1 (F := F)).Forall fun op => op.bufs ⊆ tcRefs τ sig :=
  ⟨unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., binary_bufs_sub .., nullary_bufs_sub .., unary_bufs_sub .., binary_bufs_sub .., binary_bufs_sub .., binary_bufs_sub .., unary_bufs_sub .., reshape_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub ..⟩

set_option maxRecDepth 200000 in
theorem line_part2_sub : (line_part2 (F := F)).Forall fun op => op.bufs ⊆ tcRefs τ sig :=
  ⟨nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., unary_bufs_sub .., nullary_bufs_sub .., unary_bufs_sub .., unary_bufs_sub .., unary_bufs_sub .., ternary_bufs_sub .., unary_bufs_sub .., nullary_bufs_sub .., unary_bufs_sub .., unary_bufs_sub .., unary_bufs_sub .., ternary_bufs_sub .., unary_bufs_sub .., reshape_bufs_sub .., unary_bufs_sub .., unary_bufs_sub .., nullary_bufs_sub .., unary_bufs_sub .., unary_bufs_sub .., binary_bufs_sub .., unary_bufs_sub .., unary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 200000 in
theorem line_part3_sub : (line_part3 (F := F)).Forall fun op => op.bufs ⊆ tcRefs τ sig :=
  ⟨binary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub ..⟩

set_option maxRecDepth 200000 in
theorem line_part4_sub : (line_part4 (F := F)).Forall fun op => op.bufs ⊆ tcRefs τ sig :=
  ⟨unary_bufs_sub .., binary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub ..⟩

theorem line_sub : (line (F := F)).Forall fun op => op.bufs ⊆ tcRefs τ sig := by
  simp only [line, List.forall_append]
  exact ⟨line_part0_sub, line_part1_sub, line_part2_sub, line_part3_sub, line_part4_sub⟩

theorem no_scoped_refs : (Finset.univ.filter fun b : Ref sig .tc => b.isScoped) = ∅ := by decide
theorem no_scoped_sems : (Finset.univ.filter fun sm : SemLoc sig => sm.isScoped .tc) = ∅ := by decide

/-- What every buffer holds at the end. -/
abbrev fin (m : (ℓ : Loc nD τ sig) → Buf (Elt F) ℓ) (c : Dev nD) : Valuation τ sig (Elt F) := after line (launchContents m c)

/-- The reference terminates with every buffer at `fin` and every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ (c : Dev nD) (b : Ref sig .tc), r.2.mem ((c.tc : Thread nD τ).loc b) = fin m c (Proc.devRef .tc b)) ∧ r.2.sem = fun _ => 0) :=
  (θ_run defs _ _).mono (fun r h => ⟨h, sem_eq_zero_of_no_sems (by decide) r.2⟩)
    (run_seq no_scoped_refs no_scoped_sems defs main (fun _ => line) main_eq (fun _ => line_sub) m ρ
      fun _ => List.forall_iff_forall_mem.mp (forall_fresh_of_map line_fresh))

/-- A buffer no operation writes is as launched. -/
theorem fin_keep (m : (ℓ : Loc nD τ sig) → Buf (Elt F) ℓ) (c : Dev nD) (r : Ref sig .tc) (h : r ∉ written) :
    fin m c (Proc.devRef .tc r) = m ((c.tc : Thread nD τ).loc r) :=
  after_of_writes_sub line _ (forall_writes_sub_of_map line_writes) h

end Cert.Plain

end
-- ==== Proof.Frames.lean ====
/- The frames: every program runs to its end, leaves its arguments as launched and every counter at zero. -/
module

public import proofs.«01_k».proof.Defs
public import proofs.«01_k».proof.Proof.Gen.Kernel
public import proofs.«01_k».proof.Proof.Run
public import proofs.«01_k».proof.Proof.RefOps
public import Idealize.ShloMosaic.Lib.Ring
public import Idealize.ShloMosaic.Lib.Tactic

@[expose] public section

noncomputable section

namespace Cert.Frames

open Idealize.ShloMosaic Idealize.SL.Sem

section AnyFloats

open Cert.KernelIdeal

variable (F : FTy → Type) [FloatOps F] [Named F]

/-- The kernel's frame, for any float values. -/
def FrameAt : Prop := ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

theorem frameAt : FrameAt F := fun m g _ =>
  (θ_run (defs (F := F)) _ _).mono (fun _ h => ⟨fun c => ⟨(h.1 c).1, (h.1 c).2.1, (h.1 c).2.2.1, (h.1 c).2.2.2.1⟩, h.2⟩) (Cert.Focal.run (F := F) m g)

end AnyFloats

theorem frame_ideal : Cert.quiescent_KernelIdeal := fun m g _ => frameAt Ideal m g trivial

section Named

/-- A named constant read as its printed word. -/
@[instance_reducible] def namedBits : Named Bits := ⟨fun _ _ φ w => FloatOps.ofBits φ w⟩

attribute [local instance] namedBits

set_option maxRecDepth 100000 in
theorem frame_kernel_eq : Cert.quiescent_Kernel = FrameAt Bits := by sl_kernel_rfl

/-- The printed kernel is the idealized one over machine words, its two named constants read as their words. -/
theorem frame_kernel : Cert.quiescent_Kernel := frame_kernel_eq ▸ frameAt Bits

end Named

theorem frame_reference : Cert.quiescent_ReferenceIdeal := fun m g _ =>
  (θ_run (Cert.ReferenceIdeal.defs (F := Ideal)) _ _).mono (fun _ h => ⟨fun c =>
    ⟨(h.1 c _).trans (Cert.Plain.fin_keep m c _ (by decide)), (h.1 c _).trans (Cert.Plain.fin_keep m c _ (by decide)),
     (h.1 c _).trans (Cert.Plain.fin_keep m c _ (by decide)), (h.1 c _).trans (Cert.Plain.fin_keep m c _ (by decide))⟩, h.2⟩)
    (Cert.Plain.run m g)

theorem preserves : Cert.preserves_Kernel_KernelIdeal :=
  ⟨IdealRules.named_const.statement Cert.KernelIdeal.κ "inv_ln2" .f32 0x3FB8AA3B#32 (((Real.log 2)⁻¹ : ℝ) : EReal) rfl,
   IdealRules.named_const.statement Cert.KernelIdeal.κ "neg_w_ln2" .f32 0xBF051592#32 ((-((3 / 4) * (Real.log 2)) : ℝ) : EReal) rfl⟩

end Cert.Frames

end
-- ==== Proof.Detect.lean ====
/- The detection loss over the extended reals, in plain words: the overlap of an anchor with a box, the first box of greatest
   overlap, the regression targets and their smooth error, and the focal loss of one anchor's scores. -/
module

public import Idealize.ShloMosaic.PureOps.Ideal
public import Idealize.ShloMosaic.PureOps.Ideal.Laws

@[expose] public section

noncomputable section

namespace Cert.Detect

open Idealize.ShloMosaic

/-- The area an anchor (top, left, bottom, right) shares with a box (left, top, right, bottom, label). -/
def inter (a : Fin 4 → EReal) (b : Fin 5 → EReal) : EReal :=
  max (min (a 3) (b 2) - max (a 1) (b 0)) 0 * max (min (a 2) (b 3) - max (a 0) (b 1)) 0

/-- The overlap of an anchor with a box: the shared area over the area of both together. -/
def iou (a : Fin 4 → EReal) (b : Fin 5 → EReal) : EReal :=
  Ideal.div (inter a b)
    (max ((a 2 - a 0) * (a 3 - a 1) + (b 2 - b 0) * (b 3 - b 1) - inter a b) (Ideal.ofBits .f32 0x322BCC77#32))

/-- The first of the places `0 … n` with the greatest value. -/
def top (f : Fin 32 → EReal) (n : ℕ) : Fin 32 :=
  Nat.rec 0 (fun n i => if f i < f (Fin.ofNat 32 (n + 1)) then Fin.ofNat 32 (n + 1) else i) n

theorem top_succ (f : Fin 32 → EReal) (n : ℕ) :
    top f (n + 1) = if f (top f n) < f (Fin.ofNat 32 (n + 1)) then Fin.ofNat 32 (n + 1) else top f n := rfl

/-- The place found is among the places passed, no value passed is greater, and every value before the place is less. -/
theorem top_spec (f : Fin 32 → EReal) (n : ℕ) (hn : n < 32) :
    (top f n).val ≤ n ∧ (∀ j : Fin 32, j.val ≤ n → f j ≤ f (top f n)) ∧ ∀ j : Fin 32, j < top f n → f j < f (top f n) := by
  induction n with
  | zero =>
    refine ⟨Nat.le_refl _, fun j hj => ?_, fun j hj => absurd hj (Nat.not_lt_zero _)⟩
    have : j = top f 0 := Fin.ext (Nat.le_zero.mp hj)
    rw [this]
  | succ n ih =>
    obtain ⟨h1, h2, h3⟩ := ih (by omega)
    have hv : (Fin.ofNat 32 (n + 1)).val = n + 1 := Nat.mod_eq_of_lt hn
    rw [top_succ]
    by_cases h : f (top f n) < f (Fin.ofNat 32 (n + 1))
    · rw [if_pos h]
      refine ⟨hv.le, fun j hj => ?_, fun j hj => ?_⟩
      · rcases Nat.lt_or_ge j.val (n + 1) with hlt | hge
        · exact (h2 j (by omega)).trans h.le
        · rw [show j = Fin.ofNat 32 (n + 1) from Fin.ext (by omega)]
      · exact (h2 j (by have : j.val < (Fin.ofNat 32 (n + 1)).val := hj; omega)).trans_lt h
    · rw [if_neg h]
      refine ⟨by omega, fun j hj => ?_, h3⟩
      rcases Nat.lt_or_ge j.val (n + 1) with hlt | hge
      · exact h2 j (by omega)
      · rw [show j = Fin.ofNat 32 (n + 1) from Fin.ext (by omega)]
        exact not_lt.mp h

/-- The box an anchor is matched to: the first of greatest overlap. -/
def hit (a : Fin 4 → EReal) (bs : Fin 32 → Fin 5 → EReal) : Fin 32 := top (fun j => iou a (bs j)) 31

/-- The overlap with that box. -/
def score (a : Fin 4 → EReal) (bs : Fin 32 → Fin 5 → EReal) : EReal := iou a (bs (hit a bs))

/-- No box overlaps the anchor by more, and every box before it by less. -/
theorem hit_spec (a : Fin 4 → EReal) (bs : Fin 32 → Fin 5 → EReal) :
    (∀ j, iou a (bs j) ≤ score a bs) ∧ ∀ j, j < hit a bs → iou a (bs j) < score a bs := by
  unfold score hit
  have h := top_spec (fun j => iou a (bs j)) 31 (by decide)
  exact ⟨fun j => h.2.1 j (by omega), h.2.2⟩

attribute [irreducible] hit

/-- A positive anchor overlaps its box by one half or more. -/
def Pos (a : Fin 4 → EReal) (bs : Fin 32 → Fin 5 → EReal) : Prop := Ideal.ofBits .f32 0x3F000000#32 ≤ score a bs

/-- An anchor of clear background overlaps every box by less than two fifths. -/
def Bg (a : Fin 4 → EReal) (bs : Fin 32 → Fin 5 → EReal) : Prop := score a bs < Ideal.ofBits .f32 0x3ECCCCCD#32

/-- The smooth absolute error. -/
def smooth (t r : EReal) : EReal :=
  if max (t - r) (-(t - r)) ≤ Ideal.ofBits .f32 0x3DE38E39#32 then
    Ideal.ofBits .f32 0x40900000#32 * max (t - r) (-(t - r)) * max (t - r) (-(t - r))
  else max (t - r) (-(t - r)) - Ideal.ofBits .f32 0x3D638E39#32

/-- The offset of a box's centre from an anchor's, by the anchor's extent. -/
def centre (lo hi p q : EReal) : EReal :=
  Ideal.div (p + Ideal.ofBits .f32 0x3F000000#32 * (q - p) - (lo + Ideal.ofBits .f32 0x3F000000#32 * (hi - lo))) (hi - lo)

/-- The logarithm of a box's extent (at least one) over an anchor's. -/
def extent (lo hi p q : EReal) : EReal := Ideal.log (Ideal.div (max (q - p) 1) (hi - lo))

/-- The smooth error of an anchor's four regressions against its box. -/
def regErr (a : Fin 4 → EReal) (g : Fin 5 → EReal) (r : Fin 4 → EReal) : EReal :=
  smooth (centre (a 0) (a 2) (g 1) (g 3)) (r 0) + smooth (centre (a 1) (a 3) (g 0) (g 2)) (r 1)
    + smooth (extent (a 0) (a 2) (g 1) (g 3)) (r 2) + smooth (extent (a 1) (a 3) (g 0) (g 2)) (r 3)

open Classical in
/-- The regression error that counts: that of a positive anchor. -/
def regTerm (a : Fin 4 → EReal) (bs : Fin 32 → Fin 5 → EReal) (r : Fin 4 → EReal) : EReal :=
  if Pos a bs then regErr a (bs (hit a bs)) r else 0

open Classical in
/-- One for a positive anchor. -/
def posTerm (a : Fin 4 → EReal) (bs : Fin 32 → Fin 5 → EReal) : EReal := if Pos a bs then 1 else 0

open Classical in
/-- The code of an anchor: one if it counts, plus twice one more than the label of a positive one. -/
def code (a : Fin 4 → EReal) (bs : Fin 32 → Fin 5 → EReal) : EReal :=
  (if Bg a bs ∨ Pos a bs then 1 else 0)
    + (if Pos a bs then Ideal.ofBits .f32 0x40000000#32 * (bs (hit a bs) 4 + 1) else 0)

end Cert.Detect

end
-- ==== Proof.Words.lean ====
/- The float constants of the two programs as the reals they denote. -/
module

public import Idealize.ShloMosaic.PureOps.Ideal
public import Idealize.ShloMosaic.PureOps.Ideal.Laws

@[expose] public section

noncomputable section

namespace Cert.Words

open Idealize.ShloMosaic

theorem half : Ideal.ofBits .f32 0x3F000000#32 = ((1 / 2 : ℝ) : EReal) := by
  simp [Ideal.ofBits, Ideal.ieee, -EReal.coe_mul, -EReal.coe_neg]; norm_num

theorem quarter : Ideal.ofBits .f32 0x3E800000#32 = ((1 / 4 : ℝ) : EReal) := by
  simp [Ideal.ofBits, Ideal.ieee, -EReal.coe_mul, -EReal.coe_neg]; norm_num

theorem threeQuarters : Ideal.ofBits .f32 0x3F400000#32 = ((3 / 4 : ℝ) : EReal) := by
  simp [Ideal.ofBits, Ideal.ieee, -EReal.coe_mul, -EReal.coe_neg]; norm_num

theorem two : Ideal.ofBits .f32 0x40000000#32 = ((2 : ℝ) : EReal) := by
  simp [Ideal.ofBits, Ideal.ieee, -EReal.coe_mul, -EReal.coe_neg]; norm_num

theorem minusOne : Ideal.ofBits .f32 0xBF800000#32 = ((-1 : ℝ) : EReal) := by
  simp [Ideal.ofBits, Ideal.ieee, -EReal.coe_mul, -EReal.coe_neg]; norm_num

theorem hi : Ideal.ofBits .f32 0x3F7FF972#32 = ((16775538 / 16777216 : ℝ) : EReal) := by
  simp [Ideal.ofBits, Ideal.ieee, -EReal.coe_mul, -EReal.coe_neg]; norm_num

theorem lo : Ideal.ofBits .f32 0x38D1B717#32 = ((13743895 / 137438953472 : ℝ) : EReal) := by
  simp [Ideal.ofBits, Ideal.ieee, -EReal.coe_mul, -EReal.coe_neg]; norm_num

theorem last : Ideal.ofBits .f32 0x42B20000#32 = ((89 : ℝ) : EReal) := by
  simp [Ideal.ofBits, Ideal.ieee, -EReal.coe_mul, -EReal.coe_neg]; norm_num

end Cert.Words

end
-- ==== Proof.FocalSpec.lean ====
/- The focal loss of one score in plain words, its target, and the two means the programs return. -/
module

public import proofs.«01_k».proof.Proof.Detect
public import proofs.«01_k».proof.Proof.Words

@[expose] public section

noncomputable section

namespace Cert.Detect

open Idealize.ShloMosaic

/-- A score held within the two bounds. -/
def held (x : EReal) : EReal := min (Ideal.ofBits .f32 0x3F7FF972#32) (max (Ideal.ofBits .f32 0x38D1B717#32) x)

/-- The focal loss of a score `s` against a target `t`. -/
def focal (t s : EReal) : EReal :=
  if t ≠ Ideal.ofBits .f32 0xBF800000#32 then
    (if t = 1 then Ideal.ofBits .f32 0x3E800000#32 else Ideal.ofBits .f32 0x3F400000#32)
      * Ideal.pow (if t = 1 then 1 - s else s) (Ideal.ofBits .f32 0x40000000#32)
      * -(t * Ideal.log (held s) + (1 - t) * Ideal.log (held (1 - s)))
  else 0

open Classical in
/-- The target of class `k` of an anchor: one for the label of a positive one, minus one for an ignored one, zero else. -/
def target (a : Fin 4 → EReal) (bs : Fin 32 → Fin 5 → EReal) (k : Fin 90) : EReal :=
  if Pos a bs then (if Ideal.fptosi 32 (bs (hit a bs) 4) = BitVec.ofNat 32 k.val then 1 else 0)
  else if Bg a bs then 0 else Ideal.ofBits .f32 0xBF800000#32

/-- The first result: the mean over samples of each sample's loss over its positives. -/
def meanCls (w p : Fin 8 → EReal) : EReal := Ideal.div (∑ b, Ideal.div (w b) (max (p b) 1)) (Ideal.ofBits .f32 0x41000000#32)

/-- The second result. -/
def meanReg (w p : Fin 8 → EReal) : EReal :=
  Ideal.div (∑ b, Ideal.div (w b) (max (p b * Ideal.ofBits .f32 0x40800000#32) 1)) (Ideal.ofBits .f32 0x41000000#32) * Ideal.ofBits .f32 0x42480000#32

end Cert.Detect

end
-- ==== Proof.FocalMath.lean ====
/- The focal loss of one anchor: the reference's sum over the classes is the kernel's dense term and its correction at the label. -/
module

public import proofs.«01_k».proof.Proof.FocalSpec
public import Idealize.ShloMosaic.PureOps.IdealRules

@[expose] public section

noncomputable section

namespace Cert.Detect

open Idealize.ShloMosaic

/-- A finite sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A score the precondition admits. -/
def Good (x : ℝ) : Prop := 1678 / 16777216 ≤ x ∧ x ≤ 16775538 / 16777216

theorem Good.one_sub {x : ℝ} (h : Good x) : Good (1 - x) := by
  unfold Good at *
  constructor <;> linarith [h.1, h.2]

theorem Good.pos {x : ℝ} (h : Good x) : 0 < x := lt_of_lt_of_le (by norm_num) h.1

theorem one_sub_coe (x : ℝ) : (1 : EReal) - (x : EReal) = ((1 - x : ℝ) : EReal) := by norm_cast

/-- Holding a good score within the bounds changes nothing. -/
theorem held_good {x : ℝ} (h : Good x) : held (x : EReal) = x := by
  unfold held
  rw [Words.hi, Words.lo, max_eq_right (EReal.coe_le_coe_iff.mpr (le_trans (by norm_num) h.1)), min_eq_right (EReal.coe_le_coe_iff.mpr h.2)]

theorem log_good {x : ℝ} (h : Good x) : Ideal.log (x : EReal) = (Real.log x : ℝ) := by
  show (if x ≤ 0 then (⊥ : EReal) else (Real.log x : ℝ)) = _
  rw [if_neg (not_le.mpr h.pos)]

theorem pow_two (x : ℝ) : Ideal.pow (x : EReal) (Ideal.ofBits .f32 0x40000000#32) = ((x * x : ℝ) : EReal) := by
  rw [Words.two]
  show ((x ^ (2 : ℝ) : ℝ) : EReal) = _
  rw [Real.rpow_two, sq]

/-- The loss of a class that is not the label. -/
def offR (x : ℝ) : ℝ := 3 / 4 * (x * x) * -Real.log (1 - x)

/-- The loss of the label's class. -/
def onR (x : ℝ) : ℝ := 1 / 4 * ((1 - x) * (1 - x)) * -Real.log x

theorem focal_off {x : ℝ} (h : Good x) : focal 0 (x : EReal) = (offR x : ℝ) := by
  unfold focal offR
  have h1 : (0 : EReal) ≠ Ideal.ofBits .f32 0xBF800000#32 := by rw [Words.minusOne]; exact_mod_cast (by norm_num : (0 : ℝ) ≠ -1)
  rw [if_pos h1, if_neg zero_ne_one, if_neg zero_ne_one, Words.threeQuarters, pow_two, one_sub_coe, held_good h, held_good h.one_sub,
    log_good h, log_good h.one_sub, zero_mul, zero_add, sub_zero, one_mul]
  norm_cast

theorem focal_on {x : ℝ} (h : Good x) : focal 1 (x : EReal) = (onR x : ℝ) := by
  unfold focal onR
  have h1 : (1 : EReal) ≠ Ideal.ofBits .f32 0xBF800000#32 := by rw [Words.minusOne]; exact_mod_cast (by norm_num : (1 : ℝ) ≠ -1)
  have h2 : (1 : EReal) - 1 = 0 := by
    rw [← EReal.coe_one, ← EReal.coe_sub, sub_self, EReal.coe_zero]
  rw [if_pos h1, if_pos rfl, if_pos rfl, Words.quarter, one_sub_coe, pow_two, held_good h, held_good h.one_sub,
    log_good h, log_good h.one_sub, h2, zero_mul, add_zero, one_mul]
  norm_cast

theorem focal_ignored (x : EReal) : focal (Ideal.ofBits .f32 0xBF800000#32) x = 0 := by
  unfold focal
  rw [if_neg (not_not.mpr rfl)]

theorem clamped_coe (l u : Int) (r : ℝ) : Ideal.toIntClamped l u (r : EReal) = max l (min u (if 0 ≤ r then ⌊r⌋ else ⌈r⌉)) := rfl

/-- A natural number converts to itself as a 32-bit integer. -/
theorem fptosi_nat (n : ℕ) (hn : n < 1000) : Ideal.fptosi 32 (((n : ℝ)) : EReal) = BitVec.ofNat 32 n := by
  unfold Ideal.fptosi
  rw [clamped_coe, if_pos (Nat.cast_nonneg n), Int.floor_natCast, min_eq_right (by norm_num; omega), max_eq_right (by norm_num)]
  exact BitVec.ofInt_natCast ..

/-- The kernel's dense term of one anchor, from its code and its scores. -/
def negOf (e : EReal) (p : Fin 90 → EReal) : EReal :=
  FloatOps.sitofp (F := Ideal) .f32 (IntOp.andi (Ideal.fptosi 32 e) 1#32) * ∑ k, p k * p k * (Ideal.log (1 - p k) * ((Real.log 2)⁻¹ : ℝ))

/-- The score at an anchor's label. -/
def pickOf (e : EReal) (p : Fin 90 → EReal) : EReal :=
  Scalar.select (IntOp.cmpi .sgt (IntOp.shrsi .vector (Ideal.fptosi 32 e) 1#32) 0#32)
    (∑ k : Fin 90, Scalar.select (IntOp.cmpi .eq (BitVec.ofNat 32 k.val) (IntOp.subi (IntOp.shrsi .vector (Ideal.fptosi 32 e) 1#32) 1#32)) (p k) 0)
    (Ideal.ofBits .f32 0x3F000000#32)

/-- The correction at the label from a score. -/
def fixOf (q : EReal) : EReal :=
  Ideal.ofBits .f32 0x3E800000#32 * (1 - q) * (1 - q) * (0 - Ideal.log q)
    - Ideal.ofBits .f32 0x3F400000#32 * q * q * (0 - Ideal.log (1 - q))

/-- The kernel's correction of one anchor. -/
def corrOf (e : EReal) (p : Fin 90 → EReal) : EReal :=
  Scalar.select (IntOp.cmpi .sgt (IntOp.shrsi .vector (Ideal.fptosi 32 e) 1#32) 0#32) (fixOf (pickOf e p)) 0

/-- The bits of a code: an anchor that counts, -/
theorem code_low (L : Fin 90) : IntOp.andi (BitVec.ofNat 32 (2 * L.val + 3)) 1#32 = 1#32 := by revert L; decide
/-- that it is positive, -/
theorem code_pos (L : Fin 90) : IntOp.cmpi .sgt (IntOp.shrsi .vector (BitVec.ofNat 32 (2 * L.val + 3)) 1#32) 0#32 = 1#1 := by revert L; decide
/-- and its label. -/
theorem code_label (L : Fin 90) : IntOp.subi (IntOp.shrsi .vector (BitVec.ofNat 32 (2 * L.val + 3)) 1#32) 1#32 = BitVec.ofNat 32 L.val := by
  revert L; decide

theorem label_eq (k L : Fin 90) : IntOp.cmpi .eq (BitVec.ofNat 32 k.val) (BitVec.ofNat 32 L.val) = BitVec.ofBool (decide (k = L)) := by
  unfold IntOp.cmpi
  refine congrArg BitVec.ofBool ?_
  show decide _ = _
  refine decide_eq_decide.mpr ⟨fun h => Fin.ext ?_, fun h => by rw [h]⟩
  have := congrArg BitVec.toNat h
  simp only [BitVec.toNat_ofNat] at this
  omega

/-- The kernel's dense sum over good scores. -/
theorem dense_good (x : Fin 90 → ℝ) (h : ∀ k, Good (x k)) :
    ∑ k, (x k : EReal) * (x k : EReal) * (Ideal.log (1 - (x k : EReal)) * ((Real.log 2)⁻¹ : ℝ))
      = ((∑ k, x k * x k * (Real.log (1 - x k) * (Real.log 2)⁻¹) : ℝ) : EReal) := by
  rw [← coe_sum]
  refine Finset.sum_congr rfl fun k _ => ?_
  rw [one_sub_coe, log_good (h k).one_sub]
  norm_cast

theorem sitofp_one : (FloatOps.sitofp .f32 (1#32) : Ideal .f32) = 1 := by
  show (((1#32 : BitVec 32).toInt : ℝ) : EReal) = 1
  norm_num

theorem sitofp_zero : (FloatOps.sitofp .f32 (0#32) : Ideal .f32) = 0 := by
  show (((0#32 : BitVec 32).toInt : ℝ) : EReal) = 0
  norm_num

theorem fix_good {x : ℝ} (h : Good x) : fixOf (x : EReal) = ((onR x - offR x : ℝ) : EReal) := by
  unfold fixOf onR offR
  rw [Words.quarter, Words.threeQuarters, one_sub_coe, log_good h, log_good h.one_sub, zero_sub, zero_sub]
  rw [show (1 / 4 * ((1 - x) * (1 - x)) * -Real.log x - 3 / 4 * (x * x) * -Real.log (1 - x) : ℝ)
    = 1 / 4 * (1 - x) * (1 - x) * -Real.log x - 3 / 4 * x * x * -Real.log (1 - x) by ring]
  norm_cast

/-- Minus three quarters of the logarithm of two. -/
def negW : ℝ := -(3 / 4 * Real.log 2)

theorem negW_dense (x : Fin 90 → ℝ) : negW * ∑ k, x k * x k * (Real.log (1 - x k) * (Real.log 2)⁻¹) = ∑ k, offR (x k) := by
  rw [Finset.mul_sum]
  refine Finset.sum_congr rfl fun k _ => ?_
  have h2 : Real.log 2 ≠ 0 := (Real.log_pos (by norm_num)).ne'
  unfold negW offR
  field_simp

/-- One row: both sides are reals, and the classes' losses are the weighted dense term plus the correction. -/
theorem row (a : Fin 4 → EReal) (bs : Fin 32 → Fin 5 → EReal) (x : Fin 90 → ℝ) (h : ∀ k, Good (x k))
    (hl : ∃ L : Fin 90, bs (hit a bs) 4 = ((L.val : ℝ) : EReal)) :
    ∃ u v : ℝ, negOf (code a bs) (fun k => x k) = u ∧ corrOf (code a bs) (fun k => x k) = v
      ∧ ∑ k, focal (target a bs k) (held (x k)) = ((negW * u + v : ℝ) : EReal) := by
  obtain ⟨L, hL⟩ := hl
  simp only [held_good (h _)]
  by_cases hp : Pos a bs
  · have hc : code a bs = (((2 * L.val + 3 : ℕ) : ℝ) : EReal) := by
      unfold code
      rw [if_pos (Or.inr hp), if_pos hp, hL, Words.two]
      rw [show (((2 * L.val + 3 : ℕ) : ℝ)) = 1 + 2 * ((L.val : ℝ) + 1) by push_cast; ring]
      norm_cast
    have hf : Ideal.fptosi 32 (code a bs) = BitVec.ofNat 32 (2 * L.val + 3) := by rw [hc, fptosi_nat _ (by omega)]
    refine ⟨∑ k, x k * x k * (Real.log (1 - x k) * (Real.log 2)⁻¹), onR (x L) - offR (x L), ?_, ?_, ?_⟩
    · unfold negOf
      rw [hf, code_low, sitofp_one, dense_good x h, one_mul]
    · have hq : pickOf (code a bs) (fun k => (x k : EReal)) = x L := by
        unfold pickOf
        rw [hf, code_pos, code_label]
        show (∑ k : Fin 90, Scalar.select (IntOp.cmpi .eq (BitVec.ofNat 32 k.val) (BitVec.ofNat 32 L.val)) (x k : EReal) 0) = _
        rw [Finset.sum_eq_single L]
        · rw [label_eq, decide_eq_true rfl]; rfl
        · intro k _ hk
          rw [label_eq, decide_eq_false hk]; rfl
        · intro h; exact absurd (Finset.mem_univ L) h
      unfold corrOf
      rw [hq, hf, code_pos, fix_good (h L)]
      rfl
    · have ht : ∀ k, focal (target a bs k) (x k) = ((offR (x k) + if k = L then onR (x L) - offR (x L) else 0 : ℝ) : EReal) := by
        intro k
        unfold target
        rw [if_pos hp, hL, fptosi_nat _ (by omega)]
        by_cases hk : k = L
        · subst hk
          rw [if_pos rfl, if_pos rfl, focal_on (h k)]
          congr 1; ring
        · have : ¬ BitVec.ofNat 32 L.val = BitVec.ofNat 32 k.val := by
            intro e
            have := congrArg BitVec.toNat e
            simp only [BitVec.toNat_ofNat] at this
            exact hk (Fin.ext (by omega))
          rw [if_neg this, if_neg hk, focal_off (h k), add_zero]
      simp only [ht]
      rw [coe_sum, Finset.sum_add_distrib, Finset.sum_ite_eq' Finset.univ L, if_pos (Finset.mem_univ _), negW_dense]
  · by_cases hb : Bg a bs
    · have hc : code a bs = (((1 : ℕ) : ℝ) : EReal) := by
        unfold code
        rw [if_pos (Or.inl hb), if_neg hp, add_zero]
        norm_cast
      have hf : Ideal.fptosi 32 (code a bs) = 1#32 := by rw [hc, fptosi_nat _ (by omega)]
      refine ⟨∑ k, x k * x k * (Real.log (1 - x k) * (Real.log 2)⁻¹), 0, ?_, ?_, ?_⟩
      · unfold negOf
        rw [hf, show IntOp.andi 1#32 1#32 = 1#32 by decide, sitofp_one, dense_good x h, one_mul]
      · unfold corrOf
        rw [hf, show IntOp.cmpi .sgt (IntOp.shrsi .vector 1#32 1#32) 0#32 = 0#1 by decide]
        rfl
      · simp only [target, if_neg hp, if_pos hb, focal_off (h _)]
        rw [coe_sum, negW_dense, add_zero]
    · have hc : code a bs = (((0 : ℕ) : ℝ) : EReal) := by
        unfold code
        rw [if_neg (not_or.mpr ⟨hb, hp⟩), if_neg hp, add_zero]
        norm_cast
      have hf : Ideal.fptosi 32 (code a bs) = 0#32 := by rw [hc, fptosi_nat _ (by omega)]
      refine ⟨0, 0, ?_, ?_, ?_⟩
      · unfold negOf
        rw [hf, show IntOp.andi 0#32 1#32 = 0#32 by decide, sitofp_zero, zero_mul]
        rfl
      · unfold corrOf
        rw [hf, show IntOp.cmpi .sgt (IntOp.shrsi .vector 0#32 1#32) 0#32 = 0#1 by decide]
        rfl
      · simp only [target, if_neg hp, if_neg hb, focal_ignored, Finset.sum_const_zero]
        norm_num

/-- A padding row adds nothing. -/
theorem row_padding (p : Fin 90 → EReal) : negOf 0 p = 0 ∧ corrOf 0 p = 0 := by
  have hf : Ideal.fptosi 32 0 = 0#32 := by
    have := fptosi_nat 0 (by omega)
    simpa using this
  constructor
  · unfold negOf
    rw [hf, show IntOp.andi 0#32 1#32 = 0#32 by decide, sitofp_zero, zero_mul]
  · unfold corrOf
    rw [hf, show IntOp.cmpi .sgt (IntOp.shrsi .vector 0#32 1#32) 0#32 = 0#1 by decide]
    rfl

end Cert.Detect

end
-- ==== Proof.FocalRead.lean ====
/- The focal region's values, read at an index: what a block adds is the weighted dense terms and the corrections of its rows. -/
module

public import proofs.«01_k».proof.Proof.FocalData
public import proofs.«01_k».proof.Proof.FocalMath
public import Idealize.ShloMosaic.Lib.Pointwise

@[expose] public section

set_option maxRecDepth 16384

noncomputable section

namespace Cert.Focal

open Cert.KernelIdeal Cert.KernelIdeal.Gen Cert.Detect
open Idealize.ShloMosaic Idealize.ShloMosaic.TcCoe

theorem weight_eq : (Named.named κ "neg_w_ln2" 3204781458#32 : Ideal .f32) = ((negW : ℝ) : EReal) := by
  rw [IdealRules.named_const.ideal_named_scalar _ _ _ _ rfl]
  rfl

theorem inverse_eq : (Named.named κ "inv_ln2" 1069066811#32 : Ideal .f32) = (((Real.log 2)⁻¹ : ℝ) : EReal) := by
  rw [IdealRules.named_const.ideal_named_scalar _ _ _ _ rfl]

/-- The code of row `r` and its scores. -/
abbrev rowP (i : grid1.Coords) (x0 : Vec Ideal S1x16384x90 .f32) (r : Fin 16384) (k : Fin 90) : EReal := k1_pay2 i x0 (ix2 r k)

theorem dense_apply (i : grid1.Coords) (x0 : Vec Ideal S1x16384x90 .f32) (x1 : Vec Ideal S1x16384x1 .f32) :
    k1_pay6 i x0 x1 = ∑ r : Fin 16384, negOf (x1 (ix3 0 r 0)) (rowP i x0 r) := by
  unfold k1_pay6 rowP
  generalize k1_pay2 i x0 = p
  pointwise [k1_pay3]
  simp only [Fin.sum_univ_one, inverse_eq]
  rfl

theorem block_apply (i : grid1.Coords) (x0 : Vec Ideal S1x16384x90 .f32) (x1 : Vec Ideal S1x16384x1 .f32) :
    focalV i x0 x1 (ix3 0 0 0) = (negW : ℝ) * ∑ r : Fin 16384, negOf (x1 (ix3 0 r 0)) (rowP i x0 r)
      + ∑ r : Fin 16384, corrOf (x1 (ix3 0 r 0)) (rowP i x0 r) := by
  unfold focalV
  rw [dense_apply]
  generalize ∑ r : Fin 16384, negOf (x1 (ix3 0 r 0)) (rowP i x0 r) = d
  unfold rowP
  generalize k1_pay2 i x0 = p
  pointwise [k1_pay8, k1_pay7, k1_pay5, k1_pay4, k1_pay3]
  simp only [Fin.sum_univ_one, weight_eq]
  rfl

theorem add_apply (x y : Vec Ideal S1x1x128 .f32) : k1_pay1 x y (ix3 0 0 0) = y (ix3 0 0 0) + x (ix3 0 0 0) := by
  pointwise [k1_pay1]

end Cert.Focal

end
-- ==== Proof.MatchRead.lean ====
/- What the match kernel leaves of one anchor, read as the plain detection loss. -/
module

public import proofs.«01_k».proof.Proof.MatchFold
public import proofs.«01_k».proof.Proof.Detect
public import Idealize.ShloMosaic.Lib.Pointwise

@[expose] public section

set_option maxRecDepth 16384

noncomputable section

namespace Cert.Focal

open Cert.KernelIdeal Cert.KernelIdeal.Gen Cert.Detect
open Idealize.ShloMosaic

/-- The four corners of the anchor at row `r` and lane `l`. -/
def corner (x0 : Vec Ideal S4x384x128 .f32) (r : Fin 384) (l : Fin 128) (k : Fin 4) : EReal := x0 (ix3 k r l)

/-- The four regressions of that anchor. -/
def regress (x1 : Vec Ideal S1x4x384x128 .f32) (r : Fin 384) (l : Fin 128) (k : Fin 4) : EReal := x1 (ix4 0 k r l)

/-- The boxes of the sample. -/
def boxes (x2 : Vec Ideal S1x5x32 .f32) (j : Fin 32) (k : Fin 5) : EReal := x2 (ix3 0 k j)

theorem plane_apply (x0 : Vec Ideal S4x384x128 .f32) (k : Fin 4) (r : Fin 384) (l : Fin 128) :
    plane x0 k (ix2 r l) = corner x0 r l k := by
  pointwise [plane, corner]

theorem regPlane_apply (x1 : Vec Ideal S1x4x384x128 .f32) (k : Fin 4) (r : Fin 384) (l : Fin 128) :
    regPlane x1 k (ix2 r l) = regress x1 r l k := by
  pointwise [regPlane, regress]

theorem field_apply (x2 : Vec Ideal S1x5x32 .f32) (j : Fin 32) (k : Fin 5) : field x2 j k = boxes x2 j k := by
  pointwise [field, boxes]

theorem area_apply (x0 : Vec Ideal S4x384x128 .f32) (r : Fin 384) (l : Fin 128) :
    areaV x0 (ix2 r l) = (corner x0 r l 2 - corner x0 r l 0) * (corner x0 r l 3 - corner x0 r l 1) := by
  pointwise [areaV]
  simp only [plane_apply]

theorem overlap_apply (x0 : Vec Ideal S4x384x128 .f32) (b : Fin 5 → Ideal .f32) (r : Fin 384) (l : Fin 128) :
    overlap (plane x0 0) (plane x0 1) (plane x0 2) (plane x0 3) (areaV x0) b (ix2 r l) = iou (corner x0 r l) b := by
  pointwise [overlap, cst]
  simp only [plane_apply, area_apply]
  rfl

/-- After boxes `0 … n` the state holds, at each anchor, the first box of greatest overlap so far. -/
theorem upto_apply (x0 : Vec Ideal S4x384x128 .f32) (bs : Fin 32 → Fin 5 → Ideal .f32) (r : Fin 384) (l : Fin 128) (n : ℕ) :
    (Best.upto (plane x0 0) (plane x0 1) (plane x0 2) (plane x0 3) (areaV x0) bs n).iou (ix2 r l)
        = iou (corner x0 r l) (bs (top (fun j => iou (corner x0 r l) (bs j)) n))
      ∧ ∀ k, (Best.upto (plane x0 0) (plane x0 1) (plane x0 2) (plane x0 3) (areaV x0) bs n).fld k (ix2 r l)
        = bs (top (fun j => iou (corner x0 r l) (bs j)) n) k := by
  induction n with
  | zero =>
    refine ⟨overlap_apply x0 (bs 0) r l, fun k => ?_⟩
    show addf (cst 0x00000000#32) (broadcast S384x128 (bs 0 k)) (ix2 r l) = bs 0 k
    pointwise [cst]
  | succ n ih =>
    have hi : (Best.upto (plane x0 0) (plane x0 1) (plane x0 2) (plane x0 3) (areaV x0) bs (n + 1)).iou (ix2 r l)
        = if (Best.upto (plane x0 0) (plane x0 1) (plane x0 2) (plane x0 3) (areaV x0) bs n).iou (ix2 r l)
            < iou (corner x0 r l) (bs (Fin.ofNat 32 (n + 1)))
          then iou (corner x0 r l) (bs (Fin.ofNat 32 (n + 1)))
          else (Best.upto (plane x0 0) (plane x0 1) (plane x0 2) (plane x0 3) (areaV x0) bs n).iou (ix2 r l) := by
      rw [← overlap_apply x0 (bs (Fin.ofNat 32 (n + 1))) r l]
      show select (cmpf .ogt (overlap _ _ _ _ _ (bs (Fin.ofNat 32 (n + 1)))) (Best.iou _)) (overlap _ _ _ _ _ _) (Best.iou _) (ix2 r l) = _
      pointwise []
      rfl
    have hf : ∀ k, (Best.upto (plane x0 0) (plane x0 1) (plane x0 2) (plane x0 3) (areaV x0) bs (n + 1)).fld k (ix2 r l)
        = if (Best.upto (plane x0 0) (plane x0 1) (plane x0 2) (plane x0 3) (areaV x0) bs n).iou (ix2 r l)
            < iou (corner x0 r l) (bs (Fin.ofNat 32 (n + 1)))
          then bs (Fin.ofNat 32 (n + 1)) k
          else (Best.upto (plane x0 0) (plane x0 1) (plane x0 2) (plane x0 3) (areaV x0) bs n).fld k (ix2 r l) := by
      intro k
      rw [← overlap_apply x0 (bs (Fin.ofNat 32 (n + 1))) r l]
      show select (cmpf .ogt (overlap _ _ _ _ _ (bs (Fin.ofNat 32 (n + 1)))) (Best.iou _)) (broadcast _ _) (Best.fld _ k) (ix2 r l) = _
      pointwise []
      rfl
    rw [hi]
    simp only [hf]
    rw [ih.1, top_succ]
    by_cases h : iou (corner x0 r l) (bs (top (fun j => iou (corner x0 r l) (bs j)) n)) < iou (corner x0 r l) (bs (Fin.ofNat 32 (n + 1)))
    · simp only [if_pos h, implies_true, and_self]
    · simp only [if_neg h, true_and]
      exact ih.2

theorem fields_eq (x2 : Vec Ideal S1x5x32 .f32) : field x2 = boxes x2 := funext fun j => funext fun k => field_apply x2 j k

theorem best_iou (x0 : Vec Ideal S4x384x128 .f32) (x2 : Vec Ideal S1x5x32 .f32) (r : Fin 384) (l : Fin 128) :
    (best x0 x2).iou (ix2 r l) = score (corner x0 r l) (boxes x2) := by
  unfold best score hit
  rw [(upto_apply x0 (field x2) r l 31).1, fields_eq]

theorem best_fld (x0 : Vec Ideal S4x384x128 .f32) (x2 : Vec Ideal S1x5x32 .f32) (r : Fin 384) (l : Fin 128) (k : Fin 5) :
    (best x0 x2).fld k (ix2 r l) = boxes x2 (hit (corner x0 r l) (boxes x2)) k := by
  unfold best hit
  rw [(upto_apply x0 (field x2) r l 31).2 k, fields_eq]

theorem smooth_apply (t p : Plane Ideal) (r : Fin 384) (l : Fin 128) :
    smoothV t p (ix2 r l) = smooth (t (ix2 r l)) (p (ix2 r l)) := by
  pointwise [smoothV, cst]
  rfl

theorem centre_apply (lo hi p q : Plane Ideal) (r : Fin 384) (l : Fin 128) :
    centreV lo hi p q (ix2 r l) = centre (lo (ix2 r l)) (hi (ix2 r l)) (p (ix2 r l)) (q (ix2 r l)) := by
  pointwise [centreV, cst]
  rfl

theorem extent_apply (lo hi p q : Plane Ideal) (r : Fin 384) (l : Fin 128) :
    extentV lo hi p q (ix2 r l) = extent (lo (ix2 r l)) (hi (ix2 r l)) (p (ix2 r l)) (q (ix2 r l)) := by
  pointwise [extentV, cst]
  rfl

/-- The regression error of an anchor against its box. -/
theorem reg_apply (x0 : Vec Ideal S4x384x128 .f32) (x1 : Vec Ideal S1x4x384x128 .f32) (x2 : Vec Ideal S1x5x32 .f32) (r : Fin 384)
    (l : Fin 128) :
    regV x0 x1 (best x0 x2) (ix2 r l)
      = regErr (corner x0 r l) (boxes x2 (hit (corner x0 r l) (boxes x2))) (regress x1 r l) := by
  pointwise [regV]
  simp only [smooth_apply, centre_apply, extent_apply, plane_apply, regPlane_apply, best_fld]
  rfl

theorem sitofp_bit (b : Bool) : (FloatOps.sitofp FTy.f32 (BitVec.setWidth 32 (BitVec.ofBool b)) : Ideal .f32) = if b then 1 else 0 := by
  cases b
  · show (((BitVec.setWidth 32 (BitVec.ofBool false)).toInt : ℝ) : EReal) = 0
    rw [show (BitVec.setWidth 32 (BitVec.ofBool false)).toInt = 0 by decide]; simp
  · show (((BitVec.setWidth 32 (BitVec.ofBool true)).toInt : ℝ) : EReal) = 1
    rw [show (BitVec.setWidth 32 (BitVec.ofBool true)).toInt = 1 by decide]; simp

open Classical in
theorem posF_apply (x0 : Vec Ideal S4x384x128 .f32) (x2 : Vec Ideal S1x5x32 .f32) (r : Fin 384) (l : Fin 128) :
    posF (best x0 x2) (ix2 r l) = posTerm (corner x0 r l) (boxes x2) := by
  pointwise [posF, posV, cst]
  rw [best_iou, sitofp_bit]
  simp only [decide_eq_true_eq]
  unfold posTerm Pos
  congr

/-- Whether row `r`, lane `l` of the planes is an anchor proper. -/
abbrev Proper (r : Fin 384) (l : Fin 128) : Prop := 128 * r.val + l.val < 49104

theorem proper_word (r : Fin 384) (l : Fin 128) :
    IntOp.cmpi CmpIPredicate.slt (IntOp.addi (IntOp.muli (BitVec.ofNat 32 r.val) 128#32) (BitVec.ofNat 32 l.val)) 49104#32
      = BitVec.ofBool (decide (Proper r l)) := by
  have hr := r.isLt
  have hl := l.isLt
  rw [show IntOp.muli (BitVec.ofNat 32 r.val) 128#32 = BitVec.ofNat 32 (r.val * 128) from WordCmp.muli_ofNat _ _, WordCmp.addi_ofNat,
    WordCmp.cmpi_slt_ofNat (by omega) (by omega)]
  congr 2
  rw [Nat.mul_comm]

theorem and_bit (a b : Bool) : IntOp.andi (BitVec.ofBool a) (BitVec.ofBool b) = BitVec.ofBool (a && b) := by
  revert a b; decide

theorem or_bit (a b : Bool) : IntOp.ori (BitVec.ofBool a) (BitVec.ofBool b) = BitVec.ofBool (a || b) := by
  revert a b; decide

theorem select_bit {α : Type} (b : Bool) (x y : α) : Scalar.select (BitVec.ofBool b) x y = if b then x else y := by
  cases b <;> rfl

/-- The code from its three facts: clear background, positive, proper. -/
theorem code_bits (a b v : Bool) (x : EReal) :
    (FloatOps.sitofp FTy.f32 (BitVec.setWidth 32 (IntOp.andi (IntOp.ori (BitVec.ofBool a) (BitVec.ofBool b)) (BitVec.ofBool v))) : Ideal .f32)
        + Scalar.select (IntOp.andi (BitVec.ofBool b) (BitVec.ofBool v)) x 0
      = if v then (if a = true ∨ b = true then 1 else 0) + (if b then x else 0) else 0 := by
  rw [or_bit, and_bit, and_bit, sitofp_bit, select_bit]
  cases a <;> cases b <;> cases v <;> simp

open Classical in
/-- The code the match leaves of an anchor: zero in the padding. -/
theorem enc_apply (x0 : Vec Ideal S4x384x128 .f32) (x2 : Vec Ideal S1x5x32 .f32) (r : Fin 384) (l : Fin 128) :
    encV x0 x2 (ix3 0 r l) = if Proper r l then code (corner x0 r l) (boxes x2) else 0 := by
  pointwise [encV, cst, validV, posV]
  rw [best_iou, best_fld, proper_word, code_bits]
  simp only [decide_eq_true_eq]
  unfold code Bg Pos
  congr

theorem sum_apply (v : Plane Ideal) : sumV v = ∑ r : Fin 384, ∑ l : Fin 128, v (ix2 r l) := by
  pointwise [sumV]

open Classical in
theorem posTerm_mul (a : Fin 4 → EReal) (bs : Fin 32 → Fin 5 → EReal) (x : EReal) :
    posTerm a bs * x = if Pos a bs then x else 0 := by
  unfold posTerm
  split_ifs
  · exact one_mul x
  · exact zero_mul x

/-- Two numbers, in lanes 0 and 1. -/
def lanes (x y : Ideal .f32) : FVec Ideal S1x1x128 .f32 :=
  addf
    (select (cmpi .eq (iota .tc S1x1x128 32 [2] iota_S1x1x128_d2_w32) (broadcast S1x1x128 0#32)) (broadcast S1x1x128 x)
      (broadcast S1x1x128 (Scalar.ofBits .f32 0x00000000#32)))
    (select (cmpi .eq (iota .tc S1x1x128 32 [2] iota_S1x1x128_d2_w32) (broadcast S1x1x128 1#32)) (broadcast S1x1x128 y)
      (broadcast S1x1x128 (Scalar.ofBits .f32 0x00000000#32)))

theorem lanes_zero (x y : Ideal .f32) : lanes x y (ix3 0 0 0) = x := by
  pointwise [lanes]
  rw [show IntOp.cmpi CmpIPredicate.eq 0#32 1#32 = BitVec.ofBool false by decide, select_bit]
  simp only [Bool.false_eq_true, if_false, add_zero]

theorem lanes_one (x y : Ideal .f32) : lanes x y (ix3 0 0 1) = y := by
  pointwise [lanes]
  rw [show IntOp.cmpi CmpIPredicate.eq 1#32 0#32 = BitVec.ofBool false by decide, select_bit]
  simp only [Bool.false_eq_true, if_false, zero_add]

theorem part_lanes (x0 : Vec Ideal S4x384x128 .f32) (x1 : Vec Ideal S1x4x384x128 .f32) (x2 : Vec Ideal S1x5x32 .f32) :
    partV x0 x1 x2 = lanes (sumV (mulf (posF (best x0 x2)) (regV x0 x1 (best x0 x2)))) (sumV (posF (best x0 x2))) := rfl

/-- Lane 0 of a sample's sums: the regression error of its positive anchors. -/
theorem part_reg (x0 : Vec Ideal S4x384x128 .f32) (x1 : Vec Ideal S1x4x384x128 .f32) (x2 : Vec Ideal S1x5x32 .f32) :
    partV x0 x1 x2 (ix3 0 0 0) = ∑ r : Fin 384, ∑ l : Fin 128, regTerm (corner x0 r l) (boxes x2) (regress x1 r l) := by
  rw [part_lanes, lanes_zero, sum_apply]
  refine Finset.sum_congr rfl fun r _ => Finset.sum_congr rfl fun l _ => ?_
  show posF (best x0 x2) (ix2 r l) * regV x0 x1 (best x0 x2) (ix2 r l) = _
  rw [posF_apply, reg_apply, posTerm_mul]
  rfl

/-- Lane 1 of a sample's sums: the number of its positive anchors. -/
theorem part_pos (x0 : Vec Ideal S4x384x128 .f32) (x1 : Vec Ideal S1x4x384x128 .f32) (x2 : Vec Ideal S1x5x32 .f32) :
    partV x0 x1 x2 (ix3 0 0 1) = ∑ r : Fin 384, ∑ l : Fin 128, posTerm (corner x0 r l) (boxes x2) := by
  rw [part_lanes, lanes_one, sum_apply]
  refine Finset.sum_congr rfl fun r _ => Finset.sum_congr rfl fun l _ => ?_
  rw [posF_apply]

end Cert.Focal

end
-- ==== Proof.HostRead.lean ====
/- What the host operations hand the two regions, read at an index: the anchor and regression planes, the boxes, the codes. -/
module

public import proofs.«01_k».proof.Proof.Run
public import proofs.«01_k».proof.Proof.Detect
public import Idealize.ShloMosaic.Lib.Pointwise

@[expose] public section

set_option maxRecDepth 16384

noncomputable section

namespace Cert.Focal

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The four argument arrays as launched. -/
def inScores : FVec Ideal S8x49104x90 .f32 := m ((c : Thread nD τ).loc main_arg0)
def inRegs : FVec Ideal S8x49104x4 .f32 := m ((c : Thread nD τ).loc main_arg1)
def inAnchors : FVec Ideal S1x49104x4 .f32 := m ((c : Thread nD τ).loc main_arg2)
def inBoxes : FVec Ideal S8x32x5 .f32 := m ((c : Thread nD τ).loc main_arg3)

/-- The columns of the padding anchors, a unit box at the origin. -/
def padCol : FVec Ideal S4x1 .f32 := fun i => FloatOps.ofBits .f32 (lit0 (S4x1.rowMajor i))

/-- The anchors as four rows. -/
def planeRows (a : FVec Ideal S1x49104x4 .f32) : FVec Ideal S4x49104 .f32 :=
  transpose S4x49104 [1, 0] (shapeCast S49104x4 a shapeCasts_S1x49104x4_S49104x4) transposes_S49104x4_S4x49104_1_0
/-- The padding anchors as four rows. -/
def padRows : FVec Ideal S4x48 .f32 :=
  shapeCast S4x48 (broadcastInDim S1x4x48x1 ![0, 1, 2, 3] bcast_S1x4x1x1_S1x4x48x1_0_1_2_3
      (shapeCast S1x4x1x1 padCol shapeCasts_S4x1_S1x4x1x1)) shapeCasts_S1x4x48x1_S4x48
/-- The anchors and the padding anchors as four planes. -/
def planes (a : FVec Ideal S1x49104x4 .f32) : FVec Ideal S4x384x128 .f32 :=
  shapeCast S4x384x128 (concatenate S4x49152 1 [⟨S4x49104, planeRows a⟩, ⟨S4x48, padRows⟩] concatenates_S4x49104_S4x48_S4x49152_d1)
    shapeCasts_S4x49152_S4x384x128

theorem planes_end : V3 m c (Proc.devRef .tc main_v6) = planes (inAnchors m c) := by
  refine (V3_of m c main_v6 (by decide)).trans ((V2_of m c main_v6 (by decide)).trans ?_)
  show StableHlo.after hostOps0 (V0 m c) (Proc.devRef .tc main_v6) = _
  after_results
  rfl

theorem planeRows_at (a : FVec Ideal S1x49104x4 .f32) (k : Fin 4) (n : Fin 49104) : planeRows a (ix2 k n) = a (ix3 0 n k) := by
  pointwise [planeRows]

theorem padRows_at (k : Fin 4) (q : Fin 48) : padRows (ix2 k q) = padCol (ix2 k 0) := by
  pointwise [padRows]

theorem padCol_at (k : Fin 4) : padCol (ix2 k 0) = (![0, 0, 1, 1] : Fin 4 → EReal) k := by
  have h0 : Ideal.ofBits .f32 0x00000000#32 = (0 : EReal) := Ideal.ofBits_zero_f32
  have h1 : Ideal.ofBits .f32 0x3F800000#32 = (1 : EReal) := Ideal.ofBits_one_f32
  fin_cases k
  · exact (congrArg (Ideal.ofBits .f32) (show lit0 (S4x1.rowMajor (ix2 0 0)) = 0x00000000#32 by decide +kernel)).trans h0
  · exact (congrArg (Ideal.ofBits .f32) (show lit0 (S4x1.rowMajor (ix2 1 0)) = 0x00000000#32 by decide +kernel)).trans h0
  · exact (congrArg (Ideal.ofBits .f32) (show lit0 (S4x1.rowMajor (ix2 2 0)) = 0x3F800000#32 by decide +kernel)).trans h1
  · exact (congrArg (Ideal.ofBits .f32) (show lit0 (S4x1.rowMajor (ix2 3 0)) = 0x3F800000#32 by decide +kernel)).trans h1

theorem planes_at (a : FVec Ideal S1x49104x4 .f32) (k : Fin 4) (r : Fin 384) (l : Fin 128) :
    planes a (ix3 k r l) = if h : 128 * r.val + l.val < 49104 then a (ix3 0 ⟨128 * r.val + l.val, h⟩ k)
      else (![0, 0, 1, 1] : Fin 4 → EReal) k := by
  unfold planes
  have e1 := planeRows_at a k
  have e2 := padRows_at k
  generalize planeRows a = p at e1 ⊢
  generalize padRows = q at e2 ⊢
  pointwise []
  simp only [Nat.mul_comm r.val 128]
  split
  · exact e1 _
  · exact (e2 _).trans (padCol_at k)

/-- The regression targets as planes, padded with zeros. -/
def regPlanes (x : FVec Ideal S8x49104x4 .f32) : FVec Ideal S8x4x384x128 .f32 :=
  shapeCast S8x4x384x128 (pad S8x4x49152 ![0, 0, 0] ![0, 0, 48] ![0, 0, 0]
    (transpose S8x4x49104 [0, 2, 1] x transposes_S8x49104x4_S8x4x49104_0_2_1) (sitofp (F := Ideal) .f32 (constantI S_ 32 0#32))
    pads_S8x4x49104_S8x4x49152_000_000_0480 h_S_) shapeCasts_S8x4x49152_S8x4x384x128

theorem regPlanes_end : V3 m c (Proc.devRef .tc main_v9) = regPlanes (inRegs m c) := by
  have h7 : V1 m c (Proc.devRef .tc main_v7) = transpose S8x4x49104 [0, 2, 1] (inRegs m c) transposes_S8x49104x4_S8x4x49104_0_2_1 := by
    show StableHlo.after hostOps0 (V0 m c) (Proc.devRef .tc main_v7) = _
    after_results
    rfl
  have hc : V1 m c (Proc.devRef .tc main_c) = (constantI S_ 32 0#32 : IVec S_ 32) := by
    show StableHlo.after hostOps0 (V0 m c) (Proc.devRef .tc main_c) = _
    after_results
  have h8 : V2 m c (Proc.devRef .tc main_v8) = pad S8x4x49152 ![0, 0, 0] ![0, 0, 48] ![0, 0, 0]
      (V1 m c (Proc.devRef .tc main_v7) : FVec Ideal S8x4x49104 .f32) (sitofp (F := Ideal) .f32 (V1 m c (Proc.devRef .tc main_c) : IVec S_ 32))
      pads_S8x4x49104_S8x4x49152_000_000_0480 h_S_ := by
    show StableHlo.after hostOps0_1 (V1 m c) (Proc.devRef .tc main_v8) = _
    generalize V1 m c = V
    simp only [StableHlo.after_cons, StableHlo.after_nil]
    rfl
  have h9 : V3 m c (Proc.devRef .tc main_v9) = shapeCast S8x4x384x128 (V2 m c (Proc.devRef .tc main_v8) : FVec Ideal S8x4x49152 .f32) shapeCasts_S8x4x49152_S8x4x384x128 := by
    show StableHlo.after hostOps0_2 (V2 m c) (Proc.devRef .tc main_v9) = _
    generalize V2 m c = V
    after_results
    rfl
  rw [h9, h8, h7, hc]
  rfl

theorem regPlanes_at (x : FVec Ideal S8x49104x4 .f32) (b : Fin 8) (k : Fin 4) (r : Fin 384) (l : Fin 128) (h : 128 * r.val + l.val < 49104) :
    regPlanes x (ix4 b k r l) = x (ix3 b ⟨128 * r.val + l.val, h⟩ k) := by
  pointwise [regPlanes]
  simp only [Nat.mul_comm r.val 128]
  rw [dif_pos h]

/-- The boxes with their fields first. -/
def boxRows (x : FVec Ideal S8x32x5 .f32) : FVec Ideal S8x5x32 .f32 := transpose S8x5x32 [0, 2, 1] x transposes_S8x32x5_S8x5x32_0_2_1

theorem boxRows_end : V3 m c (Proc.devRef .tc main_v10) = boxRows (inBoxes m c) := by
  have h3 : V2 m c (Proc.devRef .tc main_arg3) = inBoxes m c :=
    (V2_of m c main_arg3 (by decide)).trans (V1_of m c main_arg3 (by decide))
  show StableHlo.after hostOps0_2 (V2 m c) (Proc.devRef .tc main_v10) = _
  unfold boxRows
  rw [← h3]
  generalize V2 m c = V
  after_results

theorem boxRows_at (x : FVec Ideal S8x32x5 .f32) (b : Fin 8) (k : Fin 5) (j : Fin 32) : boxRows x (ix3 b k j) = x (ix3 b j k) := by
  pointwise [boxRows]

/-- The codes as one column. -/
def codeCol (e : FVec Ideal S8x384x128 .f32) : FVec Ideal S8x49152x1 .f32 := shapeCast S8x49152x1 e shapeCasts_S8x384x128_S8x49152x1

theorem codeCol_end : X5 m c (Proc.devRef .tc main_v12) = codeCol ((dat0 (V3 m) c).arrAt 3 cfg0.N) := by
  have h : X4 m c (Proc.devRef .tc main_v11_0) = (dat0 (V3 m) c).arrAt 3 cfg0.N :=
    (Function.update_of_ne (StableHlo.devRef_ne_of_ne (by decide)) ..).trans (Function.update_self ..)
  show StableHlo.after hostOps1 (X4 m c) (Proc.devRef .tc main_v12) = _
  rw [← h]
  generalize X4 m c = V
  after_results
  rfl

theorem codeCol_at (e : FVec Ideal S8x384x128 .f32) (b : Fin 8) (q : Fin 49152) :
    codeCol e (ix3 b q 0) = e (ix3 b ⟨q.val / 128, by omega⟩ ⟨q.val % 128, by omega⟩) := by
  pointwise [codeCol]

theorem scores_end : X5 m c (Proc.devRef .tc main_arg0) = inScores m c :=
  (congrFun (V5_eq m c).symm _).trans ((V5_of m (outs m) c main_arg0 (by decide)).trans ((V4_of m (outs m) c main_arg0 (by decide)).trans
    ((V3_of m c main_arg0 (by decide)).trans ((V2_of m c main_arg0 (by decide)).trans (V1_of m c main_arg0 (by decide))))))

end Cert.Focal

end
-- ==== Proof.Arrays.lean ====
/- The two regions' arrays, read at an index: the blocks the bodies find, and what the results hold at the end. -/
module

public import proofs.«01_k».proof.Proof.FocalRead
public import proofs.«01_k».proof.Proof.MatchRead
public import proofs.«01_k».proof.Proof.HostRead
public import Idealize.ShloMosaic.Lib.Pipeline.Value

@[expose] public section

set_option maxRecDepth 16384

noncomputable section

namespace Cert.Focal

open Cert.KernelIdeal Cert.KernelIdeal.Gen Cert.Detect
open Idealize.ShloMosaic Idealize.ShloMosaic.TcCoe

variable (W : Dev nD → Valuation τ sig (Elt Ideal)) (c : Dev nD)

/-- The point of the match region that works on sample `b`. -/
def matchPt (b : Fin 8) : Fin cfg0.N := ⟨b.val, by rw [show cfg0.N = 8 from N_0]; exact b.isLt⟩
/-- The point of the focal region that works on block `k` of sample `b`. -/
def focalPt (b : Fin 8) (k : Fin 3) : Fin cfg1.N := ⟨3 * b.val + k.val, by rw [show cfg1.N = 24 from N_1]; omega⟩

theorem index0_0 : ∀ t : Fin grid0.N, win0_0.index t 0 = 0 ∧ win0_0.index t 1 = 0 ∧ win0_0.index t 2 = 0 := by decide +kernel
theorem index0_1 : ∀ t : Fin grid0.N, win0_1.index t 0 = t.val ∧ win0_1.index t 1 = 0 ∧ win0_1.index t 2 = 0 ∧ win0_1.index t 3 = 0 := by
  decide +kernel
theorem index0_2 : ∀ t : Fin grid0.N, win0_2.index t 0 = t.val ∧ win0_2.index t 1 = 0 ∧ win0_2.index t 2 = 0 := by decide +kernel
theorem index0_3 : ∀ t : Fin grid0.N, win0_3.index t 0 = t.val ∧ win0_3.index t 1 = 0 ∧ win0_3.index t 2 = 0 := by decide +kernel
theorem index0_4 : ∀ t : Fin grid0.N, win0_4.index t 0 = t.val ∧ win0_4.index t 1 = 0 ∧ win0_4.index t 2 = 0 := by decide +kernel
theorem index1_0 : ∀ t : Fin grid1.N, win1_0.index t 0 = t.val / 3 ∧ win1_0.index t 1 = t.val % 3 ∧ win1_0.index t 2 = 0 := by decide +kernel
theorem index1_1 : ∀ t : Fin grid1.N, win1_1.index t 0 = t.val / 3 ∧ win1_1.index t 1 = t.val % 3 ∧ win1_1.index t 2 = 0 := by decide +kernel
theorem index1_2 : ∀ t : Fin grid1.N, win1_2.index t 0 = t.val / 3 ∧ win1_2.index t 1 = 0 ∧ win1_2.index t 2 = 0 := by decide +kernel
theorem coord1 : ∀ t : Fin grid1.N, (grid1.coords t 1).val = t.val % 3 := by decide +kernel

/-- The match region's block of anchors is all the planes, -/
theorem blk0_0_at (t : Fin cfg0.N) (k : Fin 4) (r : Fin 384) (l : Fin 128) :
    (blk0 W c 0 t : Vec Ideal S4x384x128 .f32) (ix3 k r l) = (W c (Proc.devRef .tc main_v6) : FVec Ideal S4x384x128 .f32) (ix3 k r l) := by
  show (W c (Proc.devRef .tc main_v6) : FVec Ideal S4x384x128 .f32) (((cfg0.win 0).blk t).view.emb (ix3 k r l)) = _
  refine congrArg _ (funext fun a => Fin.ext ?_)
  obtain ⟨h0, h1, h2⟩ := index0_0 t
  fin_cases a
  · show win0_0.index t 0 * 4 + 1 * k.val = k.val; omega
  · show win0_0.index t 1 * 384 + 1 * r.val = r.val; omega
  · show win0_0.index t 2 * 128 + 1 * l.val = l.val; omega

/-- its block of regression targets and of boxes the sample's. -/
theorem blk0_1_at (b : Fin 8) (k : Fin 4) (r : Fin 384) (l : Fin 128) :
    (blk0 W c 1 (matchPt b) : Vec Ideal S1x4x384x128 .f32) (ix4 0 k r l)
      = (W c (Proc.devRef .tc main_v9) : FVec Ideal S8x4x384x128 .f32) (ix4 b k r l) := by
  show (W c (Proc.devRef .tc main_v9) : FVec Ideal S8x4x384x128 .f32) (((cfg0.win 1).blk (matchPt b)).view.emb (ix4 0 k r l)) = _
  refine congrArg _ (funext fun a => Fin.ext ?_)
  obtain ⟨h0, h1, h2, h3⟩ := index0_1 (matchPt b)
  have hb : (matchPt b).val = b.val := rfl
  fin_cases a
  · show win0_1.index (matchPt b) 0 * 1 + 1 * 0 = b.val; omega
  · show win0_1.index (matchPt b) 1 * 4 + 1 * k.val = k.val; omega
  · show win0_1.index (matchPt b) 2 * 384 + 1 * r.val = r.val; omega
  · show win0_1.index (matchPt b) 3 * 128 + 1 * l.val = l.val; omega

theorem blk0_2_at (b : Fin 8) (k : Fin 5) (j : Fin 32) :
    (blk0 W c 2 (matchPt b) : Vec Ideal S1x5x32 .f32) (ix3 0 k j) = (W c (Proc.devRef .tc main_v10) : FVec Ideal S8x5x32 .f32) (ix3 b k j) := by
  show (W c (Proc.devRef .tc main_v10) : FVec Ideal S8x5x32 .f32) (((cfg0.win 2).blk (matchPt b)).view.emb (ix3 0 k j)) = _
  refine congrArg _ (funext fun a => Fin.ext ?_)
  obtain ⟨h0, h1, h2⟩ := index0_2 (matchPt b)
  have hb : (matchPt b).val = b.val := rfl
  fin_cases a
  · show win0_2.index (matchPt b) 0 * 1 + 1 * 0 = b.val; omega
  · show win0_2.index (matchPt b) 1 * 5 + 1 * k.val = k.val; omega
  · show win0_2.index (matchPt b) 2 * 32 + 1 * j.val = j.val; omega

/-- The focal region's block of codes. -/
theorem blk1_1_at (b : Fin 8) (k : Fin 3) (r : Fin 16384) :
    (blk1 W c 1 (focalPt b k) : Vec Ideal S1x16384x1 .f32) (ix3 0 r 0)
      = (W c (Proc.devRef .tc main_v12) : FVec Ideal S8x49152x1 .f32) (ix3 b ⟨k.val * 16384 + r.val, by omega⟩ 0) := by
  show (W c (Proc.devRef .tc main_v12) : FVec Ideal S8x49152x1 .f32) (((cfg1.win 1).blk (focalPt b k)).view.emb (ix3 0 r 0)) = _
  refine congrArg _ (funext fun a => Fin.ext ?_)
  obtain ⟨h0, h1, h2⟩ := index1_1 (focalPt b k)
  have hb : (focalPt b k).val = 3 * b.val + k.val := rfl
  have hk := k.isLt
  fin_cases a
  · show win1_1.index (focalPt b k) 0 * 1 + 1 * 0 = b.val; omega
  · show win1_1.index (focalPt b k) 1 * 16384 + 1 * r.val = k.val * 16384 + r.val; omega
  · show win1_1.index (focalPt b k) 2 * 1 + 1 * 0 = 0; omega

/-- The focal region's scores, on the rows inside the array. -/
theorem scores_at (b : Fin 8) (k : Fin 3) (r : Fin 16384) (j : Fin 90) (h : k.val * 16384 + r.val < 49104) :
    scores W c (focalPt b k) (ix3 0 r j)
      = (W c (Proc.devRef .tc main_arg0) : FVec Ideal S8x49104x90 .f32) (ix3 b ⟨k.val * 16384 + r.val, h⟩ j) := by
  obtain ⟨h0, h1, h2⟩ := index1_0 (focalPt b k)
  obtain ⟨s0, s1, s2⟩ := moved_size (focalPt b k)
  have hc := coord1 (focalPt b k)
  have hb : (focalPt b k).val = 3 * b.val + k.val := rfl
  have hk := k.isLt
  have hm : win1_0.moved (grid1.coords (focalPt b k)) (ix3 0 r j) = true := by
    rw [Pipeline.Window.moved_iff]
    have hr := r.isLt
    have hj := j.isLt
    intro a
    fin_cases a
    · show (0 : ℕ) < win1_0.xsize (grid1.coords (focalPt b k)) 0
      omega
    · show r.val < win1_0.xsize (grid1.coords (focalPt b k)) 1
      omega
    · show j.val < win1_0.xsize (grid1.coords (focalPt b k)) 2
      omega
  unfold scores Pipeline.Window.fill
  rw [dif_pos hm]
  show (W c (Proc.devRef .tc main_arg0) : FVec Ideal S8x49104x90 .f32) (((cfg1.win 0).blk (focalPt b k)).view.emb _) = _
  refine congrArg _ (funext fun a => Fin.ext ?_)
  fin_cases a
  · show win1_0.index (focalPt b k) 0 * 1 + 1 * 0 = b.val; omega
  · show win1_0.index (focalPt b k) 1 * 16384 + 1 * r.val = k.val * 16384 + r.val; omega
  · show win1_0.index (focalPt b k) 2 * 90 + 1 * j.val = j.val; omega

theorem idx_inj3 : ∀ t t' : Fin cfg0.N, win0_3.index t = win0_3.index t' → t = t' :=
  (by decide +kernel : ∀ t t' : Fin grid0.N, win0_3.index t = win0_3.index t' → t = t')
theorem idx_inj4 : ∀ t t' : Fin cfg0.N, win0_4.index t = win0_4.index t' → t = t' :=
  (by decide +kernel : ∀ t t' : Fin grid0.N, win0_4.index t = win0_4.index t' → t = t')
theorem idx_inj2 : ∀ t t' : Fin cfg1.N, t.val % 3 = 2 → t'.val % 3 = 2 → win1_2.index t = win1_2.index t' → t = t' :=
  (by decide +kernel : ∀ t t' : Fin grid1.N, t.val % 3 = 2 → t'.val % 3 = 2 → win1_2.index t = win1_2.index t' → t = t')

/-- The codes at the end of the match region. -/
theorem codes_end (b : Fin 8) (r : Fin 384) (l : Fin 128) :
    ((dat0 W c).arrAt 3 cfg0.N : FVec Ideal S8x384x128 .f32) (ix3 b r l)
      = encV (blk0 W c 0 (matchPt b)) (blk0 W c 2 (matchPt b)) (ix3 0 r l) := by
  have h := (dat0 W c).arrAt_emb_eq_flushed 3
    (fun t t' _ _ hne => (cfg0.win 3).disjoint_blk fun h => hne (idx_inj3 t t' h)) (matchPt b) (flush0_3 _) (ix3 0 r l)
  have hf : (dat0 W c).flushed 3 (matchPt b) (ix3 0 r l) = encV (blk0 W c 0 (matchPt b)) (blk0 W c 2 (matchPt b)) (ix3 0 r l) := by
    show (cfg0.win 3).cut (grid0.coords (matchPt b)) ((dat0 W c).after 3 (matchPt b)) (ix3 0 r l) = _
    rw [after0_3]
    rfl
  have hi : ((cfg0.win 3).blk (matchPt b)).view.emb (ix3 0 r l) = (ix3 b r l : S8x384x128.Idx) := by
    obtain ⟨h0, h1, h2⟩ := index0_3 (matchPt b)
    have hb : (matchPt b).val = b.val := rfl
    refine funext fun a => Fin.ext ?_
    fin_cases a
    · show win0_3.index (matchPt b) 0 * 1 + 1 * 0 = b.val; omega
    · show win0_3.index (matchPt b) 1 * 384 + 1 * r.val = r.val; omega
    · show win0_3.index (matchPt b) 2 * 128 + 1 * l.val = l.val; omega
  rw [hi] at h
  exact h.trans hf

/-- The partial sums at the end of the match region. -/
theorem parts_end (b : Fin 8) (l : Fin 128) :
    ((dat0 W c).arrAt 4 cfg0.N : FVec Ideal S8x1x128 .f32) (ix3 b 0 l)
      = partV (blk0 W c 0 (matchPt b)) (blk0 W c 1 (matchPt b)) (blk0 W c 2 (matchPt b)) (ix3 0 0 l) := by
  have h := (dat0 W c).arrAt_emb_eq_flushed 4
    (fun t t' _ _ hne => (cfg0.win 4).disjoint_blk fun h => hne (idx_inj4 t t' h)) (matchPt b) (flush0_4 _) (ix3 0 0 l)
  have hf : (dat0 W c).flushed 4 (matchPt b) (ix3 0 0 l)
      = partV (blk0 W c 0 (matchPt b)) (blk0 W c 1 (matchPt b)) (blk0 W c 2 (matchPt b)) (ix3 0 0 l) := by
    show (cfg0.win 4).cut (grid0.coords (matchPt b)) ((dat0 W c).after 4 (matchPt b)) (ix3 0 0 l) = _
    rw [after0_4]
    rfl
  have hi : ((cfg0.win 4).blk (matchPt b)).view.emb (ix3 0 0 l) = (ix3 b 0 l : S8x1x128.Idx) := by
    obtain ⟨h0, h1, h2⟩ := index0_4 (matchPt b)
    have hb : (matchPt b).val = b.val := rfl
    refine funext fun a => Fin.ext ?_
    fin_cases a
    · show win0_4.index (matchPt b) 0 * 1 + 1 * 0 = b.val; omega
    · show win0_4.index (matchPt b) 1 * 1 + 1 * 0 = 0; omega
    · show win0_4.index (matchPt b) 2 * 128 + 1 * l.val = l.val; omega
  rw [hi] at h
  exact h.trans hf

/-- What block `k` of sample `b` adds to the sample's sum. -/
def added (b : Fin 8) (k : Fin 3) : EReal :=
  focalV (grid1.coords (focalPt b k)) (scores W c (focalPt b k)) (blk1 W c 1 (focalPt b k)) (ix3 0 0 0)

/-- The sums at the end of the focal region: what the sample's three blocks add. -/
theorem sums_end (b : Fin 8) :
    ((dat1 W c).arrAt 2 cfg1.N : FVec Ideal S8x1x128 .f32) (ix3 b 0 0) = (added W c b 0 + added W c b 1) + added W c b 2 := by
  have hv : ∀ k : Fin 3, (focalPt b k).val = 3 * b.val + k.val := fun _ => rfl
  have h := (dat1 W c).arrAt_emb_eq_flushed 2
    (fun t t' ht ht' hne => (cfg1.win 2).disjoint_blk fun h => hne (idx_inj2 t t' ((flush1_2 t).mp ht) ((flush1_2 t').mp ht') h))
    (focalPt b 2) ((flush1_2 _).mpr (by rw [hv 2]; show (3 * b.val + 2) % 3 = 2; omega)) (ix3 0 0 0)
  have hf : (dat1 W c).flushed 2 (focalPt b 2) (ix3 0 0 0) = running W c (focalPt b 2).val (focalPt b 2).isLt (ix3 0 0 0) := by
    show (cfg1.win 2).cut (grid1.coords (focalPt b 2)) ((dat1 W c).after 2 (focalPt b 2)) (ix3 0 0 0) = _
    rw [after1_2]
    rfl
  have hi : ((cfg1.win 2).blk (focalPt b 2)).view.emb (ix3 0 0 0) = (ix3 b 0 0 : S8x1x128.Idx) := by
    obtain ⟨h0, h1, h2⟩ := index1_2 (focalPt b 2)
    have hb : (focalPt b 2).val = 3 * b.val + 2 := rfl
    refine funext fun a => Fin.ext ?_
    fin_cases a
    · show win1_2.index (focalPt b 2) 0 * 1 + 1 * 0 = b.val; omega
    · show win1_2.index (focalPt b 2) 1 * 1 + 1 * 0 = 0; omega
    · show win1_2.index (focalPt b 2) 2 * 128 + 1 * 0 = 0; omega
  rw [hi] at h
  have r0 : running W c (focalPt b 0).val (focalPt b 0).isLt (ix3 0 0 0) = added W c b 0 := by
    rw [running_first W c (focalPt b 0) (by rw [hv 0]; show (3 * b.val + 0) % 3 = 0; omega)]
    rfl
  have r1 : running W c (focalPt b 1).val (focalPt b 1).isLt (ix3 0 0 0) = added W c b 0 + added W c b 1 := by
    rw [running_next W c (focalPt b 1) (by rw [hv 1]; show ¬(3 * b.val + 1) % 3 = 0; omega), add_apply, ← r0]
    rfl
  have r2 : running W c (focalPt b 2).val (focalPt b 2).isLt (ix3 0 0 0) = (added W c b 0 + added W c b 1) + added W c b 2 := by
    rw [running_next W c (focalPt b 2) (by rw [hv 2]; show ¬(3 * b.val + 2) % 3 = 0; omega), add_apply, ← r1]
    rfl
  exact (h.trans hf).trans r2

end Cert.Focal

end
-- ==== Proof.KernelEnd.lean ====
/- The kernel's two results from its regions' arrays: the host's last operations, read at their one index. -/
module

public import proofs.«01_k».proof.Proof.HostRead
public import proofs.«01_k».proof.Proof.FocalSpec

@[expose] public section

set_option maxRecDepth 16384

noncomputable section

namespace Cert.Focal

open Cert.KernelIdeal Cert.KernelIdeal.Gen Cert.Detect
open Idealize.ShloMosaic Idealize.ShloMosaic.TcCoe Idealize.ShloMosaic.StableHlo

variable (m : (ℓ : Loc nD τ sig) → Buf (Elt Ideal) ℓ) (c : Dev nD)

/-- One lane of an array of partial results. -/
def lane0 (p : FVec Ideal S8x1x128 .f32) : FVec Ideal S8 .f32 :=
  shapeCast S8 (extractStridedSlice S8x1x1 ![0, 0, 0] p slices_S8x1x128_S8x1x1_0_0_0) shapeCasts_S8x1x1_S8
def lane1 (p : FVec Ideal S8x1x128 .f32) : FVec Ideal S8 .f32 :=
  shapeCast S8 (extractStridedSlice S8x1x1 ![0, 0, 1] p slices_S8x1x128_S8x1x1_0_0_1) shapeCasts_S8x1x1_S8

theorem lane0_at (p : FVec Ideal S8x1x128 .f32) (b : Fin 8) : lane0 p (ix1 b) = p (ix3 b 0 0) := by
  pointwise [lane0]
theorem lane1_at (p : FVec Ideal S8x1x128 .f32) (b : Fin 8) : lane1 p (ix1 b) = p (ix3 b 0 1) := by
  pointwise [lane1]

/-- The mean over the samples of the focal sums, each over its count of positive anchors. -/
def clsOf (w p : FVec Ideal S8 .f32) : FVec Ideal S1 .f32 :=
  Host.divf (broadcastInDim S1 ![] bcast_S_S1 (Host.reduceAdd (Host.divf w (maximumf p (broadcastInDim S8 ![] bcast_S_S8 (constant (F := Ideal) S_ .f32 0x3F800000#32))))
    (constant (F := Ideal) S_ .f32 0x00000000#32) reducesTo_S8_S_d0 h_S_)) (broadcastInDim S1 ![] bcast_S_S1 (constant (F := Ideal) S_ .f32 0x41000000#32))
/-- The mean over the samples of the regression sums, each over four times its count of positive anchors, fifty times. -/
def regOf (w p : FVec Ideal S8 .f32) : FVec Ideal S1 .f32 :=
  mulf (Host.divf (broadcastInDim S1 ![] bcast_S_S1 (Host.reduceAdd (Host.divf w (maximumf (mulf p (broadcastInDim S8 ![] bcast_S_S8 (constant (F := Ideal) S_ .f32 0x40800000#32)))
      (broadcastInDim S8 ![] bcast_S_S8 (constant (F := Ideal) S_ .f32 0x3F800000#32))))
    (constant (F := Ideal) S_ .f32 0x00000000#32) reducesTo_S8_S_d0 h_S_)) (broadcastInDim S1 ![] bcast_S_S1 (constant (F := Ideal) S_ .f32 0x41000000#32)))
    (broadcastInDim S1 ![] bcast_S_S1 (constant (F := Ideal) S_ .f32 0x42480000#32))

theorem clsOf_at (w p : FVec Ideal S8 .f32) : clsOf w p (ix1 0) = meanCls (fun b => w (ix1 b)) (fun b => p (ix1 b)) := by
  unfold meanCls
  pointwise [clsOf]
theorem regOf_at (w p : FVec Ideal S8 .f32) : regOf w p (ix1 0) = meanReg (fun b => w (ix1 b)) (fun b => p (ix1 b)) := by
  unfold meanReg
  pointwise [regOf]

theorem cls_after (V : Valuation τ sig (Elt Ideal)) : StableHlo.after hostOps2 V (Proc.devRef .tc main_v26)
    = clsOf (lane0 (V (Proc.devRef .tc main_v13))) (lane1 (V (Proc.devRef .tc main_v11_1))) := by
  after_results_simp
  rfl
theorem reg_after (V : Valuation τ sig (Elt Ideal)) : StableHlo.after hostOps2 V (Proc.devRef .tc main_v37)
    = regOf (lane0 (V (Proc.devRef .tc main_v11_1))) (lane1 (V (Proc.devRef .tc main_v11_1))) := by
  after_results_simp
  rfl

/-- The partial sums the match region leaves, and the sums the focal region leaves. -/
abbrev parts : FVec Ideal S8x1x128 .f32 := (dat0 (V3 m) c).arrAt 4 cfg0.N
abbrev sums : FVec Ideal S8x1x128 .f32 := (dat1 (X5 m) c).arrAt 2 cfg1.N

theorem sums_kept : V6 m (outs m) c (Proc.devRef .tc main_v13) = sums m c := by
  rw [V6_eq]
  exact Function.update_self ..
theorem parts_kept : V6 m (outs m) c (Proc.devRef .tc main_v11_1) = parts m c :=
  (V6_of m (outs m) c main_v11_1 (by decide)).trans ((V5_of m (outs m) c main_v11_1 (by decide)).trans
    ((congrFun (V4_eq m c) _).trans (Function.update_self ..)))

theorem cls_end : V7 m (outs m) c (Proc.devRef .tc main_v26) = clsOf (lane0 (sums m c)) (lane1 (parts m c)) := by
  rw [← sums_kept, ← parts_kept]
  exact cls_after _
theorem reg_end : V7 m (outs m) c (Proc.devRef .tc main_v37) = regOf (lane0 (parts m c)) (lane1 (parts m c)) := by
  rw [← parts_kept]
  exact reg_after _

theorem cls_value : (V7 m (outs m) c (Proc.devRef .tc main_v26) : FVec Ideal S1 .f32) (ix1 0)
    = meanCls (fun b => sums m c (ix3 b 0 0)) (fun b => parts m c (ix3 b 0 1)) := by
  rw [cls_end, clsOf_at]
  simp only [lane0_at, lane1_at]
theorem reg_value : (V7 m (outs m) c (Proc.devRef .tc main_v37) : FVec Ideal S1 .f32) (ix1 0)
    = meanReg (fun b => parts m c (ix3 b 0 0)) (fun b => parts m c (ix3 b 0 1)) := by
  rw [reg_end, regOf_at]
  simp only [lane0_at, lane1_at]

end Cert.Focal

end
-- ==== Proof.Padding.lean ====
/- A padding anchor is a unit box at the origin: it overlaps a box of more than two square units by less than one half, so it is
   never positive and adds nothing to the sums over positive anchors. -/
module

public import proofs.«01_k».proof.Proof.Detect
public import proofs.«01_k».proof.Proof.Words

@[expose] public section

noncomputable section

namespace Cert.Detect

open Idealize.ShloMosaic

theorem side (p q : EReal) : 0 ≤ max (min 1 q - max 0 p) 0 ∧ max (min 1 q - max 0 p) 0 ≤ 1 := by
  refine ⟨le_max_right _ _, max_le ?_ zero_le_one⟩
  calc min 1 q - max 0 p ≤ 1 - 0 := EReal.sub_le_sub (min_le_left _ _) (le_max_left _ _)
    _ = 1 := sub_zero 1

/-- The area a unit anchor shares with a box is a real number from 0 to 1. -/
theorem inter_unit (b : Fin 5 → EReal) : ∃ i : ℝ, inter ![0, 0, 1, 1] b = (i : EReal) ∧ 0 ≤ i ∧ i ≤ 1 := by
  obtain ⟨hu, hu'⟩ := side (b 0) (b 2)
  obtain ⟨hv, hv'⟩ := side (b 1) (b 3)
  have e : inter ![0, 0, 1, 1] b = max (min 1 (b 2) - max 0 (b 0)) 0 * max (min 1 (b 3) - max 0 (b 1)) 0 := rfl
  rw [e]
  generalize max (min 1 (b 2) - max 0 (b 0)) 0 = u at *
  generalize max (min 1 (b 3) - max 0 (b 1)) 0 = v at *
  induction u with
  | bot => exact absurd hu (by simp)
  | top => exact absurd hu' (not_le.mpr (EReal.coe_lt_top 1))
  | coe u =>
    induction v with
    | bot => exact absurd hv (by simp)
    | top => exact absurd hv' (not_le.mpr (EReal.coe_lt_top 1))
    | coe v =>
      have hu : 0 ≤ u := by exact_mod_cast hu
      have hu' : u ≤ 1 := by exact_mod_cast hu'
      have hv : 0 ≤ v := by exact_mod_cast hv
      have hv' : v ≤ 1 := by exact_mod_cast hv'
      exact ⟨u * v, (EReal.coe_mul u v).symm, mul_nonneg hu hv, mul_le_one₀ hu' hv hv'⟩

theorem iou_unit (b : Fin 5 → EReal) (h : Ideal.ofBits .f32 0x40000000#32 < (b 2 - b 0) * (b 3 - b 1)) :
    iou ![0, 0, 1, 1] b < Ideal.ofBits .f32 0x3F000000#32 := by
  obtain ⟨i, hi, h0, h1⟩ := inter_unit b
  unfold iou
  rw [hi, Words.half]
  rw [Words.two] at h
  generalize (b 2 - b 0) * (b 3 - b 1) = B at h ⊢
  have ha : ((![0, 0, 1, 1] : Fin 4 → EReal) 2 - (![0, 0, 1, 1] : Fin 4 → EReal) 0) * ((![0, 0, 1, 1] : Fin 4 → EReal) 3 - (![0, 0, 1, 1] : Fin 4 → EReal) 1) = 1 := by
    show ((1 : EReal) - 0) * (1 - 0) = 1
    simp
  rw [ha]
  have hM : ((2 : ℝ) : EReal) < max (1 + B - (i : EReal)) (Ideal.ofBits .f32 0x322BCC77#32) := by
    refine lt_max_of_lt_left ?_
    induction B with
    | bot => exact absurd h (by simp)
    | top =>
      rw [EReal.add_top_of_ne_bot (by decide), EReal.top_sub_coe]
      exact EReal.coe_lt_top _
    | coe r =>
      have h : (2 : ℝ) < r := by exact_mod_cast h
      rw [show (1 : EReal) + (r : EReal) - (i : EReal) = ((1 + r - i : ℝ) : EReal) by norm_cast]
      exact_mod_cast (by linarith : (2 : ℝ) < 1 + r - i)
  generalize max (1 + B - (i : EReal)) (Ideal.ofBits .f32 0x322BCC77#32) = M at hM ⊢
  induction M with
  | bot => exact absurd hM (by simp)
  | top =>
    simp [Ideal.div]
  | coe r =>
    have h : (2 : ℝ) < r := by exact_mod_cast hM
    have hd : Ideal.div (i : EReal) (r : EReal) = ((i / r : ℝ) : EReal) := by
      unfold Ideal.div
      rw [if_neg (by exact_mod_cast (by linarith : r ≠ 0)), ← EReal.coe_inv, ← EReal.coe_mul, div_eq_mul_inv]
    rw [hd]
    exact_mod_cast (by rw [div_lt_div_iff₀ (by linarith) (by norm_num)]; linarith : i / r < 1 / 2)

/-- A padding anchor is not positive. -/
theorem not_pos_unit (bs : Fin 32 → Fin 5 → EReal)
    (h : ∀ j, Ideal.ofBits .f32 0x40000000#32 < (bs j 2 - bs j 0) * (bs j 3 - bs j 1)) : ¬Pos ![0, 0, 1, 1] bs :=
  not_le.mpr (iou_unit _ (h _))

end Cert.Detect

end
-- ==== Proof.Sums.lean ====
/- Sums over the anchors, laid out in the ways the two programs lay them out: rows of 128 lanes, blocks of 16384 rows. -/
module

public import Mathlib.Algebra.BigOperators.Fin
public import Mathlib.Data.Real.Basic

@[expose] public section

namespace Cert.Sums

variable {M : Type*} [AddCommMonoid M]

/-- A sum over `a` rows of `b` lanes is the sum over the places in order. -/
theorem rows (a b : ℕ) (f : ℕ → M) : ∑ r : Fin a, ∑ l : Fin b, f (b * r.val + l.val) = ∑ q ∈ Finset.range (b * a), f q := by
  induction a with
  | zero => simp
  | succ a ih =>
    rw [Fin.sum_univ_castSucc, Nat.mul_succ, Finset.sum_range_add, Finset.sum_range fun l => f (b * a + l)]
    simp only [Fin.val_castSucc, Fin.val_last]
    rw [ih]

/-- Places beyond the last anchor contribute nothing. -/
theorem cut (n k : ℕ) (f : ℕ → M) (h : ∀ q, n ≤ q → f q = 0) : ∑ q ∈ Finset.range (n + k), f q = ∑ q : Fin n, f q.val := by
  rw [Finset.sum_range_add, Finset.sum_eq_zero (s := Finset.range k) fun i _ => h (n + i) (by omega), add_zero, Finset.sum_range]

/-- A range of three equal parts. -/
theorem thirds (n : ℕ) (f : ℕ → M) :
    (∑ r : Fin n, f r.val + ∑ r : Fin n, f (n + r.val)) + ∑ r : Fin n, f (2 * n + r.val) = ∑ q ∈ Finset.range (n + n + n), f q := by
  rw [Finset.sum_range_add, Finset.sum_range_add, Finset.sum_range, Finset.sum_range, Finset.sum_range, two_mul]

/-- The anchors as 384 rows of 128 lanes. -/
theorem lanes (f : ℕ → M) (h : ∀ q, 49104 ≤ q → f q = 0) :
    ∑ r : Fin 384, ∑ l : Fin 128, f (128 * r.val + l.val) = ∑ q : Fin 49104, f q.val :=
  (rows 384 128 f).trans (cut 49104 48 f h)

/-- The anchors as three blocks of 16384 rows. -/
theorem blocks (f : ℕ → M) (h : ∀ q, 49104 ≤ q → f q = 0) :
    (∑ r : Fin 16384, f (0 * 16384 + r.val) + ∑ r : Fin 16384, f (1 * 16384 + r.val)) + ∑ r : Fin 16384, f (2 * 16384 + r.val)
      = ∑ q : Fin 49104, f q.val := by
  rw [← cut 49104 48 f h]
  refine Eq.trans ?_ (thirds 16384 f)
  simp only [Nat.zero_mul, Nat.zero_add, Nat.one_mul]

end Cert.Sums
-- ==== Proof.KernelSums.lean ====
/- What the regions leave, as sums over the anchors: the regression errors and the count of the positive anchors, and the focal
   losses, which the kernel reaches by a dense pass over all classes and a correction at each positive anchor's label. -/
module

public import proofs.«01_k».proof.Proof.Arrays
public import proofs.«01_k».proof.Proof.KernelEnd
public import proofs.«01_k».proof.Proof.Padding
public import proofs.«01_k».proof.Proof.Sums

@[expose] public section

set_option maxRecDepth 16384

noncomputable section

namespace Cert.Focal

open Cert.KernelIdeal Cert.KernelIdeal.Gen Cert.Detect
open Idealize.ShloMosaic Idealize.ShloMosaic.TcCoe

variable (m : (ℓ : Loc nD τ sig) → Buf (Elt Ideal) ℓ) (c : Dev nD)

/-- Anchor `n`, the boxes of sample `b`, and the regressions of anchor `n` there. -/
def anchor (n : Fin 49104) (k : Fin 4) : EReal := inAnchors m c (ix3 0 n k)
def boxesOf (b : Fin 8) (j : Fin 32) (k : Fin 5) : EReal := inBoxes m c (ix3 b j k)
def regsOf (b : Fin 8) (n : Fin 49104) (k : Fin 4) : EReal := inRegs m c (ix3 b n k)

/-- The anchor at place `q`: a unit box beyond the last one. -/
def placed (q : ℕ) : Fin 4 → EReal := if h : q < 49104 then anchor m c ⟨q, h⟩ else ![0, 0, 1, 1]

theorem corner_at (b : Fin 8) (r : Fin 384) (l : Fin 128) :
    corner (blk0 (V3 m) c 0 (matchPt b)) r l = placed m c (128 * r.val + l.val) := by
  funext k
  refine (blk0_0_at (V3 m) c (matchPt b) k r l).trans ((congrFun (planes_end m c) _).trans ((planes_at _ k r l).trans ?_))
  unfold placed
  split <;> rfl

theorem boxes_at (b : Fin 8) : boxes (blk0 (V3 m) c 2 (matchPt b)) = boxesOf m c b := by
  funext j k
  exact (blk0_2_at (V3 m) c b k j).trans ((congrFun (boxRows_end m c) _).trans (boxRows_at _ b k j))

theorem regress_at (b : Fin 8) (r : Fin 384) (l : Fin 128) (h : 128 * r.val + l.val < 49104) :
    regress (blk0 (V3 m) c 1 (matchPt b)) r l = regsOf m c b ⟨128 * r.val + l.val, h⟩ := by
  funext k
  exact (blk0_1_at (V3 m) c b k r l).trans ((congrFun (regPlanes_end m c) _).trans (regPlanes_at _ b k r l h))

/-- Every box of every sample covers more than two square units. -/
abbrev Wide : Prop := ∀ b j, Ideal.ofBits .f32 0x40000000#32
  < (boxesOf m c b j 2 - boxesOf m c b j 0) * (boxesOf m c b j 3 - boxesOf m c b j 1)

theorem parts_reg (hw : Wide m c) (b : Fin 8) : parts m c (ix3 b 0 0)
    = ∑ n : Fin 49104, regTerm (anchor m c n) (boxesOf m c b) (regsOf m c b n) := by
  refine (parts_end (V3 m) c b 0).trans ((part_reg _ _ _).trans ?_)
  rw [boxes_at]
  let f : ℕ → EReal := fun q => if h : q < 49104 then regTerm (anchor m c ⟨q, h⟩) (boxesOf m c b) (regsOf m c b ⟨q, h⟩) else 0
  have e : ∀ (r : Fin 384) (l : Fin 128), regTerm (corner (blk0 (V3 m) c 0 (matchPt b)) r l) (boxesOf m c b) (regress (blk0 (V3 m) c 1 (matchPt b)) r l)
      = f (128 * r.val + l.val) := by
    intro r l
    rw [corner_at]
    simp only [f]
    unfold placed
    split
    · rename_i h
      rw [regress_at m c b r l h]
    · unfold regTerm
      rw [if_neg (not_pos_unit _ (hw b))]
  refine (Finset.sum_congr rfl fun r _ => Finset.sum_congr rfl fun l _ => e r l).trans ((Sums.lanes f fun q hq => dif_neg (by omega)).trans ?_)
  exact Finset.sum_congr rfl fun n _ => dif_pos n.isLt

theorem parts_pos (hw : Wide m c) (b : Fin 8) : parts m c (ix3 b 0 1) = ∑ n : Fin 49104, posTerm (anchor m c n) (boxesOf m c b) := by
  refine (parts_end (V3 m) c b 1).trans ((part_pos _ _ _).trans ?_)
  rw [boxes_at]
  let f : ℕ → EReal := fun q => if h : q < 49104 then posTerm (anchor m c ⟨q, h⟩) (boxesOf m c b) else 0
  have e : ∀ (r : Fin 384) (l : Fin 128), posTerm (corner (blk0 (V3 m) c 0 (matchPt b)) r l) (boxesOf m c b)
      = f (128 * r.val + l.val) := by
    intro r l
    rw [corner_at]
    simp only [f]
    unfold placed
    split
    · rfl
    · unfold posTerm
      rw [if_neg (not_pos_unit _ (hw b))]
  refine (Finset.sum_congr rfl fun r _ => Finset.sum_congr rfl fun l _ => e r l).trans ((Sums.lanes f fun q hq => dif_neg (by omega)).trans ?_)
  exact Finset.sum_congr rfl fun n _ => dif_pos n.isLt

/-- The code the focal region finds at row `r` of block `k`: the anchor's, or zero beyond the last one. -/
theorem code_at (b : Fin 8) (k : Fin 3) (r : Fin 16384) :
    (blk1 (X5 m) c 1 (focalPt b k) : Vec Ideal S1x16384x1 .f32) (ix3 0 r 0)
      = if h : k.val * 16384 + r.val < 49104 then code (anchor m c ⟨k.val * 16384 + r.val, h⟩) (boxesOf m c b) else 0 := by
  refine (blk1_1_at (X5 m) c b k r).trans ((congrFun (codeCol_end m c) _).trans ((codeCol_at _ b _).trans
    ((codes_end (V3 m) c b _ _).trans ((enc_apply _ _ _ _).trans ?_))))
  have hq : 128 * ((k.val * 16384 + r.val) / 128) + (k.val * 16384 + r.val) % 128 = k.val * 16384 + r.val := Nat.div_add_mod _ _
  rw [corner_at, boxes_at]
  unfold Proper
  dsimp only
  rw [hq]
  unfold placed
  split <;> rfl

/-- The scores of row `r` of block `k` inside the array. -/
theorem rowP_at (b : Fin 8) (k : Fin 3) (r : Fin 16384) (h : k.val * 16384 + r.val < 49104) (j : Fin 90) :
    rowP (grid1.coords (focalPt b k)) (scores (X5 m) c (focalPt b k)) r j = inScores m c (ix3 b ⟨k.val * 16384 + r.val, h⟩ j) := by
  have hc : (grid1.coords (focalPt b k) 1).val = k.val := by
    rw [coord1 (focalPt b k)]
    show (3 * b.val + k.val) % 3 = k.val
    omega
  unfold rowP
  rw [pay2_apply, hc, if_pos h]
  exact (scores_at (X5 m) c b k r j h).trans (congrFun (scores_end m c) _)

/-- The focal sum of a sample is the sum of the focal losses of its anchors and classes. -/
theorem sums_cls (hs : ∀ b n k, ∃ v : ℝ, inScores m c (ix3 b n k) = (v : EReal) ∧ Good v)
    (hl : ∀ b j, ∃ L : Fin 90, boxesOf m c b j 4 = ((L.val : ℝ) : EReal)) (b : Fin 8) :
    sums m c (ix3 b 0 0) = ∑ n : Fin 49104, ∑ k : Fin 90, focal (target (anchor m c n) (boxesOf m c b) k) (Detect.held (inScores m c (ix3 b n k))) := by
  choose X hX hg using hs b
  choose U V hU hV hUV using fun n => row (anchor m c n) (boxesOf m c b) (X n) (hg n) (hl b _)
  let fU : ℕ → ℝ := fun q => if h : q < 49104 then U ⟨q, h⟩ else 0
  let fV : ℕ → ℝ := fun q => if h : q < 49104 then V ⟨q, h⟩ else 0
  have eX : ∀ n k, inScores m c (ix3 b n k) = (X n k : EReal) := hX
  have ha : ∀ k : Fin 3, added (X5 m) c b k
      = ((∑ r : Fin 16384, (fun q => negW * fU q + fV q) (k.val * 16384 + r.val) : ℝ) : EReal) := by
    intro k
    unfold added
    rw [block_apply]
    have e : ∀ r : Fin 16384,
        negOf ((blk1 (X5 m) c 1 (focalPt b k) : Vec Ideal S1x16384x1 .f32) (ix3 0 r 0)) (rowP (grid1.coords (focalPt b k)) (scores (X5 m) c (focalPt b k)) r)
            = (fU (k.val * 16384 + r.val) : EReal)
          ∧ corrOf ((blk1 (X5 m) c 1 (focalPt b k) : Vec Ideal S1x16384x1 .f32) (ix3 0 r 0)) (rowP (grid1.coords (focalPt b k)) (scores (X5 m) c (focalPt b k)) r)
            = (fV (k.val * 16384 + r.val) : EReal) := by
      intro r
      rw [code_at]
      by_cases h : k.val * 16384 + r.val < 49104
      · have er : rowP (grid1.coords (focalPt b k)) (scores (X5 m) c (focalPt b k)) r = fun j => (X ⟨k.val * 16384 + r.val, h⟩ j : EReal) :=
          funext fun j => (rowP_at m c b k r h j).trans (eX _ _)
        rw [dif_pos h, er]
        simp only [fU, fV, dif_pos h]
        exact ⟨hU _, hV _⟩
      · rw [dif_neg h]
        simp only [fU, fV, dif_neg h, EReal.coe_zero]
        exact row_padding _
    rw [Finset.sum_congr rfl fun r _ => (e r).1, Finset.sum_congr rfl fun r _ => (e r).2, coe_sum, coe_sum, ← EReal.coe_mul, ← EReal.coe_add]
    refine congrArg _ ?_
    rw [Finset.mul_sum, ← Finset.sum_add_distrib]
  refine (sums_end (X5 m) c b).trans ?_
  have key : (added (X5 m) c b 0 + added (X5 m) c b 1) + added (X5 m) c b 2
      = ∑ n : Fin 49104, ∑ k : Fin 90, focal (target (anchor m c n) (boxesOf m c b) k) (Detect.held (inScores m c (ix3 b n k))) := by
    rw [ha, ha, ha, ← EReal.coe_add, ← EReal.coe_add]
    rw [show (∑ r : Fin 16384, (fun q => negW * fU q + fV q) ((0 : Fin 3).val * 16384 + r.val)
          + ∑ r : Fin 16384, (fun q => negW * fU q + fV q) ((1 : Fin 3).val * 16384 + r.val))
          + ∑ r : Fin 16384, (fun q => negW * fU q + fV q) ((2 : Fin 3).val * 16384 + r.val)
        = ∑ n : Fin 49104, (negW * fU n.val + fV n.val) from
      Sums.blocks (fun q => negW * fU q + fV q) fun q hq => by simp only [fU, fV, dif_neg (show ¬q < 49104 by omega)]; ring]
    rw [← coe_sum]
    refine Finset.sum_congr rfl fun n _ => ?_
    simp only [fU, fV, dif_pos n.isLt, eX]
    exact (hUV n).symm
  exact key

end Cert.Focal

end
-- ==== Proof.PreRead.lean ====
/- What the precondition says of the argument arrays: every score is a real number inside the clipping bounds, every label is one of
   the ninety classes, and every box covers more than two square units. -/
module

public import proofs.«01_k».proof.Proof.Gen.Pre_in_range
public import proofs.«01_k».proof.Proof.FocalMath
public import Idealize.ShloMosaic.Lib.Pointwise

@[expose] public section

set_option maxRecDepth 16384

noncomputable section

namespace Cert.Range

open Cert.Pre_in_range Cert.Pre_in_range.Gen Cert.Detect
open Idealize.ShloMosaic

theorem le_read {s : Shape} (p q : FVec Ideal s .f32) (i : s.Idx) : cmpf .ole p q i = BitVec.ofBool (decide (p i ≤ q i)) := rfl
theorem ge_read {s : Shape} (p q : FVec Ideal s .f32) (i : s.Idx) : cmpf .oge p q i = BitVec.ofBool (decide (q i ≤ p i)) := rfl
theorem gt_read {s : Shape} (p q : FVec Ideal s .f32) (i : s.Idx) : cmpf .ogt p q i = BitVec.ofBool (decide (q i < p i)) := rfl
theorem eq_read {s : Shape} (p q : FVec Ideal s .f32) (i : s.Idx) : cmpf .oeq p q i = BitVec.ofBool (decide (p i = q i)) := rfl
theorem and_read {s : Shape} (p q : IVec s 1) (i : s.Idx) : andi p q i = p i &&& q i := rfl
theorem sub_read {s : Shape} (p q : FVec Ideal s .f32) (i : s.Idx) : subf p q i = p i - q i := rfl
theorem mul_read {s : Shape} (p q : FVec Ideal s .f32) (i : s.Idx) : mulf p q i = p i * q i := rfl
theorem floor_read {s : Shape} (p : FVec Ideal s .f32) (i : s.Idx) : Host.floor p i = Ideal.liftRound Int.floor (p i) := rfl
theorem const_read {s : Shape} (w : BitVec 32) (h : S_.BroadcastsInDim s (![] : Fin 0 → Fin s.rank)) (i : s.Idx) :
    broadcastInDim s (![] : Fin 0 → Fin s.rank) h (constant (F := Ideal) S_ .f32 w) i = Ideal.ofBits .f32 w := rfl

theorem both {p q : BitVec 1} (h : p &&& q = 1#1) : p = 1#1 ∧ q = 1#1 := by revert p q; decide
theorem holds_of {p : Prop} [Decidable p] (h : BitVec.ofBool (decide p) = 1#1) : p := by
  by_contra hp; simp [hp] at h

/-- A number that is at most `hi` and whose complement is at most `hi` is a real number inside the clipping bounds. -/
theorem good_of (x : EReal) (h : x ≤ Ideal.ofBits .f32 0x3F7FF972#32) (h' : 1 - x ≤ Ideal.ofBits .f32 0x3F7FF972#32) :
    ∃ r : ℝ, x = (r : EReal) ∧ Good r := by
  rw [Words.hi] at h h'
  induction x with
  | bot => exact absurd h' (not_le.mpr (by rw [sub_eq_add_neg, EReal.neg_bot, EReal.add_top_of_ne_bot (by decide)]; exact EReal.coe_lt_top _))
  | top => exact absurd h (by simp)
  | coe r =>
    rw [one_sub_coe, EReal.coe_le_coe_iff] at h'
    rw [EReal.coe_le_coe_iff] at h
    exact ⟨r, rfl, by norm_num at h h' ⊢; linarith, h⟩

/-- A whole number from 0 to 89 is a class. -/
theorem class_of (l : EReal) (h0 : 0 ≤ l) (h1 : l ≤ Ideal.ofBits .f32 0x42B20000#32) (h2 : Ideal.liftRound Int.floor l = l) :
    ∃ L : Fin 90, l = ((L.val : ℝ) : EReal) := by
  rw [Words.last] at h1
  induction l with
  | bot => exact absurd h0 (by simp)
  | top => exact absurd h1 (by simp)
  | coe r =>
    have h0' : (0 : ℝ) ≤ r := by exact_mod_cast h0
    have h1' : r ≤ 89 := by exact_mod_cast h1
    have h2' : ((⌊r⌋ : ℝ) : EReal) = (r : EReal) := h2
    rw [EReal.coe_eq_coe_iff] at h2'
    have hf : 0 ≤ ⌊r⌋ := Int.floor_nonneg.mpr h0'
    have hf' : ⌊r⌋ ≤ 89 := by exact_mod_cast (h2'.le.trans h1' : (⌊r⌋ : ℝ) ≤ 89)
    refine ⟨⟨⌊r⌋.toNat, by omega⟩, ?_⟩
    have : ((⌊r⌋.toNat : ℕ) : ℤ) = ⌊r⌋ := Int.toNat_of_nonneg hf
    have h3 : ((⌊r⌋.toNat : ℕ) : ℝ) = r := (by exact_mod_cast congrArg (fun z : ℤ => (z : ℝ)) this : ((⌊r⌋.toNat : ℕ) : ℝ) = (⌊r⌋ : ℝ)).trans h2'
    rw [h3]

variable (s : FVec Ideal S8x49104x90 .f32) (r : FVec Ideal S8x49104x4 .f32) (a : FVec Ideal S1x49104x4 .f32) (x : FVec Ideal S8x32x5 .f32)

theorem scores_good (h : (fn (F := Ideal) s r a x).1 = fun _ => 1#1) (b : Fin 8) (n : Fin 49104) (k : Fin 90) :
    ∃ v : ℝ, s (ix3 b n k) = (v : EReal) ∧ Good v := by
  have h := congrFun h (ix3 b n k)
  unfold fn fn_part1 at h
  dsimp only at h
  rw [and_read, le_read, le_read, sub_read, const_read, const_read, Ideal.ofBits_one_f32] at h
  obtain ⟨h1, h2⟩ := both h
  exact good_of _ (holds_of h1) (holds_of h2)

theorem boxes_good (h : (fn (F := Ideal) s r a x).2 = fun _ => 1#1) (b : Fin 8) (j : Fin 32) :
    (∃ L : Fin 90, x (ix3 b j 4) = ((L.val : ℝ) : EReal))
      ∧ Ideal.ofBits .f32 0x40000000#32 < (x (ix3 b j 2) - x (ix3 b j 0)) * (x (ix3 b j 3) - x (ix3 b j 1)) := by
  have h := congrFun h (ix2 b j)
  unfold fn fn_part1 at h
  dsimp only at h
  have e0 : shapeCast S8x32 (extractStridedSlice S8x32x1 ![0, 0, 0] x Facts.slices_S8x32x5_S8x32x1_0_0_0) Facts.shapeCasts_S8x32x1_S8x32 (ix2 b j) = x (ix3 b j 0) := by
    pointwise []
  have e1 : shapeCast S8x32 (extractStridedSlice S8x32x1 ![0, 0, 1] x Facts.slices_S8x32x5_S8x32x1_0_0_1) Facts.shapeCasts_S8x32x1_S8x32 (ix2 b j) = x (ix3 b j 1) := by
    pointwise []
  have e2 : shapeCast S8x32 (extractStridedSlice S8x32x1 ![0, 0, 2] x Facts.slices_S8x32x5_S8x32x1_0_0_2) Facts.shapeCasts_S8x32x1_S8x32 (ix2 b j) = x (ix3 b j 2) := by
    pointwise []
  have e3 : shapeCast S8x32 (extractStridedSlice S8x32x1 ![0, 0, 3] x Facts.slices_S8x32x5_S8x32x1_0_0_3) Facts.shapeCasts_S8x32x1_S8x32 (ix2 b j) = x (ix3 b j 3) := by
    pointwise []
  have e4 : shapeCast S8x32 (extractStridedSlice S8x32x1 ![0, 0, 4] x Facts.slices_S8x32x5_S8x32x1_0_0_4) Facts.shapeCasts_S8x32x1_S8x32 (ix2 b j) = x (ix3 b j 4) := by
    pointwise []
  rw [and_read, and_read, and_read, ge_read, le_read, eq_read, gt_read, mul_read, sub_read, sub_read, floor_read, const_read, const_read, const_read,
    Ideal.ofBits_zero_f32, e0, e1, e2, e3, e4] at h
  obtain ⟨h, h4⟩ := both h
  obtain ⟨h, h3⟩ := both h
  obtain ⟨h1, h2⟩ := both h
  exact ⟨class_of _ (holds_of h1) (holds_of h2) (holds_of h3), holds_of h4⟩

end Cert.Range

end
-- ==== Proof.RefEnd.lean ====
/- Reading the line at its end: a buffer holds its operation's function of what the operands hold AT THE END, since nothing after the
   operation writes the buffer, and nothing from the operation on writes an operand. -/
module

public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.Lib.Tactic
public import proofs.«01_k».proof.Proof.RefOps

@[expose] public section

noncomputable section

namespace Cert.Plain

open Cert.ReferenceIdeal Cert.ReferenceIdeal.Gen Idealize.ShloMosaic Idealize.ShloMosaic.TcCoe Idealize.SL.Sem Idealize.ShloMosaic.StableHlo

variable {F : FTy → Type} [FloatOps F]

theorem after_add : ∀ (l₁ l₂ : List (HloOp τ sig (Elt F))) (V : Valuation τ sig (Elt F)), after (l₁ ++ l₂) V = after l₂ (after l₁ V)
  | [], _, _ => rfl
  | _ :: l₁, l₂, V => after_add l₁ l₂ _

theorem map_split {k : ℕ} {op : HloOp τ sig (Elt F)} : ∀ {l : List (HloOp τ sig (Elt F))} (i : ℕ), l[i]? = some op → l = l.take i ++ op :: l.drop (i + 1)
  | [], i, h => by simp at h
  | a :: l, 0, h => by simp at h; simp [h]
  | a :: l, i + 1, h => by
    have := map_split (k := k) i (l := l) (by simpa using h)
    simpa using this

/-- Nothing from place `k` on writes `r`. -/
abbrev later (k : ℕ) (r : Ref sig .tc) : Bool := (written.drop k).all fun w => decide (w ≠ r)

theorem keep_drop (k : ℕ) (r : Ref sig .tc) (h : later k r = true) (V : Valuation τ sig (Elt F)) :
    after ((line (F := F)).drop k) V (Proc.devRef .tc r) = V (Proc.devRef .tc r) := by
  refine after_of_writes_sub (W := written.drop k) _ V (forall_writes_sub_of_map ?_) fun hm => ?_
  · rw [List.map_drop, List.map_drop, line_writes]
  · exact of_decide_eq_true (List.all_eq_true.mp h r hm) rfl

/-- The buffer that the operation at place `k` writes, at the end: that operation's result over the values before it. -/
theorem at_end (k : ℕ) (op : HloOp τ sig (Elt F)) (hk : (line (F := F))[k]? = some op) (r : Ref sig .tc) (h : later (k + 1) r = true)
    (V : Valuation τ sig (Elt F)) : after line V (Proc.devRef .tc r) = op.result (after (line.take k) V) (Proc.devRef .tc r) := by
  conv_lhs => rw [map_split (k := k) k hk, after_add, after_cons]
  exact keep_drop (k + 1) r h _

/-- A buffer that nothing from place `k` on writes holds at place `k` what it holds at the end. -/
theorem at_place (k : ℕ) (r : Ref sig .tc) (h : later k r = true) (V : Valuation τ sig (Elt F)) :
    after ((line (F := F)).take k) V (Proc.devRef .tc r) = after line V (Proc.devRef .tc r) := by
  conv_rhs => rw [← List.take_append_drop k (line (F := F)), after_add]
  exact (keep_drop k r h _).symm

variable {V : Valuation τ sig (Elt F)} {x a b c e y : Ref sig .tc}

theorem nullary_end (k : ℕ) {v : y.ty.Contents (Elt F)} {hy} (hk : (line (F := F))[k]? = some (nullary y v hy)) (h : later (k + 1) y = true) :
    after line V (Proc.devRef .tc y) = v := (at_end k _ hk y h V).trans (nullary_result y v hy _)

theorem unary_end (k : ℕ) {f : x.ty.Contents (Elt F) → y.ty.Contents (Elt F)} {hx hy} (hk : (line (F := F))[k]? = some (unary x y f hx hy))
    (h : (later (k + 1) y && later k x) = true) :
    after line V (Proc.devRef .tc y) = f (after line V (Proc.devRef .tc x)) := by
  rw [Bool.and_eq_true] at h
  rw [at_end k _ hk y h.1 V, unary_result, at_place k x h.2]

theorem reshape_end (k : ℕ) {he hn hx hy} (hk : (line (F := F))[k]? = some (reshape x y he hn hx hy))
    (h : (later (k + 1) y && later k x) = true) :
    after line V (Proc.devRef .tc y) = fun i => he ▸ shapeCast y.ty.shape (after line V (Proc.devRef .tc x)) hn i := by
  rw [Bool.and_eq_true] at h
  rw [at_end k _ hk y h.1 V, reshape_result, at_place k x h.2]

theorem binary_end (k : ℕ) {f : a.ty.Contents (Elt F) → b.ty.Contents (Elt F) → y.ty.Contents (Elt F)} {ha hb hy}
    (hk : (line (F := F))[k]? = some (binary a b y f ha hb hy)) (h : (later (k + 1) y && (later k a && later k b)) = true) :
    after line V (Proc.devRef .tc y) = f (after line V (Proc.devRef .tc a)) (after line V (Proc.devRef .tc b)) := by
  rw [Bool.and_eq_true, Bool.and_eq_true] at h
  rw [at_end k _ hk y h.1 V, binary_result, at_place k a h.2.1, at_place k b h.2.2]

theorem ternary_end (k : ℕ) {f : c.ty.Contents (Elt F) → a.ty.Contents (Elt F) → b.ty.Contents (Elt F) → y.ty.Contents (Elt F)} {hc ha hb hy}
    (hk : (line (F := F))[k]? = some (ternary c a b y f hc ha hb hy))
    (h : (later (k + 1) y && (later k c && (later k a && later k b))) = true) :
    after line V (Proc.devRef .tc y) = f (after line V (Proc.devRef .tc c)) (after line V (Proc.devRef .tc a)) (after line V (Proc.devRef .tc b)) := by
  rw [Bool.and_eq_true, Bool.and_eq_true, Bool.and_eq_true] at h
  rw [at_end k _ hk y h.1 V, ternary_result, at_place k c h.2.1, at_place k a h.2.2.1, at_place k b h.2.2.2]

theorem quaternary_end (k : ℕ)
    {f : a.ty.Contents (Elt F) → b.ty.Contents (Elt F) → c.ty.Contents (Elt F) → e.ty.Contents (Elt F) → y.ty.Contents (Elt F)} {ha hb hc he' hy}
    (hk : (line (F := F))[k]? = some (quaternary a b c e y f ha hb hc he' hy))
    (h : (later (k + 1) y && (later k a && (later k b && (later k c && later k e)))) = true) :
    after line V (Proc.devRef .tc y)
      = f (after line V (Proc.devRef .tc a)) (after line V (Proc.devRef .tc b)) (after line V (Proc.devRef .tc c)) (after line V (Proc.devRef .tc e)) := by
  rw [Bool.and_eq_true, Bool.and_eq_true, Bool.and_eq_true, Bool.and_eq_true] at h
  rw [at_end k _ hk y h.1 V, quaternary_result, at_place k a h.2.1, at_place k b h.2.2.1, at_place k c h.2.2.2.1, at_place k e h.2.2.2.2]

theorem nary_end (k : ℕ) {f : ((k : Fin 4) → ((![x, a, b, c] : Fin 4 → Ref sig .tc) k).ty.Contents (Elt F)) → y.ty.Contents (Elt F)} {hxs hy}
    (hk : (line (F := F))[k]? = some (nary ![x, a, b, c] y f hxs hy))
    (h : (later (k + 1) y && (later k x && (later k a && (later k b && later k c)))) = true) :
    after line V (Proc.devRef .tc y)
      = f (Fin.cons (after line V (Proc.devRef .tc x)) (Fin.cons (after line V (Proc.devRef .tc a))
          (Fin.cons (after line V (Proc.devRef .tc b)) (Fin.cons (after line V (Proc.devRef .tc c)) (fun i => i.elim0))))) := by
  rw [Bool.and_eq_true, Bool.and_eq_true, Bool.and_eq_true, Bool.and_eq_true] at h
  rw [at_end k _ hk y h.1 V, nary4_result, at_place k x h.2.1, at_place k a h.2.2.1, at_place k b h.2.2.2.1, at_place k c h.2.2.2.2]

end Cert.Plain

end
-- ==== Proof.RefEqs.lean ====
/- What each buffer of the reference holds at the end, from what its operands hold there. -/
module

public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.Lib.Tactic
public import proofs.«01_k».proof.Proof.RefEnd

@[expose] public section

noncomputable section

namespace Cert.Plain

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxRecDepth 200000

theorem end_v0 : fin m c (Proc.devRef .tc main_v0) = shapeCast S49104x4 (fin m c (Proc.devRef .tc main_arg2)) shapeCasts_S1x49104x4_S49104x4 := reshape_end (x := main_arg2) (y := main_v0) 0 (he := rfl) (hn := shapeCasts_S1x49104x4_S49104x4) (hx := by decide) (hy := by decide) (by sl_kernel_rfl) (by decide +kernel)

theorem end_v1 : fin m c (Proc.devRef .tc main_v1) = ((extractStridedSlice S49104x1 ![0, 3] · slices_S49104x4_S49104x1_0_3) : (⟨S49104x4, .f32⟩ : BufTy).Contents (Elt F) → (⟨S49104x1, .f32⟩ : BufTy).Contents (Elt F)) (fin m c (Proc.devRef .tc main_v0)) := unary_end 1 rfl (by decide +kernel)

theorem end_v2 : fin m c (Proc.devRef .tc main_v2) = shapeCast S49104 (fin m c (Proc.devRef .tc main_v1)) shapeCasts_S49104x1_S49104 := reshape_end (x := main_v1) (y := main_v2) 2 (he := rfl) (hn := shapeCasts_S49104x1_S49104) (hx := by decide) (hy := by decide) (by sl_kernel_rfl) (by decide +kernel)

theorem end_v3 : fin m c (Proc.devRef .tc main_v3) = ((extractStridedSlice S49104x1 ![0, 1] · slices_S49104x4_S49104x1_0_1) : (⟨S49104x4, .f32⟩ : BufTy).Contents (Elt F) → (⟨S49104x1, .f32⟩ : BufTy).Contents (Elt F)) (fin m c (Proc.devRef .tc main_v0)) := unary_end 3 rfl (by decide +kernel)

theorem end_v4 : fin m c (Proc.devRef .tc main_v4) = shapeCast S49104 (fin m c (Proc.devRef .tc main_v3)) shapeCasts_S49104x1_S49104 := reshape_end (x := main_v3) (y := main_v4) 4 (he := rfl) (hn := shapeCasts_S49104x1_S49104) (hx := by decide) (hy := by decide) (by sl_kernel_rfl) (by decide +kernel)

theorem end_v5 : fin m c (Proc.devRef .tc main_v5) = (subf : (⟨S49104, .f32⟩ : BufTy).Contents (Elt F) → (⟨S49104, .f32⟩ : BufTy).Contents (Elt F) → (⟨S49104, .f32⟩ : BufTy).Contents (Elt F)) (fin m c (Proc.devRef .tc main_v2)) (fin m c (Proc.devRef .tc main_v4)) := binary_end 5 rfl (by decide +kernel)

theorem end_v6 : fin m c (Proc.devRef .tc main_v6) = ((extractStridedSlice S49104x1 ![0, 2] · slices_S49104x4_S49104x1_0_2) : (⟨S49104x4, .f32⟩ : BufTy).Contents (Elt F) → (⟨S49104x1, .f32⟩ : BufTy).Contents (Elt F)) (fin m c (Proc.devRef .tc main_v0)) := unary_end 6 rfl (by decide +kernel)

theorem end_v7 : fin m c (Proc.devRef .tc main_v7) = shapeCast S49104 (fin m c (Proc.devRef .tc main_v6)) shapeCasts_S49104x1_S49104 := reshape_end (x := main_v6) (y := main_v7) 7 (he := rfl) (hn := shapeCasts_S49104x1_S49104) (hx := by decide) (hy := by decide) (by sl_kernel_rfl) (by decide +kernel)

theorem end_v8 : fin m c (Proc.devRef .tc main_v8) = ((extractStridedSlice S49104x1 ![0, 0] · slices_S49104x4_S49104x1_0_0) : (⟨S49104x4, .f32⟩ : BufTy).Contents (Elt F) → (⟨S49104x1, .f32⟩ : BufTy).Contents (Elt F)) (fin m c (Proc.devRef .tc main_v0)) := unary_end 8 rfl (by decide +kernel)

theorem end_v9 : fin m c (Proc.devRef .tc main_v9) = shapeCast S49104 (fin m c (Proc.devRef .tc main_v8)) shapeCasts_S49104x1_S49104 := reshape_end (x := main_v8) (y := main_v9) 9 (he := rfl) (hn := shapeCasts_S49104x1_S49104) (hx := by decide) (hy := by decide) (by sl_kernel_rfl) (by decide +kernel)

theorem end_v10 : fin m c (Proc.devRef .tc main_v10) = (subf : (⟨S49104, .f32⟩ : BufTy).Contents (Elt F) → (⟨S49104, .f32⟩ : BufTy).Contents (Elt F) → (⟨S49104, .f32⟩ : BufTy).Contents (Elt F)) (fin m c (Proc.devRef .tc main_v7)) (fin m c (Proc.devRef .tc main_v9)) := binary_end 10 rfl (by decide +kernel)

theorem end_v11 : fin m c (Proc.devRef .tc main_v11) = ((extractStridedSlice S49104x1 ![0, 1] · slices_S49104x4_S49104x1_0_1) : (⟨S49104x4, .f32⟩ : BufTy).Contents (Elt F) → (⟨S49104x1, .f32⟩ : BufTy).Contents (Elt F)) (fin m c (Proc.devRef .tc main_v0)) := unary_end 11 rfl (by decide +kernel)

theorem end_v12 : fin m c (Proc.devRef .tc main_v12) = shapeCast S49104 (fin m c (Proc.devRef .tc main_v11)) shapeCasts_S49104x1_S49104 := reshape_end (x := main_v11) (y := main_v12) 12 (he := rfl) (hn := shapeCasts_S49104x1_S49104) (hx := by decide) (hy := by decide) (by sl_kernel_rfl) (by decide +kernel)

theorem end_cst : fin m c (Proc.devRef .tc main_cst) = (constant S_ .f32 0x3F000000#32) := nullary_end 13 rfl (by decide +kernel)

theorem end_v13 : fin m c (Proc.devRef .tc main_v13) = (broadcastInDim S49104 ![] bcast_S_S49104 : (⟨S_, .f32⟩ : BufTy).Contents (Elt F) → (⟨S49104, .f32⟩ : BufTy).Contents (Elt F)) (fin m c (Proc.devRef .tc main_cst)) := unary_end 14 rfl (by decide +kernel)

theorem end_v14 : fin m c (Proc.devRef .tc main_v14) = (mulf : (⟨S49104, .f32⟩ : BufTy).Contents (Elt F) → (⟨S49104, .f32⟩ : BufTy).Contents (Elt F) → (⟨S49104, .f32⟩ : BufTy).Contents (Elt F)) (fin m c (Proc.devRef .tc main_v13)) (fin m c (Proc.devRef .tc main_v5)) := binary_end 15 rfl (by decide +kernel)

theorem end_v15 : fin m c (Proc.devRef .tc main_v15) = (addf : (⟨S49104, .f32⟩ : BufTy).Contents (Elt F) → (⟨S49104, .f32⟩ : BufTy).Contents (Elt F) → (⟨S49104, .f32⟩ : BufTy).Contents (Elt F)) (fin m c (Proc.devRef .tc main_v12)) (fin m c (Proc.devRef .tc main_v14)) := binary_end 16 rfl (by decide +kernel)

theorem end_v16 : fin m c (Proc.devRef .tc main_v16) = ((extractStridedSlice S49104x1 ![0, 0] · slices_S49104x4_S49104x1_0_0) : (⟨S49104x4, .f32⟩ : BufTy).Contents (Elt F) → (⟨S49104x1, .f32⟩ : BufTy).Contents (Elt F)) (fin m c (Proc.devRef .tc main_v0)) := unary_end 17 rfl (by decide +kernel)

theorem end_v17 : fin m c (Proc.devRef .tc main_v17) = shapeCast S49104 (fin m c (Proc.devRef .tc main_v16)) shapeCasts_S49104x1_S49104 := reshape_end (x := main_v16) (y := main_v17) 18 (he := rfl) (hn := shapeCasts_S49104x1_S49104) (hx := by decide) (hy := by decide) (by sl_kernel_rfl) (by decide +kernel)

theorem end_cst_0 : fin m c (Proc.devRef .tc main_cst_0) = (constant S_ .f32 0x3F000000#32) := nullary_end 19 rfl (by decide +kernel)

theorem end_v18 : fin m c (Proc.devRef .tc main_v18) = (broadcastInDim S49104 ![] bcast_S_S49104 : (⟨S_, .f32⟩ : BufTy).Contents (Elt F) → (⟨S49104, .f32⟩ : BufTy).Contents (Elt F)) (fin m c (Proc.devRef .tc main_cst_0)) := unary_end 20 rfl (by decide +kernel)

theorem end_v19 : fin m c (Proc.devRef .tc main_v19) = (mulf : (⟨S49104, .f32⟩ : BufTy).Contents (Elt F) → (⟨S49104, .f32⟩ : BufTy).Contents (Elt F) → (⟨S49104, .f32⟩ : BufTy).Contents (Elt F)) (fin m c (Proc.devRef .tc main_v18)) (fin m c (Proc.devRef .tc main_v10)) := binary_end 21 rfl (by decide +kernel)

theorem end_v20 : fin m c (Proc.devRef .tc main_v20) = (addf : (⟨S49104, .f32⟩ : BufTy).Contents (Elt F) → (⟨S49104, .f32⟩ : BufTy).Contents (Elt F) → (⟨S49104, .f32⟩ : BufTy).Contents (Elt F)) (fin m c (Proc.devRef .tc main_v17)) (fin m c (Proc.devRef .tc main_v19)) := binary_end 22 rfl (by decide +kernel)

theorem end_cst_1 : fin m c (Proc.devRef .tc main_cst_1) = (constant S_ .f32 0x38D1B717#32) := nullary_end 23 rfl (by decide +kernel)

theorem end_cst_2 : fin m c (Proc.devRef .tc main_cst_2) = (constant S_ .f32 0x3F7FF972#32) := nullary_end 24 rfl (by decide +kernel)

theorem end_call0_v0 : fin m c (Proc.devRef .tc main_call0_v0) = (id : (⟨S_, .f32⟩ : BufTy).Contents (Elt F) → (⟨S_, .f32⟩ : BufTy).Contents (Elt F)) (fin m c (Proc.devRef .tc main_cst_1)) := unary_end 25 rfl (by decide +kernel)

theorem end_call0_v1 : fin m c (Proc.devRef .tc main_call0_v1) = ((broadcastInDim S8x49104x90 ![] bcast_S_S8x49104x90) : (⟨S_, .f32⟩ : BufTy).Contents (Elt F) → (⟨S8x49104x90, .f32⟩ : BufTy).Contents (Elt F)) (fin m c (Proc.devRef .tc main_call0_v0)) := unary_end 26 rfl (by decide +kernel)

theorem end_call0_v2 : fin m c (Proc.devRef .tc main_call0_v2) = (maximumf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_call0_v1)) (fin m c (Proc.devRef .tc main_arg0)) := binary_end 27 rfl (by decide +kernel)

theorem end_call0_v3 : fin m c (Proc.devRef .tc main_call0_v3) = (id : (⟨S_, .f32⟩ : BufTy).Contents (Elt F) → (⟨S_, .f32⟩ : BufTy).Contents (Elt F)) (fin m c (Proc.devRef .tc main_cst_2)) := unary_end 28 rfl (by decide +kernel)

theorem end_call0_v4 : fin m c (Proc.devRef .tc main_call0_v4) = ((broadcastInDim S8x49104x90 ![] bcast_S_S8x49104x90) : (⟨S_, .f32⟩ : BufTy).Contents (Elt F) → (⟨S8x49104x90, .f32⟩ : BufTy).Contents (Elt F)) (fin m c (Proc.devRef .tc main_call0_v3)) := unary_end 29 rfl (by decide +kernel)

theorem end_v21 : fin m c (Proc.devRef .tc main_v21) = (minimumf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_call0_v4)) (fin m c (Proc.devRef .tc main_call0_v2)) := binary_end 30 rfl (by decide +kernel)

theorem end_v22 : fin m c (Proc.devRef .tc main_v22) = (broadcastInDim S1x49104x4 ![1, 2] bcast_S49104x4_S1x49104x4_1_2 : (⟨S49104x4, .f32⟩ : BufTy).Contents (Elt F) → (⟨S1x49104x4, .f32⟩ : BufTy).Contents (Elt F)) (fin m c (Proc.devRef .tc main_v0)) := unary_end 31 rfl (by decide +kernel)

theorem end_v23 : fin m c (Proc.devRef .tc main_v23) = ((extractStridedSlice S8x32x1 ![0, 0, 2] · slices_S8x32x5_S8x32x1_0_0_2) : (⟨S8x32x5, .f32⟩ : BufTy).Contents (Elt F) → (⟨S8x32x1, .f32⟩ : BufTy).Contents (Elt F)) (fin m c (Proc.devRef .tc main_arg3)) := unary_end 32 rfl (by decide +kernel)

theorem end_v24 : fin m c (Proc.devRef .tc main_v24) = shapeCast S8x32 (fin m c (Proc.devRef .tc main_v23)) shapeCasts_S8x32x1_S8x32 := reshape_end (x := main_v23) (y := main_v24) 33 (he := rfl) (hn := shapeCasts_S8x32x1_S8x32) (hx := by decide) (hy := by decide) (by sl_kernel_rfl) (by decide +kernel)

theorem end_v25 : fin m c (Proc.devRef .tc main_v25) = ((extractStridedSlice S8x32x1 ![0, 0, 0] · slices_S8x32x5_S8x32x1_0_0_0) : (⟨S8x32x5, .f32⟩ : BufTy).Contents (Elt F) → (⟨S8x32x1, .f32⟩ : BufTy).Contents (Elt F)) (fin m c (Proc.devRef .tc main_arg3)) := unary_end 34 rfl (by decide +kernel)

theorem end_v26 : fin m c (Proc.devRef .tc main_v26) = shapeCast S8x32 (fin m c (Proc.devRef .tc main_v25)) shapeCasts_S8x32x1_S8x32 := reshape_end (x := main_v25) (y := main_v26) 35 (he := rfl) (hn := shapeCasts_S8x32x1_S8x32) (hx := by decide) (hy := by decide) (by sl_kernel_rfl) (by decide +kernel)

theorem end_v27 : fin m c (Proc.devRef .tc main_v27) = (subf : (⟨S8x32, .f32⟩ : BufTy).Contents (Elt F) → (⟨S8x32, .f32⟩ : BufTy).Contents (Elt F) → (⟨S8x32, .f32⟩ : BufTy).Contents (Elt F)) (fin m c (Proc.devRef .tc main_v24)) (fin m c (Proc.devRef .tc main_v26)) := binary_end 36 rfl (by decide +kernel)

theorem end_v28 : fin m c (Proc.devRef .tc main_v28) = ((extractStridedSlice S8x32x1 ![0, 0, 3] · slices_S8x32x5_S8x32x1_0_0_3) : (⟨S8x32x5, .f32⟩ : BufTy).Contents (Elt F) → (⟨S8x32x1, .f32⟩ : BufTy).Contents (Elt F)) (fin m c (Proc.devRef .tc main_arg3)) := unary_end 37 rfl (by decide +kernel)

theorem end_v29 : fin m c (Proc.devRef .tc main_v29) = shapeCast S8x32 (fin m c (Proc.devRef .tc main_v28)) shapeCasts_S8x32x1_S8x32 := reshape_end (x := main_v28) (y := main_v29) 38 (he := rfl) (hn := shapeCasts_S8x32x1_S8x32) (hx := by decide) (hy := by decide) (by sl_kernel_rfl) (by decide +kernel)

theorem end_v30 : fin m c (Proc.devRef .tc main_v30) = ((extractStridedSlice S8x32x1 ![0, 0, 1] · slices_S8x32x5_S8x32x1_0_0_1) : (⟨S8x32x5, .f32⟩ : BufTy).Contents (Elt F) → (⟨S8x32x1, .f32⟩ : BufTy).Contents (Elt F)) (fin m c (Proc.devRef .tc main_arg3)) := unary_end 39 rfl (by decide +kernel)

theorem end_v31 : fin m c (Proc.devRef .tc main_v31) = shapeCast S8x32 (fin m c (Proc.devRef .tc main_v30)) shapeCasts_S8x32x1_S8x32 := reshape_end (x := main_v30) (y := main_v31) 40 (he := rfl) (hn := shapeCasts_S8x32x1_S8x32) (hx := by decide) (hy := by decide) (by sl_kernel_rfl) (by decide +kernel)

theorem end_v32 : fin m c (Proc.devRef .tc main_v32) = (subf : (⟨S8x32, .f32⟩ : BufTy).Contents (Elt F) → (⟨S8x32, .f32⟩ : BufTy).Contents (Elt F) → (⟨S8x32, .f32⟩ : BufTy).Contents (Elt F)) (fin m c (Proc.devRef .tc main_v29)) (fin m c (Proc.devRef .tc main_v31)) := binary_end 41 rfl (by decide +kernel)

theorem end_v33 : fin m c (Proc.devRef .tc main_v33) = (mulf : (⟨S8x32, .f32⟩ : BufTy).Contents (Elt F) → (⟨S8x32, .f32⟩ : BufTy).Contents (Elt F) → (⟨S8x32, .f32⟩ : BufTy).Contents (Elt F)) (fin m c (Proc.devRef .tc main_v27)) (fin m c (Proc.devRef .tc main_v32)) := binary_end 42 rfl (by decide +kernel)

theorem end_v34 : fin m c (Proc.devRef .tc main_v34) = ((extractStridedSlice S1x49104x1 ![0, 0, 3] · slices_S1x49104x4_S1x49104x1_0_0_3) : (⟨S1x49104x4, .f32⟩ : BufTy).Contents (Elt F) → (⟨S1x49104x1, .f32⟩ : BufTy).Contents (Elt F)) (fin m c (Proc.devRef .tc main_v22)) := unary_end 43 rfl (by decide +kernel)

theorem end_v35 : fin m c (Proc.devRef .tc main_v35) = shapeCast S1x49104 (fin m c (Proc.devRef .tc main_v34)) shapeCasts_S1x49104x1_S1x49104 := reshape_end (x := main_v34) (y := main_v35) 44 (he := rfl) (hn := shapeCasts_S1x49104x1_S1x49104) (hx := by decide) (hy := by decide) (by sl_kernel_rfl) (by decide +kernel)

theorem end_v36 : fin m c (Proc.devRef .tc main_v36) = (broadcastInDim S1x49104x1 ![0, 1] bcast_S1x49104_S1x49104x1_0_1 : (⟨S1x49104, .f32⟩ : BufTy).Contents (Elt F) → (⟨S1x49104x1, .f32⟩ : BufTy).Contents (Elt F)) (fin m c (Proc.devRef .tc main_v35)) := unary_end 45 rfl (by decide +kernel)

theorem end_v37 : fin m c (Proc.devRef .tc main_v37) = ((extractStridedSlice S8x32x1 ![0, 0, 2] · slices_S8x32x5_S8x32x1_0_0_2) : (⟨S8x32x5, .f32⟩ : BufTy).Contents (Elt F) → (⟨S8x32x1, .f32⟩ : BufTy).Contents (Elt F)) (fin m c (Proc.devRef .tc main_arg3)) := unary_end 46 rfl (by decide +kernel)

theorem end_v38 : fin m c (Proc.devRef .tc main_v38) = shapeCast S8x32 (fin m c (Proc.devRef .tc main_v37)) shapeCasts_S8x32x1_S8x32 := reshape_end (x := main_v37) (y := main_v38) 47 (he := rfl) (hn := shapeCasts_S8x32x1_S8x32) (hx := by decide) (hy := by decide) (by sl_kernel_rfl) (by decide +kernel)

theorem end_v39 : fin m c (Proc.devRef .tc main_v39) = (broadcastInDim S8x1x32 ![0, 2] bcast_S8x32_S8x1x32_0_2 : (⟨S8x32, .f32⟩ : BufTy).Contents (Elt F) → (⟨S8x1x32, .f32⟩ : BufTy).Contents (Elt F)) (fin m c (Proc.devRef .tc main_v38)) := unary_end 48 rfl (by decide +kernel)

theorem end_v40 : fin m c (Proc.devRef .tc main_v40) = (broadcastInDim S8x49104x32 ![0, 1, 2] bcast_S1x49104x1_S8x49104x32_0_1_2 : (⟨S1x49104x1, .f32⟩ : BufTy).Contents (Elt F) → (⟨S8x49104x32, .f32⟩ : BufTy).Contents (Elt F)) (fin m c (Proc.devRef .tc main_v36)) := unary_end 49 rfl (by decide +kernel)

theorem end_v41 : fin m c (Proc.devRef .tc main_v41) = (broadcastInDim S8x49104x32 ![0, 1, 2] bcast_S8x1x32_S8x49104x32_0_1_2 : (⟨S8x1x32, .f32⟩ : BufTy).Contents (Elt F) → (⟨S8x49104x32, .f32⟩ : BufTy).Contents (Elt F)) (fin m c (Proc.devRef .tc main_v39)) := unary_end 50 rfl (by decide +kernel)

theorem end_v42 : fin m c (Proc.devRef .tc main_v42) = (minimumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v40)) (fin m c (Proc.devRef .tc main_v41)) := binary_end 51 rfl (by decide +kernel)

theorem end_v43 : fin m c (Proc.devRef .tc main_v43) = ((extractStridedSlice S1x49104x1 ![0, 0, 1] · slices_S1x49104x4_S1x49104x1_0_0_1) : (⟨S1x49104x4, .f32⟩ : BufTy).Contents (Elt F) → (⟨S1x49104x1, .f32⟩ : BufTy).Contents (Elt F)) (fin m c (Proc.devRef .tc main_v22)) := unary_end 52 rfl (by decide +kernel)

theorem end_v44 : fin m c (Proc.devRef .tc main_v44) = shapeCast S1x49104 (fin m c (Proc.devRef .tc main_v43)) shapeCasts_S1x49104x1_S1x49104 := reshape_end (x := main_v43) (y := main_v44) 53 (he := rfl) (hn := shapeCasts_S1x49104x1_S1x49104) (hx := by decide) (hy := by decide) (by sl_kernel_rfl) (by decide +kernel)

theorem end_v45 : fin m c (Proc.devRef .tc main_v45) = (broadcastInDim S1x49104x1 ![0, 1] bcast_S1x49104_S1x49104x1_0_1 : (⟨S1x49104, .f32⟩ : BufTy).Contents (Elt F) → (⟨S1x49104x1, .f32⟩ : BufTy).Contents (Elt F)) (fin m c (Proc.devRef .tc main_v44)) := unary_end 54 rfl (by decide +kernel)

theorem end_v46 : fin m c (Proc.devRef .tc main_v46) = ((extractStridedSlice S8x32x1 ![0, 0, 0] · slices_S8x32x5_S8x32x1_0_0_0) : (⟨S8x32x5, .f32⟩ : BufTy).Contents (Elt F) → (⟨S8x32x1, .f32⟩ : BufTy).Contents (Elt F)) (fin m c (Proc.devRef .tc main_arg3)) := unary_end 55 rfl (by decide +kernel)

theorem end_v47 : fin m c (Proc.devRef .tc main_v47) = shapeCast S8x32 (fin m c (Proc.devRef .tc main_v46)) shapeCasts_S8x32x1_S8x32 := reshape_end (x := main_v46) (y := main_v47) 56 (he := rfl) (hn := shapeCasts_S8x32x1_S8x32) (hx := by decide) (hy := by decide) (by sl_kernel_rfl) (by decide +kernel)

theorem end_v48 : fin m c (Proc.devRef .tc main_v48) = (broadcastInDim S8x1x32 ![0, 2] bcast_S8x32_S8x1x32_0_2 : (⟨S8x32, .f32⟩ : BufTy).Contents (Elt F) → (⟨S8x1x32, .f32⟩ : BufTy).Contents (Elt F)) (fin m c (Proc.devRef .tc main_v47)) := unary_end 57 rfl (by decide +kernel)

theorem end_v49 : fin m c (Proc.devRef .tc main_v49) = (broadcastInDim S8x49104x32 ![0, 1, 2] bcast_S1x49104x1_S8x49104x32_0_1_2 : (⟨S1x49104x1, .f32⟩ : BufTy).Contents (Elt F) → (⟨S8x49104x32, .f32⟩ : BufTy).Contents (Elt F)) (fin m c (Proc.devRef .tc main_v45)) := unary_end 58 rfl (by decide +kernel)

theorem end_v50 : fin m c (Proc.devRef .tc main_v50) = (broadcastInDim S8x49104x32 ![0, 1, 2] bcast_S8x1x32_S8x49104x32_0_1_2 : (⟨S8x1x32, .f32⟩ : BufTy).Contents (Elt F) → (⟨S8x49104x32, .f32⟩ : BufTy).Contents (Elt F)) (fin m c (Proc.devRef .tc main_v48)) := unary_end 59 rfl (by decide +kernel)

theorem end_v51 : fin m c (Proc.devRef .tc main_v51) = (maximumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v49)) (fin m c (Proc.devRef .tc main_v50)) := binary_end 60 rfl (by decide +kernel)

theorem end_v52 : fin m c (Proc.devRef .tc main_v52) = (subf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v42)) (fin m c (Proc.devRef .tc main_v51)) := binary_end 61 rfl (by decide +kernel)

theorem end_v53 : fin m c (Proc.devRef .tc main_v53) = ((extractStridedSlice S1x49104x1 ![0, 0, 2] · slices_S1x49104x4_S1x49104x1_0_0_2) : (⟨S1x49104x4, .f32⟩ : BufTy).Contents (Elt F) → (⟨S1x49104x1, .f32⟩ : BufTy).Contents (Elt F)) (fin m c (Proc.devRef .tc main_v22)) := unary_end 62 rfl (by decide +kernel)

theorem end_v54 : fin m c (Proc.devRef .tc main_v54) = shapeCast S1x49104 (fin m c (Proc.devRef .tc main_v53)) shapeCasts_S1x49104x1_S1x49104 := reshape_end (x := main_v53) (y := main_v54) 63 (he := rfl) (hn := shapeCasts_S1x49104x1_S1x49104) (hx := by decide) (hy := by decide) (by sl_kernel_rfl) (by decide +kernel)

theorem end_v55 : fin m c (Proc.devRef .tc main_v55) = (broadcastInDim S1x49104x1 ![0, 1] bcast_S1x49104_S1x49104x1_0_1 : (⟨S1x49104, .f32⟩ : BufTy).Contents (Elt F) → (⟨S1x49104x1, .f32⟩ : BufTy).Contents (Elt F)) (fin m c (Proc.devRef .tc main_v54)) := unary_end 64 rfl (by decide +kernel)

theorem end_v56 : fin m c (Proc.devRef .tc main_v56) = ((extractStridedSlice S8x32x1 ![0, 0, 3] · slices_S8x32x5_S8x32x1_0_0_3) : (⟨S8x32x5, .f32⟩ : BufTy).Contents (Elt F) → (⟨S8x32x1, .f32⟩ : BufTy).Contents (Elt F)) (fin m c (Proc.devRef .tc main_arg3)) := unary_end 65 rfl (by decide +kernel)

theorem end_v57 : fin m c (Proc.devRef .tc main_v57) = shapeCast S8x32 (fin m c (Proc.devRef .tc main_v56)) shapeCasts_S8x32x1_S8x32 := reshape_end (x := main_v56) (y := main_v57) 66 (he := rfl) (hn := shapeCasts_S8x32x1_S8x32) (hx := by decide) (hy := by decide) (by sl_kernel_rfl) (by decide +kernel)

theorem end_v58 : fin m c (Proc.devRef .tc main_v58) = (broadcastInDim S8x1x32 ![0, 2] bcast_S8x32_S8x1x32_0_2 : (⟨S8x32, .f32⟩ : BufTy).Contents (Elt F) → (⟨S8x1x32, .f32⟩ : BufTy).Contents (Elt F)) (fin m c (Proc.devRef .tc main_v57)) := unary_end 67 rfl (by decide +kernel)

theorem end_v59 : fin m c (Proc.devRef .tc main_v59) = (broadcastInDim S8x49104x32 ![0, 1, 2] bcast_S1x49104x1_S8x49104x32_0_1_2 : (⟨S1x49104x1, .f32⟩ : BufTy).Contents (Elt F) → (⟨S8x49104x32, .f32⟩ : BufTy).Contents (Elt F)) (fin m c (Proc.devRef .tc main_v55)) := unary_end 68 rfl (by decide +kernel)

theorem end_v60 : fin m c (Proc.devRef .tc main_v60) = (broadcastInDim S8x49104x32 ![0, 1, 2] bcast_S8x1x32_S8x49104x32_0_1_2 : (⟨S8x1x32, .f32⟩ : BufTy).Contents (Elt F) → (⟨S8x49104x32, .f32⟩ : BufTy).Contents (Elt F)) (fin m c (Proc.devRef .tc main_v58)) := unary_end 69 rfl (by decide +kernel)

theorem end_v61 : fin m c (Proc.devRef .tc main_v61) = (minimumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v59)) (fin m c (Proc.devRef .tc main_v60)) := binary_end 70 rfl (by decide +kernel)

theorem end_v62 : fin m c (Proc.devRef .tc main_v62) = ((extractStridedSlice S1x49104x1 ![0, 0, 0] · slices_S1x49104x4_S1x49104x1_0_0_0) : (⟨S1x49104x4, .f32⟩ : BufTy).Contents (Elt F) → (⟨S1x49104x1, .f32⟩ : BufTy).Contents (Elt F)) (fin m c (Proc.devRef .tc main_v22)) := unary_end 71 rfl (by decide +kernel)

theorem end_v63 : fin m c (Proc.devRef .tc main_v63) = shapeCast S1x49104 (fin m c (Proc.devRef .tc main_v62)) shapeCasts_S1x49104x1_S1x49104 := reshape_end (x := main_v62) (y := main_v63) 72 (he := rfl) (hn := shapeCasts_S1x49104x1_S1x49104) (hx := by decide) (hy := by decide) (by sl_kernel_rfl) (by decide +kernel)

theorem end_v64 : fin m c (Proc.devRef .tc main_v64) = (broadcastInDim S1x49104x1 ![0, 1] bcast_S1x49104_S1x49104x1_0_1 : (⟨S1x49104, .f32⟩ : BufTy).Contents (Elt F) → (⟨S1x49104x1, .f32⟩ : BufTy).Contents (Elt F)) (fin m c (Proc.devRef .tc main_v63)) := unary_end 73 rfl (by decide +kernel)

theorem end_v65 : fin m c (Proc.devRef .tc main_v65) = ((extractStridedSlice S8x32x1 ![0, 0, 1] · slices_S8x32x5_S8x32x1_0_0_1) : (⟨S8x32x5, .f32⟩ : BufTy).Contents (Elt F) → (⟨S8x32x1, .f32⟩ : BufTy).Contents (Elt F)) (fin m c (Proc.devRef .tc main_arg3)) := unary_end 74 rfl (by decide +kernel)

theorem end_v66 : fin m c (Proc.devRef .tc main_v66) = shapeCast S8x32 (fin m c (Proc.devRef .tc main_v65)) shapeCasts_S8x32x1_S8x32 := reshape_end (x := main_v65) (y := main_v66) 75 (he := rfl) (hn := shapeCasts_S8x32x1_S8x32) (hx := by decide) (hy := by decide) (by sl_kernel_rfl) (by decide +kernel)

theorem end_v67 : fin m c (Proc.devRef .tc main_v67) = (broadcastInDim S8x1x32 ![0, 2] bcast_S8x32_S8x1x32_0_2 : (⟨S8x32, .f32⟩ : BufTy).Contents (Elt F) → (⟨S8x1x32, .f32⟩ : BufTy).Contents (Elt F)) (fin m c (Proc.devRef .tc main_v66)) := unary_end 76 rfl (by decide +kernel)

theorem end_v68 : fin m c (Proc.devRef .tc main_v68) = (broadcastInDim S8x49104x32 ![0, 1, 2] bcast_S1x49104x1_S8x49104x32_0_1_2 : (⟨S1x49104x1, .f32⟩ : BufTy).Contents (Elt F) → (⟨S8x49104x32, .f32⟩ : BufTy).Contents (Elt F)) (fin m c (Proc.devRef .tc main_v64)) := unary_end 77 rfl (by decide +kernel)

theorem end_v69 : fin m c (Proc.devRef .tc main_v69) = (broadcastInDim S8x49104x32 ![0, 1, 2] bcast_S8x1x32_S8x49104x32_0_1_2 : (⟨S8x1x32, .f32⟩ : BufTy).Contents (Elt F) → (⟨S8x49104x32, .f32⟩ : BufTy).Contents (Elt F)) (fin m c (Proc.devRef .tc main_v67)) := unary_end 78 rfl (by decide +kernel)

theorem end_v70 : fin m c (Proc.devRef .tc main_v70) = (maximumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v68)) (fin m c (Proc.devRef .tc main_v69)) := binary_end 79 rfl (by decide +kernel)

theorem end_v71 : fin m c (Proc.devRef .tc main_v71) = (subf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v61)) (fin m c (Proc.devRef .tc main_v70)) := binary_end 80 rfl (by decide +kernel)

theorem end_cst_3 : fin m c (Proc.devRef .tc main_cst_3) = (constant S_ .f32 0x00000000#32) := nullary_end 81 rfl (by decide +kernel)

theorem end_v72 : fin m c (Proc.devRef .tc main_v72) = (broadcastInDim S8x49104x32 ![] bcast_S_S8x49104x32 : (⟨S_, .f32⟩ : BufTy).Contents (Elt F) → (⟨S8x49104x32, .f32⟩ : BufTy).Contents (Elt F)) (fin m c (Proc.devRef .tc main_cst_3)) := unary_end 82 rfl (by decide +kernel)

theorem end_v73 : fin m c (Proc.devRef .tc main_v73) = (maximumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v52)) (fin m c (Proc.devRef .tc main_v72)) := binary_end 83 rfl (by decide +kernel)

theorem end_cst_4 : fin m c (Proc.devRef .tc main_cst_4) = (constant S_ .f32 0x00000000#32) := nullary_end 84 rfl (by decide +kernel)

theorem end_v74 : fin m c (Proc.devRef .tc main_v74) = (broadcastInDim S8x49104x32 ![] bcast_S_S8x49104x32 : (⟨S_, .f32⟩ : BufTy).Contents (Elt F) → (⟨S8x49104x32, .f32⟩ : BufTy).Contents (Elt F)) (fin m c (Proc.devRef .tc main_cst_4)) := unary_end 85 rfl (by decide +kernel)

theorem end_v75 : fin m c (Proc.devRef .tc main_v75) = (maximumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v71)) (fin m c (Proc.devRef .tc main_v74)) := binary_end 86 rfl (by decide +kernel)

theorem end_v76 : fin m c (Proc.devRef .tc main_v76) = ((extractStridedSlice S1x49104x1 ![0, 0, 2] · slices_S1x49104x4_S1x49104x1_0_0_2) : (⟨S1x49104x4, .f32⟩ : BufTy).Contents (Elt F) → (⟨S1x49104x1, .f32⟩ : BufTy).Contents (Elt F)) (fin m c (Proc.devRef .tc main_v22)) := unary_end 87 rfl (by decide +kernel)

theorem end_v77 : fin m c (Proc.devRef .tc main_v77) = shapeCast S1x49104 (fin m c (Proc.devRef .tc main_v76)) shapeCasts_S1x49104x1_S1x49104 := reshape_end (x := main_v76) (y := main_v77) 88 (he := rfl) (hn := shapeCasts_S1x49104x1_S1x49104) (hx := by decide) (hy := by decide) (by sl_kernel_rfl) (by decide +kernel)

theorem end_v78 : fin m c (Proc.devRef .tc main_v78) = ((extractStridedSlice S1x49104x1 ![0, 0, 0] · slices_S1x49104x4_S1x49104x1_0_0_0) : (⟨S1x49104x4, .f32⟩ : BufTy).Contents (Elt F) → (⟨S1x49104x1, .f32⟩ : BufTy).Contents (Elt F)) (fin m c (Proc.devRef .tc main_v22)) := unary_end 89 rfl (by decide +kernel)

theorem end_v79 : fin m c (Proc.devRef .tc main_v79) = shapeCast S1x49104 (fin m c (Proc.devRef .tc main_v78)) shapeCasts_S1x49104x1_S1x49104 := reshape_end (x := main_v78) (y := main_v79) 90 (he := rfl) (hn := shapeCasts_S1x49104x1_S1x49104) (hx := by decide) (hy := by decide) (by sl_kernel_rfl) (by decide +kernel)

theorem end_v80 : fin m c (Proc.devRef .tc main_v80) = (subf : (⟨S1x49104, .f32⟩ : BufTy).Contents (Elt F) → (⟨S1x49104, .f32⟩ : BufTy).Contents (Elt F) → (⟨S1x49104, .f32⟩ : BufTy).Contents (Elt F)) (fin m c (Proc.devRef .tc main_v77)) (fin m c (Proc.devRef .tc main_v79)) := binary_end 91 rfl (by decide +kernel)

theorem end_v81 : fin m c (Proc.devRef .tc main_v81) = ((extractStridedSlice S1x49104x1 ![0, 0, 3] · slices_S1x49104x4_S1x49104x1_0_0_3) : (⟨S1x49104x4, .f32⟩ : BufTy).Contents (Elt F) → (⟨S1x49104x1, .f32⟩ : BufTy).Contents (Elt F)) (fin m c (Proc.devRef .tc main_v22)) := unary_end 92 rfl (by decide +kernel)

theorem end_v82 : fin m c (Proc.devRef .tc main_v82) = shapeCast S1x49104 (fin m c (Proc.devRef .tc main_v81)) shapeCasts_S1x49104x1_S1x49104 := reshape_end (x := main_v81) (y := main_v82) 93 (he := rfl) (hn := shapeCasts_S1x49104x1_S1x49104) (hx := by decide) (hy := by decide) (by sl_kernel_rfl) (by decide +kernel)

theorem end_v83 : fin m c (Proc.devRef .tc main_v83) = ((extractStridedSlice S1x49104x1 ![0, 0, 1] · slices_S1x49104x4_S1x49104x1_0_0_1) : (⟨S1x49104x4, .f32⟩ : BufTy).Contents (Elt F) → (⟨S1x49104x1, .f32⟩ : BufTy).Contents (Elt F)) (fin m c (Proc.devRef .tc main_v22)) := unary_end 94 rfl (by decide +kernel)

theorem end_v84 : fin m c (Proc.devRef .tc main_v84) = shapeCast S1x49104 (fin m c (Proc.devRef .tc main_v83)) shapeCasts_S1x49104x1_S1x49104 := reshape_end (x := main_v83) (y := main_v84) 95 (he := rfl) (hn := shapeCasts_S1x49104x1_S1x49104) (hx := by decide) (hy := by decide) (by sl_kernel_rfl) (by decide +kernel)

theorem end_v85 : fin m c (Proc.devRef .tc main_v85) = (subf : (⟨S1x49104, .f32⟩ : BufTy).Contents (Elt F) → (⟨S1x49104, .f32⟩ : BufTy).Contents (Elt F) → (⟨S1x49104, .f32⟩ : BufTy).Contents (Elt F)) (fin m c (Proc.devRef .tc main_v82)) (fin m c (Proc.devRef .tc main_v84)) := binary_end 96 rfl (by decide +kernel)

theorem end_v86 : fin m c (Proc.devRef .tc main_v86) = (mulf : (⟨S1x49104, .f32⟩ : BufTy).Contents (Elt F) → (⟨S1x49104, .f32⟩ : BufTy).Contents (Elt F) → (⟨S1x49104, .f32⟩ : BufTy).Contents (Elt F)) (fin m c (Proc.devRef .tc main_v80)) (fin m c (Proc.devRef .tc main_v85)) := binary_end 97 rfl (by decide +kernel)

theorem end_v87 : fin m c (Proc.devRef .tc main_v87) = (broadcastInDim S1x49104x1 ![0, 1] bcast_S1x49104_S1x49104x1_0_1 : (⟨S1x49104, .f32⟩ : BufTy).Contents (Elt F) → (⟨S1x49104x1, .f32⟩ : BufTy).Contents (Elt F)) (fin m c (Proc.devRef .tc main_v86)) := unary_end 98 rfl (by decide +kernel)

theorem end_v88 : fin m c (Proc.devRef .tc main_v88) = (broadcastInDim S8x1x32 ![0, 2] bcast_S8x32_S8x1x32_0_2 : (⟨S8x32, .f32⟩ : BufTy).Contents (Elt F) → (⟨S8x1x32, .f32⟩ : BufTy).Contents (Elt F)) (fin m c (Proc.devRef .tc main_v33)) := unary_end 99 rfl (by decide +kernel)

theorem end_v89 : fin m c (Proc.devRef .tc main_v89) = (broadcastInDim S8x49104x32 ![0, 1, 2] bcast_S1x49104x1_S8x49104x32_0_1_2 : (⟨S1x49104x1, .f32⟩ : BufTy).Contents (Elt F) → (⟨S8x49104x32, .f32⟩ : BufTy).Contents (Elt F)) (fin m c (Proc.devRef .tc main_v87)) := unary_end 100 rfl (by decide +kernel)

theorem end_v90 : fin m c (Proc.devRef .tc main_v90) = (broadcastInDim S8x49104x32 ![0, 1, 2] bcast_S8x1x32_S8x49104x32_0_1_2 : (⟨S8x1x32, .f32⟩ : BufTy).Contents (Elt F) → (⟨S8x49104x32, .f32⟩ : BufTy).Contents (Elt F)) (fin m c (Proc.devRef .tc main_v88)) := unary_end 101 rfl (by decide +kernel)

theorem end_v91 : fin m c (Proc.devRef .tc main_v91) = (addf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v89)) (fin m c (Proc.devRef .tc main_v90)) := binary_end 102 rfl (by decide +kernel)

theorem end_v92 : fin m c (Proc.devRef .tc main_v92) = (mulf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v73)) (fin m c (Proc.devRef .tc main_v75)) := binary_end 103 rfl (by decide +kernel)

theorem end_v93 : fin m c (Proc.devRef .tc main_v93) = (subf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v91)) (fin m c (Proc.devRef .tc main_v92)) := binary_end 104 rfl (by decide +kernel)

theorem end_cst_5 : fin m c (Proc.devRef .tc main_cst_5) = (constant S_ .f32 0x322BCC77#32) := nullary_end 105 rfl (by decide +kernel)

theorem end_v94 : fin m c (Proc.devRef .tc main_v94) = (broadcastInDim S8x49104x32 ![] bcast_S_S8x49104x32 : (⟨S_, .f32⟩ : BufTy).Contents (Elt F) → (⟨S8x49104x32, .f32⟩ : BufTy).Contents (Elt F)) (fin m c (Proc.devRef .tc main_cst_5)) := unary_end 106 rfl (by decide +kernel)

theorem end_v95 : fin m c (Proc.devRef .tc main_v95) = (maximumf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v93)) (fin m c (Proc.devRef .tc main_v94)) := binary_end 107 rfl (by decide +kernel)

theorem end_v96 : fin m c (Proc.devRef .tc main_v96) = (mulf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v73)) (fin m c (Proc.devRef .tc main_v75)) := binary_end 108 rfl (by decide +kernel)

theorem end_v97 : fin m c (Proc.devRef .tc main_v97) = (Host.divf : (⟨S8x49104x32, .f32⟩ : BufTy).Contents (Elt F) → (⟨S8x49104x32, .f32⟩ : BufTy).Contents (Elt F) → (⟨S8x49104x32, .f32⟩ : BufTy).Contents (Elt F)) (fin m c (Proc.devRef .tc main_v96)) (fin m c (Proc.devRef .tc main_v95)) := binary_end 109 rfl (by decide +kernel)

theorem end_v98 : fin m c (Proc.devRef .tc main_v98) = ((extractStridedSlice S8x32x1 ![0, 0, 4] · slices_S8x32x5_S8x32x1_0_0_4) : (⟨S8x32x5, .f32⟩ : BufTy).Contents (Elt F) → (⟨S8x32x1, .f32⟩ : BufTy).Contents (Elt F)) (fin m c (Proc.devRef .tc main_arg3)) := unary_end 110 rfl (by decide +kernel)

theorem end_v99 : fin m c (Proc.devRef .tc main_v99) = shapeCast S8x32 (fin m c (Proc.devRef .tc main_v98)) shapeCasts_S8x32x1_S8x32 := reshape_end (x := main_v98) (y := main_v99) 111 (he := rfl) (hn := shapeCasts_S8x32x1_S8x32) (hx := by decide) (hy := by decide) (by sl_kernel_rfl) (by decide +kernel)

theorem end_cst_6 : fin m c (Proc.devRef .tc main_cst_6) = (constant S_ .f32 0xBF800000#32) := nullary_end 112 rfl (by decide +kernel)

theorem end_v100 : fin m c (Proc.devRef .tc main_v100) = (broadcastInDim S8x32 ![] bcast_S_S8x32 : (⟨S_, .f32⟩ : BufTy).Contents (Elt F) → (⟨S8x32, .f32⟩ : BufTy).Contents (Elt F)) (fin m c (Proc.devRef .tc main_cst_6)) := unary_end 113 rfl (by decide +kernel)

theorem end_v101 : fin m c (Proc.devRef .tc main_v101) = (cmpf .une : (⟨S8x32, .f32⟩ : BufTy).Contents (Elt F) → (⟨S8x32, .f32⟩ : BufTy).Contents (Elt F) → (⟨S8x32, .i1⟩ : BufTy).Contents (Elt F)) (fin m c (Proc.devRef .tc main_v99)) (fin m c (Proc.devRef .tc main_v100)) := binary_end 114 rfl (by decide +kernel)

theorem end_v102 : fin m c (Proc.devRef .tc main_v102) = (broadcastInDim S8x1x32 ![0, 2] bcast_S8x32_S8x1x32_0_2 : (⟨S8x32, .i1⟩ : BufTy).Contents (Elt F) → (⟨S8x1x32, .i1⟩ : BufTy).Contents (Elt F)) (fin m c (Proc.devRef .tc main_v101)) := unary_end 115 rfl (by decide +kernel)

theorem end_cst_7 : fin m c (Proc.devRef .tc main_cst_7) = (constant S_ .f32 0xBF800000#32) := nullary_end 116 rfl (by decide +kernel)

theorem end_call1_v0 : fin m c (Proc.devRef .tc main_call1_v0) = (id : (⟨S_, .f32⟩ : BufTy).Contents (Elt F) → (⟨S_, .f32⟩ : BufTy).Contents (Elt F)) (fin m c (Proc.devRef .tc main_cst_7)) := unary_end 117 rfl (by decide +kernel)

theorem end_call1_v1 : fin m c (Proc.devRef .tc main_call1_v1) = ((broadcastInDim S8x49104x32 ![0, 1, 2] bcast_S8x1x32_S8x49104x32_0_1_2) : (⟨S8x1x32, .i1⟩ : BufTy).Contents (Elt F) → (⟨S8x49104x32, .i1⟩ : BufTy).Contents (Elt F)) (fin m c (Proc.devRef .tc main_v102)) := unary_end 118 rfl (by decide +kernel)

theorem end_call1_v2 : fin m c (Proc.devRef .tc main_call1_v2) = ((broadcastInDim S8x49104x32 ![] bcast_S_S8x49104x32) : (⟨S_, .f32⟩ : BufTy).Contents (Elt F) → (⟨S8x49104x32, .f32⟩ : BufTy).Contents (Elt F)) (fin m c (Proc.devRef .tc main_call1_v0)) := unary_end 119 rfl (by decide +kernel)

theorem end_v103 : fin m c (Proc.devRef .tc main_v103) = (select : (⟨S8x49104x32, .i1⟩ : BufTy).Contents (Elt F) → (⟨S8x49104x32, .f32⟩ : BufTy).Contents (Elt F) → (⟨S8x49104x32, .f32⟩ : BufTy).Contents (Elt F) → (⟨S8x49104x32, .f32⟩ : BufTy).Contents (Elt F)) (fin m c (Proc.devRef .tc main_call1_v1)) (fin m c (Proc.devRef .tc main_v97)) (fin m c (Proc.devRef .tc main_call1_v2)) := ternary_end 120 rfl (by decide +kernel)

theorem end_cst_8 : fin m c (Proc.devRef .tc main_cst_8) = (constant S_ .f32 0xFF800000#32) := nullary_end 121 rfl (by decide +kernel)

theorem end_v104 : fin m c (Proc.devRef .tc main_v104) = ((fun x v => Host.reduce FloatOps.maximumf x v reducesTo_S8x49104x32_S8x49104_d2 h_S_) : (⟨S8x49104x32, .f32⟩ : BufTy).Contents (Elt F) → (⟨S_, .f32⟩ : BufTy).Contents (Elt F) → (⟨S8x49104, .f32⟩ : BufTy).Contents (Elt F)) (fin m c (Proc.devRef .tc main_v103)) (fin m c (Proc.devRef .tc main_cst_8)) := binary_end 122 rfl (by decide +kernel)

theorem end_call2_v0 : fin m c (Proc.devRef .tc main_call2_v0) = ((iotaInDim S8x49104x32 32 2) : (⟨S8x49104x32, .i32⟩ : BufTy).Contents (Elt F)) := nullary_end 123 rfl (by decide +kernel)

theorem end_call2_cst : fin m c (Proc.devRef .tc main_call2_cst) = ((constant S_ .f32 0xFF800000#32) : (⟨S_, .f32⟩ : BufTy).Contents (Elt F)) := nullary_end 124 rfl (by decide +kernel)

theorem end_call2_c : fin m c (Proc.devRef .tc main_call2_c) = ((constantI S_ 32 0#32) : (⟨S_, .i32⟩ : BufTy).Contents (Elt F)) := nullary_end 125 rfl (by decide +kernel)

theorem end_call2_v1_0 : fin m c (Proc.devRef .tc main_call2_v1_0) = ((fun x y u v j => (Host.argReduce reducer_argmax_f32_i32 x y u v reducesTo_S8x49104x32_S8x49104_d2 h_S_ j).1) : (⟨S8x49104x32, .f32⟩ : BufTy).Contents (Elt F) → (⟨S8x49104x32, .i32⟩ : BufTy).Contents (Elt F) → (⟨S_, .f32⟩ : BufTy).Contents (Elt F) → (⟨S_, .i32⟩ : BufTy).Contents (Elt F) → (⟨S8x49104, .f32⟩ : BufTy).Contents (Elt F)) (fin m c (Proc.devRef .tc main_v103)) (fin m c (Proc.devRef .tc main_call2_v0)) (fin m c (Proc.devRef .tc main_call2_cst)) (fin m c (Proc.devRef .tc main_call2_c)) := quaternary_end 126 rfl (by decide +kernel)

theorem end_v105 : fin m c (Proc.devRef .tc main_v105) = ((fun x y u v j => (Host.argReduce reducer_argmax_f32_i32 x y u v reducesTo_S8x49104x32_S8x49104_d2 h_S_ j).2) : (⟨S8x49104x32, .f32⟩ : BufTy).Contents (Elt F) → (⟨S8x49104x32, .i32⟩ : BufTy).Contents (Elt F) → (⟨S_, .f32⟩ : BufTy).Contents (Elt F) → (⟨S_, .i32⟩ : BufTy).Contents (Elt F) → (⟨S8x49104, .i32⟩ : BufTy).Contents (Elt F)) (fin m c (Proc.devRef .tc main_v103)) (fin m c (Proc.devRef .tc main_call2_v0)) (fin m c (Proc.devRef .tc main_call2_cst)) (fin m c (Proc.devRef .tc main_call2_c)) := quaternary_end 127 rfl (by decide +kernel)

theorem end_cst_9 : fin m c (Proc.devRef .tc main_cst_9) = (constant S_ .f32 0x3F000000#32) := nullary_end 128 rfl (by decide +kernel)

theorem end_v106 : fin m c (Proc.devRef .tc main_v106) = (broadcastInDim S8x49104 ![] bcast_S_S8x49104 : (⟨S_, .f32⟩ : BufTy).Contents (Elt F) → (⟨S8x49104, .f32⟩ : BufTy).Contents (Elt F)) (fin m c (Proc.devRef .tc main_cst_9)) := unary_end 129 rfl (by decide +kernel)

theorem end_v107 : fin m c (Proc.devRef .tc main_v107) = (cmpf .oge : (⟨S8x49104, .f32⟩ : BufTy).Contents (Elt F) → (⟨S8x49104, .f32⟩ : BufTy).Contents (Elt F) → (⟨S8x49104, .i1⟩ : BufTy).Contents (Elt F)) (fin m c (Proc.devRef .tc main_v104)) (fin m c (Proc.devRef .tc main_v106)) := binary_end 130 rfl (by decide +kernel)

theorem end_v108 : fin m c (Proc.devRef .tc main_v108) = (uitofp .f32 : (⟨S8x49104, .i1⟩ : BufTy).Contents (Elt F) → (⟨S8x49104, .f32⟩ : BufTy).Contents (Elt F)) (fin m c (Proc.devRef .tc main_v107)) := unary_end 131 rfl (by decide +kernel)

theorem end_cst_10 : fin m c (Proc.devRef .tc main_cst_10) = (constant S_ .f32 0x00000000#32) := nullary_end 132 rfl (by decide +kernel)

theorem end_v109 : fin m c (Proc.devRef .tc main_v109) = ((fun x v => Host.reduceAdd x v reducesTo_S8x49104_S8_d1 h_S_) : (⟨S8x49104, .f32⟩ : BufTy).Contents (Elt F) → (⟨S_, .f32⟩ : BufTy).Contents (Elt F) → (⟨S8, .f32⟩ : BufTy).Contents (Elt F)) (fin m c (Proc.devRef .tc main_v108)) (fin m c (Proc.devRef .tc main_cst_10)) := binary_end 133 rfl (by decide +kernel)

theorem end_v110 : fin m c (Proc.devRef .tc main_v110) = (broadcastInDim S8x49104x1 ![0, 1] bcast_S8x49104_S8x49104x1_0_1 : (⟨S8x49104, .i32⟩ : BufTy).Contents (Elt F) → (⟨S8x49104x1, .i32⟩ : BufTy).Contents (Elt F)) (fin m c (Proc.devRef .tc main_v105)) := unary_end 134 rfl (by decide +kernel)

theorem end_call3_c : fin m c (Proc.devRef .tc main_call3_c) = ((constantI S_ 32 0#32) : (⟨S_, .i32⟩ : BufTy).Contents (Elt F)) := nullary_end 135 rfl (by decide +kernel)

theorem end_call3_v0 : fin m c (Proc.devRef .tc main_call3_v0) = ((broadcastInDim S8x49104x1 ![] bcast_S_S8x49104x1) : (⟨S_, .i32⟩ : BufTy).Contents (Elt F) → (⟨S8x49104x1, .i32⟩ : BufTy).Contents (Elt F)) (fin m c (Proc.devRef .tc main_call3_c)) := unary_end 136 rfl (by decide +kernel)

theorem end_call3_v1 : fin m c (Proc.devRef .tc main_call3_v1) = ((cmpi .slt) : (⟨S8x49104x1, .i32⟩ : BufTy).Contents (Elt F) → (⟨S8x49104x1, .i32⟩ : BufTy).Contents (Elt F) → (⟨S8x49104x1, .i1⟩ : BufTy).Contents (Elt F)) (fin m c (Proc.devRef .tc main_v110)) (fin m c (Proc.devRef .tc main_call3_v0)) := binary_end 137 rfl (by decide +kernel)

theorem end_call3_c_0 : fin m c (Proc.devRef .tc main_call3_c_0) = ((constantI S_ 32 32#32) : (⟨S_, .i32⟩ : BufTy).Contents (Elt F)) := nullary_end 138 rfl (by decide +kernel)

theorem end_call3_v2 : fin m c (Proc.devRef .tc main_call3_v2) = ((broadcastInDim S8x49104x1 ![] bcast_S_S8x49104x1) : (⟨S_, .i32⟩ : BufTy).Contents (Elt F) → (⟨S8x49104x1, .i32⟩ : BufTy).Contents (Elt F)) (fin m c (Proc.devRef .tc main_call3_c_0)) := unary_end 139 rfl (by decide +kernel)

theorem end_call3_v3 : fin m c (Proc.devRef .tc main_call3_v3) = (addi : (⟨S8x49104x1, .i32⟩ : BufTy).Contents (Elt F) → (⟨S8x49104x1, .i32⟩ : BufTy).Contents (Elt F) → (⟨S8x49104x1, .i32⟩ : BufTy).Contents (Elt F)) (fin m c (Proc.devRef .tc main_v110)) (fin m c (Proc.devRef .tc main_call3_v2)) := binary_end 140 rfl (by decide +kernel)

theorem end_call3_v4 : fin m c (Proc.devRef .tc main_call3_v4) = (select : (⟨S8x49104x1, .i1⟩ : BufTy).Contents (Elt F) → (⟨S8x49104x1, .i32⟩ : BufTy).Contents (Elt F) → (⟨S8x49104x1, .i32⟩ : BufTy).Contents (Elt F) → (⟨S8x49104x1, .i32⟩ : BufTy).Contents (Elt F)) (fin m c (Proc.devRef .tc main_call3_v1)) (fin m c (Proc.devRef .tc main_call3_v3)) (fin m c (Proc.devRef .tc main_v110)) := ternary_end 141 rfl (by decide +kernel)

theorem end_call3_c_1 : fin m c (Proc.devRef .tc main_call3_c_1) = ((constantI S1 32 31#32) : (⟨S1, .i32⟩ : BufTy).Contents (Elt F)) := nullary_end 142 rfl (by decide +kernel)

theorem end_call3_c_2 : fin m c (Proc.devRef .tc main_call3_c_2) = ((constantI S_ 32 0#32) : (⟨S_, .i32⟩ : BufTy).Contents (Elt F)) := nullary_end 143 rfl (by decide +kernel)

theorem end_call3_v5 : fin m c (Proc.devRef .tc main_call3_v5) = ((broadcastInDim S8x49104x1 ![] bcast_S_S8x49104x1) : (⟨S_, .i32⟩ : BufTy).Contents (Elt F) → (⟨S8x49104x1, .i32⟩ : BufTy).Contents (Elt F)) (fin m c (Proc.devRef .tc main_call3_c_2)) := unary_end 144 rfl (by decide +kernel)

theorem end_call3_v6 : fin m c (Proc.devRef .tc main_call3_v6) = ((cmpi .sge) : (⟨S8x49104x1, .i32⟩ : BufTy).Contents (Elt F) → (⟨S8x49104x1, .i32⟩ : BufTy).Contents (Elt F) → (⟨S8x49104x1, .i1⟩ : BufTy).Contents (Elt F)) (fin m c (Proc.devRef .tc main_call3_v4)) (fin m c (Proc.devRef .tc main_call3_v5)) := binary_end 145 rfl (by decide +kernel)

theorem end_call3_v7 : fin m c (Proc.devRef .tc main_call3_v7) = ((broadcastInDim S1x1x1 ![2] bcast_S1_S1x1x1_2) : (⟨S1, .i32⟩ : BufTy).Contents (Elt F) → (⟨S1x1x1, .i32⟩ : BufTy).Contents (Elt F)) (fin m c (Proc.devRef .tc main_call3_c_1)) := unary_end 146 rfl (by decide +kernel)

theorem end_call3_v8 : fin m c (Proc.devRef .tc main_call3_v8) = ((broadcastInDim S8x49104x1 ![0, 1, 2] bcast_S1x1x1_S8x49104x1_0_1_2) : (⟨S1x1x1, .i32⟩ : BufTy).Contents (Elt F) → (⟨S8x49104x1, .i32⟩ : BufTy).Contents (Elt F)) (fin m c (Proc.devRef .tc main_call3_v7)) := unary_end 147 rfl (by decide +kernel)

theorem end_call3_v9 : fin m c (Proc.devRef .tc main_call3_v9) = ((cmpi .sle) : (⟨S8x49104x1, .i32⟩ : BufTy).Contents (Elt F) → (⟨S8x49104x1, .i32⟩ : BufTy).Contents (Elt F) → (⟨S8x49104x1, .i1⟩ : BufTy).Contents (Elt F)) (fin m c (Proc.devRef .tc main_call3_v4)) (fin m c (Proc.devRef .tc main_call3_v8)) := binary_end 148 rfl (by decide +kernel)

theorem end_call3_v10 : fin m c (Proc.devRef .tc main_call3_v10) = (andi : (⟨S8x49104x1, .i1⟩ : BufTy).Contents (Elt F) → (⟨S8x49104x1, .i1⟩ : BufTy).Contents (Elt F) → (⟨S8x49104x1, .i1⟩ : BufTy).Contents (Elt F)) (fin m c (Proc.devRef .tc main_call3_v6)) (fin m c (Proc.devRef .tc main_call3_v9)) := binary_end 149 rfl (by decide +kernel)

theorem end_call3_c_3 : fin m c (Proc.devRef .tc main_call3_c_3) = ((constantI S_ 1 1#1) : (⟨S_, .i1⟩ : BufTy).Contents (Elt F)) := nullary_end 150 rfl (by decide +kernel)

theorem end_call3_v11 : fin m c (Proc.devRef .tc main_call3_v11) = ((fun x v => Host.reduce IntOp.andi x v reducesTo_S8x49104x1_S8x49104_d2 h_S_) : (⟨S8x49104x1, .i1⟩ : BufTy).Contents (Elt F) → (⟨S_, .i1⟩ : BufTy).Contents (Elt F) → (⟨S8x49104, .i1⟩ : BufTy).Contents (Elt F)) (fin m c (Proc.devRef .tc main_call3_v10)) (fin m c (Proc.devRef .tc main_call3_c_3)) := binary_end 151 rfl (by decide +kernel)

theorem end_call3_v12 : fin m c (Proc.devRef .tc main_call3_v12) = ((fun x i => Host.gather gather_S8x32x5_S8x49104x1_S8x49104x5_2_1_0_0_1_2_115 x i) : (⟨S8x32x5, .f32⟩ : BufTy).Contents (Elt F) → (⟨S8x49104x1, .i32⟩ : BufTy).Contents (Elt F) → (⟨S8x49104x5, .f32⟩ : BufTy).Contents (Elt F)) (fin m c (Proc.devRef .tc main_arg3)) (fin m c (Proc.devRef .tc main_call3_v4)) := binary_end 152 rfl (by decide +kernel)

theorem end_call3_v13 : fin m c (Proc.devRef .tc main_call3_v13) = ((broadcastInDim S8x49104x5 ![0, 1] bcast_S8x49104_S8x49104x5_0_1) : (⟨S8x49104, .i1⟩ : BufTy).Contents (Elt F) → (⟨S8x49104x5, .i1⟩ : BufTy).Contents (Elt F)) (fin m c (Proc.devRef .tc main_call3_v11)) := unary_end 153 rfl (by decide +kernel)

theorem end_call3_cst : fin m c (Proc.devRef .tc main_call3_cst) = ((constant S_ .f32 0x7FC00000#32) : (⟨S_, .f32⟩ : BufTy).Contents (Elt F)) := nullary_end 154 rfl (by decide +kernel)

theorem end_call3_v14 : fin m c (Proc.devRef .tc main_call3_v14) = ((broadcastInDim S8x49104x5 ![] bcast_S_S8x49104x5) : (⟨S_, .f32⟩ : BufTy).Contents (Elt F) → (⟨S8x49104x5, .f32⟩ : BufTy).Contents (Elt F)) (fin m c (Proc.devRef .tc main_call3_cst)) := unary_end 155 rfl (by decide +kernel)

theorem end_v111 : fin m c (Proc.devRef .tc main_v111) = (select : (⟨S8x49104x5, .i1⟩ : BufTy).Contents (Elt F) → (⟨S8x49104x5, .f32⟩ : BufTy).Contents (Elt F) → (⟨S8x49104x5, .f32⟩ : BufTy).Contents (Elt F) → (⟨S8x49104x5, .f32⟩ : BufTy).Contents (Elt F)) (fin m c (Proc.devRef .tc main_call3_v13)) (fin m c (Proc.devRef .tc main_call3_v12)) (fin m c (Proc.devRef .tc main_call3_v14)) := ternary_end 156 rfl (by decide +kernel)

theorem end_cst_11 : fin m c (Proc.devRef .tc main_cst_11) = (constant S_ .f32 0xBF800000#32) := nullary_end 157 rfl (by decide +kernel)

theorem end_v112 : fin m c (Proc.devRef .tc main_v112) = (broadcastInDim S8x49104x90 ![] bcast_S_S8x49104x90 : (⟨S_, .f32⟩ : BufTy).Contents (Elt F) → (⟨S8x49104x90, .f32⟩ : BufTy).Contents (Elt F)) (fin m c (Proc.devRef .tc main_cst_11)) := unary_end 158 rfl (by decide +kernel)

theorem end_cst_12 : fin m c (Proc.devRef .tc main_cst_12) = (constant S_ .f32 0x3ECCCCCD#32) := nullary_end 159 rfl (by decide +kernel)

theorem end_v113 : fin m c (Proc.devRef .tc main_v113) = (broadcastInDim S8x49104 ![] bcast_S_S8x49104 : (⟨S_, .f32⟩ : BufTy).Contents (Elt F) → (⟨S8x49104, .f32⟩ : BufTy).Contents (Elt F)) (fin m c (Proc.devRef .tc main_cst_12)) := unary_end 160 rfl (by decide +kernel)

theorem end_v114 : fin m c (Proc.devRef .tc main_v114) = (cmpf .olt : (⟨S8x49104, .f32⟩ : BufTy).Contents (Elt F) → (⟨S8x49104, .f32⟩ : BufTy).Contents (Elt F) → (⟨S8x49104, .i1⟩ : BufTy).Contents (Elt F)) (fin m c (Proc.devRef .tc main_v104)) (fin m c (Proc.devRef .tc main_v113)) := binary_end 161 rfl (by decide +kernel)

theorem end_v115 : fin m c (Proc.devRef .tc main_v115) = (broadcastInDim S8x49104x1 ![0, 1] bcast_S8x49104_S8x49104x1_0_1 : (⟨S8x49104, .i1⟩ : BufTy).Contents (Elt F) → (⟨S8x49104x1, .i1⟩ : BufTy).Contents (Elt F)) (fin m c (Proc.devRef .tc main_v114)) := unary_end 162 rfl (by decide +kernel)

theorem end_cst_13 : fin m c (Proc.devRef .tc main_cst_13) = (constant S_ .f32 0x00000000#32) := nullary_end 163 rfl (by decide +kernel)

theorem end_call4_v0 : fin m c (Proc.devRef .tc main_call4_v0) = (id : (⟨S_, .f32⟩ : BufTy).Contents (Elt F) → (⟨S_, .f32⟩ : BufTy).Contents (Elt F)) (fin m c (Proc.devRef .tc main_cst_13)) := unary_end 164 rfl (by decide +kernel)

theorem end_call4_v1 : fin m c (Proc.devRef .tc main_call4_v1) = ((broadcastInDim S8x49104x90 ![0, 1, 2] bcast_S8x49104x1_S8x49104x90_0_1_2) : (⟨S8x49104x1, .i1⟩ : BufTy).Contents (Elt F) → (⟨S8x49104x90, .i1⟩ : BufTy).Contents (Elt F)) (fin m c (Proc.devRef .tc main_v115)) := unary_end 165 rfl (by decide +kernel)

theorem end_call4_v2 : fin m c (Proc.devRef .tc main_call4_v2) = ((broadcastInDim S8x49104x90 ![] bcast_S_S8x49104x90) : (⟨S_, .f32⟩ : BufTy).Contents (Elt F) → (⟨S8x49104x90, .f32⟩ : BufTy).Contents (Elt F)) (fin m c (Proc.devRef .tc main_call4_v0)) := unary_end 166 rfl (by decide +kernel)

theorem end_v116 : fin m c (Proc.devRef .tc main_v116) = (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)) (fin m c (Proc.devRef .tc main_call4_v1)) (fin m c (Proc.devRef .tc main_call4_v2)) (fin m c (Proc.devRef .tc main_v112)) := ternary_end 167 rfl (by decide +kernel)

theorem end_v117 : fin m c (Proc.devRef .tc main_v117) = (broadcastInDim S8x49104x1 ![0, 1] bcast_S8x49104_S8x49104x1_0_1 : (⟨S8x49104, .i1⟩ : BufTy).Contents (Elt F) → (⟨S8x49104x1, .i1⟩ : BufTy).Contents (Elt F)) (fin m c (Proc.devRef .tc main_v107)) := unary_end 168 rfl (by decide +kernel)

theorem end_cst_14 : fin m c (Proc.devRef .tc main_cst_14) = (constant S_ .f32 0x00000000#32) := nullary_end 169 rfl (by decide +kernel)

theorem end_call5_v0 : fin m c (Proc.devRef .tc main_call5_v0) = (id : (⟨S_, .f32⟩ : BufTy).Contents (Elt F) → (⟨S_, .f32⟩ : BufTy).Contents (Elt F)) (fin m c (Proc.devRef .tc main_cst_14)) := unary_end 170 rfl (by decide +kernel)

theorem end_call5_v1 : fin m c (Proc.devRef .tc main_call5_v1) = ((broadcastInDim S8x49104x90 ![0, 1, 2] bcast_S8x49104x1_S8x49104x90_0_1_2) : (⟨S8x49104x1, .i1⟩ : BufTy).Contents (Elt F) → (⟨S8x49104x90, .i1⟩ : BufTy).Contents (Elt F)) (fin m c (Proc.devRef .tc main_v117)) := unary_end 171 rfl (by decide +kernel)

theorem end_call5_v2 : fin m c (Proc.devRef .tc main_call5_v2) = ((broadcastInDim S8x49104x90 ![] bcast_S_S8x49104x90) : (⟨S_, .f32⟩ : BufTy).Contents (Elt F) → (⟨S8x49104x90, .f32⟩ : BufTy).Contents (Elt F)) (fin m c (Proc.devRef .tc main_call5_v0)) := unary_end 172 rfl (by decide +kernel)

theorem end_v118 : fin m c (Proc.devRef .tc main_v118) = (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)) (fin m c (Proc.devRef .tc main_call5_v1)) (fin m c (Proc.devRef .tc main_call5_v2)) (fin m c (Proc.devRef .tc main_v116)) := ternary_end 173 rfl (by decide +kernel)

theorem end_v119 : fin m c (Proc.devRef .tc main_v119) = ((extractStridedSlice S8x49104x1 ![0, 0, 4] · slices_S8x49104x5_S8x49104x1_0_0_4) : (⟨S8x49104x5, .f32⟩ : BufTy).Contents (Elt F) → (⟨S8x49104x1, .f32⟩ : BufTy).Contents (Elt F)) (fin m c (Proc.devRef .tc main_v111)) := unary_end 174 rfl (by decide +kernel)

theorem end_v120 : fin m c (Proc.devRef .tc main_v120) = shapeCast S8x49104 (fin m c (Proc.devRef .tc main_v119)) shapeCasts_S8x49104x1_S8x49104 := reshape_end (x := main_v119) (y := main_v120) 175 (he := rfl) (hn := shapeCasts_S8x49104x1_S8x49104) (hx := by decide) (hy := by decide) (by sl_kernel_rfl) (by decide +kernel)

theorem end_v121 : fin m c (Proc.devRef .tc main_v121) = (fptosi 32 : (⟨S8x49104, .f32⟩ : BufTy).Contents (Elt F) → (⟨S8x49104, .i32⟩ : BufTy).Contents (Elt F)) (fin m c (Proc.devRef .tc main_v120)) := unary_end 176 rfl (by decide +kernel)

theorem end_call6_v0 : fin m c (Proc.devRef .tc main_call6_v0) = ((broadcastInDim S8x49104x1 ![0, 1] bcast_S8x49104_S8x49104x1_0_1) : (⟨S8x49104, .i32⟩ : BufTy).Contents (Elt F) → (⟨S8x49104x1, .i32⟩ : BufTy).Contents (Elt F)) (fin m c (Proc.devRef .tc main_v121)) := unary_end 177 rfl (by decide +kernel)

theorem end_call6_v1 : fin m c (Proc.devRef .tc main_call6_v1) = ((iotaInDim S1x1x90 32 2) : (⟨S1x1x90, .i32⟩ : BufTy).Contents (Elt F)) := nullary_end 178 rfl (by decide +kernel)

theorem end_call6_v2 : fin m c (Proc.devRef .tc main_call6_v2) = ((broadcastInDim S8x49104x90 ![0, 1, 2] bcast_S8x49104x1_S8x49104x90_0_1_2) : (⟨S8x49104x1, .i32⟩ : BufTy).Contents (Elt F) → (⟨S8x49104x90, .i32⟩ : BufTy).Contents (Elt F)) (fin m c (Proc.devRef .tc main_call6_v0)) := unary_end 179 rfl (by decide +kernel)

theorem end_call6_v3 : fin m c (Proc.devRef .tc main_call6_v3) = ((broadcastInDim S8x49104x90 ![0, 1, 2] bcast_S1x1x90_S8x49104x90_0_1_2) : (⟨S1x1x90, .i32⟩ : BufTy).Contents (Elt F) → (⟨S8x49104x90, .i32⟩ : BufTy).Contents (Elt F)) (fin m c (Proc.devRef .tc main_call6_v1)) := unary_end 180 rfl (by decide +kernel)

theorem end_call6_v4 : fin m c (Proc.devRef .tc main_call6_v4) = ((cmpi .eq) : (⟨S8x49104x90, .i32⟩ : BufTy).Contents (Elt F) → (⟨S8x49104x90, .i32⟩ : BufTy).Contents (Elt F) → (⟨S8x49104x90, .i1⟩ : BufTy).Contents (Elt F)) (fin m c (Proc.devRef .tc main_call6_v2)) (fin m c (Proc.devRef .tc main_call6_v3)) := binary_end 181 rfl (by decide +kernel)

theorem end_v122 : fin m c (Proc.devRef .tc main_v122) = ((uitofp .f32) : (⟨S8x49104x90, .i1⟩ : BufTy).Contents (Elt F) → (⟨S8x49104x90, .f32⟩ : BufTy).Contents (Elt F)) (fin m c (Proc.devRef .tc main_call6_v4)) := unary_end 182 rfl (by decide +kernel)

theorem end_v123 : fin m c (Proc.devRef .tc main_v123) = (broadcastInDim S8x49104x1 ![0, 1] bcast_S8x49104_S8x49104x1_0_1 : (⟨S8x49104, .i1⟩ : BufTy).Contents (Elt F) → (⟨S8x49104x1, .i1⟩ : BufTy).Contents (Elt F)) (fin m c (Proc.devRef .tc main_v107)) := unary_end 183 rfl (by decide +kernel)

theorem end_cst_15 : fin m c (Proc.devRef .tc main_cst_15) = (constant S_ .f32 0x3F000000#32) := nullary_end 184 rfl (by decide +kernel)

theorem end_v124 : fin m c (Proc.devRef .tc main_v124) = (broadcastInDim S8x49104x90 ![] bcast_S_S8x49104x90 : (⟨S_, .f32⟩ : BufTy).Contents (Elt F) → (⟨S8x49104x90, .f32⟩ : BufTy).Contents (Elt F)) (fin m c (Proc.devRef .tc main_cst_15)) := unary_end 185 rfl (by decide +kernel)

theorem end_v125 : fin m c (Proc.devRef .tc main_v125) = (cmpf .ogt : (⟨S8x49104x90, .f32⟩ : BufTy).Contents (Elt F) → (⟨S8x49104x90, .f32⟩ : BufTy).Contents (Elt F) → (⟨S8x49104x90, .i1⟩ : BufTy).Contents (Elt F)) (fin m c (Proc.devRef .tc main_v122)) (fin m c (Proc.devRef .tc main_v124)) := binary_end 186 rfl (by decide +kernel)

theorem end_v126 : fin m c (Proc.devRef .tc main_v126) = (broadcastInDim S8x49104x90 ![0, 1, 2] bcast_S8x49104x1_S8x49104x90_0_1_2 : (⟨S8x49104x1, .i1⟩ : BufTy).Contents (Elt F) → (⟨S8x49104x90, .i1⟩ : BufTy).Contents (Elt F)) (fin m c (Proc.devRef .tc main_v123)) := unary_end 187 rfl (by decide +kernel)

theorem end_v127 : fin m c (Proc.devRef .tc main_v127) = (andi : (⟨S8x49104x90, .i1⟩ : BufTy).Contents (Elt F) → (⟨S8x49104x90, .i1⟩ : BufTy).Contents (Elt F) → (⟨S8x49104x90, .i1⟩ : BufTy).Contents (Elt F)) (fin m c (Proc.devRef .tc main_v126)) (fin m c (Proc.devRef .tc main_v125)) := binary_end 188 rfl (by decide +kernel)

theorem end_cst_16 : fin m c (Proc.devRef .tc main_cst_16) = (constant S_ .f32 0x3F800000#32) := nullary_end 189 rfl (by decide +kernel)

theorem end_call7_v0 : fin m c (Proc.devRef .tc main_call7_v0) = (id : (⟨S_, .f32⟩ : BufTy).Contents (Elt F) → (⟨S_, .f32⟩ : BufTy).Contents (Elt F)) (fin m c (Proc.devRef .tc main_cst_16)) := unary_end 190 rfl (by decide +kernel)

theorem end_call7_v1 : fin m c (Proc.devRef .tc main_call7_v1) = ((broadcastInDim S8x49104x90 ![] bcast_S_S8x49104x90) : (⟨S_, .f32⟩ : BufTy).Contents (Elt F) → (⟨S8x49104x90, .f32⟩ : BufTy).Contents (Elt F)) (fin m c (Proc.devRef .tc main_call7_v0)) := unary_end 191 rfl (by decide +kernel)

theorem end_v128 : fin m c (Proc.devRef .tc main_v128) = (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)) (fin m c (Proc.devRef .tc main_v127)) (fin m c (Proc.devRef .tc main_call7_v1)) (fin m c (Proc.devRef .tc main_v118)) := ternary_end 192 rfl (by decide +kernel)

theorem end_cst_17 : fin m c (Proc.devRef .tc main_cst_17) = (constant S_ .f32 0x3F800000#32) := nullary_end 193 rfl (by decide +kernel)

theorem end_v129 : fin m c (Proc.devRef .tc main_v129) = (broadcastInDim S8x49104x90 ![] bcast_S_S8x49104x90 : (⟨S_, .f32⟩ : BufTy).Contents (Elt F) → (⟨S8x49104x90, .f32⟩ : BufTy).Contents (Elt F)) (fin m c (Proc.devRef .tc main_cst_17)) := unary_end 194 rfl (by decide +kernel)

theorem end_v130 : fin m c (Proc.devRef .tc main_v130) = (cmpf .oeq : (⟨S8x49104x90, .f32⟩ : BufTy).Contents (Elt F) → (⟨S8x49104x90, .f32⟩ : BufTy).Contents (Elt F) → (⟨S8x49104x90, .i1⟩ : BufTy).Contents (Elt F)) (fin m c (Proc.devRef .tc main_v128)) (fin m c (Proc.devRef .tc main_v129)) := binary_end 195 rfl (by decide +kernel)

theorem end_cst_18 : fin m c (Proc.devRef .tc main_cst_18) = (constant S_ .f32 0x3E800000#32) := nullary_end 196 rfl (by decide +kernel)

theorem end_cst_19 : fin m c (Proc.devRef .tc main_cst_19) = (constant S_ .f32 0x3F400000#32) := nullary_end 197 rfl (by decide +kernel)

theorem end_call8_v0 : fin m c (Proc.devRef .tc main_call8_v0) = ((broadcastInDim S8x49104x90 ![] bcast_S_S8x49104x90) : (⟨S_, .f32⟩ : BufTy).Contents (Elt F) → (⟨S8x49104x90, .f32⟩ : BufTy).Contents (Elt F)) (fin m c (Proc.devRef .tc main_cst_18)) := unary_end 198 rfl (by decide +kernel)

theorem end_call8_v1 : fin m c (Proc.devRef .tc main_call8_v1) = ((broadcastInDim S8x49104x90 ![] bcast_S_S8x49104x90) : (⟨S_, .f32⟩ : BufTy).Contents (Elt F) → (⟨S8x49104x90, .f32⟩ : BufTy).Contents (Elt F)) (fin m c (Proc.devRef .tc main_cst_19)) := unary_end 199 rfl (by decide +kernel)

theorem end_v131 : fin m c (Proc.devRef .tc main_v131) = (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)) (fin m c (Proc.devRef .tc main_v130)) (fin m c (Proc.devRef .tc main_call8_v0)) (fin m c (Proc.devRef .tc main_call8_v1)) := ternary_end 200 rfl (by decide +kernel)

theorem end_cst_20 : fin m c (Proc.devRef .tc main_cst_20) = (constant S_ .f32 0x3F800000#32) := nullary_end 201 rfl (by decide +kernel)

theorem end_v132 : fin m c (Proc.devRef .tc main_v132) = (broadcastInDim S8x49104x90 ![] bcast_S_S8x49104x90 : (⟨S_, .f32⟩ : BufTy).Contents (Elt F) → (⟨S8x49104x90, .f32⟩ : BufTy).Contents (Elt F)) (fin m c (Proc.devRef .tc main_cst_20)) := unary_end 202 rfl (by decide +kernel)

theorem end_v133 : fin m c (Proc.devRef .tc main_v133) = (cmpf .oeq : (⟨S8x49104x90, .f32⟩ : BufTy).Contents (Elt F) → (⟨S8x49104x90, .f32⟩ : BufTy).Contents (Elt F) → (⟨S8x49104x90, .i1⟩ : BufTy).Contents (Elt F)) (fin m c (Proc.devRef .tc main_v128)) (fin m c (Proc.devRef .tc main_v132)) := binary_end 203 rfl (by decide +kernel)

theorem end_cst_21 : fin m c (Proc.devRef .tc main_cst_21) = (constant S_ .f32 0x3F800000#32) := nullary_end 204 rfl (by decide +kernel)

theorem end_v134 : fin m c (Proc.devRef .tc main_v134) = (broadcastInDim S8x49104x90 ![] bcast_S_S8x49104x90 : (⟨S_, .f32⟩ : BufTy).Contents (Elt F) → (⟨S8x49104x90, .f32⟩ : BufTy).Contents (Elt F)) (fin m c (Proc.devRef .tc main_cst_21)) := unary_end 205 rfl (by decide +kernel)

theorem end_v135 : fin m c (Proc.devRef .tc main_v135) = (subf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v134)) (fin m c (Proc.devRef .tc main_v21)) := binary_end 206 rfl (by decide +kernel)

theorem end_v136 : fin m c (Proc.devRef .tc main_v136) = (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)) (fin m c (Proc.devRef .tc main_v133)) (fin m c (Proc.devRef .tc main_v135)) (fin m c (Proc.devRef .tc main_v21)) := ternary_end 207 rfl (by decide +kernel)

theorem end_cst_22 : fin m c (Proc.devRef .tc main_cst_22) = (constant S_ .f32 0x40000000#32) := nullary_end 208 rfl (by decide +kernel)

theorem end_v137 : fin m c (Proc.devRef .tc main_v137) = (broadcastInDim S8x49104x90 ![] bcast_S_S8x49104x90 : (⟨S_, .f32⟩ : BufTy).Contents (Elt F) → (⟨S8x49104x90, .f32⟩ : BufTy).Contents (Elt F)) (fin m c (Proc.devRef .tc main_cst_22)) := unary_end 209 rfl (by decide +kernel)

theorem end_v138 : fin m c (Proc.devRef .tc main_v138) = (Host.powf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v136)) (fin m c (Proc.devRef .tc main_v137)) := binary_end 210 rfl (by decide +kernel)

theorem end_v139 : fin m c (Proc.devRef .tc main_v139) = (id : (⟨S8x49104x90, .f32⟩ : BufTy).Contents (Elt F) → (⟨S8x49104x90, .f32⟩ : BufTy).Contents (Elt F)) (fin m c (Proc.devRef .tc main_v131)) := unary_end 211 rfl (by decide +kernel)

theorem end_v140 : fin m c (Proc.devRef .tc main_v140) = (mulf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v139)) (fin m c (Proc.devRef .tc main_v138)) := binary_end 212 rfl (by decide +kernel)

theorem end_cst_23 : fin m c (Proc.devRef .tc main_cst_23) = (constant S_ .f32 0x38D1B717#32) := nullary_end 213 rfl (by decide +kernel)

theorem end_cst_24 : fin m c (Proc.devRef .tc main_cst_24) = (constant S_ .f32 0x3F7FF972#32) := nullary_end 214 rfl (by decide +kernel)

theorem end_call10_v0 : fin m c (Proc.devRef .tc main_call10_v0) = (id : (⟨S_, .f32⟩ : BufTy).Contents (Elt F) → (⟨S_, .f32⟩ : BufTy).Contents (Elt F)) (fin m c (Proc.devRef .tc main_cst_23)) := unary_end 215 rfl (by decide +kernel)

theorem end_call10_v1 : fin m c (Proc.devRef .tc main_call10_v1) = ((broadcastInDim S8x49104x90 ![] bcast_S_S8x49104x90) : (⟨S_, .f32⟩ : BufTy).Contents (Elt F) → (⟨S8x49104x90, .f32⟩ : BufTy).Contents (Elt F)) (fin m c (Proc.devRef .tc main_call10_v0)) := unary_end 216 rfl (by decide +kernel)

theorem end_call10_v2 : fin m c (Proc.devRef .tc main_call10_v2) = (maximumf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_call10_v1)) (fin m c (Proc.devRef .tc main_v21)) := binary_end 217 rfl (by decide +kernel)

theorem end_call10_v3 : fin m c (Proc.devRef .tc main_call10_v3) = (id : (⟨S_, .f32⟩ : BufTy).Contents (Elt F) → (⟨S_, .f32⟩ : BufTy).Contents (Elt F)) (fin m c (Proc.devRef .tc main_cst_24)) := unary_end 218 rfl (by decide +kernel)

theorem end_call10_v4 : fin m c (Proc.devRef .tc main_call10_v4) = ((broadcastInDim S8x49104x90 ![] bcast_S_S8x49104x90) : (⟨S_, .f32⟩ : BufTy).Contents (Elt F) → (⟨S8x49104x90, .f32⟩ : BufTy).Contents (Elt F)) (fin m c (Proc.devRef .tc main_call10_v3)) := unary_end 219 rfl (by decide +kernel)

theorem end_v141 : fin m c (Proc.devRef .tc main_v141) = (minimumf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_call10_v4)) (fin m c (Proc.devRef .tc main_call10_v2)) := binary_end 220 rfl (by decide +kernel)

theorem end_v142 : fin m c (Proc.devRef .tc main_v142) = (Host.log : (⟨S8x49104x90, .f32⟩ : BufTy).Contents (Elt F) → (⟨S8x49104x90, .f32⟩ : BufTy).Contents (Elt F)) (fin m c (Proc.devRef .tc main_v141)) := unary_end 221 rfl (by decide +kernel)

theorem end_v143 : fin m c (Proc.devRef .tc main_v143) = (mulf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v128)) (fin m c (Proc.devRef .tc main_v142)) := binary_end 222 rfl (by decide +kernel)

theorem end_cst_25 : fin m c (Proc.devRef .tc main_cst_25) = (constant S_ .f32 0x3F800000#32) := nullary_end 223 rfl (by decide +kernel)

theorem end_v144 : fin m c (Proc.devRef .tc main_v144) = (broadcastInDim S8x49104x90 ![] bcast_S_S8x49104x90 : (⟨S_, .f32⟩ : BufTy).Contents (Elt F) → (⟨S8x49104x90, .f32⟩ : BufTy).Contents (Elt F)) (fin m c (Proc.devRef .tc main_cst_25)) := unary_end 224 rfl (by decide +kernel)

theorem end_v145 : fin m c (Proc.devRef .tc main_v145) = (subf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v144)) (fin m c (Proc.devRef .tc main_v128)) := binary_end 225 rfl (by decide +kernel)

theorem end_cst_26 : fin m c (Proc.devRef .tc main_cst_26) = (constant S_ .f32 0x3F800000#32) := nullary_end 226 rfl (by decide +kernel)

theorem end_v146 : fin m c (Proc.devRef .tc main_v146) = (broadcastInDim S8x49104x90 ![] bcast_S_S8x49104x90 : (⟨S_, .f32⟩ : BufTy).Contents (Elt F) → (⟨S8x49104x90, .f32⟩ : BufTy).Contents (Elt F)) (fin m c (Proc.devRef .tc main_cst_26)) := unary_end 227 rfl (by decide +kernel)

theorem end_v147 : fin m c (Proc.devRef .tc main_v147) = (subf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v146)) (fin m c (Proc.devRef .tc main_v21)) := binary_end 228 rfl (by decide +kernel)

theorem end_cst_27 : fin m c (Proc.devRef .tc main_cst_27) = (constant S_ .f32 0x38D1B717#32) := nullary_end 229 rfl (by decide +kernel)

theorem end_cst_28 : fin m c (Proc.devRef .tc main_cst_28) = (constant S_ .f32 0x3F7FF972#32) := nullary_end 230 rfl (by decide +kernel)

theorem end_call11_v0 : fin m c (Proc.devRef .tc main_call11_v0) = (id : (⟨S_, .f32⟩ : BufTy).Contents (Elt F) → (⟨S_, .f32⟩ : BufTy).Contents (Elt F)) (fin m c (Proc.devRef .tc main_cst_27)) := unary_end 231 rfl (by decide +kernel)

theorem end_call11_v1 : fin m c (Proc.devRef .tc main_call11_v1) = ((broadcastInDim S8x49104x90 ![] bcast_S_S8x49104x90) : (⟨S_, .f32⟩ : BufTy).Contents (Elt F) → (⟨S8x49104x90, .f32⟩ : BufTy).Contents (Elt F)) (fin m c (Proc.devRef .tc main_call11_v0)) := unary_end 232 rfl (by decide +kernel)

theorem end_call11_v2 : fin m c (Proc.devRef .tc main_call11_v2) = (maximumf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_call11_v1)) (fin m c (Proc.devRef .tc main_v147)) := binary_end 233 rfl (by decide +kernel)

theorem end_call11_v3 : fin m c (Proc.devRef .tc main_call11_v3) = (id : (⟨S_, .f32⟩ : BufTy).Contents (Elt F) → (⟨S_, .f32⟩ : BufTy).Contents (Elt F)) (fin m c (Proc.devRef .tc main_cst_28)) := unary_end 234 rfl (by decide +kernel)

theorem end_call11_v4 : fin m c (Proc.devRef .tc main_call11_v4) = ((broadcastInDim S8x49104x90 ![] bcast_S_S8x49104x90) : (⟨S_, .f32⟩ : BufTy).Contents (Elt F) → (⟨S8x49104x90, .f32⟩ : BufTy).Contents (Elt F)) (fin m c (Proc.devRef .tc main_call11_v3)) := unary_end 235 rfl (by decide +kernel)

theorem end_v148 : fin m c (Proc.devRef .tc main_v148) = (minimumf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_call11_v4)) (fin m c (Proc.devRef .tc main_call11_v2)) := binary_end 236 rfl (by decide +kernel)

theorem end_v149 : fin m c (Proc.devRef .tc main_v149) = (Host.log : (⟨S8x49104x90, .f32⟩ : BufTy).Contents (Elt F) → (⟨S8x49104x90, .f32⟩ : BufTy).Contents (Elt F)) (fin m c (Proc.devRef .tc main_v148)) := unary_end 237 rfl (by decide +kernel)

theorem end_v150 : fin m c (Proc.devRef .tc main_v150) = (mulf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v145)) (fin m c (Proc.devRef .tc main_v149)) := binary_end 238 rfl (by decide +kernel)

theorem end_v151 : fin m c (Proc.devRef .tc main_v151) = (addf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v143)) (fin m c (Proc.devRef .tc main_v150)) := binary_end 239 rfl (by decide +kernel)

theorem end_v152 : fin m c (Proc.devRef .tc main_v152) = (Host.negf : (⟨S8x49104x90, .f32⟩ : BufTy).Contents (Elt F) → (⟨S8x49104x90, .f32⟩ : BufTy).Contents (Elt F)) (fin m c (Proc.devRef .tc main_v151)) := unary_end 240 rfl (by decide +kernel)

theorem end_cst_29 : fin m c (Proc.devRef .tc main_cst_29) = (constant S_ .f32 0xBF800000#32) := nullary_end 241 rfl (by decide +kernel)

theorem end_v153 : fin m c (Proc.devRef .tc main_v153) = (broadcastInDim S8x49104x90 ![] bcast_S_S8x49104x90 : (⟨S_, .f32⟩ : BufTy).Contents (Elt F) → (⟨S8x49104x90, .f32⟩ : BufTy).Contents (Elt F)) (fin m c (Proc.devRef .tc main_cst_29)) := unary_end 242 rfl (by decide +kernel)

theorem end_v154 : fin m c (Proc.devRef .tc main_v154) = (cmpf .une : (⟨S8x49104x90, .f32⟩ : BufTy).Contents (Elt F) → (⟨S8x49104x90, .f32⟩ : BufTy).Contents (Elt F) → (⟨S8x49104x90, .i1⟩ : BufTy).Contents (Elt F)) (fin m c (Proc.devRef .tc main_v128)) (fin m c (Proc.devRef .tc main_v153)) := binary_end 243 rfl (by decide +kernel)

theorem end_v155 : fin m c (Proc.devRef .tc main_v155) = (mulf : (⟨S8x49104x90, .f32⟩ : BufTy).Contents (Elt F) → (⟨S8x49104x90, .f32⟩ : BufTy).Contents (Elt F) → (⟨S8x49104x90, .f32⟩ : BufTy).Contents (Elt F)) (fin m c (Proc.devRef .tc main_v140)) (fin m c (Proc.devRef .tc main_v152)) := binary_end 244 rfl (by decide +kernel)

theorem end_cst_30 : fin m c (Proc.devRef .tc main_cst_30) = (constant S_ .f32 0x00000000#32) := nullary_end 245 rfl (by decide +kernel)

theorem end_call12_v0 : fin m c (Proc.devRef .tc main_call12_v0) = (id : (⟨S_, .f32⟩ : BufTy).Contents (Elt F) → (⟨S_, .f32⟩ : BufTy).Contents (Elt F)) (fin m c (Proc.devRef .tc main_cst_30)) := unary_end 246 rfl (by decide +kernel)

theorem end_call12_v1 : fin m c (Proc.devRef .tc main_call12_v1) = ((broadcastInDim S8x49104x90 ![] bcast_S_S8x49104x90) : (⟨S_, .f32⟩ : BufTy).Contents (Elt F) → (⟨S8x49104x90, .f32⟩ : BufTy).Contents (Elt F)) (fin m c (Proc.devRef .tc main_call12_v0)) := unary_end 247 rfl (by decide +kernel)

theorem end_v156 : fin m c (Proc.devRef .tc main_v156) = (select : (⟨S8x49104x90, .i1⟩ : BufTy).Contents (Elt F) → (⟨S8x49104x90, .f32⟩ : BufTy).Contents (Elt F) → (⟨S8x49104x90, .f32⟩ : BufTy).Contents (Elt F) → (⟨S8x49104x90, .f32⟩ : BufTy).Contents (Elt F)) (fin m c (Proc.devRef .tc main_v154)) (fin m c (Proc.devRef .tc main_v155)) (fin m c (Proc.devRef .tc main_call12_v1)) := ternary_end 248 rfl (by decide +kernel)

theorem end_cst_31 : fin m c (Proc.devRef .tc main_cst_31) = (constant S_ .f32 0x00000000#32) := nullary_end 249 rfl (by decide +kernel)

theorem end_v157 : fin m c (Proc.devRef .tc main_v157) = ((fun x v => Host.reduceAdd x v reducesTo_S8x49104x90_S8_d1_2 h_S_) : (⟨S8x49104x90, .f32⟩ : BufTy).Contents (Elt F) → (⟨S_, .f32⟩ : BufTy).Contents (Elt F) → (⟨S8, .f32⟩ : BufTy).Contents (Elt F)) (fin m c (Proc.devRef .tc main_v156)) (fin m c (Proc.devRef .tc main_cst_31)) := binary_end 250 rfl (by decide +kernel)

theorem end_cst_32 : fin m c (Proc.devRef .tc main_cst_32) = (constant S_ .f32 0x3F800000#32) := nullary_end 251 rfl (by decide +kernel)

theorem end_v158 : fin m c (Proc.devRef .tc main_v158) = (broadcastInDim S8 ![] bcast_S_S8 : (⟨S_, .f32⟩ : BufTy).Contents (Elt F) → (⟨S8, .f32⟩ : BufTy).Contents (Elt F)) (fin m c (Proc.devRef .tc main_cst_32)) := unary_end 252 rfl (by decide +kernel)

theorem end_v159 : fin m c (Proc.devRef .tc main_v159) = (maximumf : (⟨S8, .f32⟩ : BufTy).Contents (Elt F) → (⟨S8, .f32⟩ : BufTy).Contents (Elt F) → (⟨S8, .f32⟩ : BufTy).Contents (Elt F)) (fin m c (Proc.devRef .tc main_v109)) (fin m c (Proc.devRef .tc main_v158)) := binary_end 253 rfl (by decide +kernel)

theorem end_v160 : fin m c (Proc.devRef .tc main_v160) = (Host.divf : (⟨S8, .f32⟩ : BufTy).Contents (Elt F) → (⟨S8, .f32⟩ : BufTy).Contents (Elt F) → (⟨S8, .f32⟩ : BufTy).Contents (Elt F)) (fin m c (Proc.devRef .tc main_v157)) (fin m c (Proc.devRef .tc main_v159)) := binary_end 254 rfl (by decide +kernel)

theorem end_v161 : fin m c (Proc.devRef .tc main_v161) = ((extractStridedSlice S8x49104x1 ![0, 0, 2] · slices_S8x49104x5_S8x49104x1_0_0_2) : (⟨S8x49104x5, .f32⟩ : BufTy).Contents (Elt F) → (⟨S8x49104x1, .f32⟩ : BufTy).Contents (Elt F)) (fin m c (Proc.devRef .tc main_v111)) := unary_end 255 rfl (by decide +kernel)

theorem end_v162 : fin m c (Proc.devRef .tc main_v162) = shapeCast S8x49104 (fin m c (Proc.devRef .tc main_v161)) shapeCasts_S8x49104x1_S8x49104 := reshape_end (x := main_v161) (y := main_v162) 256 (he := rfl) (hn := shapeCasts_S8x49104x1_S8x49104) (hx := by decide) (hy := by decide) (by sl_kernel_rfl) (by decide +kernel)

theorem end_v163 : fin m c (Proc.devRef .tc main_v163) = ((extractStridedSlice S8x49104x1 ![0, 0, 0] · slices_S8x49104x5_S8x49104x1_0_0_0) : (⟨S8x49104x5, .f32⟩ : BufTy).Contents (Elt F) → (⟨S8x49104x1, .f32⟩ : BufTy).Contents (Elt F)) (fin m c (Proc.devRef .tc main_v111)) := unary_end 257 rfl (by decide +kernel)

theorem end_v164 : fin m c (Proc.devRef .tc main_v164) = shapeCast S8x49104 (fin m c (Proc.devRef .tc main_v163)) shapeCasts_S8x49104x1_S8x49104 := reshape_end (x := main_v163) (y := main_v164) 258 (he := rfl) (hn := shapeCasts_S8x49104x1_S8x49104) (hx := by decide) (hy := by decide) (by sl_kernel_rfl) (by decide +kernel)

theorem end_v165 : fin m c (Proc.devRef .tc main_v165) = (subf : (⟨S8x49104, .f32⟩ : BufTy).Contents (Elt F) → (⟨S8x49104, .f32⟩ : BufTy).Contents (Elt F) → (⟨S8x49104, .f32⟩ : BufTy).Contents (Elt F)) (fin m c (Proc.devRef .tc main_v162)) (fin m c (Proc.devRef .tc main_v164)) := binary_end 259 rfl (by decide +kernel)

theorem end_v166 : fin m c (Proc.devRef .tc main_v166) = ((extractStridedSlice S8x49104x1 ![0, 0, 3] · slices_S8x49104x5_S8x49104x1_0_0_3) : (⟨S8x49104x5, .f32⟩ : BufTy).Contents (Elt F) → (⟨S8x49104x1, .f32⟩ : BufTy).Contents (Elt F)) (fin m c (Proc.devRef .tc main_v111)) := unary_end 260 rfl (by decide +kernel)

theorem end_v167 : fin m c (Proc.devRef .tc main_v167) = shapeCast S8x49104 (fin m c (Proc.devRef .tc main_v166)) shapeCasts_S8x49104x1_S8x49104 := reshape_end (x := main_v166) (y := main_v167) 261 (he := rfl) (hn := shapeCasts_S8x49104x1_S8x49104) (hx := by decide) (hy := by decide) (by sl_kernel_rfl) (by decide +kernel)

theorem end_v168 : fin m c (Proc.devRef .tc main_v168) = ((extractStridedSlice S8x49104x1 ![0, 0, 1] · slices_S8x49104x5_S8x49104x1_0_0_1) : (⟨S8x49104x5, .f32⟩ : BufTy).Contents (Elt F) → (⟨S8x49104x1, .f32⟩ : BufTy).Contents (Elt F)) (fin m c (Proc.devRef .tc main_v111)) := unary_end 262 rfl (by decide +kernel)

theorem end_v169 : fin m c (Proc.devRef .tc main_v169) = shapeCast S8x49104 (fin m c (Proc.devRef .tc main_v168)) shapeCasts_S8x49104x1_S8x49104 := reshape_end (x := main_v168) (y := main_v169) 263 (he := rfl) (hn := shapeCasts_S8x49104x1_S8x49104) (hx := by decide) (hy := by decide) (by sl_kernel_rfl) (by decide +kernel)

theorem end_v170 : fin m c (Proc.devRef .tc main_v170) = (subf : (⟨S8x49104, .f32⟩ : BufTy).Contents (Elt F) → (⟨S8x49104, .f32⟩ : BufTy).Contents (Elt F) → (⟨S8x49104, .f32⟩ : BufTy).Contents (Elt F)) (fin m c (Proc.devRef .tc main_v167)) (fin m c (Proc.devRef .tc main_v169)) := binary_end 264 rfl (by decide +kernel)

theorem end_v171 : fin m c (Proc.devRef .tc main_v171) = ((extractStridedSlice S8x49104x1 ![0, 0, 0] · slices_S8x49104x5_S8x49104x1_0_0_0) : (⟨S8x49104x5, .f32⟩ : BufTy).Contents (Elt F) → (⟨S8x49104x1, .f32⟩ : BufTy).Contents (Elt F)) (fin m c (Proc.devRef .tc main_v111)) := unary_end 265 rfl (by decide +kernel)

theorem end_v172 : fin m c (Proc.devRef .tc main_v172) = shapeCast S8x49104 (fin m c (Proc.devRef .tc main_v171)) shapeCasts_S8x49104x1_S8x49104 := reshape_end (x := main_v171) (y := main_v172) 266 (he := rfl) (hn := shapeCasts_S8x49104x1_S8x49104) (hx := by decide) (hy := by decide) (by sl_kernel_rfl) (by decide +kernel)

theorem end_cst_33 : fin m c (Proc.devRef .tc main_cst_33) = (constant S_ .f32 0x3F000000#32) := nullary_end 267 rfl (by decide +kernel)

theorem end_v173 : fin m c (Proc.devRef .tc main_v173) = (broadcastInDim S8x49104 ![] bcast_S_S8x49104 : (⟨S_, .f32⟩ : BufTy).Contents (Elt F) → (⟨S8x49104, .f32⟩ : BufTy).Contents (Elt F)) (fin m c (Proc.devRef .tc main_cst_33)) := unary_end 268 rfl (by decide +kernel)

theorem end_v174 : fin m c (Proc.devRef .tc main_v174) = (mulf : (⟨S8x49104, .f32⟩ : BufTy).Contents (Elt F) → (⟨S8x49104, .f32⟩ : BufTy).Contents (Elt F) → (⟨S8x49104, .f32⟩ : BufTy).Contents (Elt F)) (fin m c (Proc.devRef .tc main_v173)) (fin m c (Proc.devRef .tc main_v165)) := binary_end 269 rfl (by decide +kernel)

theorem end_v175 : fin m c (Proc.devRef .tc main_v175) = (addf : (⟨S8x49104, .f32⟩ : BufTy).Contents (Elt F) → (⟨S8x49104, .f32⟩ : BufTy).Contents (Elt F) → (⟨S8x49104, .f32⟩ : BufTy).Contents (Elt F)) (fin m c (Proc.devRef .tc main_v172)) (fin m c (Proc.devRef .tc main_v174)) := binary_end 270 rfl (by decide +kernel)

theorem end_v176 : fin m c (Proc.devRef .tc main_v176) = ((extractStridedSlice S8x49104x1 ![0, 0, 1] · slices_S8x49104x5_S8x49104x1_0_0_1) : (⟨S8x49104x5, .f32⟩ : BufTy).Contents (Elt F) → (⟨S8x49104x1, .f32⟩ : BufTy).Contents (Elt F)) (fin m c (Proc.devRef .tc main_v111)) := unary_end 271 rfl (by decide +kernel)

theorem end_v177 : fin m c (Proc.devRef .tc main_v177) = shapeCast S8x49104 (fin m c (Proc.devRef .tc main_v176)) shapeCasts_S8x49104x1_S8x49104 := reshape_end (x := main_v176) (y := main_v177) 272 (he := rfl) (hn := shapeCasts_S8x49104x1_S8x49104) (hx := by decide) (hy := by decide) (by sl_kernel_rfl) (by decide +kernel)

theorem end_cst_34 : fin m c (Proc.devRef .tc main_cst_34) = (constant S_ .f32 0x3F000000#32) := nullary_end 273 rfl (by decide +kernel)

theorem end_v178 : fin m c (Proc.devRef .tc main_v178) = (broadcastInDim S8x49104 ![] bcast_S_S8x49104 : (⟨S_, .f32⟩ : BufTy).Contents (Elt F) → (⟨S8x49104, .f32⟩ : BufTy).Contents (Elt F)) (fin m c (Proc.devRef .tc main_cst_34)) := unary_end 274 rfl (by decide +kernel)

theorem end_v179 : fin m c (Proc.devRef .tc main_v179) = (mulf : (⟨S8x49104, .f32⟩ : BufTy).Contents (Elt F) → (⟨S8x49104, .f32⟩ : BufTy).Contents (Elt F) → (⟨S8x49104, .f32⟩ : BufTy).Contents (Elt F)) (fin m c (Proc.devRef .tc main_v178)) (fin m c (Proc.devRef .tc main_v170)) := binary_end 275 rfl (by decide +kernel)

theorem end_v180 : fin m c (Proc.devRef .tc main_v180) = (addf : (⟨S8x49104, .f32⟩ : BufTy).Contents (Elt F) → (⟨S8x49104, .f32⟩ : BufTy).Contents (Elt F) → (⟨S8x49104, .f32⟩ : BufTy).Contents (Elt F)) (fin m c (Proc.devRef .tc main_v177)) (fin m c (Proc.devRef .tc main_v179)) := binary_end 276 rfl (by decide +kernel)

theorem end_cst_35 : fin m c (Proc.devRef .tc main_cst_35) = (constant S_ .f32 0x3F800000#32) := nullary_end 277 rfl (by decide +kernel)

theorem end_v181 : fin m c (Proc.devRef .tc main_v181) = (broadcastInDim S8x49104 ![] bcast_S_S8x49104 : (⟨S_, .f32⟩ : BufTy).Contents (Elt F) → (⟨S8x49104, .f32⟩ : BufTy).Contents (Elt F)) (fin m c (Proc.devRef .tc main_cst_35)) := unary_end 278 rfl (by decide +kernel)

theorem end_v182 : fin m c (Proc.devRef .tc main_v182) = (maximumf : (⟨S8x49104, .f32⟩ : BufTy).Contents (Elt F) → (⟨S8x49104, .f32⟩ : BufTy).Contents (Elt F) → (⟨S8x49104, .f32⟩ : BufTy).Contents (Elt F)) (fin m c (Proc.devRef .tc main_v165)) (fin m c (Proc.devRef .tc main_v181)) := binary_end 279 rfl (by decide +kernel)

theorem end_cst_36 : fin m c (Proc.devRef .tc main_cst_36) = (constant S_ .f32 0x3F800000#32) := nullary_end 280 rfl (by decide +kernel)

theorem end_v183 : fin m c (Proc.devRef .tc main_v183) = (broadcastInDim S8x49104 ![] bcast_S_S8x49104 : (⟨S_, .f32⟩ : BufTy).Contents (Elt F) → (⟨S8x49104, .f32⟩ : BufTy).Contents (Elt F)) (fin m c (Proc.devRef .tc main_cst_36)) := unary_end 281 rfl (by decide +kernel)

theorem end_v184 : fin m c (Proc.devRef .tc main_v184) = (maximumf : (⟨S8x49104, .f32⟩ : BufTy).Contents (Elt F) → (⟨S8x49104, .f32⟩ : BufTy).Contents (Elt F) → (⟨S8x49104, .f32⟩ : BufTy).Contents (Elt F)) (fin m c (Proc.devRef .tc main_v170)) (fin m c (Proc.devRef .tc main_v183)) := binary_end 282 rfl (by decide +kernel)

theorem end_v185 : fin m c (Proc.devRef .tc main_v185) = (broadcastInDim S1x49104 ![1] bcast_S49104_S1x49104_1 : (⟨S49104, .f32⟩ : BufTy).Contents (Elt F) → (⟨S1x49104, .f32⟩ : BufTy).Contents (Elt F)) (fin m c (Proc.devRef .tc main_v15)) := unary_end 283 rfl (by decide +kernel)

theorem end_v186 : fin m c (Proc.devRef .tc main_v186) = (broadcastInDim S8x49104 ![0, 1] bcast_S1x49104_S8x49104_0_1 : (⟨S1x49104, .f32⟩ : BufTy).Contents (Elt F) → (⟨S8x49104, .f32⟩ : BufTy).Contents (Elt F)) (fin m c (Proc.devRef .tc main_v185)) := unary_end 284 rfl (by decide +kernel)

theorem end_v187 : fin m c (Proc.devRef .tc main_v187) = (subf : (⟨S8x49104, .f32⟩ : BufTy).Contents (Elt F) → (⟨S8x49104, .f32⟩ : BufTy).Contents (Elt F) → (⟨S8x49104, .f32⟩ : BufTy).Contents (Elt F)) (fin m c (Proc.devRef .tc main_v175)) (fin m c (Proc.devRef .tc main_v186)) := binary_end 285 rfl (by decide +kernel)

theorem end_v188 : fin m c (Proc.devRef .tc main_v188) = (broadcastInDim S1x49104 ![1] bcast_S49104_S1x49104_1 : (⟨S49104, .f32⟩ : BufTy).Contents (Elt F) → (⟨S1x49104, .f32⟩ : BufTy).Contents (Elt F)) (fin m c (Proc.devRef .tc main_v5)) := unary_end 286 rfl (by decide +kernel)

theorem end_v189 : fin m c (Proc.devRef .tc main_v189) = (broadcastInDim S8x49104 ![0, 1] bcast_S1x49104_S8x49104_0_1 : (⟨S1x49104, .f32⟩ : BufTy).Contents (Elt F) → (⟨S8x49104, .f32⟩ : BufTy).Contents (Elt F)) (fin m c (Proc.devRef .tc main_v188)) := unary_end 287 rfl (by decide +kernel)

theorem end_v190 : fin m c (Proc.devRef .tc main_v190) = (Host.divf : (⟨S8x49104, .f32⟩ : BufTy).Contents (Elt F) → (⟨S8x49104, .f32⟩ : BufTy).Contents (Elt F) → (⟨S8x49104, .f32⟩ : BufTy).Contents (Elt F)) (fin m c (Proc.devRef .tc main_v187)) (fin m c (Proc.devRef .tc main_v189)) := binary_end 288 rfl (by decide +kernel)

theorem end_v191 : fin m c (Proc.devRef .tc main_v191) = (broadcastInDim S1x49104 ![1] bcast_S49104_S1x49104_1 : (⟨S49104, .f32⟩ : BufTy).Contents (Elt F) → (⟨S1x49104, .f32⟩ : BufTy).Contents (Elt F)) (fin m c (Proc.devRef .tc main_v20)) := unary_end 289 rfl (by decide +kernel)

theorem end_v192 : fin m c (Proc.devRef .tc main_v192) = (broadcastInDim S8x49104 ![0, 1] bcast_S1x49104_S8x49104_0_1 : (⟨S1x49104, .f32⟩ : BufTy).Contents (Elt F) → (⟨S8x49104, .f32⟩ : BufTy).Contents (Elt F)) (fin m c (Proc.devRef .tc main_v191)) := unary_end 290 rfl (by decide +kernel)

theorem end_v193 : fin m c (Proc.devRef .tc main_v193) = (subf : (⟨S8x49104, .f32⟩ : BufTy).Contents (Elt F) → (⟨S8x49104, .f32⟩ : BufTy).Contents (Elt F) → (⟨S8x49104, .f32⟩ : BufTy).Contents (Elt F)) (fin m c (Proc.devRef .tc main_v180)) (fin m c (Proc.devRef .tc main_v192)) := binary_end 291 rfl (by decide +kernel)

theorem end_v194 : fin m c (Proc.devRef .tc main_v194) = (broadcastInDim S1x49104 ![1] bcast_S49104_S1x49104_1 : (⟨S49104, .f32⟩ : BufTy).Contents (Elt F) → (⟨S1x49104, .f32⟩ : BufTy).Contents (Elt F)) (fin m c (Proc.devRef .tc main_v10)) := unary_end 292 rfl (by decide +kernel)

theorem end_v195 : fin m c (Proc.devRef .tc main_v195) = (broadcastInDim S8x49104 ![0, 1] bcast_S1x49104_S8x49104_0_1 : (⟨S1x49104, .f32⟩ : BufTy).Contents (Elt F) → (⟨S8x49104, .f32⟩ : BufTy).Contents (Elt F)) (fin m c (Proc.devRef .tc main_v194)) := unary_end 293 rfl (by decide +kernel)

theorem end_v196 : fin m c (Proc.devRef .tc main_v196) = (Host.divf : (⟨S8x49104, .f32⟩ : BufTy).Contents (Elt F) → (⟨S8x49104, .f32⟩ : BufTy).Contents (Elt F) → (⟨S8x49104, .f32⟩ : BufTy).Contents (Elt F)) (fin m c (Proc.devRef .tc main_v193)) (fin m c (Proc.devRef .tc main_v195)) := binary_end 294 rfl (by decide +kernel)

theorem end_v197 : fin m c (Proc.devRef .tc main_v197) = (broadcastInDim S1x49104 ![1] bcast_S49104_S1x49104_1 : (⟨S49104, .f32⟩ : BufTy).Contents (Elt F) → (⟨S1x49104, .f32⟩ : BufTy).Contents (Elt F)) (fin m c (Proc.devRef .tc main_v5)) := unary_end 295 rfl (by decide +kernel)

theorem end_v198 : fin m c (Proc.devRef .tc main_v198) = (broadcastInDim S8x49104 ![0, 1] bcast_S1x49104_S8x49104_0_1 : (⟨S1x49104, .f32⟩ : BufTy).Contents (Elt F) → (⟨S8x49104, .f32⟩ : BufTy).Contents (Elt F)) (fin m c (Proc.devRef .tc main_v197)) := unary_end 296 rfl (by decide +kernel)

theorem end_v199 : fin m c (Proc.devRef .tc main_v199) = (Host.divf : (⟨S8x49104, .f32⟩ : BufTy).Contents (Elt F) → (⟨S8x49104, .f32⟩ : BufTy).Contents (Elt F) → (⟨S8x49104, .f32⟩ : BufTy).Contents (Elt F)) (fin m c (Proc.devRef .tc main_v182)) (fin m c (Proc.devRef .tc main_v198)) := binary_end 297 rfl (by decide +kernel)

theorem end_v200 : fin m c (Proc.devRef .tc main_v200) = (Host.log : (⟨S8x49104, .f32⟩ : BufTy).Contents (Elt F) → (⟨S8x49104, .f32⟩ : BufTy).Contents (Elt F)) (fin m c (Proc.devRef .tc main_v199)) := unary_end 298 rfl (by decide +kernel)

theorem end_v201 : fin m c (Proc.devRef .tc main_v201) = (broadcastInDim S1x49104 ![1] bcast_S49104_S1x49104_1 : (⟨S49104, .f32⟩ : BufTy).Contents (Elt F) → (⟨S1x49104, .f32⟩ : BufTy).Contents (Elt F)) (fin m c (Proc.devRef .tc main_v10)) := unary_end 299 rfl (by decide +kernel)

theorem end_v202 : fin m c (Proc.devRef .tc main_v202) = (broadcastInDim S8x49104 ![0, 1] bcast_S1x49104_S8x49104_0_1 : (⟨S1x49104, .f32⟩ : BufTy).Contents (Elt F) → (⟨S8x49104, .f32⟩ : BufTy).Contents (Elt F)) (fin m c (Proc.devRef .tc main_v201)) := unary_end 300 rfl (by decide +kernel)

theorem end_v203 : fin m c (Proc.devRef .tc main_v203) = (Host.divf : (⟨S8x49104, .f32⟩ : BufTy).Contents (Elt F) → (⟨S8x49104, .f32⟩ : BufTy).Contents (Elt F) → (⟨S8x49104, .f32⟩ : BufTy).Contents (Elt F)) (fin m c (Proc.devRef .tc main_v184)) (fin m c (Proc.devRef .tc main_v202)) := binary_end 301 rfl (by decide +kernel)

theorem end_v204 : fin m c (Proc.devRef .tc main_v204) = (Host.log : (⟨S8x49104, .f32⟩ : BufTy).Contents (Elt F) → (⟨S8x49104, .f32⟩ : BufTy).Contents (Elt F)) (fin m c (Proc.devRef .tc main_v203)) := unary_end 302 rfl (by decide +kernel)

theorem end_v205 : fin m c (Proc.devRef .tc main_v205) = (broadcastInDim S8x49104x1 ![0, 1] bcast_S8x49104_S8x49104x1_0_1 : (⟨S8x49104, .f32⟩ : BufTy).Contents (Elt F) → (⟨S8x49104x1, .f32⟩ : BufTy).Contents (Elt F)) (fin m c (Proc.devRef .tc main_v196)) := unary_end 303 rfl (by decide +kernel)

theorem end_v206 : fin m c (Proc.devRef .tc main_v206) = (broadcastInDim S8x49104x1 ![0, 1] bcast_S8x49104_S8x49104x1_0_1 : (⟨S8x49104, .f32⟩ : BufTy).Contents (Elt F) → (⟨S8x49104x1, .f32⟩ : BufTy).Contents (Elt F)) (fin m c (Proc.devRef .tc main_v190)) := unary_end 304 rfl (by decide +kernel)

theorem end_v207 : fin m c (Proc.devRef .tc main_v207) = (broadcastInDim S8x49104x1 ![0, 1] bcast_S8x49104_S8x49104x1_0_1 : (⟨S8x49104, .f32⟩ : BufTy).Contents (Elt F) → (⟨S8x49104x1, .f32⟩ : BufTy).Contents (Elt F)) (fin m c (Proc.devRef .tc main_v204)) := unary_end 305 rfl (by decide +kernel)

theorem end_v208 : fin m c (Proc.devRef .tc main_v208) = (broadcastInDim S8x49104x1 ![0, 1] bcast_S8x49104_S8x49104x1_0_1 : (⟨S8x49104, .f32⟩ : BufTy).Contents (Elt F) → (⟨S8x49104x1, .f32⟩ : BufTy).Contents (Elt F)) (fin m c (Proc.devRef .tc main_v200)) := unary_end 306 rfl (by decide +kernel)

theorem end_v209 : fin m c (Proc.devRef .tc main_v209) = ((concatenate S8x49104x4 2 [⟨S8x49104x1, (fin m c (Proc.devRef .tc main_v205) : (⟨S8x49104x1, .f32⟩ : BufTy).Contents (Elt F))⟩, ⟨S8x49104x1, (fin m c (Proc.devRef .tc main_v206) : (⟨S8x49104x1, .f32⟩ : BufTy).Contents (Elt F))⟩, ⟨S8x49104x1, (fin m c (Proc.devRef .tc main_v207) : (⟨S8x49104x1, .f32⟩ : BufTy).Contents (Elt F))⟩, ⟨S8x49104x1, (fin m c (Proc.devRef .tc main_v208) : (⟨S8x49104x1, .f32⟩ : BufTy).Contents (Elt F))⟩] concatenates_S8x49104x1_S8x49104x1_S8x49104x1_S8x49104x1_S8x49104x4_d2 : (⟨S8x49104x4, .f32⟩ : BufTy).Contents (Elt F))) := nary_end 307 rfl (by decide +kernel)

theorem end_v210 : fin m c (Proc.devRef .tc main_v210) = (subf : (⟨S8x49104x4, .f32⟩ : BufTy).Contents (Elt F) → (⟨S8x49104x4, .f32⟩ : BufTy).Contents (Elt F) → (⟨S8x49104x4, .f32⟩ : BufTy).Contents (Elt F)) (fin m c (Proc.devRef .tc main_v209)) (fin m c (Proc.devRef .tc main_arg1)) := binary_end 308 rfl (by decide +kernel)

theorem end_v211 : fin m c (Proc.devRef .tc main_v211) = (Host.absf : (⟨S8x49104x4, .f32⟩ : BufTy).Contents (Elt F) → (⟨S8x49104x4, .f32⟩ : BufTy).Contents (Elt F)) (fin m c (Proc.devRef .tc main_v210)) := unary_end 309 rfl (by decide +kernel)

theorem end_cst_37 : fin m c (Proc.devRef .tc main_cst_37) = (constant S_ .f32 0x3DE38E39#32) := nullary_end 310 rfl (by decide +kernel)

theorem end_v212 : fin m c (Proc.devRef .tc main_v212) = (broadcastInDim S8x49104x4 ![] bcast_S_S8x49104x4 : (⟨S_, .f32⟩ : BufTy).Contents (Elt F) → (⟨S8x49104x4, .f32⟩ : BufTy).Contents (Elt F)) (fin m c (Proc.devRef .tc main_cst_37)) := unary_end 311 rfl (by decide +kernel)

theorem end_v213 : fin m c (Proc.devRef .tc main_v213) = (cmpf .ole : (⟨S8x49104x4, .f32⟩ : BufTy).Contents (Elt F) → (⟨S8x49104x4, .f32⟩ : BufTy).Contents (Elt F) → (⟨S8x49104x4, .i1⟩ : BufTy).Contents (Elt F)) (fin m c (Proc.devRef .tc main_v211)) (fin m c (Proc.devRef .tc main_v212)) := binary_end 312 rfl (by decide +kernel)

theorem end_v214 : fin m c (Proc.devRef .tc main_v214) = (mulf : (⟨S8x49104x4, .f32⟩ : BufTy).Contents (Elt F) → (⟨S8x49104x4, .f32⟩ : BufTy).Contents (Elt F) → (⟨S8x49104x4, .f32⟩ : BufTy).Contents (Elt F)) (fin m c (Proc.devRef .tc main_v211)) (fin m c (Proc.devRef .tc main_v211)) := binary_end 313 rfl (by decide +kernel)

theorem end_cst_38 : fin m c (Proc.devRef .tc main_cst_38) = (constant S_ .f32 0x40900000#32) := nullary_end 314 rfl (by decide +kernel)

theorem end_v215 : fin m c (Proc.devRef .tc main_v215) = (broadcastInDim S8x49104x4 ![] bcast_S_S8x49104x4 : (⟨S_, .f32⟩ : BufTy).Contents (Elt F) → (⟨S8x49104x4, .f32⟩ : BufTy).Contents (Elt F)) (fin m c (Proc.devRef .tc main_cst_38)) := unary_end 315 rfl (by decide +kernel)

theorem end_v216 : fin m c (Proc.devRef .tc main_v216) = (mulf : (⟨S8x49104x4, .f32⟩ : BufTy).Contents (Elt F) → (⟨S8x49104x4, .f32⟩ : BufTy).Contents (Elt F) → (⟨S8x49104x4, .f32⟩ : BufTy).Contents (Elt F)) (fin m c (Proc.devRef .tc main_v215)) (fin m c (Proc.devRef .tc main_v214)) := binary_end 316 rfl (by decide +kernel)

theorem end_cst_39 : fin m c (Proc.devRef .tc main_cst_39) = (constant S_ .f32 0x3D638E39#32) := nullary_end 317 rfl (by decide +kernel)

theorem end_v217 : fin m c (Proc.devRef .tc main_v217) = (broadcastInDim S8x49104x4 ![] bcast_S_S8x49104x4 : (⟨S_, .f32⟩ : BufTy).Contents (Elt F) → (⟨S8x49104x4, .f32⟩ : BufTy).Contents (Elt F)) (fin m c (Proc.devRef .tc main_cst_39)) := unary_end 318 rfl (by decide +kernel)

theorem end_v218 : fin m c (Proc.devRef .tc main_v218) = (subf : (⟨S8x49104x4, .f32⟩ : BufTy).Contents (Elt F) → (⟨S8x49104x4, .f32⟩ : BufTy).Contents (Elt F) → (⟨S8x49104x4, .f32⟩ : BufTy).Contents (Elt F)) (fin m c (Proc.devRef .tc main_v211)) (fin m c (Proc.devRef .tc main_v217)) := binary_end 319 rfl (by decide +kernel)

theorem end_v219 : fin m c (Proc.devRef .tc main_v219) = (select : (⟨S8x49104x4, .i1⟩ : BufTy).Contents (Elt F) → (⟨S8x49104x4, .f32⟩ : BufTy).Contents (Elt F) → (⟨S8x49104x4, .f32⟩ : BufTy).Contents (Elt F) → (⟨S8x49104x4, .f32⟩ : BufTy).Contents (Elt F)) (fin m c (Proc.devRef .tc main_v213)) (fin m c (Proc.devRef .tc main_v216)) (fin m c (Proc.devRef .tc main_v218)) := ternary_end 320 rfl (by decide +kernel)

theorem end_v220 : fin m c (Proc.devRef .tc main_v220) = (broadcastInDim S8x49104x1 ![0, 1] bcast_S8x49104_S8x49104x1_0_1 : (⟨S8x49104, .i1⟩ : BufTy).Contents (Elt F) → (⟨S8x49104x1, .i1⟩ : BufTy).Contents (Elt F)) (fin m c (Proc.devRef .tc main_v107)) := unary_end 321 rfl (by decide +kernel)

theorem end_cst_40 : fin m c (Proc.devRef .tc main_cst_40) = (constant S_ .f32 0x00000000#32) := nullary_end 322 rfl (by decide +kernel)

theorem end_call14_v0 : fin m c (Proc.devRef .tc main_call14_v0) = (id : (⟨S_, .f32⟩ : BufTy).Contents (Elt F) → (⟨S_, .f32⟩ : BufTy).Contents (Elt F)) (fin m c (Proc.devRef .tc main_cst_40)) := unary_end 323 rfl (by decide +kernel)

theorem end_call14_v1 : fin m c (Proc.devRef .tc main_call14_v1) = ((broadcastInDim S8x49104x4 ![0, 1, 2] bcast_S8x49104x1_S8x49104x4_0_1_2) : (⟨S8x49104x1, .i1⟩ : BufTy).Contents (Elt F) → (⟨S8x49104x4, .i1⟩ : BufTy).Contents (Elt F)) (fin m c (Proc.devRef .tc main_v220)) := unary_end 324 rfl (by decide +kernel)

theorem end_call14_v2 : fin m c (Proc.devRef .tc main_call14_v2) = ((broadcastInDim S8x49104x4 ![] bcast_S_S8x49104x4) : (⟨S_, .f32⟩ : BufTy).Contents (Elt F) → (⟨S8x49104x4, .f32⟩ : BufTy).Contents (Elt F)) (fin m c (Proc.devRef .tc main_call14_v0)) := unary_end 325 rfl (by decide +kernel)

theorem end_v221 : fin m c (Proc.devRef .tc main_v221) = (select : (⟨S8x49104x4, .i1⟩ : BufTy).Contents (Elt F) → (⟨S8x49104x4, .f32⟩ : BufTy).Contents (Elt F) → (⟨S8x49104x4, .f32⟩ : BufTy).Contents (Elt F) → (⟨S8x49104x4, .f32⟩ : BufTy).Contents (Elt F)) (fin m c (Proc.devRef .tc main_call14_v1)) (fin m c (Proc.devRef .tc main_v219)) (fin m c (Proc.devRef .tc main_call14_v2)) := ternary_end 326 rfl (by decide +kernel)

theorem end_cst_41 : fin m c (Proc.devRef .tc main_cst_41) = (constant S_ .f32 0x00000000#32) := nullary_end 327 rfl (by decide +kernel)

theorem end_v222 : fin m c (Proc.devRef .tc main_v222) = ((fun x v => Host.reduceAdd x v reducesTo_S8x49104x4_S8_d1_2 h_S_) : (⟨S8x49104x4, .f32⟩ : BufTy).Contents (Elt F) → (⟨S_, .f32⟩ : BufTy).Contents (Elt F) → (⟨S8, .f32⟩ : BufTy).Contents (Elt F)) (fin m c (Proc.devRef .tc main_v221)) (fin m c (Proc.devRef .tc main_cst_41)) := binary_end 328 rfl (by decide +kernel)

theorem end_cst_42 : fin m c (Proc.devRef .tc main_cst_42) = (constant S_ .f32 0x40800000#32) := nullary_end 329 rfl (by decide +kernel)

theorem end_v223 : fin m c (Proc.devRef .tc main_v223) = (broadcastInDim S8 ![] bcast_S_S8 : (⟨S_, .f32⟩ : BufTy).Contents (Elt F) → (⟨S8, .f32⟩ : BufTy).Contents (Elt F)) (fin m c (Proc.devRef .tc main_cst_42)) := unary_end 330 rfl (by decide +kernel)

theorem end_v224 : fin m c (Proc.devRef .tc main_v224) = (mulf : (⟨S8, .f32⟩ : BufTy).Contents (Elt F) → (⟨S8, .f32⟩ : BufTy).Contents (Elt F) → (⟨S8, .f32⟩ : BufTy).Contents (Elt F)) (fin m c (Proc.devRef .tc main_v109)) (fin m c (Proc.devRef .tc main_v223)) := binary_end 331 rfl (by decide +kernel)

theorem end_cst_43 : fin m c (Proc.devRef .tc main_cst_43) = (constant S_ .f32 0x3F800000#32) := nullary_end 332 rfl (by decide +kernel)

theorem end_v225 : fin m c (Proc.devRef .tc main_v225) = (broadcastInDim S8 ![] bcast_S_S8 : (⟨S_, .f32⟩ : BufTy).Contents (Elt F) → (⟨S8, .f32⟩ : BufTy).Contents (Elt F)) (fin m c (Proc.devRef .tc main_cst_43)) := unary_end 333 rfl (by decide +kernel)

theorem end_v226 : fin m c (Proc.devRef .tc main_v226) = (maximumf : (⟨S8, .f32⟩ : BufTy).Contents (Elt F) → (⟨S8, .f32⟩ : BufTy).Contents (Elt F) → (⟨S8, .f32⟩ : BufTy).Contents (Elt F)) (fin m c (Proc.devRef .tc main_v224)) (fin m c (Proc.devRef .tc main_v225)) := binary_end 334 rfl (by decide +kernel)

theorem end_v227 : fin m c (Proc.devRef .tc main_v227) = (Host.divf : (⟨S8, .f32⟩ : BufTy).Contents (Elt F) → (⟨S8, .f32⟩ : BufTy).Contents (Elt F) → (⟨S8, .f32⟩ : BufTy).Contents (Elt F)) (fin m c (Proc.devRef .tc main_v222)) (fin m c (Proc.devRef .tc main_v226)) := binary_end 335 rfl (by decide +kernel)

theorem end_cst_44 : fin m c (Proc.devRef .tc main_cst_44) = (constant S_ .f32 0x00000000#32) := nullary_end 336 rfl (by decide +kernel)

theorem end_v228 : fin m c (Proc.devRef .tc main_v228) = ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) (fin m c (Proc.devRef .tc main_v160)) (fin m c (Proc.devRef .tc main_cst_44)) := binary_end 337 rfl (by decide +kernel)

theorem end_v229 : fin m c (Proc.devRef .tc main_v229) = (broadcastInDim S1 ![] bcast_S_S1 : (⟨S_, .f32⟩ : BufTy).Contents (Elt F) → (⟨S1, .f32⟩ : BufTy).Contents (Elt F)) (fin m c (Proc.devRef .tc main_v228)) := unary_end 338 rfl (by decide +kernel)

theorem end_cst_45 : fin m c (Proc.devRef .tc main_cst_45) = (constant S_ .f32 0x41000000#32) := nullary_end 339 rfl (by decide +kernel)

theorem end_v230 : fin m c (Proc.devRef .tc main_v230) = (broadcastInDim S1 ![] bcast_S_S1 : (⟨S_, .f32⟩ : BufTy).Contents (Elt F) → (⟨S1, .f32⟩ : BufTy).Contents (Elt F)) (fin m c (Proc.devRef .tc main_cst_45)) := unary_end 340 rfl (by decide +kernel)

theorem end_v231 : fin m c (Proc.devRef .tc main_v231) = (Host.divf : (⟨S1, .f32⟩ : BufTy).Contents (Elt F) → (⟨S1, .f32⟩ : BufTy).Contents (Elt F) → (⟨S1, .f32⟩ : BufTy).Contents (Elt F)) (fin m c (Proc.devRef .tc main_v229)) (fin m c (Proc.devRef .tc main_v230)) := binary_end 341 rfl (by decide +kernel)

theorem end_cst_46 : fin m c (Proc.devRef .tc main_cst_46) = (constant S_ .f32 0x00000000#32) := nullary_end 342 rfl (by decide +kernel)

theorem end_v232 : fin m c (Proc.devRef .tc main_v232) = ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) (fin m c (Proc.devRef .tc main_v227)) (fin m c (Proc.devRef .tc main_cst_46)) := binary_end 343 rfl (by decide +kernel)

theorem end_v233 : fin m c (Proc.devRef .tc main_v233) = (broadcastInDim S1 ![] bcast_S_S1 : (⟨S_, .f32⟩ : BufTy).Contents (Elt F) → (⟨S1, .f32⟩ : BufTy).Contents (Elt F)) (fin m c (Proc.devRef .tc main_v232)) := unary_end 344 rfl (by decide +kernel)

theorem end_cst_47 : fin m c (Proc.devRef .tc main_cst_47) = (constant S_ .f32 0x41000000#32) := nullary_end 345 rfl (by decide +kernel)

theorem end_v234 : fin m c (Proc.devRef .tc main_v234) = (broadcastInDim S1 ![] bcast_S_S1 : (⟨S_, .f32⟩ : BufTy).Contents (Elt F) → (⟨S1, .f32⟩ : BufTy).Contents (Elt F)) (fin m c (Proc.devRef .tc main_cst_47)) := unary_end 346 rfl (by decide +kernel)

theorem end_v235 : fin m c (Proc.devRef .tc main_v235) = (Host.divf : (⟨S1, .f32⟩ : BufTy).Contents (Elt F) → (⟨S1, .f32⟩ : BufTy).Contents (Elt F) → (⟨S1, .f32⟩ : BufTy).Contents (Elt F)) (fin m c (Proc.devRef .tc main_v233)) (fin m c (Proc.devRef .tc main_v234)) := binary_end 347 rfl (by decide +kernel)

theorem end_cst_48 : fin m c (Proc.devRef .tc main_cst_48) = (constant S_ .f32 0x42480000#32) := nullary_end 348 rfl (by decide +kernel)

theorem end_v236 : fin m c (Proc.devRef .tc main_v236) = (broadcastInDim S1 ![] bcast_S_S1 : (⟨S_, .f32⟩ : BufTy).Contents (Elt F) → (⟨S1, .f32⟩ : BufTy).Contents (Elt F)) (fin m c (Proc.devRef .tc main_cst_48)) := unary_end 349 rfl (by decide +kernel)

theorem end_v237 : fin m c (Proc.devRef .tc main_v237) = (mulf : (⟨S1, .f32⟩ : BufTy).Contents (Elt F) → (⟨S1, .f32⟩ : BufTy).Contents (Elt F) → (⟨S1, .f32⟩ : BufTy).Contents (Elt F)) (fin m c (Proc.devRef .tc main_v235)) (fin m c (Proc.devRef .tc main_v236)) := binary_end 350 rfl (by decide +kernel)

end Cert.Plain

end
-- ==== Proof.RefVals.lean ====
/- Every buffer of the reference at the end as an array of its own shape, and the equation of each from those of its operands. -/
module

public import proofs.«01_k».proof.Proof.RefEqs

@[expose] public section

set_option maxRecDepth 200000

noncomputable section

namespace Cert.Plain

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

def x_arg0 : FVec F S8x49104x90 .f32 := fin m c (Proc.devRef .tc main_arg0)
def x_arg1 : FVec F S8x49104x4 .f32 := fin m c (Proc.devRef .tc main_arg1)
def x_arg2 : FVec F S1x49104x4 .f32 := fin m c (Proc.devRef .tc main_arg2)
def x_arg3 : FVec F S8x32x5 .f32 := fin m c (Proc.devRef .tc main_arg3)
def x_v0 : FVec F S49104x4 .f32 := fin m c (Proc.devRef .tc main_v0)
def x_v1 : FVec F S49104x1 .f32 := fin m c (Proc.devRef .tc main_v1)
def x_v2 : FVec F S49104 .f32 := fin m c (Proc.devRef .tc main_v2)
def x_v3 : FVec F S49104x1 .f32 := fin m c (Proc.devRef .tc main_v3)
def x_v4 : FVec F S49104 .f32 := fin m c (Proc.devRef .tc main_v4)
def x_v5 : FVec F S49104 .f32 := fin m c (Proc.devRef .tc main_v5)
def x_v6 : FVec F S49104x1 .f32 := fin m c (Proc.devRef .tc main_v6)
def x_v7 : FVec F S49104 .f32 := fin m c (Proc.devRef .tc main_v7)
def x_v8 : FVec F S49104x1 .f32 := fin m c (Proc.devRef .tc main_v8)
def x_v9 : FVec F S49104 .f32 := fin m c (Proc.devRef .tc main_v9)
def x_v10 : FVec F S49104 .f32 := fin m c (Proc.devRef .tc main_v10)
def x_v11 : FVec F S49104x1 .f32 := fin m c (Proc.devRef .tc main_v11)
def x_v12 : FVec F S49104 .f32 := fin m c (Proc.devRef .tc main_v12)
def x_cst : FVec F S_ .f32 := fin m c (Proc.devRef .tc main_cst)
def x_v13 : FVec F S49104 .f32 := fin m c (Proc.devRef .tc main_v13)
def x_v14 : FVec F S49104 .f32 := fin m c (Proc.devRef .tc main_v14)
def x_v15 : FVec F S49104 .f32 := fin m c (Proc.devRef .tc main_v15)
def x_v16 : FVec F S49104x1 .f32 := fin m c (Proc.devRef .tc main_v16)
def x_v17 : FVec F S49104 .f32 := fin m c (Proc.devRef .tc main_v17)
def x_cst_0 : FVec F S_ .f32 := fin m c (Proc.devRef .tc main_cst_0)
def x_v18 : FVec F S49104 .f32 := fin m c (Proc.devRef .tc main_v18)
def x_v19 : FVec F S49104 .f32 := fin m c (Proc.devRef .tc main_v19)
def x_v20 : FVec F S49104 .f32 := fin m c (Proc.devRef .tc main_v20)
def x_cst_1 : FVec F S_ .f32 := fin m c (Proc.devRef .tc main_cst_1)
def x_cst_2 : FVec F S_ .f32 := fin m c (Proc.devRef .tc main_cst_2)
def x_call0_v0 : FVec F S_ .f32 := fin m c (Proc.devRef .tc main_call0_v0)
def x_call0_v1 : FVec F S8x49104x90 .f32 := fin m c (Proc.devRef .tc main_call0_v1)
def x_call0_v2 : FVec F S8x49104x90 .f32 := fin m c (Proc.devRef .tc main_call0_v2)
def x_call0_v3 : FVec F S_ .f32 := fin m c (Proc.devRef .tc main_call0_v3)
def x_call0_v4 : FVec F S8x49104x90 .f32 := fin m c (Proc.devRef .tc main_call0_v4)
def x_v21 : FVec F S8x49104x90 .f32 := fin m c (Proc.devRef .tc main_v21)
def x_v22 : FVec F S1x49104x4 .f32 := fin m c (Proc.devRef .tc main_v22)
def x_v23 : FVec F S8x32x1 .f32 := fin m c (Proc.devRef .tc main_v23)
def x_v24 : FVec F S8x32 .f32 := fin m c (Proc.devRef .tc main_v24)
def x_v25 : FVec F S8x32x1 .f32 := fin m c (Proc.devRef .tc main_v25)
def x_v26 : FVec F S8x32 .f32 := fin m c (Proc.devRef .tc main_v26)
def x_v27 : FVec F S8x32 .f32 := fin m c (Proc.devRef .tc main_v27)
def x_v28 : FVec F S8x32x1 .f32 := fin m c (Proc.devRef .tc main_v28)
def x_v29 : FVec F S8x32 .f32 := fin m c (Proc.devRef .tc main_v29)
def x_v30 : FVec F S8x32x1 .f32 := fin m c (Proc.devRef .tc main_v30)
def x_v31 : FVec F S8x32 .f32 := fin m c (Proc.devRef .tc main_v31)
def x_v32 : FVec F S8x32 .f32 := fin m c (Proc.devRef .tc main_v32)
def x_v33 : FVec F S8x32 .f32 := fin m c (Proc.devRef .tc main_v33)
def x_v34 : FVec F S1x49104x1 .f32 := fin m c (Proc.devRef .tc main_v34)
def x_v35 : FVec F S1x49104 .f32 := fin m c (Proc.devRef .tc main_v35)
def x_v36 : FVec F S1x49104x1 .f32 := fin m c (Proc.devRef .tc main_v36)
def x_v37 : FVec F S8x32x1 .f32 := fin m c (Proc.devRef .tc main_v37)
def x_v38 : FVec F S8x32 .f32 := fin m c (Proc.devRef .tc main_v38)
def x_v39 : FVec F S8x1x32 .f32 := fin m c (Proc.devRef .tc main_v39)
def x_v40 : FVec F S8x49104x32 .f32 := fin m c (Proc.devRef .tc main_v40)
def x_v41 : FVec F S8x49104x32 .f32 := fin m c (Proc.devRef .tc main_v41)
def x_v42 : FVec F S8x49104x32 .f32 := fin m c (Proc.devRef .tc main_v42)
def x_v43 : FVec F S1x49104x1 .f32 := fin m c (Proc.devRef .tc main_v43)
def x_v44 : FVec F S1x49104 .f32 := fin m c (Proc.devRef .tc main_v44)
def x_v45 : FVec F S1x49104x1 .f32 := fin m c (Proc.devRef .tc main_v45)
def x_v46 : FVec F S8x32x1 .f32 := fin m c (Proc.devRef .tc main_v46)
def x_v47 : FVec F S8x32 .f32 := fin m c (Proc.devRef .tc main_v47)
def x_v48 : FVec F S8x1x32 .f32 := fin m c (Proc.devRef .tc main_v48)
def x_v49 : FVec F S8x49104x32 .f32 := fin m c (Proc.devRef .tc main_v49)
def x_v50 : FVec F S8x49104x32 .f32 := fin m c (Proc.devRef .tc main_v50)
def x_v51 : FVec F S8x49104x32 .f32 := fin m c (Proc.devRef .tc main_v51)
def x_v52 : FVec F S8x49104x32 .f32 := fin m c (Proc.devRef .tc main_v52)
def x_v53 : FVec F S1x49104x1 .f32 := fin m c (Proc.devRef .tc main_v53)
def x_v54 : FVec F S1x49104 .f32 := fin m c (Proc.devRef .tc main_v54)
def x_v55 : FVec F S1x49104x1 .f32 := fin m c (Proc.devRef .tc main_v55)
def x_v56 : FVec F S8x32x1 .f32 := fin m c (Proc.devRef .tc main_v56)
def x_v57 : FVec F S8x32 .f32 := fin m c (Proc.devRef .tc main_v57)
def x_v58 : FVec F S8x1x32 .f32 := fin m c (Proc.devRef .tc main_v58)
def x_v59 : FVec F S8x49104x32 .f32 := fin m c (Proc.devRef .tc main_v59)
def x_v60 : FVec F S8x49104x32 .f32 := fin m c (Proc.devRef .tc main_v60)
def x_v61 : FVec F S8x49104x32 .f32 := fin m c (Proc.devRef .tc main_v61)
def x_v62 : FVec F S1x49104x1 .f32 := fin m c (Proc.devRef .tc main_v62)
def x_v63 : FVec F S1x49104 .f32 := fin m c (Proc.devRef .tc main_v63)
def x_v64 : FVec F S1x49104x1 .f32 := fin m c (Proc.devRef .tc main_v64)
def x_v65 : FVec F S8x32x1 .f32 := fin m c (Proc.devRef .tc main_v65)
def x_v66 : FVec F S8x32 .f32 := fin m c (Proc.devRef .tc main_v66)
def x_v67 : FVec F S8x1x32 .f32 := fin m c (Proc.devRef .tc main_v67)
def x_v68 : FVec F S8x49104x32 .f32 := fin m c (Proc.devRef .tc main_v68)
def x_v69 : FVec F S8x49104x32 .f32 := fin m c (Proc.devRef .tc main_v69)
def x_v70 : FVec F S8x49104x32 .f32 := fin m c (Proc.devRef .tc main_v70)
def x_v71 : FVec F S8x49104x32 .f32 := fin m c (Proc.devRef .tc main_v71)
def x_cst_3 : FVec F S_ .f32 := fin m c (Proc.devRef .tc main_cst_3)
def x_v72 : FVec F S8x49104x32 .f32 := fin m c (Proc.devRef .tc main_v72)
def x_v73 : FVec F S8x49104x32 .f32 := fin m c (Proc.devRef .tc main_v73)
def x_cst_4 : FVec F S_ .f32 := fin m c (Proc.devRef .tc main_cst_4)
def x_v74 : FVec F S8x49104x32 .f32 := fin m c (Proc.devRef .tc main_v74)
def x_v75 : FVec F S8x49104x32 .f32 := fin m c (Proc.devRef .tc main_v75)
def x_v76 : FVec F S1x49104x1 .f32 := fin m c (Proc.devRef .tc main_v76)
def x_v77 : FVec F S1x49104 .f32 := fin m c (Proc.devRef .tc main_v77)
def x_v78 : FVec F S1x49104x1 .f32 := fin m c (Proc.devRef .tc main_v78)
def x_v79 : FVec F S1x49104 .f32 := fin m c (Proc.devRef .tc main_v79)
def x_v80 : FVec F S1x49104 .f32 := fin m c (Proc.devRef .tc main_v80)
def x_v81 : FVec F S1x49104x1 .f32 := fin m c (Proc.devRef .tc main_v81)
def x_v82 : FVec F S1x49104 .f32 := fin m c (Proc.devRef .tc main_v82)
def x_v83 : FVec F S1x49104x1 .f32 := fin m c (Proc.devRef .tc main_v83)
def x_v84 : FVec F S1x49104 .f32 := fin m c (Proc.devRef .tc main_v84)
def x_v85 : FVec F S1x49104 .f32 := fin m c (Proc.devRef .tc main_v85)
def x_v86 : FVec F S1x49104 .f32 := fin m c (Proc.devRef .tc main_v86)
def x_v87 : FVec F S1x49104x1 .f32 := fin m c (Proc.devRef .tc main_v87)
def x_v88 : FVec F S8x1x32 .f32 := fin m c (Proc.devRef .tc main_v88)
def x_v89 : FVec F S8x49104x32 .f32 := fin m c (Proc.devRef .tc main_v89)
def x_v90 : FVec F S8x49104x32 .f32 := fin m c (Proc.devRef .tc main_v90)
def x_v91 : FVec F S8x49104x32 .f32 := fin m c (Proc.devRef .tc main_v91)
def x_v92 : FVec F S8x49104x32 .f32 := fin m c (Proc.devRef .tc main_v92)
def x_v93 : FVec F S8x49104x32 .f32 := fin m c (Proc.devRef .tc main_v93)
def x_cst_5 : FVec F S_ .f32 := fin m c (Proc.devRef .tc main_cst_5)
def x_v94 : FVec F S8x49104x32 .f32 := fin m c (Proc.devRef .tc main_v94)
def x_v95 : FVec F S8x49104x32 .f32 := fin m c (Proc.devRef .tc main_v95)
def x_v96 : FVec F S8x49104x32 .f32 := fin m c (Proc.devRef .tc main_v96)
def x_v97 : FVec F S8x49104x32 .f32 := fin m c (Proc.devRef .tc main_v97)
def x_v98 : FVec F S8x32x1 .f32 := fin m c (Proc.devRef .tc main_v98)
def x_v99 : FVec F S8x32 .f32 := fin m c (Proc.devRef .tc main_v99)
def x_cst_6 : FVec F S_ .f32 := fin m c (Proc.devRef .tc main_cst_6)
def x_v100 : FVec F S8x32 .f32 := fin m c (Proc.devRef .tc main_v100)
def x_v101 : IVec S8x32 1 := fin m c (Proc.devRef .tc main_v101)
def x_v102 : IVec S8x1x32 1 := fin m c (Proc.devRef .tc main_v102)
def x_cst_7 : FVec F S_ .f32 := fin m c (Proc.devRef .tc main_cst_7)
def x_call1_v0 : FVec F S_ .f32 := fin m c (Proc.devRef .tc main_call1_v0)
def x_call1_v1 : IVec S8x49104x32 1 := fin m c (Proc.devRef .tc main_call1_v1)
def x_call1_v2 : FVec F S8x49104x32 .f32 := fin m c (Proc.devRef .tc main_call1_v2)
def x_v103 : FVec F S8x49104x32 .f32 := fin m c (Proc.devRef .tc main_v103)
def x_cst_8 : FVec F S_ .f32 := fin m c (Proc.devRef .tc main_cst_8)
def x_v104 : FVec F S8x49104 .f32 := fin m c (Proc.devRef .tc main_v104)
def x_call2_v0 : IVec S8x49104x32 32 := fin m c (Proc.devRef .tc main_call2_v0)
def x_call2_cst : FVec F S_ .f32 := fin m c (Proc.devRef .tc main_call2_cst)
def x_call2_c : IVec S_ 32 := fin m c (Proc.devRef .tc main_call2_c)
def x_call2_v1_0 : FVec F S8x49104 .f32 := fin m c (Proc.devRef .tc main_call2_v1_0)
def x_v105 : IVec S8x49104 32 := fin m c (Proc.devRef .tc main_v105)
def x_cst_9 : FVec F S_ .f32 := fin m c (Proc.devRef .tc main_cst_9)
def x_v106 : FVec F S8x49104 .f32 := fin m c (Proc.devRef .tc main_v106)
def x_v107 : IVec S8x49104 1 := fin m c (Proc.devRef .tc main_v107)
def x_v108 : FVec F S8x49104 .f32 := fin m c (Proc.devRef .tc main_v108)
def x_cst_10 : FVec F S_ .f32 := fin m c (Proc.devRef .tc main_cst_10)
def x_v109 : FVec F S8 .f32 := fin m c (Proc.devRef .tc main_v109)
def x_v110 : IVec S8x49104x1 32 := fin m c (Proc.devRef .tc main_v110)
def x_call3_c : IVec S_ 32 := fin m c (Proc.devRef .tc main_call3_c)
def x_call3_v0 : IVec S8x49104x1 32 := fin m c (Proc.devRef .tc main_call3_v0)
def x_call3_v1 : IVec S8x49104x1 1 := fin m c (Proc.devRef .tc main_call3_v1)
def x_call3_c_0 : IVec S_ 32 := fin m c (Proc.devRef .tc main_call3_c_0)
def x_call3_v2 : IVec S8x49104x1 32 := fin m c (Proc.devRef .tc main_call3_v2)
def x_call3_v3 : IVec S8x49104x1 32 := fin m c (Proc.devRef .tc main_call3_v3)
def x_call3_v4 : IVec S8x49104x1 32 := fin m c (Proc.devRef .tc main_call3_v4)
def x_call3_c_1 : IVec S1 32 := fin m c (Proc.devRef .tc main_call3_c_1)
def x_call3_c_2 : IVec S_ 32 := fin m c (Proc.devRef .tc main_call3_c_2)
def x_call3_v5 : IVec S8x49104x1 32 := fin m c (Proc.devRef .tc main_call3_v5)
def x_call3_v6 : IVec S8x49104x1 1 := fin m c (Proc.devRef .tc main_call3_v6)
def x_call3_v7 : IVec S1x1x1 32 := fin m c (Proc.devRef .tc main_call3_v7)
def x_call3_v8 : IVec S8x49104x1 32 := fin m c (Proc.devRef .tc main_call3_v8)
def x_call3_v9 : IVec S8x49104x1 1 := fin m c (Proc.devRef .tc main_call3_v9)
def x_call3_v10 : IVec S8x49104x1 1 := fin m c (Proc.devRef .tc main_call3_v10)
def x_call3_c_3 : IVec S_ 1 := fin m c (Proc.devRef .tc main_call3_c_3)
def x_call3_v11 : IVec S8x49104 1 := fin m c (Proc.devRef .tc main_call3_v11)
def x_call3_v12 : FVec F S8x49104x5 .f32 := fin m c (Proc.devRef .tc main_call3_v12)
def x_call3_v13 : IVec S8x49104x5 1 := fin m c (Proc.devRef .tc main_call3_v13)
def x_call3_cst : FVec F S_ .f32 := fin m c (Proc.devRef .tc main_call3_cst)
def x_call3_v14 : FVec F S8x49104x5 .f32 := fin m c (Proc.devRef .tc main_call3_v14)
def x_v111 : FVec F S8x49104x5 .f32 := fin m c (Proc.devRef .tc main_v111)
def x_cst_11 : FVec F S_ .f32 := fin m c (Proc.devRef .tc main_cst_11)
def x_v112 : FVec F S8x49104x90 .f32 := fin m c (Proc.devRef .tc main_v112)
def x_cst_12 : FVec F S_ .f32 := fin m c (Proc.devRef .tc main_cst_12)
def x_v113 : FVec F S8x49104 .f32 := fin m c (Proc.devRef .tc main_v113)
def x_v114 : IVec S8x49104 1 := fin m c (Proc.devRef .tc main_v114)
def x_v115 : IVec S8x49104x1 1 := fin m c (Proc.devRef .tc main_v115)
def x_cst_13 : FVec F S_ .f32 := fin m c (Proc.devRef .tc main_cst_13)
def x_call4_v0 : FVec F S_ .f32 := fin m c (Proc.devRef .tc main_call4_v0)
def x_call4_v1 : IVec S8x49104x90 1 := fin m c (Proc.devRef .tc main_call4_v1)
def x_call4_v2 : FVec F S8x49104x90 .f32 := fin m c (Proc.devRef .tc main_call4_v2)
def x_v116 : FVec F S8x49104x90 .f32 := fin m c (Proc.devRef .tc main_v116)
def x_v117 : IVec S8x49104x1 1 := fin m c (Proc.devRef .tc main_v117)
def x_cst_14 : FVec F S_ .f32 := fin m c (Proc.devRef .tc main_cst_14)
def x_call5_v0 : FVec F S_ .f32 := fin m c (Proc.devRef .tc main_call5_v0)
def x_call5_v1 : IVec S8x49104x90 1 := fin m c (Proc.devRef .tc main_call5_v1)
def x_call5_v2 : FVec F S8x49104x90 .f32 := fin m c (Proc.devRef .tc main_call5_v2)
def x_v118 : FVec F S8x49104x90 .f32 := fin m c (Proc.devRef .tc main_v118)
def x_v119 : FVec F S8x49104x1 .f32 := fin m c (Proc.devRef .tc main_v119)
def x_v120 : FVec F S8x49104 .f32 := fin m c (Proc.devRef .tc main_v120)
def x_v121 : IVec S8x49104 32 := fin m c (Proc.devRef .tc main_v121)
def x_call6_v0 : IVec S8x49104x1 32 := fin m c (Proc.devRef .tc main_call6_v0)
def x_call6_v1 : IVec S1x1x90 32 := fin m c (Proc.devRef .tc main_call6_v1)
def x_call6_v2 : IVec S8x49104x90 32 := fin m c (Proc.devRef .tc main_call6_v2)
def x_call6_v3 : IVec S8x49104x90 32 := fin m c (Proc.devRef .tc main_call6_v3)
def x_call6_v4 : IVec S8x49104x90 1 := fin m c (Proc.devRef .tc main_call6_v4)
def x_v122 : FVec F S8x49104x90 .f32 := fin m c (Proc.devRef .tc main_v122)
def x_v123 : IVec S8x49104x1 1 := fin m c (Proc.devRef .tc main_v123)
def x_cst_15 : FVec F S_ .f32 := fin m c (Proc.devRef .tc main_cst_15)
def x_v124 : FVec F S8x49104x90 .f32 := fin m c (Proc.devRef .tc main_v124)
def x_v125 : IVec S8x49104x90 1 := fin m c (Proc.devRef .tc main_v125)
def x_v126 : IVec S8x49104x90 1 := fin m c (Proc.devRef .tc main_v126)
def x_v127 : IVec S8x49104x90 1 := fin m c (Proc.devRef .tc main_v127)
def x_cst_16 : FVec F S_ .f32 := fin m c (Proc.devRef .tc main_cst_16)
def x_call7_v0 : FVec F S_ .f32 := fin m c (Proc.devRef .tc main_call7_v0)
def x_call7_v1 : FVec F S8x49104x90 .f32 := fin m c (Proc.devRef .tc main_call7_v1)
def x_v128 : FVec F S8x49104x90 .f32 := fin m c (Proc.devRef .tc main_v128)
def x_cst_17 : FVec F S_ .f32 := fin m c (Proc.devRef .tc main_cst_17)
def x_v129 : FVec F S8x49104x90 .f32 := fin m c (Proc.devRef .tc main_v129)
def x_v130 : IVec S8x49104x90 1 := fin m c (Proc.devRef .tc main_v130)
def x_cst_18 : FVec F S_ .f32 := fin m c (Proc.devRef .tc main_cst_18)
def x_cst_19 : FVec F S_ .f32 := fin m c (Proc.devRef .tc main_cst_19)
def x_call8_v0 : FVec F S8x49104x90 .f32 := fin m c (Proc.devRef .tc main_call8_v0)
def x_call8_v1 : FVec F S8x49104x90 .f32 := fin m c (Proc.devRef .tc main_call8_v1)
def x_v131 : FVec F S8x49104x90 .f32 := fin m c (Proc.devRef .tc main_v131)
def x_cst_20 : FVec F S_ .f32 := fin m c (Proc.devRef .tc main_cst_20)
def x_v132 : FVec F S8x49104x90 .f32 := fin m c (Proc.devRef .tc main_v132)
def x_v133 : IVec S8x49104x90 1 := fin m c (Proc.devRef .tc main_v133)
def x_cst_21 : FVec F S_ .f32 := fin m c (Proc.devRef .tc main_cst_21)
def x_v134 : FVec F S8x49104x90 .f32 := fin m c (Proc.devRef .tc main_v134)
def x_v135 : FVec F S8x49104x90 .f32 := fin m c (Proc.devRef .tc main_v135)
def x_v136 : FVec F S8x49104x90 .f32 := fin m c (Proc.devRef .tc main_v136)
def x_cst_22 : FVec F S_ .f32 := fin m c (Proc.devRef .tc main_cst_22)
def x_v137 : FVec F S8x49104x90 .f32 := fin m c (Proc.devRef .tc main_v137)
def x_v138 : FVec F S8x49104x90 .f32 := fin m c (Proc.devRef .tc main_v138)
def x_v139 : FVec F S8x49104x90 .f32 := fin m c (Proc.devRef .tc main_v139)
def x_v140 : FVec F S8x49104x90 .f32 := fin m c (Proc.devRef .tc main_v140)
def x_cst_23 : FVec F S_ .f32 := fin m c (Proc.devRef .tc main_cst_23)
def x_cst_24 : FVec F S_ .f32 := fin m c (Proc.devRef .tc main_cst_24)
def x_call10_v0 : FVec F S_ .f32 := fin m c (Proc.devRef .tc main_call10_v0)
def x_call10_v1 : FVec F S8x49104x90 .f32 := fin m c (Proc.devRef .tc main_call10_v1)
def x_call10_v2 : FVec F S8x49104x90 .f32 := fin m c (Proc.devRef .tc main_call10_v2)
def x_call10_v3 : FVec F S_ .f32 := fin m c (Proc.devRef .tc main_call10_v3)
def x_call10_v4 : FVec F S8x49104x90 .f32 := fin m c (Proc.devRef .tc main_call10_v4)
def x_v141 : FVec F S8x49104x90 .f32 := fin m c (Proc.devRef .tc main_v141)
def x_v142 : FVec F S8x49104x90 .f32 := fin m c (Proc.devRef .tc main_v142)
def x_v143 : FVec F S8x49104x90 .f32 := fin m c (Proc.devRef .tc main_v143)
def x_cst_25 : FVec F S_ .f32 := fin m c (Proc.devRef .tc main_cst_25)
def x_v144 : FVec F S8x49104x90 .f32 := fin m c (Proc.devRef .tc main_v144)
def x_v145 : FVec F S8x49104x90 .f32 := fin m c (Proc.devRef .tc main_v145)
def x_cst_26 : FVec F S_ .f32 := fin m c (Proc.devRef .tc main_cst_26)
def x_v146 : FVec F S8x49104x90 .f32 := fin m c (Proc.devRef .tc main_v146)
def x_v147 : FVec F S8x49104x90 .f32 := fin m c (Proc.devRef .tc main_v147)
def x_cst_27 : FVec F S_ .f32 := fin m c (Proc.devRef .tc main_cst_27)
def x_cst_28 : FVec F S_ .f32 := fin m c (Proc.devRef .tc main_cst_28)
def x_call11_v0 : FVec F S_ .f32 := fin m c (Proc.devRef .tc main_call11_v0)
def x_call11_v1 : FVec F S8x49104x90 .f32 := fin m c (Proc.devRef .tc main_call11_v1)
def x_call11_v2 : FVec F S8x49104x90 .f32 := fin m c (Proc.devRef .tc main_call11_v2)
def x_call11_v3 : FVec F S_ .f32 := fin m c (Proc.devRef .tc main_call11_v3)
def x_call11_v4 : FVec F S8x49104x90 .f32 := fin m c (Proc.devRef .tc main_call11_v4)
def x_v148 : FVec F S8x49104x90 .f32 := fin m c (Proc.devRef .tc main_v148)
def x_v149 : FVec F S8x49104x90 .f32 := fin m c (Proc.devRef .tc main_v149)
def x_v150 : FVec F S8x49104x90 .f32 := fin m c (Proc.devRef .tc main_v150)
def x_v151 : FVec F S8x49104x90 .f32 := fin m c (Proc.devRef .tc main_v151)
def x_v152 : FVec F S8x49104x90 .f32 := fin m c (Proc.devRef .tc main_v152)
def x_cst_29 : FVec F S_ .f32 := fin m c (Proc.devRef .tc main_cst_29)
def x_v153 : FVec F S8x49104x90 .f32 := fin m c (Proc.devRef .tc main_v153)
def x_v154 : IVec S8x49104x90 1 := fin m c (Proc.devRef .tc main_v154)
def x_v155 : FVec F S8x49104x90 .f32 := fin m c (Proc.devRef .tc main_v155)
def x_cst_30 : FVec F S_ .f32 := fin m c (Proc.devRef .tc main_cst_30)
def x_call12_v0 : FVec F S_ .f32 := fin m c (Proc.devRef .tc main_call12_v0)
def x_call12_v1 : FVec F S8x49104x90 .f32 := fin m c (Proc.devRef .tc main_call12_v1)
def x_v156 : FVec F S8x49104x90 .f32 := fin m c (Proc.devRef .tc main_v156)
def x_cst_31 : FVec F S_ .f32 := fin m c (Proc.devRef .tc main_cst_31)
def x_v157 : FVec F S8 .f32 := fin m c (Proc.devRef .tc main_v157)
def x_cst_32 : FVec F S_ .f32 := fin m c (Proc.devRef .tc main_cst_32)
def x_v158 : FVec F S8 .f32 := fin m c (Proc.devRef .tc main_v158)
def x_v159 : FVec F S8 .f32 := fin m c (Proc.devRef .tc main_v159)
def x_v160 : FVec F S8 .f32 := fin m c (Proc.devRef .tc main_v160)
def x_v161 : FVec F S8x49104x1 .f32 := fin m c (Proc.devRef .tc main_v161)
def x_v162 : FVec F S8x49104 .f32 := fin m c (Proc.devRef .tc main_v162)
def x_v163 : FVec F S8x49104x1 .f32 := fin m c (Proc.devRef .tc main_v163)
def x_v164 : FVec F S8x49104 .f32 := fin m c (Proc.devRef .tc main_v164)
def x_v165 : FVec F S8x49104 .f32 := fin m c (Proc.devRef .tc main_v165)
def x_v166 : FVec F S8x49104x1 .f32 := fin m c (Proc.devRef .tc main_v166)
def x_v167 : FVec F S8x49104 .f32 := fin m c (Proc.devRef .tc main_v167)
def x_v168 : FVec F S8x49104x1 .f32 := fin m c (Proc.devRef .tc main_v168)
def x_v169 : FVec F S8x49104 .f32 := fin m c (Proc.devRef .tc main_v169)
def x_v170 : FVec F S8x49104 .f32 := fin m c (Proc.devRef .tc main_v170)
def x_v171 : FVec F S8x49104x1 .f32 := fin m c (Proc.devRef .tc main_v171)
def x_v172 : FVec F S8x49104 .f32 := fin m c (Proc.devRef .tc main_v172)
def x_cst_33 : FVec F S_ .f32 := fin m c (Proc.devRef .tc main_cst_33)
def x_v173 : FVec F S8x49104 .f32 := fin m c (Proc.devRef .tc main_v173)
def x_v174 : FVec F S8x49104 .f32 := fin m c (Proc.devRef .tc main_v174)
def x_v175 : FVec F S8x49104 .f32 := fin m c (Proc.devRef .tc main_v175)
def x_v176 : FVec F S8x49104x1 .f32 := fin m c (Proc.devRef .tc main_v176)
def x_v177 : FVec F S8x49104 .f32 := fin m c (Proc.devRef .tc main_v177)
def x_cst_34 : FVec F S_ .f32 := fin m c (Proc.devRef .tc main_cst_34)
def x_v178 : FVec F S8x49104 .f32 := fin m c (Proc.devRef .tc main_v178)
def x_v179 : FVec F S8x49104 .f32 := fin m c (Proc.devRef .tc main_v179)
def x_v180 : FVec F S8x49104 .f32 := fin m c (Proc.devRef .tc main_v180)
def x_cst_35 : FVec F S_ .f32 := fin m c (Proc.devRef .tc main_cst_35)
def x_v181 : FVec F S8x49104 .f32 := fin m c (Proc.devRef .tc main_v181)
def x_v182 : FVec F S8x49104 .f32 := fin m c (Proc.devRef .tc main_v182)
def x_cst_36 : FVec F S_ .f32 := fin m c (Proc.devRef .tc main_cst_36)
def x_v183 : FVec F S8x49104 .f32 := fin m c (Proc.devRef .tc main_v183)
def x_v184 : FVec F S8x49104 .f32 := fin m c (Proc.devRef .tc main_v184)
def x_v185 : FVec F S1x49104 .f32 := fin m c (Proc.devRef .tc main_v185)
def x_v186 : FVec F S8x49104 .f32 := fin m c (Proc.devRef .tc main_v186)
def x_v187 : FVec F S8x49104 .f32 := fin m c (Proc.devRef .tc main_v187)
def x_v188 : FVec F S1x49104 .f32 := fin m c (Proc.devRef .tc main_v188)
def x_v189 : FVec F S8x49104 .f32 := fin m c (Proc.devRef .tc main_v189)
def x_v190 : FVec F S8x49104 .f32 := fin m c (Proc.devRef .tc main_v190)
def x_v191 : FVec F S1x49104 .f32 := fin m c (Proc.devRef .tc main_v191)
def x_v192 : FVec F S8x49104 .f32 := fin m c (Proc.devRef .tc main_v192)
def x_v193 : FVec F S8x49104 .f32 := fin m c (Proc.devRef .tc main_v193)
def x_v194 : FVec F S1x49104 .f32 := fin m c (Proc.devRef .tc main_v194)
def x_v195 : FVec F S8x49104 .f32 := fin m c (Proc.devRef .tc main_v195)
def x_v196 : FVec F S8x49104 .f32 := fin m c (Proc.devRef .tc main_v196)
def x_v197 : FVec F S1x49104 .f32 := fin m c (Proc.devRef .tc main_v197)
def x_v198 : FVec F S8x49104 .f32 := fin m c (Proc.devRef .tc main_v198)
def x_v199 : FVec F S8x49104 .f32 := fin m c (Proc.devRef .tc main_v199)
def x_v200 : FVec F S8x49104 .f32 := fin m c (Proc.devRef .tc main_v200)
def x_v201 : FVec F S1x49104 .f32 := fin m c (Proc.devRef .tc main_v201)
def x_v202 : FVec F S8x49104 .f32 := fin m c (Proc.devRef .tc main_v202)
def x_v203 : FVec F S8x49104 .f32 := fin m c (Proc.devRef .tc main_v203)
def x_v204 : FVec F S8x49104 .f32 := fin m c (Proc.devRef .tc main_v204)
def x_v205 : FVec F S8x49104x1 .f32 := fin m c (Proc.devRef .tc main_v205)
def x_v206 : FVec F S8x49104x1 .f32 := fin m c (Proc.devRef .tc main_v206)
def x_v207 : FVec F S8x49104x1 .f32 := fin m c (Proc.devRef .tc main_v207)
def x_v208 : FVec F S8x49104x1 .f32 := fin m c (Proc.devRef .tc main_v208)
def x_v209 : FVec F S8x49104x4 .f32 := fin m c (Proc.devRef .tc main_v209)
def x_v210 : FVec F S8x49104x4 .f32 := fin m c (Proc.devRef .tc main_v210)
def x_v211 : FVec F S8x49104x4 .f32 := fin m c (Proc.devRef .tc main_v211)
def x_cst_37 : FVec F S_ .f32 := fin m c (Proc.devRef .tc main_cst_37)
def x_v212 : FVec F S8x49104x4 .f32 := fin m c (Proc.devRef .tc main_v212)
def x_v213 : IVec S8x49104x4 1 := fin m c (Proc.devRef .tc main_v213)
def x_v214 : FVec F S8x49104x4 .f32 := fin m c (Proc.devRef .tc main_v214)
def x_cst_38 : FVec F S_ .f32 := fin m c (Proc.devRef .tc main_cst_38)
def x_v215 : FVec F S8x49104x4 .f32 := fin m c (Proc.devRef .tc main_v215)
def x_v216 : FVec F S8x49104x4 .f32 := fin m c (Proc.devRef .tc main_v216)
def x_cst_39 : FVec F S_ .f32 := fin m c (Proc.devRef .tc main_cst_39)
def x_v217 : FVec F S8x49104x4 .f32 := fin m c (Proc.devRef .tc main_v217)
def x_v218 : FVec F S8x49104x4 .f32 := fin m c (Proc.devRef .tc main_v218)
def x_v219 : FVec F S8x49104x4 .f32 := fin m c (Proc.devRef .tc main_v219)
def x_v220 : IVec S8x49104x1 1 := fin m c (Proc.devRef .tc main_v220)
def x_cst_40 : FVec F S_ .f32 := fin m c (Proc.devRef .tc main_cst_40)
def x_call14_v0 : FVec F S_ .f32 := fin m c (Proc.devRef .tc main_call14_v0)
def x_call14_v1 : IVec S8x49104x4 1 := fin m c (Proc.devRef .tc main_call14_v1)
def x_call14_v2 : FVec F S8x49104x4 .f32 := fin m c (Proc.devRef .tc main_call14_v2)
def x_v221 : FVec F S8x49104x4 .f32 := fin m c (Proc.devRef .tc main_v221)
def x_cst_41 : FVec F S_ .f32 := fin m c (Proc.devRef .tc main_cst_41)
def x_v222 : FVec F S8 .f32 := fin m c (Proc.devRef .tc main_v222)
def x_cst_42 : FVec F S_ .f32 := fin m c (Proc.devRef .tc main_cst_42)
def x_v223 : FVec F S8 .f32 := fin m c (Proc.devRef .tc main_v223)
def x_v224 : FVec F S8 .f32 := fin m c (Proc.devRef .tc main_v224)
def x_cst_43 : FVec F S_ .f32 := fin m c (Proc.devRef .tc main_cst_43)
def x_v225 : FVec F S8 .f32 := fin m c (Proc.devRef .tc main_v225)
def x_v226 : FVec F S8 .f32 := fin m c (Proc.devRef .tc main_v226)
def x_v227 : FVec F S8 .f32 := fin m c (Proc.devRef .tc main_v227)
def x_cst_44 : FVec F S_ .f32 := fin m c (Proc.devRef .tc main_cst_44)
def x_v228 : FVec F S_ .f32 := fin m c (Proc.devRef .tc main_v228)
def x_v229 : FVec F S1 .f32 := fin m c (Proc.devRef .tc main_v229)
def x_cst_45 : FVec F S_ .f32 := fin m c (Proc.devRef .tc main_cst_45)
def x_v230 : FVec F S1 .f32 := fin m c (Proc.devRef .tc main_v230)
def x_v231 : FVec F S1 .f32 := fin m c (Proc.devRef .tc main_v231)
def x_cst_46 : FVec F S_ .f32 := fin m c (Proc.devRef .tc main_cst_46)
def x_v232 : FVec F S_ .f32 := fin m c (Proc.devRef .tc main_v232)
def x_v233 : FVec F S1 .f32 := fin m c (Proc.devRef .tc main_v233)
def x_cst_47 : FVec F S_ .f32 := fin m c (Proc.devRef .tc main_cst_47)
def x_v234 : FVec F S1 .f32 := fin m c (Proc.devRef .tc main_v234)
def x_v235 : FVec F S1 .f32 := fin m c (Proc.devRef .tc main_v235)
def x_cst_48 : FVec F S_ .f32 := fin m c (Proc.devRef .tc main_cst_48)
def x_v236 : FVec F S1 .f32 := fin m c (Proc.devRef .tc main_v236)
def x_v237 : FVec F S1 .f32 := fin m c (Proc.devRef .tc main_v237)

theorem r_v0 : x_v0 m c = shapeCast S49104x4 (x_arg2 m c) shapeCasts_S1x49104x4_S49104x4 := end_v0 m c
theorem r_v1 : x_v1 m c = ((extractStridedSlice S49104x1 ![0, 3] · slices_S49104x4_S49104x1_0_3)) (x_v0 m c) := end_v1 m c
theorem r_v2 : x_v2 m c = shapeCast S49104 (x_v1 m c) shapeCasts_S49104x1_S49104 := end_v2 m c
theorem r_v3 : x_v3 m c = ((extractStridedSlice S49104x1 ![0, 1] · slices_S49104x4_S49104x1_0_1)) (x_v0 m c) := end_v3 m c
theorem r_v4 : x_v4 m c = shapeCast S49104 (x_v3 m c) shapeCasts_S49104x1_S49104 := end_v4 m c
theorem r_v5 : x_v5 m c = (subf) (x_v2 m c) (x_v4 m c) := end_v5 m c
theorem r_v6 : x_v6 m c = ((extractStridedSlice S49104x1 ![0, 2] · slices_S49104x4_S49104x1_0_2)) (x_v0 m c) := end_v6 m c
theorem r_v7 : x_v7 m c = shapeCast S49104 (x_v6 m c) shapeCasts_S49104x1_S49104 := end_v7 m c
theorem r_v8 : x_v8 m c = ((extractStridedSlice S49104x1 ![0, 0] · slices_S49104x4_S49104x1_0_0)) (x_v0 m c) := end_v8 m c
theorem r_v9 : x_v9 m c = shapeCast S49104 (x_v8 m c) shapeCasts_S49104x1_S49104 := end_v9 m c
theorem r_v10 : x_v10 m c = (subf) (x_v7 m c) (x_v9 m c) := end_v10 m c
theorem r_v11 : x_v11 m c = ((extractStridedSlice S49104x1 ![0, 1] · slices_S49104x4_S49104x1_0_1)) (x_v0 m c) := end_v11 m c
theorem r_v12 : x_v12 m c = shapeCast S49104 (x_v11 m c) shapeCasts_S49104x1_S49104 := end_v12 m c
theorem r_cst : x_cst m c = (constant S_ .f32 0x3F000000#32) := end_cst m c
theorem r_v13 : x_v13 m c = (broadcastInDim S49104 ![] bcast_S_S49104) (x_cst m c) := end_v13 m c
theorem r_v14 : x_v14 m c = (mulf) (x_v13 m c) (x_v5 m c) := end_v14 m c
theorem r_v15 : x_v15 m c = (addf) (x_v12 m c) (x_v14 m c) := end_v15 m c
theorem r_v16 : x_v16 m c = ((extractStridedSlice S49104x1 ![0, 0] · slices_S49104x4_S49104x1_0_0)) (x_v0 m c) := end_v16 m c
theorem r_v17 : x_v17 m c = shapeCast S49104 (x_v16 m c) shapeCasts_S49104x1_S49104 := end_v17 m c
theorem r_cst_0 : x_cst_0 m c = (constant S_ .f32 0x3F000000#32) := end_cst_0 m c
theorem r_v18 : x_v18 m c = (broadcastInDim S49104 ![] bcast_S_S49104) (x_cst_0 m c) := end_v18 m c
theorem r_v19 : x_v19 m c = (mulf) (x_v18 m c) (x_v10 m c) := end_v19 m c
theorem r_v20 : x_v20 m c = (addf) (x_v17 m c) (x_v19 m c) := end_v20 m c
theorem r_cst_1 : x_cst_1 m c = (constant S_ .f32 0x38D1B717#32) := end_cst_1 m c
theorem r_cst_2 : x_cst_2 m c = (constant S_ .f32 0x3F7FF972#32) := end_cst_2 m c
theorem r_call0_v0 : x_call0_v0 m c = (id) (x_cst_1 m c) := end_call0_v0 m c
theorem r_call0_v1 : x_call0_v1 m c = ((broadcastInDim S8x49104x90 ![] bcast_S_S8x49104x90)) (x_call0_v0 m c) := end_call0_v1 m c
theorem r_call0_v2 : x_call0_v2 m c = (maximumf) (x_call0_v1 m c) (x_arg0 m c) := end_call0_v2 m c
theorem r_call0_v3 : x_call0_v3 m c = (id) (x_cst_2 m c) := end_call0_v3 m c
theorem r_call0_v4 : x_call0_v4 m c = ((broadcastInDim S8x49104x90 ![] bcast_S_S8x49104x90)) (x_call0_v3 m c) := end_call0_v4 m c
theorem r_v21 : x_v21 m c = (minimumf) (x_call0_v4 m c) (x_call0_v2 m c) := end_v21 m c
theorem r_v22 : x_v22 m c = (broadcastInDim S1x49104x4 ![1, 2] bcast_S49104x4_S1x49104x4_1_2) (x_v0 m c) := end_v22 m c
theorem r_v23 : x_v23 m c = ((extractStridedSlice S8x32x1 ![0, 0, 2] · slices_S8x32x5_S8x32x1_0_0_2)) (x_arg3 m c) := end_v23 m c
theorem r_v24 : x_v24 m c = shapeCast S8x32 (x_v23 m c) shapeCasts_S8x32x1_S8x32 := end_v24 m c
theorem r_v25 : x_v25 m c = ((extractStridedSlice S8x32x1 ![0, 0, 0] · slices_S8x32x5_S8x32x1_0_0_0)) (x_arg3 m c) := end_v25 m c
theorem r_v26 : x_v26 m c = shapeCast S8x32 (x_v25 m c) shapeCasts_S8x32x1_S8x32 := end_v26 m c
theorem r_v27 : x_v27 m c = (subf) (x_v24 m c) (x_v26 m c) := end_v27 m c
theorem r_v28 : x_v28 m c = ((extractStridedSlice S8x32x1 ![0, 0, 3] · slices_S8x32x5_S8x32x1_0_0_3)) (x_arg3 m c) := end_v28 m c
theorem r_v29 : x_v29 m c = shapeCast S8x32 (x_v28 m c) shapeCasts_S8x32x1_S8x32 := end_v29 m c
theorem r_v30 : x_v30 m c = ((extractStridedSlice S8x32x1 ![0, 0, 1] · slices_S8x32x5_S8x32x1_0_0_1)) (x_arg3 m c) := end_v30 m c
theorem r_v31 : x_v31 m c = shapeCast S8x32 (x_v30 m c) shapeCasts_S8x32x1_S8x32 := end_v31 m c
theorem r_v32 : x_v32 m c = (subf) (x_v29 m c) (x_v31 m c) := end_v32 m c
theorem r_v33 : x_v33 m c = (mulf) (x_v27 m c) (x_v32 m c) := end_v33 m c
theorem r_v34 : x_v34 m c = ((extractStridedSlice S1x49104x1 ![0, 0, 3] · slices_S1x49104x4_S1x49104x1_0_0_3)) (x_v22 m c) := end_v34 m c
theorem r_v35 : x_v35 m c = shapeCast S1x49104 (x_v34 m c) shapeCasts_S1x49104x1_S1x49104 := end_v35 m c
theorem r_v36 : x_v36 m c = (broadcastInDim S1x49104x1 ![0, 1] bcast_S1x49104_S1x49104x1_0_1) (x_v35 m c) := end_v36 m c
theorem r_v37 : x_v37 m c = ((extractStridedSlice S8x32x1 ![0, 0, 2] · slices_S8x32x5_S8x32x1_0_0_2)) (x_arg3 m c) := end_v37 m c
theorem r_v38 : x_v38 m c = shapeCast S8x32 (x_v37 m c) shapeCasts_S8x32x1_S8x32 := end_v38 m c
theorem r_v39 : x_v39 m c = (broadcastInDim S8x1x32 ![0, 2] bcast_S8x32_S8x1x32_0_2) (x_v38 m c) := end_v39 m c
theorem r_v40 : x_v40 m c = (broadcastInDim S8x49104x32 ![0, 1, 2] bcast_S1x49104x1_S8x49104x32_0_1_2) (x_v36 m c) := end_v40 m c
theorem r_v41 : x_v41 m c = (broadcastInDim S8x49104x32 ![0, 1, 2] bcast_S8x1x32_S8x49104x32_0_1_2) (x_v39 m c) := end_v41 m c
theorem r_v42 : x_v42 m c = (minimumf) (x_v40 m c) (x_v41 m c) := end_v42 m c
theorem r_v43 : x_v43 m c = ((extractStridedSlice S1x49104x1 ![0, 0, 1] · slices_S1x49104x4_S1x49104x1_0_0_1)) (x_v22 m c) := end_v43 m c
theorem r_v44 : x_v44 m c = shapeCast S1x49104 (x_v43 m c) shapeCasts_S1x49104x1_S1x49104 := end_v44 m c
theorem r_v45 : x_v45 m c = (broadcastInDim S1x49104x1 ![0, 1] bcast_S1x49104_S1x49104x1_0_1) (x_v44 m c) := end_v45 m c
theorem r_v46 : x_v46 m c = ((extractStridedSlice S8x32x1 ![0, 0, 0] · slices_S8x32x5_S8x32x1_0_0_0)) (x_arg3 m c) := end_v46 m c
theorem r_v47 : x_v47 m c = shapeCast S8x32 (x_v46 m c) shapeCasts_S8x32x1_S8x32 := end_v47 m c
theorem r_v48 : x_v48 m c = (broadcastInDim S8x1x32 ![0, 2] bcast_S8x32_S8x1x32_0_2) (x_v47 m c) := end_v48 m c
theorem r_v49 : x_v49 m c = (broadcastInDim S8x49104x32 ![0, 1, 2] bcast_S1x49104x1_S8x49104x32_0_1_2) (x_v45 m c) := end_v49 m c
theorem r_v50 : x_v50 m c = (broadcastInDim S8x49104x32 ![0, 1, 2] bcast_S8x1x32_S8x49104x32_0_1_2) (x_v48 m c) := end_v50 m c
theorem r_v51 : x_v51 m c = (maximumf) (x_v49 m c) (x_v50 m c) := end_v51 m c
theorem r_v52 : x_v52 m c = (subf) (x_v42 m c) (x_v51 m c) := end_v52 m c
theorem r_v53 : x_v53 m c = ((extractStridedSlice S1x49104x1 ![0, 0, 2] · slices_S1x49104x4_S1x49104x1_0_0_2)) (x_v22 m c) := end_v53 m c
theorem r_v54 : x_v54 m c = shapeCast S1x49104 (x_v53 m c) shapeCasts_S1x49104x1_S1x49104 := end_v54 m c
theorem r_v55 : x_v55 m c = (broadcastInDim S1x49104x1 ![0, 1] bcast_S1x49104_S1x49104x1_0_1) (x_v54 m c) := end_v55 m c
theorem r_v56 : x_v56 m c = ((extractStridedSlice S8x32x1 ![0, 0, 3] · slices_S8x32x5_S8x32x1_0_0_3)) (x_arg3 m c) := end_v56 m c
theorem r_v57 : x_v57 m c = shapeCast S8x32 (x_v56 m c) shapeCasts_S8x32x1_S8x32 := end_v57 m c
theorem r_v58 : x_v58 m c = (broadcastInDim S8x1x32 ![0, 2] bcast_S8x32_S8x1x32_0_2) (x_v57 m c) := end_v58 m c
theorem r_v59 : x_v59 m c = (broadcastInDim S8x49104x32 ![0, 1, 2] bcast_S1x49104x1_S8x49104x32_0_1_2) (x_v55 m c) := end_v59 m c
theorem r_v60 : x_v60 m c = (broadcastInDim S8x49104x32 ![0, 1, 2] bcast_S8x1x32_S8x49104x32_0_1_2) (x_v58 m c) := end_v60 m c
theorem r_v61 : x_v61 m c = (minimumf) (x_v59 m c) (x_v60 m c) := end_v61 m c
theorem r_v62 : x_v62 m c = ((extractStridedSlice S1x49104x1 ![0, 0, 0] · slices_S1x49104x4_S1x49104x1_0_0_0)) (x_v22 m c) := end_v62 m c
theorem r_v63 : x_v63 m c = shapeCast S1x49104 (x_v62 m c) shapeCasts_S1x49104x1_S1x49104 := end_v63 m c
theorem r_v64 : x_v64 m c = (broadcastInDim S1x49104x1 ![0, 1] bcast_S1x49104_S1x49104x1_0_1) (x_v63 m c) := end_v64 m c
theorem r_v65 : x_v65 m c = ((extractStridedSlice S8x32x1 ![0, 0, 1] · slices_S8x32x5_S8x32x1_0_0_1)) (x_arg3 m c) := end_v65 m c
theorem r_v66 : x_v66 m c = shapeCast S8x32 (x_v65 m c) shapeCasts_S8x32x1_S8x32 := end_v66 m c
theorem r_v67 : x_v67 m c = (broadcastInDim S8x1x32 ![0, 2] bcast_S8x32_S8x1x32_0_2) (x_v66 m c) := end_v67 m c
theorem r_v68 : x_v68 m c = (broadcastInDim S8x49104x32 ![0, 1, 2] bcast_S1x49104x1_S8x49104x32_0_1_2) (x_v64 m c) := end_v68 m c
theorem r_v69 : x_v69 m c = (broadcastInDim S8x49104x32 ![0, 1, 2] bcast_S8x1x32_S8x49104x32_0_1_2) (x_v67 m c) := end_v69 m c
theorem r_v70 : x_v70 m c = (maximumf) (x_v68 m c) (x_v69 m c) := end_v70 m c
theorem r_v71 : x_v71 m c = (subf) (x_v61 m c) (x_v70 m c) := end_v71 m c
theorem r_cst_3 : x_cst_3 m c = (constant S_ .f32 0x00000000#32) := end_cst_3 m c
theorem r_v72 : x_v72 m c = (broadcastInDim S8x49104x32 ![] bcast_S_S8x49104x32) (x_cst_3 m c) := end_v72 m c
theorem r_v73 : x_v73 m c = (maximumf) (x_v52 m c) (x_v72 m c) := end_v73 m c
theorem r_cst_4 : x_cst_4 m c = (constant S_ .f32 0x00000000#32) := end_cst_4 m c
theorem r_v74 : x_v74 m c = (broadcastInDim S8x49104x32 ![] bcast_S_S8x49104x32) (x_cst_4 m c) := end_v74 m c
theorem r_v75 : x_v75 m c = (maximumf) (x_v71 m c) (x_v74 m c) := end_v75 m c
theorem r_v76 : x_v76 m c = ((extractStridedSlice S1x49104x1 ![0, 0, 2] · slices_S1x49104x4_S1x49104x1_0_0_2)) (x_v22 m c) := end_v76 m c
theorem r_v77 : x_v77 m c = shapeCast S1x49104 (x_v76 m c) shapeCasts_S1x49104x1_S1x49104 := end_v77 m c
theorem r_v78 : x_v78 m c = ((extractStridedSlice S1x49104x1 ![0, 0, 0] · slices_S1x49104x4_S1x49104x1_0_0_0)) (x_v22 m c) := end_v78 m c
theorem r_v79 : x_v79 m c = shapeCast S1x49104 (x_v78 m c) shapeCasts_S1x49104x1_S1x49104 := end_v79 m c
theorem r_v80 : x_v80 m c = (subf) (x_v77 m c) (x_v79 m c) := end_v80 m c
theorem r_v81 : x_v81 m c = ((extractStridedSlice S1x49104x1 ![0, 0, 3] · slices_S1x49104x4_S1x49104x1_0_0_3)) (x_v22 m c) := end_v81 m c
theorem r_v82 : x_v82 m c = shapeCast S1x49104 (x_v81 m c) shapeCasts_S1x49104x1_S1x49104 := end_v82 m c
theorem r_v83 : x_v83 m c = ((extractStridedSlice S1x49104x1 ![0, 0, 1] · slices_S1x49104x4_S1x49104x1_0_0_1)) (x_v22 m c) := end_v83 m c
theorem r_v84 : x_v84 m c = shapeCast S1x49104 (x_v83 m c) shapeCasts_S1x49104x1_S1x49104 := end_v84 m c
theorem r_v85 : x_v85 m c = (subf) (x_v82 m c) (x_v84 m c) := end_v85 m c
theorem r_v86 : x_v86 m c = (mulf) (x_v80 m c) (x_v85 m c) := end_v86 m c
theorem r_v87 : x_v87 m c = (broadcastInDim S1x49104x1 ![0, 1] bcast_S1x49104_S1x49104x1_0_1) (x_v86 m c) := end_v87 m c
theorem r_v88 : x_v88 m c = (broadcastInDim S8x1x32 ![0, 2] bcast_S8x32_S8x1x32_0_2) (x_v33 m c) := end_v88 m c
theorem r_v89 : x_v89 m c = (broadcastInDim S8x49104x32 ![0, 1, 2] bcast_S1x49104x1_S8x49104x32_0_1_2) (x_v87 m c) := end_v89 m c
theorem r_v90 : x_v90 m c = (broadcastInDim S8x49104x32 ![0, 1, 2] bcast_S8x1x32_S8x49104x32_0_1_2) (x_v88 m c) := end_v90 m c
theorem r_v91 : x_v91 m c = (addf) (x_v89 m c) (x_v90 m c) := end_v91 m c
theorem r_v92 : x_v92 m c = (mulf) (x_v73 m c) (x_v75 m c) := end_v92 m c
theorem r_v93 : x_v93 m c = (subf) (x_v91 m c) (x_v92 m c) := end_v93 m c
theorem r_cst_5 : x_cst_5 m c = (constant S_ .f32 0x322BCC77#32) := end_cst_5 m c
theorem r_v94 : x_v94 m c = (broadcastInDim S8x49104x32 ![] bcast_S_S8x49104x32) (x_cst_5 m c) := end_v94 m c
theorem r_v95 : x_v95 m c = (maximumf) (x_v93 m c) (x_v94 m c) := end_v95 m c
theorem r_v96 : x_v96 m c = (mulf) (x_v73 m c) (x_v75 m c) := end_v96 m c
theorem r_v97 : x_v97 m c = (Host.divf) (x_v96 m c) (x_v95 m c) := end_v97 m c
theorem r_v98 : x_v98 m c = ((extractStridedSlice S8x32x1 ![0, 0, 4] · slices_S8x32x5_S8x32x1_0_0_4)) (x_arg3 m c) := end_v98 m c
theorem r_v99 : x_v99 m c = shapeCast S8x32 (x_v98 m c) shapeCasts_S8x32x1_S8x32 := end_v99 m c
theorem r_cst_6 : x_cst_6 m c = (constant S_ .f32 0xBF800000#32) := end_cst_6 m c
theorem r_v100 : x_v100 m c = (broadcastInDim S8x32 ![] bcast_S_S8x32) (x_cst_6 m c) := end_v100 m c
theorem r_v101 : x_v101 m c = (cmpf .une) (x_v99 m c) (x_v100 m c) := end_v101 m c
theorem r_v102 : x_v102 m c = (broadcastInDim S8x1x32 ![0, 2] bcast_S8x32_S8x1x32_0_2) (x_v101 m c) := end_v102 m c
theorem r_cst_7 : x_cst_7 m c = (constant S_ .f32 0xBF800000#32) := end_cst_7 m c
theorem r_call1_v0 : x_call1_v0 m c = (id) (x_cst_7 m c) := end_call1_v0 m c
theorem r_call1_v1 : x_call1_v1 m c = ((broadcastInDim S8x49104x32 ![0, 1, 2] bcast_S8x1x32_S8x49104x32_0_1_2)) (x_v102 m c) := end_call1_v1 m c
theorem r_call1_v2 : x_call1_v2 m c = ((broadcastInDim S8x49104x32 ![] bcast_S_S8x49104x32)) (x_call1_v0 m c) := end_call1_v2 m c
theorem r_v103 : x_v103 m c = (select) (x_call1_v1 m c) (x_v97 m c) (x_call1_v2 m c) := end_v103 m c
theorem r_cst_8 : x_cst_8 m c = (constant S_ .f32 0xFF800000#32) := end_cst_8 m c
theorem r_v104 : x_v104 m c = ((fun x v => Host.reduce FloatOps.maximumf x v reducesTo_S8x49104x32_S8x49104_d2 h_S_)) (x_v103 m c) (x_cst_8 m c) := end_v104 m c
theorem r_call2_v0 : x_call2_v0 m c = ((iotaInDim S8x49104x32 32 2)) := end_call2_v0 m c
theorem r_call2_cst : x_call2_cst m c = ((constant S_ .f32 0xFF800000#32)) := end_call2_cst m c
theorem r_call2_c : x_call2_c m c = ((constantI S_ 32 0#32)) := end_call2_c m c
theorem r_call2_v1_0 : x_call2_v1_0 m c = ((fun x y u v j => (Host.argReduce reducer_argmax_f32_i32 x y u v reducesTo_S8x49104x32_S8x49104_d2 h_S_ j).1)) (x_v103 m c) (x_call2_v0 m c) (x_call2_cst m c) (x_call2_c m c) := end_call2_v1_0 m c
theorem r_v105 : x_v105 m c = ((fun x y u v j => (Host.argReduce reducer_argmax_f32_i32 x y u v reducesTo_S8x49104x32_S8x49104_d2 h_S_ j).2)) (x_v103 m c) (x_call2_v0 m c) (x_call2_cst m c) (x_call2_c m c) := end_v105 m c
theorem r_cst_9 : x_cst_9 m c = (constant S_ .f32 0x3F000000#32) := end_cst_9 m c
theorem r_v106 : x_v106 m c = (broadcastInDim S8x49104 ![] bcast_S_S8x49104) (x_cst_9 m c) := end_v106 m c
theorem r_v107 : x_v107 m c = (cmpf .oge) (x_v104 m c) (x_v106 m c) := end_v107 m c
theorem r_v108 : x_v108 m c = (uitofp .f32) (x_v107 m c) := end_v108 m c
theorem r_cst_10 : x_cst_10 m c = (constant S_ .f32 0x00000000#32) := end_cst_10 m c
theorem r_v109 : x_v109 m c = ((fun x v => Host.reduceAdd x v reducesTo_S8x49104_S8_d1 h_S_)) (x_v108 m c) (x_cst_10 m c) := end_v109 m c
theorem r_v110 : x_v110 m c = (broadcastInDim S8x49104x1 ![0, 1] bcast_S8x49104_S8x49104x1_0_1) (x_v105 m c) := end_v110 m c
theorem r_call3_c : x_call3_c m c = ((constantI S_ 32 0#32)) := end_call3_c m c
theorem r_call3_v0 : x_call3_v0 m c = ((broadcastInDim S8x49104x1 ![] bcast_S_S8x49104x1)) (x_call3_c m c) := end_call3_v0 m c
theorem r_call3_v1 : x_call3_v1 m c = ((cmpi .slt)) (x_v110 m c) (x_call3_v0 m c) := end_call3_v1 m c
theorem r_call3_c_0 : x_call3_c_0 m c = ((constantI S_ 32 32#32)) := end_call3_c_0 m c
theorem r_call3_v2 : x_call3_v2 m c = ((broadcastInDim S8x49104x1 ![] bcast_S_S8x49104x1)) (x_call3_c_0 m c) := end_call3_v2 m c
theorem r_call3_v3 : x_call3_v3 m c = (addi) (x_v110 m c) (x_call3_v2 m c) := end_call3_v3 m c
theorem r_call3_v4 : x_call3_v4 m c = (select) (x_call3_v1 m c) (x_call3_v3 m c) (x_v110 m c) := end_call3_v4 m c
theorem r_call3_c_1 : x_call3_c_1 m c = ((constantI S1 32 31#32)) := end_call3_c_1 m c
theorem r_call3_c_2 : x_call3_c_2 m c = ((constantI S_ 32 0#32)) := end_call3_c_2 m c
theorem r_call3_v5 : x_call3_v5 m c = ((broadcastInDim S8x49104x1 ![] bcast_S_S8x49104x1)) (x_call3_c_2 m c) := end_call3_v5 m c
theorem r_call3_v6 : x_call3_v6 m c = ((cmpi .sge)) (x_call3_v4 m c) (x_call3_v5 m c) := end_call3_v6 m c
theorem r_call3_v7 : x_call3_v7 m c = ((broadcastInDim S1x1x1 ![2] bcast_S1_S1x1x1_2)) (x_call3_c_1 m c) := end_call3_v7 m c
theorem r_call3_v8 : x_call3_v8 m c = ((broadcastInDim S8x49104x1 ![0, 1, 2] bcast_S1x1x1_S8x49104x1_0_1_2)) (x_call3_v7 m c) := end_call3_v8 m c
theorem r_call3_v9 : x_call3_v9 m c = ((cmpi .sle)) (x_call3_v4 m c) (x_call3_v8 m c) := end_call3_v9 m c
theorem r_call3_v10 : x_call3_v10 m c = (andi) (x_call3_v6 m c) (x_call3_v9 m c) := end_call3_v10 m c
theorem r_call3_c_3 : x_call3_c_3 m c = ((constantI S_ 1 1#1)) := end_call3_c_3 m c
theorem r_call3_v11 : x_call3_v11 m c = ((fun x v => Host.reduce IntOp.andi x v reducesTo_S8x49104x1_S8x49104_d2 h_S_)) (x_call3_v10 m c) (x_call3_c_3 m c) := end_call3_v11 m c
theorem r_call3_v12 : x_call3_v12 m c = ((fun x i => Host.gather gather_S8x32x5_S8x49104x1_S8x49104x5_2_1_0_0_1_2_115 x i)) (x_arg3 m c) (x_call3_v4 m c) := end_call3_v12 m c
theorem r_call3_v13 : x_call3_v13 m c = ((broadcastInDim S8x49104x5 ![0, 1] bcast_S8x49104_S8x49104x5_0_1)) (x_call3_v11 m c) := end_call3_v13 m c
theorem r_call3_cst : x_call3_cst m c = ((constant S_ .f32 0x7FC00000#32)) := end_call3_cst m c
theorem r_call3_v14 : x_call3_v14 m c = ((broadcastInDim S8x49104x5 ![] bcast_S_S8x49104x5)) (x_call3_cst m c) := end_call3_v14 m c
theorem r_v111 : x_v111 m c = (select) (x_call3_v13 m c) (x_call3_v12 m c) (x_call3_v14 m c) := end_v111 m c
theorem r_cst_11 : x_cst_11 m c = (constant S_ .f32 0xBF800000#32) := end_cst_11 m c
theorem r_v112 : x_v112 m c = (broadcastInDim S8x49104x90 ![] bcast_S_S8x49104x90) (x_cst_11 m c) := end_v112 m c
theorem r_cst_12 : x_cst_12 m c = (constant S_ .f32 0x3ECCCCCD#32) := end_cst_12 m c
theorem r_v113 : x_v113 m c = (broadcastInDim S8x49104 ![] bcast_S_S8x49104) (x_cst_12 m c) := end_v113 m c
theorem r_v114 : x_v114 m c = (cmpf .olt) (x_v104 m c) (x_v113 m c) := end_v114 m c
theorem r_v115 : x_v115 m c = (broadcastInDim S8x49104x1 ![0, 1] bcast_S8x49104_S8x49104x1_0_1) (x_v114 m c) := end_v115 m c
theorem r_cst_13 : x_cst_13 m c = (constant S_ .f32 0x00000000#32) := end_cst_13 m c
theorem r_call4_v0 : x_call4_v0 m c = (id) (x_cst_13 m c) := end_call4_v0 m c
theorem r_call4_v1 : x_call4_v1 m c = ((broadcastInDim S8x49104x90 ![0, 1, 2] bcast_S8x49104x1_S8x49104x90_0_1_2)) (x_v115 m c) := end_call4_v1 m c
theorem r_call4_v2 : x_call4_v2 m c = ((broadcastInDim S8x49104x90 ![] bcast_S_S8x49104x90)) (x_call4_v0 m c) := end_call4_v2 m c
theorem r_v116 : x_v116 m c = (select) (x_call4_v1 m c) (x_call4_v2 m c) (x_v112 m c) := end_v116 m c
theorem r_v117 : x_v117 m c = (broadcastInDim S8x49104x1 ![0, 1] bcast_S8x49104_S8x49104x1_0_1) (x_v107 m c) := end_v117 m c
theorem r_cst_14 : x_cst_14 m c = (constant S_ .f32 0x00000000#32) := end_cst_14 m c
theorem r_call5_v0 : x_call5_v0 m c = (id) (x_cst_14 m c) := end_call5_v0 m c
theorem r_call5_v1 : x_call5_v1 m c = ((broadcastInDim S8x49104x90 ![0, 1, 2] bcast_S8x49104x1_S8x49104x90_0_1_2)) (x_v117 m c) := end_call5_v1 m c
theorem r_call5_v2 : x_call5_v2 m c = ((broadcastInDim S8x49104x90 ![] bcast_S_S8x49104x90)) (x_call5_v0 m c) := end_call5_v2 m c
theorem r_v118 : x_v118 m c = (select) (x_call5_v1 m c) (x_call5_v2 m c) (x_v116 m c) := end_v118 m c
theorem r_v119 : x_v119 m c = ((extractStridedSlice S8x49104x1 ![0, 0, 4] · slices_S8x49104x5_S8x49104x1_0_0_4)) (x_v111 m c) := end_v119 m c
theorem r_v120 : x_v120 m c = shapeCast S8x49104 (x_v119 m c) shapeCasts_S8x49104x1_S8x49104 := end_v120 m c
theorem r_v121 : x_v121 m c = (fptosi 32) (x_v120 m c) := end_v121 m c
theorem r_call6_v0 : x_call6_v0 m c = ((broadcastInDim S8x49104x1 ![0, 1] bcast_S8x49104_S8x49104x1_0_1)) (x_v121 m c) := end_call6_v0 m c
theorem r_call6_v1 : x_call6_v1 m c = ((iotaInDim S1x1x90 32 2)) := end_call6_v1 m c
theorem r_call6_v2 : x_call6_v2 m c = ((broadcastInDim S8x49104x90 ![0, 1, 2] bcast_S8x49104x1_S8x49104x90_0_1_2)) (x_call6_v0 m c) := end_call6_v2 m c
theorem r_call6_v3 : x_call6_v3 m c = ((broadcastInDim S8x49104x90 ![0, 1, 2] bcast_S1x1x90_S8x49104x90_0_1_2)) (x_call6_v1 m c) := end_call6_v3 m c
theorem r_call6_v4 : x_call6_v4 m c = ((cmpi .eq)) (x_call6_v2 m c) (x_call6_v3 m c) := end_call6_v4 m c
theorem r_v122 : x_v122 m c = ((uitofp .f32)) (x_call6_v4 m c) := end_v122 m c
theorem r_v123 : x_v123 m c = (broadcastInDim S8x49104x1 ![0, 1] bcast_S8x49104_S8x49104x1_0_1) (x_v107 m c) := end_v123 m c
theorem r_cst_15 : x_cst_15 m c = (constant S_ .f32 0x3F000000#32) := end_cst_15 m c
theorem r_v124 : x_v124 m c = (broadcastInDim S8x49104x90 ![] bcast_S_S8x49104x90) (x_cst_15 m c) := end_v124 m c
theorem r_v125 : x_v125 m c = (cmpf .ogt) (x_v122 m c) (x_v124 m c) := end_v125 m c
theorem r_v126 : x_v126 m c = (broadcastInDim S8x49104x90 ![0, 1, 2] bcast_S8x49104x1_S8x49104x90_0_1_2) (x_v123 m c) := end_v126 m c
theorem r_v127 : x_v127 m c = (andi) (x_v126 m c) (x_v125 m c) := end_v127 m c
theorem r_cst_16 : x_cst_16 m c = (constant S_ .f32 0x3F800000#32) := end_cst_16 m c
theorem r_call7_v0 : x_call7_v0 m c = (id) (x_cst_16 m c) := end_call7_v0 m c
theorem r_call7_v1 : x_call7_v1 m c = ((broadcastInDim S8x49104x90 ![] bcast_S_S8x49104x90)) (x_call7_v0 m c) := end_call7_v1 m c
theorem r_v128 : x_v128 m c = (select) (x_v127 m c) (x_call7_v1 m c) (x_v118 m c) := end_v128 m c
theorem r_cst_17 : x_cst_17 m c = (constant S_ .f32 0x3F800000#32) := end_cst_17 m c
theorem r_v129 : x_v129 m c = (broadcastInDim S8x49104x90 ![] bcast_S_S8x49104x90) (x_cst_17 m c) := end_v129 m c
theorem r_v130 : x_v130 m c = (cmpf .oeq) (x_v128 m c) (x_v129 m c) := end_v130 m c
theorem r_cst_18 : x_cst_18 m c = (constant S_ .f32 0x3E800000#32) := end_cst_18 m c
theorem r_cst_19 : x_cst_19 m c = (constant S_ .f32 0x3F400000#32) := end_cst_19 m c
theorem r_call8_v0 : x_call8_v0 m c = ((broadcastInDim S8x49104x90 ![] bcast_S_S8x49104x90)) (x_cst_18 m c) := end_call8_v0 m c
theorem r_call8_v1 : x_call8_v1 m c = ((broadcastInDim S8x49104x90 ![] bcast_S_S8x49104x90)) (x_cst_19 m c) := end_call8_v1 m c
theorem r_v131 : x_v131 m c = (select) (x_v130 m c) (x_call8_v0 m c) (x_call8_v1 m c) := end_v131 m c
theorem r_cst_20 : x_cst_20 m c = (constant S_ .f32 0x3F800000#32) := end_cst_20 m c
theorem r_v132 : x_v132 m c = (broadcastInDim S8x49104x90 ![] bcast_S_S8x49104x90) (x_cst_20 m c) := end_v132 m c
theorem r_v133 : x_v133 m c = (cmpf .oeq) (x_v128 m c) (x_v132 m c) := end_v133 m c
theorem r_cst_21 : x_cst_21 m c = (constant S_ .f32 0x3F800000#32) := end_cst_21 m c
theorem r_v134 : x_v134 m c = (broadcastInDim S8x49104x90 ![] bcast_S_S8x49104x90) (x_cst_21 m c) := end_v134 m c
theorem r_v135 : x_v135 m c = (subf) (x_v134 m c) (x_v21 m c) := end_v135 m c
theorem r_v136 : x_v136 m c = (select) (x_v133 m c) (x_v135 m c) (x_v21 m c) := end_v136 m c
theorem r_cst_22 : x_cst_22 m c = (constant S_ .f32 0x40000000#32) := end_cst_22 m c
theorem r_v137 : x_v137 m c = (broadcastInDim S8x49104x90 ![] bcast_S_S8x49104x90) (x_cst_22 m c) := end_v137 m c
theorem r_v138 : x_v138 m c = (Host.powf) (x_v136 m c) (x_v137 m c) := end_v138 m c
theorem r_v139 : x_v139 m c = (id) (x_v131 m c) := end_v139 m c
theorem r_v140 : x_v140 m c = (mulf) (x_v139 m c) (x_v138 m c) := end_v140 m c
theorem r_cst_23 : x_cst_23 m c = (constant S_ .f32 0x38D1B717#32) := end_cst_23 m c
theorem r_cst_24 : x_cst_24 m c = (constant S_ .f32 0x3F7FF972#32) := end_cst_24 m c
theorem r_call10_v0 : x_call10_v0 m c = (id) (x_cst_23 m c) := end_call10_v0 m c
theorem r_call10_v1 : x_call10_v1 m c = ((broadcastInDim S8x49104x90 ![] bcast_S_S8x49104x90)) (x_call10_v0 m c) := end_call10_v1 m c
theorem r_call10_v2 : x_call10_v2 m c = (maximumf) (x_call10_v1 m c) (x_v21 m c) := end_call10_v2 m c
theorem r_call10_v3 : x_call10_v3 m c = (id) (x_cst_24 m c) := end_call10_v3 m c
theorem r_call10_v4 : x_call10_v4 m c = ((broadcastInDim S8x49104x90 ![] bcast_S_S8x49104x90)) (x_call10_v3 m c) := end_call10_v4 m c
theorem r_v141 : x_v141 m c = (minimumf) (x_call10_v4 m c) (x_call10_v2 m c) := end_v141 m c
theorem r_v142 : x_v142 m c = (Host.log) (x_v141 m c) := end_v142 m c
theorem r_v143 : x_v143 m c = (mulf) (x_v128 m c) (x_v142 m c) := end_v143 m c
theorem r_cst_25 : x_cst_25 m c = (constant S_ .f32 0x3F800000#32) := end_cst_25 m c
theorem r_v144 : x_v144 m c = (broadcastInDim S8x49104x90 ![] bcast_S_S8x49104x90) (x_cst_25 m c) := end_v144 m c
theorem r_v145 : x_v145 m c = (subf) (x_v144 m c) (x_v128 m c) := end_v145 m c
theorem r_cst_26 : x_cst_26 m c = (constant S_ .f32 0x3F800000#32) := end_cst_26 m c
theorem r_v146 : x_v146 m c = (broadcastInDim S8x49104x90 ![] bcast_S_S8x49104x90) (x_cst_26 m c) := end_v146 m c
theorem r_v147 : x_v147 m c = (subf) (x_v146 m c) (x_v21 m c) := end_v147 m c
theorem r_cst_27 : x_cst_27 m c = (constant S_ .f32 0x38D1B717#32) := end_cst_27 m c
theorem r_cst_28 : x_cst_28 m c = (constant S_ .f32 0x3F7FF972#32) := end_cst_28 m c
theorem r_call11_v0 : x_call11_v0 m c = (id) (x_cst_27 m c) := end_call11_v0 m c
theorem r_call11_v1 : x_call11_v1 m c = ((broadcastInDim S8x49104x90 ![] bcast_S_S8x49104x90)) (x_call11_v0 m c) := end_call11_v1 m c
theorem r_call11_v2 : x_call11_v2 m c = (maximumf) (x_call11_v1 m c) (x_v147 m c) := end_call11_v2 m c
theorem r_call11_v3 : x_call11_v3 m c = (id) (x_cst_28 m c) := end_call11_v3 m c
theorem r_call11_v4 : x_call11_v4 m c = ((broadcastInDim S8x49104x90 ![] bcast_S_S8x49104x90)) (x_call11_v3 m c) := end_call11_v4 m c
theorem r_v148 : x_v148 m c = (minimumf) (x_call11_v4 m c) (x_call11_v2 m c) := end_v148 m c
theorem r_v149 : x_v149 m c = (Host.log) (x_v148 m c) := end_v149 m c
theorem r_v150 : x_v150 m c = (mulf) (x_v145 m c) (x_v149 m c) := end_v150 m c
theorem r_v151 : x_v151 m c = (addf) (x_v143 m c) (x_v150 m c) := end_v151 m c
theorem r_v152 : x_v152 m c = (Host.negf) (x_v151 m c) := end_v152 m c
theorem r_cst_29 : x_cst_29 m c = (constant S_ .f32 0xBF800000#32) := end_cst_29 m c
theorem r_v153 : x_v153 m c = (broadcastInDim S8x49104x90 ![] bcast_S_S8x49104x90) (x_cst_29 m c) := end_v153 m c
theorem r_v154 : x_v154 m c = (cmpf .une) (x_v128 m c) (x_v153 m c) := end_v154 m c
theorem r_v155 : x_v155 m c = (mulf) (x_v140 m c) (x_v152 m c) := end_v155 m c
theorem r_cst_30 : x_cst_30 m c = (constant S_ .f32 0x00000000#32) := end_cst_30 m c
theorem r_call12_v0 : x_call12_v0 m c = (id) (x_cst_30 m c) := end_call12_v0 m c
theorem r_call12_v1 : x_call12_v1 m c = ((broadcastInDim S8x49104x90 ![] bcast_S_S8x49104x90)) (x_call12_v0 m c) := end_call12_v1 m c
theorem r_v156 : x_v156 m c = (select) (x_v154 m c) (x_v155 m c) (x_call12_v1 m c) := end_v156 m c
theorem r_cst_31 : x_cst_31 m c = (constant S_ .f32 0x00000000#32) := end_cst_31 m c
theorem r_v157 : x_v157 m c = ((fun x v => Host.reduceAdd x v reducesTo_S8x49104x90_S8_d1_2 h_S_)) (x_v156 m c) (x_cst_31 m c) := end_v157 m c
theorem r_cst_32 : x_cst_32 m c = (constant S_ .f32 0x3F800000#32) := end_cst_32 m c
theorem r_v158 : x_v158 m c = (broadcastInDim S8 ![] bcast_S_S8) (x_cst_32 m c) := end_v158 m c
theorem r_v159 : x_v159 m c = (maximumf) (x_v109 m c) (x_v158 m c) := end_v159 m c
theorem r_v160 : x_v160 m c = (Host.divf) (x_v157 m c) (x_v159 m c) := end_v160 m c
theorem r_v161 : x_v161 m c = ((extractStridedSlice S8x49104x1 ![0, 0, 2] · slices_S8x49104x5_S8x49104x1_0_0_2)) (x_v111 m c) := end_v161 m c
theorem r_v162 : x_v162 m c = shapeCast S8x49104 (x_v161 m c) shapeCasts_S8x49104x1_S8x49104 := end_v162 m c
theorem r_v163 : x_v163 m c = ((extractStridedSlice S8x49104x1 ![0, 0, 0] · slices_S8x49104x5_S8x49104x1_0_0_0)) (x_v111 m c) := end_v163 m c
theorem r_v164 : x_v164 m c = shapeCast S8x49104 (x_v163 m c) shapeCasts_S8x49104x1_S8x49104 := end_v164 m c
theorem r_v165 : x_v165 m c = (subf) (x_v162 m c) (x_v164 m c) := end_v165 m c
theorem r_v166 : x_v166 m c = ((extractStridedSlice S8x49104x1 ![0, 0, 3] · slices_S8x49104x5_S8x49104x1_0_0_3)) (x_v111 m c) := end_v166 m c
theorem r_v167 : x_v167 m c = shapeCast S8x49104 (x_v166 m c) shapeCasts_S8x49104x1_S8x49104 := end_v167 m c
theorem r_v168 : x_v168 m c = ((extractStridedSlice S8x49104x1 ![0, 0, 1] · slices_S8x49104x5_S8x49104x1_0_0_1)) (x_v111 m c) := end_v168 m c
theorem r_v169 : x_v169 m c = shapeCast S8x49104 (x_v168 m c) shapeCasts_S8x49104x1_S8x49104 := end_v169 m c
theorem r_v170 : x_v170 m c = (subf) (x_v167 m c) (x_v169 m c) := end_v170 m c
theorem r_v171 : x_v171 m c = ((extractStridedSlice S8x49104x1 ![0, 0, 0] · slices_S8x49104x5_S8x49104x1_0_0_0)) (x_v111 m c) := end_v171 m c
theorem r_v172 : x_v172 m c = shapeCast S8x49104 (x_v171 m c) shapeCasts_S8x49104x1_S8x49104 := end_v172 m c
theorem r_cst_33 : x_cst_33 m c = (constant S_ .f32 0x3F000000#32) := end_cst_33 m c
theorem r_v173 : x_v173 m c = (broadcastInDim S8x49104 ![] bcast_S_S8x49104) (x_cst_33 m c) := end_v173 m c
theorem r_v174 : x_v174 m c = (mulf) (x_v173 m c) (x_v165 m c) := end_v174 m c
theorem r_v175 : x_v175 m c = (addf) (x_v172 m c) (x_v174 m c) := end_v175 m c
theorem r_v176 : x_v176 m c = ((extractStridedSlice S8x49104x1 ![0, 0, 1] · slices_S8x49104x5_S8x49104x1_0_0_1)) (x_v111 m c) := end_v176 m c
theorem r_v177 : x_v177 m c = shapeCast S8x49104 (x_v176 m c) shapeCasts_S8x49104x1_S8x49104 := end_v177 m c
theorem r_cst_34 : x_cst_34 m c = (constant S_ .f32 0x3F000000#32) := end_cst_34 m c
theorem r_v178 : x_v178 m c = (broadcastInDim S8x49104 ![] bcast_S_S8x49104) (x_cst_34 m c) := end_v178 m c
theorem r_v179 : x_v179 m c = (mulf) (x_v178 m c) (x_v170 m c) := end_v179 m c
theorem r_v180 : x_v180 m c = (addf) (x_v177 m c) (x_v179 m c) := end_v180 m c
theorem r_cst_35 : x_cst_35 m c = (constant S_ .f32 0x3F800000#32) := end_cst_35 m c
theorem r_v181 : x_v181 m c = (broadcastInDim S8x49104 ![] bcast_S_S8x49104) (x_cst_35 m c) := end_v181 m c
theorem r_v182 : x_v182 m c = (maximumf) (x_v165 m c) (x_v181 m c) := end_v182 m c
theorem r_cst_36 : x_cst_36 m c = (constant S_ .f32 0x3F800000#32) := end_cst_36 m c
theorem r_v183 : x_v183 m c = (broadcastInDim S8x49104 ![] bcast_S_S8x49104) (x_cst_36 m c) := end_v183 m c
theorem r_v184 : x_v184 m c = (maximumf) (x_v170 m c) (x_v183 m c) := end_v184 m c
theorem r_v185 : x_v185 m c = (broadcastInDim S1x49104 ![1] bcast_S49104_S1x49104_1) (x_v15 m c) := end_v185 m c
theorem r_v186 : x_v186 m c = (broadcastInDim S8x49104 ![0, 1] bcast_S1x49104_S8x49104_0_1) (x_v185 m c) := end_v186 m c
theorem r_v187 : x_v187 m c = (subf) (x_v175 m c) (x_v186 m c) := end_v187 m c
theorem r_v188 : x_v188 m c = (broadcastInDim S1x49104 ![1] bcast_S49104_S1x49104_1) (x_v5 m c) := end_v188 m c
theorem r_v189 : x_v189 m c = (broadcastInDim S8x49104 ![0, 1] bcast_S1x49104_S8x49104_0_1) (x_v188 m c) := end_v189 m c
theorem r_v190 : x_v190 m c = (Host.divf) (x_v187 m c) (x_v189 m c) := end_v190 m c
theorem r_v191 : x_v191 m c = (broadcastInDim S1x49104 ![1] bcast_S49104_S1x49104_1) (x_v20 m c) := end_v191 m c
theorem r_v192 : x_v192 m c = (broadcastInDim S8x49104 ![0, 1] bcast_S1x49104_S8x49104_0_1) (x_v191 m c) := end_v192 m c
theorem r_v193 : x_v193 m c = (subf) (x_v180 m c) (x_v192 m c) := end_v193 m c
theorem r_v194 : x_v194 m c = (broadcastInDim S1x49104 ![1] bcast_S49104_S1x49104_1) (x_v10 m c) := end_v194 m c
theorem r_v195 : x_v195 m c = (broadcastInDim S8x49104 ![0, 1] bcast_S1x49104_S8x49104_0_1) (x_v194 m c) := end_v195 m c
theorem r_v196 : x_v196 m c = (Host.divf) (x_v193 m c) (x_v195 m c) := end_v196 m c
theorem r_v197 : x_v197 m c = (broadcastInDim S1x49104 ![1] bcast_S49104_S1x49104_1) (x_v5 m c) := end_v197 m c
theorem r_v198 : x_v198 m c = (broadcastInDim S8x49104 ![0, 1] bcast_S1x49104_S8x49104_0_1) (x_v197 m c) := end_v198 m c
theorem r_v199 : x_v199 m c = (Host.divf) (x_v182 m c) (x_v198 m c) := end_v199 m c
theorem r_v200 : x_v200 m c = (Host.log) (x_v199 m c) := end_v200 m c
theorem r_v201 : x_v201 m c = (broadcastInDim S1x49104 ![1] bcast_S49104_S1x49104_1) (x_v10 m c) := end_v201 m c
theorem r_v202 : x_v202 m c = (broadcastInDim S8x49104 ![0, 1] bcast_S1x49104_S8x49104_0_1) (x_v201 m c) := end_v202 m c
theorem r_v203 : x_v203 m c = (Host.divf) (x_v184 m c) (x_v202 m c) := end_v203 m c
theorem r_v204 : x_v204 m c = (Host.log) (x_v203 m c) := end_v204 m c
theorem r_v205 : x_v205 m c = (broadcastInDim S8x49104x1 ![0, 1] bcast_S8x49104_S8x49104x1_0_1) (x_v196 m c) := end_v205 m c
theorem r_v206 : x_v206 m c = (broadcastInDim S8x49104x1 ![0, 1] bcast_S8x49104_S8x49104x1_0_1) (x_v190 m c) := end_v206 m c
theorem r_v207 : x_v207 m c = (broadcastInDim S8x49104x1 ![0, 1] bcast_S8x49104_S8x49104x1_0_1) (x_v204 m c) := end_v207 m c
theorem r_v208 : x_v208 m c = (broadcastInDim S8x49104x1 ![0, 1] bcast_S8x49104_S8x49104x1_0_1) (x_v200 m c) := end_v208 m c
theorem r_v209 : x_v209 m c = ((concatenate S8x49104x4 2 [⟨S8x49104x1, (x_v205 m c)⟩, ⟨S8x49104x1, (x_v206 m c)⟩, ⟨S8x49104x1, (x_v207 m c)⟩, ⟨S8x49104x1, (x_v208 m c)⟩] concatenates_S8x49104x1_S8x49104x1_S8x49104x1_S8x49104x1_S8x49104x4_d2)) := end_v209 m c
theorem r_v210 : x_v210 m c = (subf) (x_v209 m c) (x_arg1 m c) := end_v210 m c
theorem r_v211 : x_v211 m c = (Host.absf) (x_v210 m c) := end_v211 m c
theorem r_cst_37 : x_cst_37 m c = (constant S_ .f32 0x3DE38E39#32) := end_cst_37 m c
theorem r_v212 : x_v212 m c = (broadcastInDim S8x49104x4 ![] bcast_S_S8x49104x4) (x_cst_37 m c) := end_v212 m c
theorem r_v213 : x_v213 m c = (cmpf .ole) (x_v211 m c) (x_v212 m c) := end_v213 m c
theorem r_v214 : x_v214 m c = (mulf) (x_v211 m c) (x_v211 m c) := end_v214 m c
theorem r_cst_38 : x_cst_38 m c = (constant S_ .f32 0x40900000#32) := end_cst_38 m c
theorem r_v215 : x_v215 m c = (broadcastInDim S8x49104x4 ![] bcast_S_S8x49104x4) (x_cst_38 m c) := end_v215 m c
theorem r_v216 : x_v216 m c = (mulf) (x_v215 m c) (x_v214 m c) := end_v216 m c
theorem r_cst_39 : x_cst_39 m c = (constant S_ .f32 0x3D638E39#32) := end_cst_39 m c
theorem r_v217 : x_v217 m c = (broadcastInDim S8x49104x4 ![] bcast_S_S8x49104x4) (x_cst_39 m c) := end_v217 m c
theorem r_v218 : x_v218 m c = (subf) (x_v211 m c) (x_v217 m c) := end_v218 m c
theorem r_v219 : x_v219 m c = (select) (x_v213 m c) (x_v216 m c) (x_v218 m c) := end_v219 m c
theorem r_v220 : x_v220 m c = (broadcastInDim S8x49104x1 ![0, 1] bcast_S8x49104_S8x49104x1_0_1) (x_v107 m c) := end_v220 m c
theorem r_cst_40 : x_cst_40 m c = (constant S_ .f32 0x00000000#32) := end_cst_40 m c
theorem r_call14_v0 : x_call14_v0 m c = (id) (x_cst_40 m c) := end_call14_v0 m c
theorem r_call14_v1 : x_call14_v1 m c = ((broadcastInDim S8x49104x4 ![0, 1, 2] bcast_S8x49104x1_S8x49104x4_0_1_2)) (x_v220 m c) := end_call14_v1 m c
theorem r_call14_v2 : x_call14_v2 m c = ((broadcastInDim S8x49104x4 ![] bcast_S_S8x49104x4)) (x_call14_v0 m c) := end_call14_v2 m c
theorem r_v221 : x_v221 m c = (select) (x_call14_v1 m c) (x_v219 m c) (x_call14_v2 m c) := end_v221 m c
theorem r_cst_41 : x_cst_41 m c = (constant S_ .f32 0x00000000#32) := end_cst_41 m c
theorem r_v222 : x_v222 m c = ((fun x v => Host.reduceAdd x v reducesTo_S8x49104x4_S8_d1_2 h_S_)) (x_v221 m c) (x_cst_41 m c) := end_v222 m c
theorem r_cst_42 : x_cst_42 m c = (constant S_ .f32 0x40800000#32) := end_cst_42 m c
theorem r_v223 : x_v223 m c = (broadcastInDim S8 ![] bcast_S_S8) (x_cst_42 m c) := end_v223 m c
theorem r_v224 : x_v224 m c = (mulf) (x_v109 m c) (x_v223 m c) := end_v224 m c
theorem r_cst_43 : x_cst_43 m c = (constant S_ .f32 0x3F800000#32) := end_cst_43 m c
theorem r_v225 : x_v225 m c = (broadcastInDim S8 ![] bcast_S_S8) (x_cst_43 m c) := end_v225 m c
theorem r_v226 : x_v226 m c = (maximumf) (x_v224 m c) (x_v225 m c) := end_v226 m c
theorem r_v227 : x_v227 m c = (Host.divf) (x_v222 m c) (x_v226 m c) := end_v227 m c
theorem r_cst_44 : x_cst_44 m c = (constant S_ .f32 0x00000000#32) := end_cst_44 m c
theorem r_v228 : x_v228 m c = ((fun x v => Host.reduceAdd x v reducesTo_S8_S_d0 h_S_)) (x_v160 m c) (x_cst_44 m c) := end_v228 m c
theorem r_v229 : x_v229 m c = (broadcastInDim S1 ![] bcast_S_S1) (x_v228 m c) := end_v229 m c
theorem r_cst_45 : x_cst_45 m c = (constant S_ .f32 0x41000000#32) := end_cst_45 m c
theorem r_v230 : x_v230 m c = (broadcastInDim S1 ![] bcast_S_S1) (x_cst_45 m c) := end_v230 m c
theorem r_v231 : x_v231 m c = (Host.divf) (x_v229 m c) (x_v230 m c) := end_v231 m c
theorem r_cst_46 : x_cst_46 m c = (constant S_ .f32 0x00000000#32) := end_cst_46 m c
theorem r_v232 : x_v232 m c = ((fun x v => Host.reduceAdd x v reducesTo_S8_S_d0 h_S_)) (x_v227 m c) (x_cst_46 m c) := end_v232 m c
theorem r_v233 : x_v233 m c = (broadcastInDim S1 ![] bcast_S_S1) (x_v232 m c) := end_v233 m c
theorem r_cst_47 : x_cst_47 m c = (constant S_ .f32 0x41000000#32) := end_cst_47 m c
theorem r_v234 : x_v234 m c = (broadcastInDim S1 ![] bcast_S_S1) (x_cst_47 m c) := end_v234 m c
theorem r_v235 : x_v235 m c = (Host.divf) (x_v233 m c) (x_v234 m c) := end_v235 m c
theorem r_cst_48 : x_cst_48 m c = (constant S_ .f32 0x42480000#32) := end_cst_48 m c
theorem r_v236 : x_v236 m c = (broadcastInDim S1 ![] bcast_S_S1) (x_cst_48 m c) := end_v236 m c
theorem r_v237 : x_v237 m c = (mulf) (x_v235 m c) (x_v236 m c) := end_v237 m c

end Cert.Plain

end
-- ==== Proof.RefMatch.lean ====
/- The reference's matching, read as the plain detection loss: its overlaps, the first box of greatest overlap, the fields of that box. -/
module
public import proofs.«01_k».proof.Proof.RefVals
public import Idealize.ShloMosaic.Lib.Pointwise
public import proofs.«01_k».proof.Proof.Detect
@[expose] public section
set_option maxRecDepth 16384
noncomputable section
namespace Cert.Plain
open Cert.ReferenceIdeal Cert.ReferenceIdeal.Gen Idealize.ShloMosaic Idealize.ShloMosaic.TcCoe Idealize.SL.Sem Idealize.ShloMosaic.StableHlo
open Cert.Detect
variable (m : (ℓ : Loc nD τ sig) → Buf (Elt Ideal) ℓ) (c : Dev nD)

/-- The corners of anchor `n`. -/
def anc (n : Fin 49104) (k : Fin 4) : EReal := x_arg2 m c (ix3 0 n k)

/-- The fields of box `j` of sample `b`. -/
def box (b : Fin 8) (j : Fin 32) (k : Fin 5) : EReal := x_arg3 m c (ix3 b j k)

theorem overlap_at (b : Fin 8) (n : Fin 49104) (j : Fin 32) : x_v97 m c (ix3 b n j) = iou (anc m c n) (box m c b j) := by
  simp only [r_v97, r_v95, r_v94, r_cst_5, r_v93, r_v92, r_v75, r_v74, r_cst_4, r_v71, r_v70, r_v69, r_v67, r_v66, r_v65, r_v68, r_v64, r_v63, r_v62, r_v22, r_v0, r_v61, r_v60, r_v58, r_v57, r_v56, r_v59, r_v55, r_v54, r_v53, r_v73, r_v72, r_cst_3, r_v52, r_v51, r_v50, r_v48, r_v47, r_v46, r_v49, r_v45, r_v44, r_v43, r_v42, r_v41, r_v39, r_v38, r_v37, r_v40, r_v36, r_v35, r_v34, r_v91, r_v90, r_v88, r_v33, r_v32, r_v31, r_v30, r_v29, r_v28, r_v27, r_v26, r_v25, r_v24, r_v23, r_v89, r_v87, r_v86, r_v85, r_v84, r_v83, r_v82, r_v81, r_v80, r_v79, r_v78, r_v77, r_v76, r_v96]
  pointwise []
  rfl

/-- No box is marked as absent. -/
abbrev Labelled : Prop := ∀ b j, box m c b j 4 ≠ Ideal.ofBits .f32 0xBF800000#32

theorem kept_at (hl : Labelled m c) (b : Fin 8) (n : Fin 49104) (j : Fin 32) :
    x_v103 m c (ix3 b n j) = iou (anc m c n) (box m c b j) := by
  have h := hl b j
  simp only [id, r_v103, r_call1_v2, r_call1_v0, r_cst_7, r_call1_v1, r_v102, r_v101, r_v100, r_cst_6, r_v99, r_v98]
  pointwise []
  rw [overlap_at, if_pos]
  exact h

theorem greatest_at (hl : Labelled m c) (b : Fin 8) (n : Fin 49104) : x_v104 m c (ix2 b n) = score (anc m c n) (box m c b) := by
  simp only [r_v104, r_cst_8]
  pointwise []
  have hs := hit_spec (anc m c n) (box m c b)
  simp only [kept_at m c hl]
  apply le_antisymm
  · rw [Finset.fold_max_le]
    refine ⟨?_, fun j _ => hs.1 j⟩
    rw [show Ideal.ofBits FTy.f32 0xFF800000#32 = ⊥ by decide +kernel]
    exact bot_le
  · rw [Finset.le_fold_max]
    exact Or.inr ⟨hit (anc m c n) (box m c b), Finset.mem_univ _, le_rfl⟩

/-- The order of the arg-max: a greater value, or as great a value at no later a place. -/
def Above (r p : EReal × BitVec 32) : Prop := p.1 < r.1 ∨ (p.1 = r.1 ∧ r.2.toInt ≤ p.2.toInt)

theorem Above.refl (r : EReal × BitVec 32) : Above r r := Or.inr ⟨rfl, le_rfl⟩

theorem Above.trans {r p q : EReal × BitVec 32} (h : Above r p) (h' : Above p q) : Above r q := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

theorem reducer_spec (a b : EReal × BitVec 32) :
    ((reducer_argmax_f32_i32 (F := Ideal) a b = a) ∨ (reducer_argmax_f32_i32 (F := Ideal) a b = b))
      ∧ Above (reducer_argmax_f32_i32 (F := Ideal) a b) a ∧ Above (reducer_argmax_f32_i32 (F := Ideal) a b) b := by
  have key : reducer_argmax_f32_i32 (F := Ideal) a b
      = if b.1 < a.1 ∨ (a.1 = b.1 ∧ a.2.toInt < b.2.toInt) then a else b := by
    have hs : ∀ x y : BitVec 32, IntOp.cmpi .slt x y = BitVec.ofBool (decide (x.toInt < y.toInt)) := fun x y => by
      show BitVec.ofBool (x.slt y) = _
      rw [BitVec.slt]
    unfold reducer_argmax_f32_i32
    simp only [Ideal.cmpf_def, Ideal.cmp, hs]
    rcases lt_trichotomy b.1 a.1 with h | h | h
    · simp [h, h.ne', Scalar.select, IntOp.ori, IntOp.andi]
    · by_cases hi : a.2.toInt < b.2.toInt
      · simp [h, hi, Scalar.select, IntOp.ori, IntOp.andi]
      · simp [h, hi, Scalar.select, IntOp.ori, IntOp.andi]
        exact Prod.ext h.symm rfl
    · simp [h.not_gt, h.ne, Scalar.select, IntOp.ori, IntOp.andi]
  rw [key]
  split_ifs with h
  · refine ⟨Or.inl rfl, Above.refl a, ?_⟩
    rcases h with h | ⟨h, e⟩
    · exact Or.inl h
    · exact Or.inr ⟨h.symm, e.le⟩
  · rw [not_or, not_and, not_lt, not_lt] at h
    refine ⟨Or.inr rfl, ?_, Above.refl b⟩
    rcases lt_or_eq_of_le h.1 with h' | h'
    · exact Or.inl h'
    · exact Or.inr ⟨h', h.2 h'⟩

/-- The fold of the arg-max is one of the pairs folded, and above each. -/
theorem argfold (l : List (EReal × BitVec 32)) : ∀ i : EReal × BitVec 32,
    ((l.foldl (reducer_argmax_f32_i32 (F := Ideal)) i = i) ∨ l.foldl (reducer_argmax_f32_i32 (F := Ideal)) i ∈ l)
      ∧ Above (l.foldl (reducer_argmax_f32_i32 (F := Ideal)) i) i
      ∧ ∀ p ∈ l, Above (l.foldl (reducer_argmax_f32_i32 (F := Ideal)) i) p := by
  induction l with
  | nil => exact fun i => ⟨Or.inl rfl, Above.refl i, fun p hp => absurd hp (List.not_mem_nil)⟩
  | cons a l ih =>
    intro i
    obtain ⟨h1, h2, h3⟩ := ih (reducer_argmax_f32_i32 (F := Ideal) i a)
    obtain ⟨g1, g2, g3⟩ := reducer_spec i a
    rw [List.foldl_cons]
    refine ⟨?_, h2.trans g2, fun p hp => ?_⟩
    · rcases h1 with h | h
      · rcases g1 with g | g
        · exact Or.inl (h.trans g)
        · exact Or.inr (List.mem_cons.mpr (Or.inl (h.trans g)))
      · exact Or.inr (List.mem_cons_of_mem a h)
    · rcases List.mem_cons.mp hp with rfl | hp
      · exact h2.trans g3
      · exact h3 p hp

theorem drop_at (b : Fin 8) (n : Fin 49104) (j : Fin 32) : reducesTo_S8x49104x32_S8x49104_d2.drop (ix3 b n j) = ix2 b n := by
  funext a
  fin_cases a <;> rfl

theorem place_toInt (j : Fin 32) : (BitVec.ofNat 32 j.val).toInt = j.val := by
  revert j; decide

theorem counted_at (b : Fin 8) (n : Fin 49104) (j : Fin 32) : x_call2_v0 m c (ix3 b n j) = BitVec.ofNat 32 j.val := by
  simp only [r_call2_v0]
  pointwise []

/-- The place of the greatest overlap. -/
theorem place_at (hl : Labelled m c) (b : Fin 8) (n : Fin 49104) :
    x_v105 m c (ix2 b n) = BitVec.ofNat 32 (hit (anc m c n) (box m c b)).val := by
  simp only [r_v105, Ideal.argReduce_eq_reduce2]
  rw [Host.reduce2_eq_foldl_fiber]
  have mem : ∀ p : EReal × BitVec 32, p ∈ Host.argReduceFiber (x_v103 m c) (x_call2_v0 m c) reducesTo_S8x49104x32_S8x49104_d2 (ix2 b n)
      ↔ ∃ j : Fin 32, p = (iou (anc m c n) (box m c b j), BitVec.ofNat 32 j.val) := by
    intro p
    unfold Host.argReduceFiber
    simp only [List.mem_map, List.mem_filter, List.mem_finRange, true_and, decide_eq_true_eq]
    constructor
    · rintro ⟨q, hq, rfl⟩
      generalize S8x49104x32.rowMajor.symm q = i at hq ⊢
      idx_vars i
      rw [drop_at] at hq
      have hb : i0 = b := congrFun hq 0
      have hn : i1 = n := congrFun hq 1
      subst hb hn
      exact ⟨i2, by rw [kept_at m c hl, counted_at]⟩
    · rintro ⟨j, rfl⟩
      refine ⟨S8x49104x32.rowMajor (ix3 b n j), ?_, ?_⟩
      · rw [Equiv.symm_apply_apply, drop_at]
      · rw [Equiv.symm_apply_apply]
        rw [kept_at m c hl, counted_at]
  have init : (x_call2_cst m c (Shape.Idx.first h_S_), x_call2_c m c (Shape.Idx.first h_S_)) = ((⊥ : EReal), 0#32) := by
    simp only [r_call2_cst, r_call2_c]
    exact Prod.ext (show Ideal.ofBits FTy.f32 0xFF800000#32 = ⊥ by decide +kernel) rfl
  rw [init]
  obtain ⟨h1, h2, h3⟩ := argfold (Host.argReduceFiber (x_v103 m c) (x_call2_v0 m c) reducesTo_S8x49104x32_S8x49104_d2 (ix2 b n)) (⊥, 0#32)
  generalize List.foldl (reducer_argmax_f32_i32 (F := Ideal)) _ _ = r at h1 h2 h3 ⊢
  have hs := hit_spec (anc m c n) (box m c b)
  have ht : Above r (score (anc m c n) (box m c b), BitVec.ofNat 32 (hit (anc m c n) (box m c b)).val) :=
    h3 _ ((mem _).mpr ⟨hit (anc m c n) (box m c b), by unfold score; rfl⟩)
  rcases h1 with h1 | h1
  · subst h1
    rcases ht with ht | ⟨ht, -⟩
    · exact absurd ht not_lt_bot
    · have h0 : ¬ (0 : Fin 32) < hit (anc m c n) (box m c b) := fun h => by
        have := hs.2 0 h
        rw [show score (anc m c n) (box m c b) = ⊥ from ht] at this
        exact absurd this not_lt_bot
      have : hit (anc m c n) (box m c b) = 0 := by
        by_contra hne
        exact h0 (Fin.pos_of_ne_zero hne)
      rw [this]; rfl
  · obtain ⟨j, rfl⟩ := (mem _).mp h1
    have hle := hs.1 j
    unfold Above at ht
    dsimp only at ht
    rcases ht with ht | ⟨ht, hi⟩
    · exact absurd hle (not_le.mpr ht)
    · have hj : ¬ j < hit (anc m c n) (box m c b) := fun h => by
        have := hs.2 j h
        exact absurd this (not_lt.mpr ht.le)
      simp only [place_toInt] at hi
      have : j = hit (anc m c n) (box m c b) := Fin.ext (by have := hj; simp only [Fin.lt_def] at this; omega)
      rw [this]

end Cert.Plain

end
-- ==== Proof.RefReg.lean ====
/- The reference's losses of one anchor, read as the plain detection loss. -/
module
public import proofs.«01_k».proof.Proof.RefMatch
public import Idealize.ShloMosaic.Lib.Pointwise
@[expose] public section
set_option maxRecDepth 16384
noncomputable section
namespace Cert.Plain
open Cert.ReferenceIdeal Cert.ReferenceIdeal.Gen Idealize.ShloMosaic Idealize.ShloMosaic.TcCoe Idealize.SL.Sem Idealize.ShloMosaic.StableHlo
open Cert.Detect
variable (m : (ℓ : Loc nD τ sig) → Buf (Elt Ideal) ℓ) (c : Dev nD)

/-- The gather of a box's fields, read at an index: the box at the start index, read signed and held within the 32 boxes. -/
theorem gather_at (x : FVec Ideal S8x32x5 .f32) (i : IVec S8x49104x1 32) (b : Fin 8) (n : Fin 49104) (k : Fin 5) :
    Host.gather gather_S8x32x5_S8x49104x1_S8x49104x5_2_1_0_0_1_2_115 x i (ix3 b n k)
      = x (ix3 b ⟨min (i (ix3 b n 0)).toInt.toNat 31, by omega⟩ k) := by
  have h0 : gather_S8x32x5_S8x49104x1_S8x49104x5_2_1_0_0_1_2_115.start (ix3 b n k) i 0 = 0 :=
    GatherDims.start_batching _ _ _ _ (List.mem_singleton.mpr rfl)
  have h1 : gather_S8x32x5_S8x49104x1_S8x49104x5_2_1_0_0_1_2_115.start (ix3 b n k) i 1 = min (i (ix3 b n 0)).toInt.toNat 31 := by
    unfold GatherDims.start
    rw [dif_pos (show (1 : Fin 3) ∈ gather_S8x32x5_S8x49104x1_S8x49104x5_2_1_0_0_1_2_115.startIndexMap from List.mem_singleton.mpr rfl)]
    have e : gather_S8x32x5_S8x49104x1_S8x49104x5_2_1_0_0_1_2_115.siIdx (ix3 b n k)
        ⟨List.idxOf (1 : Fin 3) gather_S8x32x5_S8x49104x1_S8x49104x5_2_1_0_0_1_2_115.startIndexMap,
          List.idxOf_lt_length_iff.2 (List.mem_singleton.mpr rfl)⟩ = ix3 b n 0 := by
      funext a
      refine Fin.ext ?_
      match a with
      | ⟨0, _⟩ => rfl
      | ⟨1, _⟩ => rfl
      | ⟨2, _⟩ => rfl
    rw [e]
    rfl
  have h2 : gather_S8x32x5_S8x49104x1_S8x49104x5_2_1_0_0_1_2_115.start (ix3 b n k) i 2 = 0 := by
    unfold GatherDims.start
    rw [dif_neg (show ¬ (2 : Fin 3) ∈ gather_S8x32x5_S8x49104x1_S8x49104x5_2_1_0_0_1_2_115.startIndexMap from show ¬ (2 : Fin 3) ∈ [(1 : Fin 3)] by decide)]
  have b0 : gather_S8x32x5_S8x49104x1_S8x49104x5_2_1_0_0_1_2_115.batchCoord (ix3 b n k) 0 = b.val := by
    unfold GatherDims.batchCoord
    rw [dif_pos (show (0 : Fin 3) ∈ gather_S8x32x5_S8x49104x1_S8x49104x5_2_1_0_0_1_2_115.operandBatchingDims from List.mem_singleton.mpr rfl)]
    rfl
  have b1 : gather_S8x32x5_S8x49104x1_S8x49104x5_2_1_0_0_1_2_115.batchCoord (ix3 b n k) 1 = 0 :=
    GatherDims.batchCoord_eq_zero _ _ _ (show ¬ (1 : Fin 3) ∈ [(0 : Fin 3)] by decide)
  have b2 : gather_S8x32x5_S8x49104x1_S8x49104x5_2_1_0_0_1_2_115.batchCoord (ix3 b n k) 2 = 0 :=
    GatherDims.batchCoord_eq_zero _ _ _ (show ¬ (2 : Fin 3) ∈ [(0 : Fin 3)] by decide)
  have o0 : gather_S8x32x5_S8x49104x1_S8x49104x5_2_1_0_0_1_2_115.offCoord (ix3 b n k) 0 = 0 :=
    GatherDims.offCoord_eq_zero _ _ _ fun h => ((GatherDims.mem_sKept _ _).mp h).2 (List.mem_singleton.mpr rfl)
  have o1 : gather_S8x32x5_S8x49104x1_S8x49104x5_2_1_0_0_1_2_115.offCoord (ix3 b n k) 1 = 0 :=
    GatherDims.offCoord_eq_zero _ _ _ fun h => ((GatherDims.mem_sKept _ _).mp h).1 (List.mem_singleton.mpr rfl)
  have o2 : gather_S8x32x5_S8x49104x1_S8x49104x5_2_1_0_0_1_2_115.offCoord (ix3 b n k) 2 = k.val := by
    unfold GatherDims.offCoord
    rw [dif_pos ((GatherDims.mem_sKept _ _).mpr ⟨show ¬ (2 : Fin 3) ∈ [(1 : Fin 3)] by decide, show ¬ (2 : Fin 3) ∈ [(0 : Fin 3)] by decide⟩)]
    rfl
  unfold Host.gather
  congr 1
  funext a
  refine Fin.ext ?_
  show gather_S8x32x5_S8x49104x1_S8x49104x5_2_1_0_0_1_2_115.start (ix3 b n k) i a
    + gather_S8x32x5_S8x49104x1_S8x49104x5_2_1_0_0_1_2_115.batchCoord (ix3 b n k) a
    + gather_S8x32x5_S8x49104x1_S8x49104x5_2_1_0_0_1_2_115.offCoord (ix3 b n k) a = _
  match a with
  | ⟨0, _⟩ => exact (congrArg₂ (· + ·) (congrArg₂ (· + ·) h0 b0) o0).trans (by simp)
  | ⟨1, _⟩ => exact (congrArg₂ (· + ·) (congrArg₂ (· + ·) h1 b1) o1).trans (by simp)
  | ⟨2, _⟩ => exact (congrArg₂ (· + ·) (congrArg₂ (· + ·) h2 b2) o2).trans (by simp)

theorem half_read (v : FVec Ideal S8x49104 .f32) (b : Fin 8) (n : Fin 49104) :
    cmpf .oge v (broadcastInDim S8x49104 ![] bcast_S_S8x49104 (constant S_ .f32 0x3F000000#32)) (ix2 b n)
      = BitVec.ofBool (decide (Ideal.ofBits .f32 0x3F000000#32 ≤ v (ix2 b n))) := by
  pointwise []

open Classical in
theorem positive_at (hl : Labelled m c) (b : Fin 8) (n : Fin 49104) :
    x_v107 m c (ix2 b n) = BitVec.ofBool (decide (Pos (anc m c n) (box m c b))) := by
  rw [r_v107, r_v106, r_cst_9, half_read, greatest_at m c hl]
  exact congrArg BitVec.ofBool (decide_eq_decide.mpr Iff.rfl)

theorem start_at (hl : Labelled m c) (b : Fin 8) (n : Fin 49104) :
    x_call3_v4 m c (ix3 b n 0) = BitVec.ofNat 32 (hit (anc m c n) (box m c b)).val := by
  simp only [r_call3_v4, r_v110, r_call3_v3, r_call3_v2, r_call3_c_0, r_call3_v1, r_call3_v0, r_call3_c]
  have h := place_at m c hl b n
  revert h
  generalize x_v105 m c = v
  intro h
  pointwise []
  rw [h]
  generalize hit (anc m c n) (box m c b) = j
  revert j; decide

theorem inside_at (hl : Labelled m c) (b : Fin 8) (n : Fin 49104) : x_call3_v11 m c (ix2 b n) = 1#1 := by
  simp only [r_call3_v11, r_call3_c_3, r_call3_v10, r_call3_v9, r_call3_v8, r_call3_v7, r_call3_c_1, r_call3_v6, r_call3_v5, r_call3_c_2]
  have h := start_at m c hl b n
  revert h
  generalize x_call3_v4 m c = v
  intro h
  pointwise []
  rw [Finset.univ_unique, Finset.fold_singleton]
  rw [show (default : Fin 1) = 0 from rfl, h]
  generalize hit (anc m c n) (box m c b) = j
  revert j; decide

/-- The fields of the matched box. -/
theorem assigned_at (hl : Labelled m c) (b : Fin 8) (n : Fin 49104) (k : Fin 5) :
    x_v111 m c (ix3 b n k) = box m c b (hit (anc m c n) (box m c b)) k := by
  have h : x_v111 m c (ix3 b n k) = Scalar.select (x_call3_v11 m c (ix2 b n)) (x_call3_v12 m c (ix3 b n k)) (x_call3_v14 m c (ix3 b n k)) := by
    simp only [r_v111, r_call3_v13]
    pointwise []
  have g : x_call3_v12 m c (ix3 b n k) = x_arg3 m c (ix3 b ⟨min (x_call3_v4 m c (ix3 b n 0)).toInt.toNat 31, by omega⟩ k) := by
    simp only [r_call3_v12]
    exact gather_at _ _ b n k
  rw [h, inside_at m c hl, g]
  refine congrArg (fun j => x_arg3 m c (ix3 b j k)) (Fin.ext ?_)
  show min (x_call3_v4 m c (ix3 b n 0)).toInt.toNat 31 = _
  rw [start_at m c hl]
  generalize hit (anc m c n) (box m c b) = j
  revert j; decide

theorem uitofp_bit (b : Bool) : (FloatOps.uitofp FTy.f32 (BitVec.ofBool b) : Ideal .f32) = if b then 1 else 0 := by
  cases b
  · show (((BitVec.ofBool false).toNat : ℝ) : EReal) = 0
    simp
  · show (((BitVec.ofBool true).toNat : ℝ) : EReal) = 1
    simp

theorem select_bit {α : Type} (b : Bool) (x y : α) : Scalar.select (BitVec.ofBool b) x y = if b then x else y := by
  cases b <;> rfl

/-- The number of positive anchors of a sample. -/
theorem positives_at (hl : Labelled m c) (b : Fin 8) :
    x_v109 m c (ix1 b) = ∑ n : Fin 49104, posTerm (anc m c n) (box m c b) := by
  have h : x_v109 m c (ix1 b) = ∑ n : Fin 49104, FloatOps.uitofp FTy.f32 (x_v107 m c (ix2 b n)) := by
    simp only [r_v109, r_v108, r_cst_10]
    generalize x_v107 m c = v
    pointwise []
  rw [h]
  refine Finset.sum_congr rfl fun n _ => ?_
  rw [positive_at m c hl, uitofp_bit]
  unfold posTerm
  by_cases h : Pos (anc m c n) (box m c b)
  · simp [h]
  · simp [h]

theorem t0_at (hl : Labelled m c) (b : Fin 8) (n : Fin 49104) : x_v209 m c (ix3 b n 0)
    = centre (anc m c n 0) (anc m c n 2) (box m c b (hit (anc m c n) (box m c b)) 1) (box m c b (hit (anc m c n) (box m c b)) 3) := by
  simp only [r_v209, r_v208, r_v200, r_v199, r_v198, r_v197, r_v5, r_v4, r_v3, r_v0, r_v2, r_v1, r_v182, r_v181, r_cst_35, r_v165, r_v164, r_v163, r_v162, r_v161, r_v207, r_v204, r_v203, r_v202, r_v201, r_v10, r_v9, r_v8, r_v7, r_v6, r_v184, r_v183, r_cst_36, r_v170, r_v169, r_v168, r_v167, r_v166, r_v206, r_v190, r_v189, r_v188, r_v187, r_v186, r_v185, r_v15, r_v14, r_v13, r_cst, r_v12, r_v11, r_v175, r_v174, r_v173, r_cst_33, r_v172, r_v171, r_v205, r_v196, r_v195, r_v194, r_v193, r_v192, r_v191, r_v20, r_v19, r_v18, r_cst_0, r_v17, r_v16, r_v180, r_v179, r_v178, r_cst_34, r_v177, r_v176]
  pointwise []
  simp only [assigned_at m c hl]
  rfl

theorem t1_at (hl : Labelled m c) (b : Fin 8) (n : Fin 49104) : x_v209 m c (ix3 b n 1)
    = centre (anc m c n 1) (anc m c n 3) (box m c b (hit (anc m c n) (box m c b)) 0) (box m c b (hit (anc m c n) (box m c b)) 2) := by
  simp only [r_v209, r_v208, r_v200, r_v199, r_v198, r_v197, r_v5, r_v4, r_v3, r_v0, r_v2, r_v1, r_v182, r_v181, r_cst_35, r_v165, r_v164, r_v163, r_v162, r_v161, r_v207, r_v204, r_v203, r_v202, r_v201, r_v10, r_v9, r_v8, r_v7, r_v6, r_v184, r_v183, r_cst_36, r_v170, r_v169, r_v168, r_v167, r_v166, r_v206, r_v190, r_v189, r_v188, r_v187, r_v186, r_v185, r_v15, r_v14, r_v13, r_cst, r_v12, r_v11, r_v175, r_v174, r_v173, r_cst_33, r_v172, r_v171, r_v205, r_v196, r_v195, r_v194, r_v193, r_v192, r_v191, r_v20, r_v19, r_v18, r_cst_0, r_v17, r_v16, r_v180, r_v179, r_v178, r_cst_34, r_v177, r_v176]
  pointwise []
  simp only [assigned_at m c hl]
  rfl

theorem t2_at (hl : Labelled m c) (b : Fin 8) (n : Fin 49104) : x_v209 m c (ix3 b n 2)
    = extent (anc m c n 0) (anc m c n 2) (box m c b (hit (anc m c n) (box m c b)) 1) (box m c b (hit (anc m c n) (box m c b)) 3) := by
  simp only [r_v209, r_v208, r_v200, r_v199, r_v198, r_v197, r_v5, r_v4, r_v3, r_v0, r_v2, r_v1, r_v182, r_v181, r_cst_35, r_v165, r_v164, r_v163, r_v162, r_v161, r_v207, r_v204, r_v203, r_v202, r_v201, r_v10, r_v9, r_v8, r_v7, r_v6, r_v184, r_v183, r_cst_36, r_v170, r_v169, r_v168, r_v167, r_v166, r_v206, r_v190, r_v189, r_v188, r_v187, r_v186, r_v185, r_v15, r_v14, r_v13, r_cst, r_v12, r_v11, r_v175, r_v174, r_v173, r_cst_33, r_v172, r_v171, r_v205, r_v196, r_v195, r_v194, r_v193, r_v192, r_v191, r_v20, r_v19, r_v18, r_cst_0, r_v17, r_v16, r_v180, r_v179, r_v178, r_cst_34, r_v177, r_v176]
  pointwise []
  simp only [assigned_at m c hl]
  rfl

theorem t3_at (hl : Labelled m c) (b : Fin 8) (n : Fin 49104) : x_v209 m c (ix3 b n 3)
    = extent (anc m c n 1) (anc m c n 3) (box m c b (hit (anc m c n) (box m c b)) 0) (box m c b (hit (anc m c n) (box m c b)) 2) := by
  simp only [r_v209, r_v208, r_v200, r_v199, r_v198, r_v197, r_v5, r_v4, r_v3, r_v0, r_v2, r_v1, r_v182, r_v181, r_cst_35, r_v165, r_v164, r_v163, r_v162, r_v161, r_v207, r_v204, r_v203, r_v202, r_v201, r_v10, r_v9, r_v8, r_v7, r_v6, r_v184, r_v183, r_cst_36, r_v170, r_v169, r_v168, r_v167, r_v166, r_v206, r_v190, r_v189, r_v188, r_v187, r_v186, r_v185, r_v15, r_v14, r_v13, r_cst, r_v12, r_v11, r_v175, r_v174, r_v173, r_cst_33, r_v172, r_v171, r_v205, r_v196, r_v195, r_v194, r_v193, r_v192, r_v191, r_v20, r_v19, r_v18, r_cst_0, r_v17, r_v16, r_v180, r_v179, r_v178, r_cst_34, r_v177, r_v176]
  pointwise []
  simp only [assigned_at m c hl]
  rfl

/-- The regressions of anchor `n`. -/
def rgr (b : Fin 8) (n : Fin 49104) (k : Fin 4) : EReal := x_arg1 m c (ix3 b n k)

theorem error_at (b : Fin 8) (n : Fin 49104) (k : Fin 4) : x_v219 m c (ix3 b n k) = smooth (x_v209 m c (ix3 b n k)) (rgr m c b n k) := by
  simp only [r_v219, r_v218, r_v217, r_cst_39, r_v211, r_v210, r_v216, r_v214, r_v215, r_cst_38, r_v213, r_v212, r_cst_37]
  pointwise []
  unfold smooth rgr
  rw [mul_assoc]
  rfl

open Classical in
/-- The regression error of a sample. -/
theorem regs_at (hl : Labelled m c) (b : Fin 8) :
    x_v222 m c (ix1 b) = ∑ n : Fin 49104, regTerm (anc m c n) (box m c b) (rgr m c b n) := by
  have h : x_v222 m c (ix1 b) = ∑ n : Fin 49104, ∑ k : Fin 4, x_v221 m c (ix3 b n k) := by
    simp only [r_v222, r_cst_41]
    generalize x_v221 m c = v
    pointwise []
  have e : ∀ n k, x_v221 m c (ix3 b n k) = Scalar.select (x_v107 m c (ix2 b n)) (x_v219 m c (ix3 b n k)) 0 := fun n k => by
    simp only [id, r_v221, r_v220, r_cst_40, r_call14_v0, r_call14_v1, r_call14_v2]
    generalize x_v219 m c = v
    generalize x_v107 m c = w
    pointwise []
  rw [h]
  refine Finset.sum_congr rfl fun n _ => ?_
  simp only [e, positive_at m c hl, select_bit, decide_eq_true_eq, Fin.sum_univ_four, error_at, t0_at m c hl, t1_at m c hl,
    t2_at m c hl, t3_at m c hl]
  unfold regTerm regErr
  split_ifs
  · rfl
  · simp only [add_zero]

end Cert.Plain

end
-- ==== Proof.RefCls.lean ====
/- The reference's focal loss of one anchor and one class, read as arithmetic. -/
module
public import proofs.«01_k».proof.Proof.RefReg
public import proofs.«01_k».proof.Proof.FocalSpec
public import Idealize.ShloMosaic.Lib.Pointwise
@[expose] public section
set_option maxRecDepth 16384
noncomputable section
namespace Cert.Plain
open Cert.ReferenceIdeal Cert.ReferenceIdeal.Gen Idealize.ShloMosaic Idealize.ShloMosaic.TcCoe Idealize.SL.Sem Idealize.ShloMosaic.StableHlo
open Cert.Detect
variable (m : (ℓ : Loc nD τ sig) → Buf (Elt Ideal) ℓ) (c : Dev nD)

theorem ident {α : Sort*} (x : α) : id x = x := of_eq_true (eq_self x)

theorem fill_at {s : Shape} (h : S_.BroadcastsInDim s (![] : Fin 0 → Fin s.rank)) (w : BitVec 32) (i : s.Idx) :
    broadcastInDim s (![] : Fin 0 → Fin s.rank) h (constant (F := Ideal) S_ .f32 w) i = Ideal.ofBits .f32 w := rfl

/-- The scores of anchor `n` of sample `b`. -/
def raw (b : Fin 8) (n : Fin 49104) (k : Fin 90) : EReal := x_arg0 m c (ix3 b n k)

theorem held_at (b : Fin 8) (n : Fin 49104) (k : Fin 90) : x_v21 m c (ix3 b n k) = Detect.held (raw m c b n k) := by
  have h : x_v21 m c (ix3 b n k) = min (Ideal.ofBits .f32 0x3F7FF972#32) (max (Ideal.ofBits .f32 0x38D1B717#32) (x_arg0 m c (ix3 b n k))) := by
    simp only [id, r_v21, r_call0_v2, r_call0_v1, r_call0_v0, r_cst_1, r_call0_v4, r_call0_v3, r_cst_2]
    generalize x_arg0 m c = v
    rfl
  exact h

theorem log_at (b : Fin 8) (n : Fin 49104) (k : Fin 90) : x_v142 m c (ix3 b n k) = Ideal.log (held (x_v21 m c (ix3 b n k))) := by
  simp only [id, r_v142, r_v141, r_call10_v2, r_call10_v1, r_call10_v0, r_cst_23, r_call10_v4, r_call10_v3, r_cst_24]
  generalize x_v21 m c = s
  unfold Detect.held
  pointwise []

theorem colog_at (b : Fin 8) (n : Fin 49104) (k : Fin 90) : x_v149 m c (ix3 b n k) = Ideal.log (held (1 - x_v21 m c (ix3 b n k))) := by
  simp only [id, r_v149, r_v148, r_call11_v2, r_v147, r_v146, r_cst_26, r_call11_v1, r_call11_v0, r_cst_27, r_call11_v4, r_call11_v3, r_cst_28]
  generalize x_v21 m c = s
  unfold Detect.held
  pointwise []

theorem select_eq_at {s : Shape} {α : Type} (p q : FVec Ideal s .f32) (x y : s.Idx → α) (i : s.Idx) :
    select (cmpf .oeq p q) x y i = if p i = q i then x i else y i := by
  show Scalar.select (BitVec.ofBool (decide (p i = q i))) _ _ = _
  by_cases h : p i = q i <;> simp [h, Scalar.select]

theorem select_ne_at {s : Shape} {α : Type} (p q : FVec Ideal s .f32) (x y : s.Idx → α) (i : s.Idx) :
    select (cmpf .une p q) x y i = if p i ≠ q i then x i else y i := by
  show Scalar.select (BitVec.ofBool (decide (p i ≠ q i))) _ _ = _
  by_cases h : p i = q i <;> simp [h, Scalar.select]

theorem base_at (b : Fin 8) (n : Fin 49104) (k : Fin 90) : x_v136 m c (ix3 b n k)
    = if x_v128 m c (ix3 b n k) = 1 then 1 - x_v21 m c (ix3 b n k) else x_v21 m c (ix3 b n k) := by
  simp only [r_v136, r_v135, r_v134, r_cst_21, r_v133, r_v132, r_cst_20]
  generalize x_v21 m c = s
  generalize x_v128 m c = t
  rw [select_eq_at]
  pointwise []

theorem powf_at {s : Shape} (p q : FVec Ideal s .f32) (i : s.Idx) : Host.powf p q i = Ideal.pow (p i) (q i) := rfl

theorem power_at (b : Fin 8) (n : Fin 49104) (k : Fin 90) : x_v138 m c (ix3 b n k)
    = Ideal.pow (x_v136 m c (ix3 b n k)) (Ideal.ofBits .f32 0x40000000#32) := by
  rw [r_v138, r_v137, r_cst_22]
  generalize x_v136 m c = s
  exact (powf_at _ _ _).trans (congrArg (Ideal.pow _) (fill_at _ _ _))

theorem same_weight : x_v139 m c = x_v131 m c := (r_v139 m c).trans (ident (x_v131 m c))

theorem weight_at (b : Fin 8) (n : Fin 49104) (k : Fin 90) : x_v131 m c (ix3 b n k)
    = if x_v128 m c (ix3 b n k) = 1 then Ideal.ofBits .f32 0x3E800000#32 else Ideal.ofBits .f32 0x3F400000#32 := by
  simp only [r_v131, r_call8_v1, r_cst_19, r_call8_v0, r_cst_18, r_v130, r_v129, r_cst_17]
  generalize x_v128 m c = t
  rw [select_eq_at]
  pointwise []

theorem entropy_form {s : Shape} (w z t x y o : FVec Ideal s .f32) (i : s.Idx) :
    mulf (mulf w z) (Host.negf (addf (mulf t x) (mulf (subf o t) y))) i = w i * z i * -(t i * x i + (o i - t i) * y i) := rfl

theorem entropy_at (b : Fin 8) (n : Fin 49104) (k : Fin 90) : x_v155 m c (ix3 b n k)
    = x_v139 m c (ix3 b n k) * x_v138 m c (ix3 b n k)
      * -(x_v128 m c (ix3 b n k) * x_v142 m c (ix3 b n k) + (1 - x_v128 m c (ix3 b n k)) * x_v149 m c (ix3 b n k)) := by
  rw [r_v155, r_v140, r_v152, r_v151, r_v143, r_v150, r_v145, r_v144, r_cst_25]
  generalize x_v128 m c = t
  generalize x_v142 m c = x
  generalize x_v149 m c = y
  generalize x_v138 m c = z
  generalize x_v139 m c = w
  refine (entropy_form w z t x y _ _).trans ?_
  rw [show broadcastInDim S8x49104x90 ![] bcast_S_S8x49104x90 (constant (F := Ideal) S_ .f32 0x3F800000#32) (ix3 b n k) = 1 from
    (fill_at _ _ _).trans Ideal.ofBits_one_f32]

theorem kept_loss (b : Fin 8) (n : Fin 49104) (k : Fin 90) : x_v156 m c (ix3 b n k)
    = if x_v128 m c (ix3 b n k) ≠ Ideal.ofBits .f32 0xBF800000#32 then x_v155 m c (ix3 b n k) else 0 := by
  simp only [id, r_v156, r_call12_v1, r_call12_v0, r_cst_30, r_v154, r_v153, r_cst_29]
  generalize x_v128 m c = t
  generalize x_v155 m c = x
  rw [select_ne_at]
  pointwise []

theorem focal_at (b : Fin 8) (n : Fin 49104) (k : Fin 90) : x_v156 m c (ix3 b n k) = focal (x_v128 m c (ix3 b n k)) (x_v21 m c (ix3 b n k)) := by
  rw [kept_loss, entropy_at, same_weight, weight_at, power_at, base_at, log_at, colog_at]
  unfold focal
  congr

/-- The losses of one sample together. -/
theorem classes_at (b : Fin 8) : x_v157 m c (ix1 b) = ∑ n : Fin 49104, ∑ k : Fin 90, x_v156 m c (ix3 b n k) := by
  simp only [r_v157, r_cst_31]
  generalize x_v156 m c = v
  pointwise []

theorem result_cls : x_v231 m c (ix1 0) = meanCls (fun b => x_v157 m c (ix1 b)) (fun b => x_v109 m c (ix1 b)) := by
  simp only [r_v231, r_v230, r_v229, r_v228, r_cst_45, r_cst_44, r_v160, r_v159, r_v158, r_cst_32]
  generalize x_v157 m c = v
  generalize x_v109 m c = w
  unfold meanCls
  pointwise []

theorem result_reg : x_v237 m c (ix1 0) = meanReg (fun b => x_v222 m c (ix1 b)) (fun b => x_v109 m c (ix1 b)) := by
  simp only [r_v237, r_v236, r_cst_48, r_v235, r_v234, r_cst_47, r_v233, r_v232, r_cst_46, r_v227, r_v226, r_v225, r_cst_43, r_v224, r_v223, r_cst_42]
  generalize x_v222 m c = v
  generalize x_v109 m c = w
  unfold meanReg
  pointwise []

theorem below_read {s : Shape} (p q : FVec Ideal s .f32) (i : s.Idx) : cmpf .olt p q i = BitVec.ofBool (decide (p i < q i)) := rfl

open Classical in
theorem low_at (hl : Labelled m c) (b : Fin 8) (n : Fin 49104) : x_v114 m c (ix2 b n) = BitVec.ofBool (decide (Bg (anc m c n) (box m c b))) := by
  have hs := greatest_at m c hl b n
  rw [r_v114, r_v113, r_cst_12, below_read, hs]
  refine congrArg BitVec.ofBool (decide_eq_decide.mpr ?_)
  unfold Bg
  rw [fill_at]

theorem label_at (hl : Labelled m c) (b : Fin 8) (n : Fin 49104) (k : Fin 90) :
    x_call6_v4 m c (ix3 b n k) = BitVec.ofBool (decide (Ideal.fptosi 32 (box m c b (hit (anc m c n) (box m c b)) 4) = BitVec.ofNat 32 k.val)) := by
  have hg := assigned_at m c hl b n 4
  simp only [r_call6_v4, r_call6_v3, r_call6_v1, r_call6_v2, r_call6_v0, r_v121, r_v120, r_v119]
  revert hg
  generalize x_v111 m c = w
  intro hg
  pointwise []
  rw [hg]
  rfl

theorem mark_at (b : Fin 8) (n : Fin 49104) (k : Fin 90) : x_v125 m c (ix3 b n k)
    = FloatOps.cmpf .ogt (FloatOps.uitofp .f32 (x_call6_v4 m c (ix3 b n k)) : Ideal .f32) (Ideal.ofBits .f32 0x3F000000#32) := by
  simp only [r_v125, r_v124, r_cst_15, r_v122]
  generalize x_call6_v4 m c = w
  rfl

theorem choice_at (b : Fin 8) (n : Fin 49104) (k : Fin 90) : x_v128 m c (ix3 b n k)
    = Scalar.select (IntOp.andi (x_v107 m c (ix2 b n)) (x_v125 m c (ix3 b n k))) 1
        (Scalar.select (x_v107 m c (ix2 b n)) 0 (Scalar.select (x_v114 m c (ix2 b n)) 0 (Ideal.ofBits .f32 0xBF800000#32))) := by
  simp only [id, r_v128, r_v118, r_v116, r_v112, r_cst_11, r_call4_v2, r_call4_v0, r_cst_13, r_call4_v1, r_v115, r_call5_v2, r_call5_v0, r_cst_14, r_call5_v1, r_v117, r_call7_v1, r_call7_v0, r_cst_16, r_v127, r_v126, r_v123]
  generalize x_v107 m c = u
  generalize x_v114 m c = v
  generalize x_v125 m c = w
  pointwise []

theorem target_bits (p q u : Bool) (x : EReal) :
    Scalar.select (IntOp.andi (BitVec.ofBool p) (FloatOps.cmpf .ogt (FloatOps.uitofp .f32 (BitVec.ofBool u) : Ideal .f32) (Ideal.ofBits .f32 0x3F000000#32))) (1 : EReal)
        (Scalar.select (BitVec.ofBool p) 0 (Scalar.select (BitVec.ofBool q) 0 x))
      = if p then (if u then 1 else 0) else if q then 0 else x := by
  have h0 : FloatOps.cmpf .ogt (0 : Ideal .f32) (Ideal.ofBits .f32 0x3F000000#32) = 0#1 := by
    rw [Ideal.cmpf_def, Words.half]
    exact congrArg BitVec.ofBool (decide_eq_false (not_lt.mpr (by exact_mod_cast (by norm_num : (0 : ℝ) ≤ 1 / 2))))
  have h1 : FloatOps.cmpf .ogt (1 : Ideal .f32) (Ideal.ofBits .f32 0x3F000000#32) = 1#1 := by
    rw [Ideal.cmpf_def, Words.half]
    exact congrArg BitVec.ofBool (decide_eq_true (by exact_mod_cast (by norm_num : (1 / 2 : ℝ) < 1)))
  rw [uitofp_bit]
  cases u
  · rw [if_neg Bool.false_ne_true, h0]
    cases p <;> cases q <;> rfl
  · rw [if_pos rfl, h1]
    cases p <;> cases q <;> rfl

theorem target_at (hl : Labelled m c) (b : Fin 8) (n : Fin 49104) (k : Fin 90) :
    x_v128 m c (ix3 b n k) = target (anc m c n) (box m c b) k := by
  rw [choice_at, mark_at, positive_at m c hl, low_at m c hl, label_at m c hl, target_bits]
  unfold target
  by_cases hp : Pos (anc m c n) (box m c b) <;> by_cases hb : Bg (anc m c n) (box m c b) <;> simp [hp, hb]

end Cert.Plain

end
-- ==== Proof.Agree.lean ====
/- The two programs agree over the extended reals: from the same arguments, in the precondition's range, both end with the same two
   numbers. -/
module

public import proofs.«01_k».proof.Defs
public import proofs.«01_k».proof.Proof.KernelSums
public import proofs.«01_k».proof.Proof.PreRead
public import proofs.«01_k».proof.Proof.RefReg
public import proofs.«01_k».proof.Proof.RefCls

@[expose] public section

set_option maxRecDepth 16384

noncomputable section

namespace Cert.Agree

open Idealize.ShloMosaic Idealize.ShloMosaic.TcCoe Idealize.SL.Sem Cert.Detect

section Reference

open Cert.ReferenceIdeal Cert.Plain

variable (m : (ℓ : Loc nD τ sig) → Buf (Elt Ideal) ℓ) (c : Dev nD)

/-- The reference's first result: the mean focal loss. -/
theorem ref_cls (hl : Labelled m c) : x_v231 m c (ix1 0)
    = meanCls (fun b => ∑ n : Fin 49104, ∑ k : Fin 90, focal (target (anc m c n) (box m c b) k) (Detect.held (raw m c b n k)))
        (fun b => ∑ n : Fin 49104, posTerm (anc m c n) (box m c b)) := by
  rw [result_cls]
  refine congrArg₂ meanCls (funext fun b => ?_) (funext fun b => positives_at m c hl b)
  rw [classes_at]
  exact Finset.sum_congr rfl fun n _ => Finset.sum_congr rfl fun k _ => by rw [focal_at, target_at m c hl, held_at]

/-- The reference's second result: the mean regression error. -/
theorem ref_reg (hl : Labelled m c) : x_v237 m c (ix1 0)
    = meanReg (fun b => ∑ n : Fin 49104, regTerm (anc m c n) (box m c b) (rgr m c b n))
        (fun b => ∑ n : Fin 49104, posTerm (anc m c n) (box m c b)) := by
  rw [result_reg]
  exact congrArg₂ meanReg (funext fun b => regs_at m c hl b) (funext fun b => positives_at m c hl b)

end Reference

/-- A class is not the mark of an absent box. -/
theorem class_ne (L : Fin 90) : ((L.val : ℝ) : EReal) ≠ Ideal.ofBits .f32 0xBF800000#32 := by
  rw [Words.minusOne]
  intro h
  rw [EReal.coe_eq_coe_iff] at h
  have : (0 : ℝ) ≤ (L.val : ℝ) := Nat.cast_nonneg _
  linarith

section Both

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

/-- The four arguments are the same in both programs' memories. -/
def Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

variable {m m' c}

theorem same_scores (h : Same m m' c) : Plain.x_arg0 m' c = Focal.inScores m c := (Plain.fin_keep m' c _ (by decide)).trans h.1
theorem same_regs (h : Same m m' c) : Plain.x_arg1 m' c = Focal.inRegs m c := (Plain.fin_keep m' c _ (by decide)).trans h.2.1
theorem same_anchors (h : Same m m' c) : Plain.x_arg2 m' c = Focal.inAnchors m c := (Plain.fin_keep m' c _ (by decide)).trans h.2.2.1
theorem same_boxes (h : Same m m' c) : Plain.x_arg3 m' c = Focal.inBoxes m c := (Plain.fin_keep m' c _ (by decide)).trans h.2.2.2

theorem raw_eq (h : Same m m' c) (b : Fin 8) (n : Fin 49104) (k : Fin 90) : Plain.raw m' c b n k = Focal.inScores m c (ix3 b n k) :=
  congrFun (same_scores h) _
theorem rgr_eq (h : Same m m' c) (b : Fin 8) (n : Fin 49104) : Plain.rgr m' c b n = Focal.regsOf m c b n :=
  funext fun k => congrFun (same_regs h) _
theorem anc_eq (h : Same m m' c) (n : Fin 49104) : Plain.anc m' c n = Focal.anchor m c n := funext fun k => congrFun (same_anchors h) _
theorem box_eq (h : Same m m' c) (b : Fin 8) : Plain.box m' c b = Focal.boxesOf m c b :=
  funext fun j => funext fun k => congrFun (same_boxes h) _

/-- What the precondition says of device `c`'s arguments. -/
theorem ranged (hp : Pre_KernelIdeal_in_range m) (c : Dev KernelIdeal.nD) :
    (∀ b n k, ∃ v : ℝ, Focal.inScores m c (ix3 b n k) = (v : EReal) ∧ Good v)
      ∧ (∀ b j, ∃ L : Fin 90, Focal.boxesOf m c b j 4 = ((L.val : ℝ) : EReal)) ∧ Focal.Wide m c :=
  ⟨fun b n k => Range.scores_good _ _ _ _ (hp c).1 b n k, fun b j => (Range.boxes_good _ _ _ _ (hp c).2 b j).1,
    fun b j => (Range.boxes_good _ _ _ _ (hp c).2 b j).2⟩

theorem labelled (h : Same m m' c) (hl : ∀ b j, ∃ L : Fin 90, Focal.boxesOf m c b j 4 = ((L.val : ℝ) : EReal)) : Plain.Labelled m' c := by
  intro b j
  obtain ⟨L, hL⟩ := hl b j
  rw [box_eq h b, hL]
  exact class_ne L

/-- Two arrays of one element are equal when their elements are. -/
theorem one_eq {x y : (⟨1, ![1]⟩ : Shape).Idx → EReal} (h : x (ix1 0) = y (ix1 0)) : x = y := by
  funext i
  idx_vars i
  rw [Subsingleton.elim i0 0]
  exact h

/-- The first results agree. -/
theorem cls_agree (hp : Pre_KernelIdeal_in_range m) (h : Same m m' c) :
    (KernelIdeal.Gen.V7 m (Focal.outs m) c (Proc.devRef .tc KernelIdeal.main_v26) : FVec Ideal KernelIdeal.S1 .f32) = Plain.x_v231 m' c := by
  obtain ⟨hs, hl, hw⟩ := ranged hp c
  refine one_eq ((Focal.cls_value m c).trans (Eq.trans ?_ (ref_cls m' c (labelled h hl)).symm))
  simp only [Focal.sums_cls m c hs hl, Focal.parts_pos m c hw, anc_eq h, box_eq h, raw_eq h]

/-- The second results agree. -/
theorem reg_agree (hp : Pre_KernelIdeal_in_range m) (h : Same m m' c) :
    (KernelIdeal.Gen.V7 m (Focal.outs m) c (Proc.devRef .tc KernelIdeal.main_v37) : FVec Ideal KernelIdeal.S1 .f32) = Plain.x_v237 m' c := by
  obtain ⟨hs, hl, hw⟩ := ranged hp c
  refine one_eq ((Focal.reg_value m c).trans (Eq.trans ?_ (ref_reg m' c (labelled h hl)).symm))
  simp only [Focal.parts_reg m c hw, Focal.parts_pos m c hw, anc_eq h, box_eq h, rgr_eq h]

end Both

/-- The algebraic claim. -/
theorem algebraic : Cert.algebraic_KernelIdeal_ReferenceIdeal_pre_in_range := fun m g m' g' hp hsame =>
  ⟨fun c => KernelIdeal.Gen.V7 m (Focal.outs m) c (Proc.devRef .tc KernelIdeal.main_v26),
   fun c => KernelIdeal.Gen.V7 m (Focal.outs m) c (Proc.devRef .tc KernelIdeal.main_v37),
   (θ_run (KernelIdeal.defs (F := Ideal)) _ _).mono (fun _ h c => by
      obtain ⟨h0, h1, h2, h3, h4, h5⟩ := h.1 c
      exact ⟨h4, h5, h0, h1, h2, h3⟩) (Focal.run m g),
   (θ_run (ReferenceIdeal.defs (F := Ideal)) _ _).mono (fun _ h c =>
      ⟨(h.1 c _).trans (cls_agree hp (hsame c)).symm, (h.1 c _).trans (reg_agree hp (hsame c)).symm,
       (h.1 c _).trans (Plain.fin_keep m' c _ (by decide)), (h.1 c _).trans (Plain.fin_keep m' c _ (by decide)),
       (h.1 c _).trans (Plain.fin_keep m' c _ (by decide)), (h.1 c _).trans (Plain.fin_keep m' c _ (by decide))⟩) (Plain.run m' g')⟩

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Frames.frame_kernel, Cert.Frames.frame_ideal, (fun m g _ => Cert.Frames.frame_ideal m g trivial),
  Cert.Frames.frame_reference, (fun m g _ => Cert.Frames.frame_reference m g trivial), Cert.Frames.preserves, Cert.Agree.algebraic⟩

end Cert.Proof

end
